-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_weights_finite [hPre_weights_finite : Cert.Pre_weights_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_weights_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_weights_finite [hPre_weights_finite : Cert.Pre_weights_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_weights_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_prompt_weights_finite [hPre_prompt_weights_finite : Cert.Pre_prompt_weights_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_prompt_weights_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_prompt_weights_finite [hPre_prompt_weights_finite : Cert.Pre_prompt_weights_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_prompt_weights_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_weights_finite [hKernel5Ideal : Cert.Kernel5Ideal.Facts] [hPre_weights_finite : Cert.Pre_weights_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_weights_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_weights_finite [hReference5Ideal : Cert.Reference5Ideal.Facts] [hPre_weights_finite : Cert.Pre_weights_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_weights_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_prompt_weights_finite [hKernel7Ideal : Cert.Kernel7Ideal.Facts] [hPre_prompt_weights_finite : Cert.Pre_prompt_weights_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_prompt_weights_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_prompt_weights_finite [hReference7Ideal : Cert.Reference7Ideal.Facts] [hPre_prompt_weights_finite : Cert.Pre_prompt_weights_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_prompt_weights_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v16)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v48) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v12_1)) (v2 : (c : Dev Cert.Kernel4Ideal.nD) → Buf (Elt Ideal) ((c.tc : Thread Cert.Kernel4Ideal.nD Cert.Kernel4Ideal.τ).loc Cert.Kernel4Ideal.main_v12_2)) (v3 : (c : Dev Cert.Kernel4Ideal.nD) → Buf (Elt Ideal) ((c.tc : Thread Cert.Kernel4Ideal.nD Cert.Kernel4Ideal.τ).loc Cert.Kernel4Ideal.main_v12_3)) (v4 : (c : Dev Cert.Kernel4Ideal.nD) → Buf (Elt Ideal) ((c.tc : Thread Cert.Kernel4Ideal.nD Cert.Kernel4Ideal.τ).loc Cert.Kernel4Ideal.main_v12_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v12_1) = v1 c
          ∧ r.2.mem ((c.tc : Thread Cert.Kernel4Ideal.nD Cert.Kernel4Ideal.τ).loc Cert.Kernel4Ideal.main_v12_2) = v2 c
          ∧ r.2.mem ((c.tc : Thread Cert.Kernel4Ideal.nD Cert.Kernel4Ideal.τ).loc Cert.Kernel4Ideal.main_v12_3) = v3 c
          ∧ r.2.mem ((c.tc : Thread Cert.Kernel4Ideal.nD Cert.Kernel4Ideal.τ).loc Cert.Kernel4Ideal.main_v12_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_v26) = v1 c
          ∧ r.2.mem ((c.tc : Thread Cert.Reference4Ideal.nD Cert.Reference4Ideal.τ).loc Cert.Reference4Ideal.main_v19) = v2 c
          ∧ r.2.mem ((c.tc : Thread Cert.Reference4Ideal.nD Cert.Reference4Ideal.τ).loc Cert.Reference4Ideal.main_v27) = v3 c
          ∧ r.2.mem ((c.tc : Thread Cert.Reference4Ideal.nD Cert.Reference4Ideal.τ).loc Cert.Reference4Ideal.main_v20) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_weights_finite [hKernel5Ideal : Cert.Kernel5Ideal.Facts] [hReference5Ideal : Cert.Reference5Ideal.Facts] [hPre_weights_finite : Cert.Pre_weights_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_weights_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v12_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12_5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v25) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v13_0)) (v1 : (c : Dev Cert.Kernel6Ideal.nD) → Buf (Elt Ideal) ((c.tc : Thread Cert.Kernel6Ideal.nD Cert.Kernel6Ideal.τ).loc Cert.Kernel6Ideal.main_v13_1)) (v2 : (c : Dev Cert.Kernel6Ideal.nD) → Buf (Elt Ideal) ((c.tc : Thread Cert.Kernel6Ideal.nD Cert.Kernel6Ideal.τ).loc Cert.Kernel6Ideal.main_v13_2)) (v3 : (c : Dev Cert.Kernel6Ideal.nD) → Buf (Elt Ideal) ((c.tc : Thread Cert.Kernel6Ideal.nD Cert.Kernel6Ideal.τ).loc Cert.Kernel6Ideal.main_v13_4)) (v4 : (c : Dev Cert.Kernel6Ideal.nD) → Buf (Elt Ideal) ((c.tc : Thread Cert.Kernel6Ideal.nD Cert.Kernel6Ideal.τ).loc Cert.Kernel6Ideal.main_v13_3)) (v5 : (c : Dev Cert.Kernel6Ideal.nD) → Buf (Elt Ideal) ((c.tc : Thread Cert.Kernel6Ideal.nD Cert.Kernel6Ideal.τ).loc Cert.Kernel6Ideal.main_v13_6)) (v6 : (c : Dev Cert.Kernel6Ideal.nD) → Buf (Elt Ideal) ((c.tc : Thread Cert.Kernel6Ideal.nD Cert.Kernel6Ideal.τ).loc Cert.Kernel6Ideal.main_v13_9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13_0) = v0 c
          ∧ r.2.mem ((c.tc : Thread Cert.Kernel6Ideal.nD Cert.Kernel6Ideal.τ).loc Cert.Kernel6Ideal.main_v13_1) = v1 c
          ∧ r.2.mem ((c.tc : Thread Cert.Kernel6Ideal.nD Cert.Kernel6Ideal.τ).loc Cert.Kernel6Ideal.main_v13_2) = v2 c
          ∧ r.2.mem ((c.tc : Thread Cert.Kernel6Ideal.nD Cert.Kernel6Ideal.τ).loc Cert.Kernel6Ideal.main_v13_4) = v3 c
          ∧ r.2.mem ((c.tc : Thread Cert.Kernel6Ideal.nD Cert.Kernel6Ideal.τ).loc Cert.Kernel6Ideal.main_v13_3) = v4 c
          ∧ r.2.mem ((c.tc : Thread Cert.Kernel6Ideal.nD Cert.Kernel6Ideal.τ).loc Cert.Kernel6Ideal.main_v13_6) = v5 c
          ∧ r.2.mem ((c.tc : Thread Cert.Kernel6Ideal.nD Cert.Kernel6Ideal.τ).loc Cert.Kernel6Ideal.main_v13_9) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v149) = v0 c
          ∧ r.2.mem ((c.tc : Thread Cert.Reference6Ideal.nD Cert.Reference6Ideal.τ).loc Cert.Reference6Ideal.main_v150) = v1 c
          ∧ r.2.mem ((c.tc : Thread Cert.Reference6Ideal.nD Cert.Reference6Ideal.τ).loc Cert.Reference6Ideal.main_v19) = v2 c
          ∧ r.2.mem ((c.tc : Thread Cert.Reference6Ideal.nD Cert.Reference6Ideal.τ).loc Cert.Reference6Ideal.main_v20) = v3 c
          ∧ r.2.mem ((c.tc : Thread Cert.Reference6Ideal.nD Cert.Reference6Ideal.τ).loc Cert.Reference6Ideal.main_v151) = v4 c
          ∧ r.2.mem ((c.tc : Thread Cert.Reference6Ideal.nD Cert.Reference6Ideal.τ).loc Cert.Reference6Ideal.main_v147) = v5 c
          ∧ r.2.mem ((c.tc : Thread Cert.Reference6Ideal.nD Cert.Reference6Ideal.τ).loc Cert.Reference6Ideal.main_v154) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_prompt_weights_finite [hKernel7Ideal : Cert.Kernel7Ideal.Facts] [hReference7Ideal : Cert.Reference7Ideal.Facts] [hPre_prompt_weights_finite : Cert.Pre_prompt_weights_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_prompt_weights_finite m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v13_5)) (v1 : (c : Dev Cert.Kernel7Ideal.nD) → Buf (Elt Ideal) ((c.tc : Thread Cert.Kernel7Ideal.nD Cert.Kernel7Ideal.τ).loc Cert.Kernel7Ideal.main_v13_7)) (v2 : (c : Dev Cert.Kernel7Ideal.nD) → Buf (Elt Ideal) ((c.tc : Thread Cert.Kernel7Ideal.nD Cert.Kernel7Ideal.τ).loc Cert.Kernel7Ideal.main_v13_8)) (v3 : (c : Dev Cert.Kernel7Ideal.nD) → Buf (Elt Ideal) ((c.tc : Thread Cert.Kernel7Ideal.nD Cert.Kernel7Ideal.τ).loc Cert.Kernel7Ideal.main_v13_10)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v13_5) = v0 c
          ∧ r.2.mem ((c.tc : Thread Cert.Kernel7Ideal.nD Cert.Kernel7Ideal.τ).loc Cert.Kernel7Ideal.main_v13_7) = v1 c
          ∧ r.2.mem ((c.tc : Thread Cert.Kernel7Ideal.nD Cert.Kernel7Ideal.τ).loc Cert.Kernel7Ideal.main_v13_8) = v2 c
          ∧ r.2.mem ((c.tc : Thread Cert.Kernel7Ideal.nD Cert.Kernel7Ideal.τ).loc Cert.Kernel7Ideal.main_v13_10) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v22) = v0 c
          ∧ r.2.mem ((c.tc : Thread Cert.Reference7Ideal.nD Cert.Reference7Ideal.τ).loc Cert.Reference7Ideal.main_v37) = v1 c
          ∧ r.2.mem ((c.tc : Thread Cert.Reference7Ideal.nD Cert.Reference7Ideal.τ).loc Cert.Reference7Ideal.main_v32) = v2 c
          ∧ r.2.mem ((c.tc : Thread Cert.Reference7Ideal.nD Cert.Reference7Ideal.τ).loc Cert.Reference7Ideal.main_v38) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_weights_finite : Cert.Pre_weights_finite.Facts) (hPre_prompt_weights_finite : Cert.Pre_prompt_weights_finite.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_weights_finite (hKernel5Ideal := hKernel5Ideal) (hPre_weights_finite := hPre_weights_finite)
    ∧ quiescent_Reference5Ideal (hReference5Ideal := hReference5Ideal)
    ∧ quiescent_Reference5Ideal_pre_weights_finite (hReference5Ideal := hReference5Ideal) (hPre_weights_finite := hPre_weights_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_prompt_weights_finite (hKernel7Ideal := hKernel7Ideal) (hPre_prompt_weights_finite := hPre_prompt_weights_finite)
    ∧ quiescent_Reference7Ideal (hReference7Ideal := hReference7Ideal)
    ∧ quiescent_Reference7Ideal_pre_prompt_weights_finite (hReference7Ideal := hReference7Ideal) (hPre_prompt_weights_finite := hPre_prompt_weights_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_weights_finite (hKernel5Ideal := hKernel5Ideal) (hReference5Ideal := hReference5Ideal) (hPre_weights_finite := hPre_weights_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_prompt_weights_finite (hKernel7Ideal := hKernel7Ideal) (hReference7Ideal := hReference7Ideal) (hPre_prompt_weights_finite := hPre_prompt_weights_finite)
-- ==== Pre_prompt_weights_finite.lean ====
abbrev S1x16384x1024 : Shape := ⟨3, ![1, 16384, 1024]⟩
abbrev S1x1024 : Shape := ⟨2, ![1, 1024]⟩
abbrev S1x1024x2344 : Shape := ⟨3, ![1, 1024, 2344]⟩
abbrev S1x1024x1 : Shape := ⟨3, ![1, 1024, 1]⟩
abbrev S_ : Shape := ⟨0, ![]⟩
abbrev S1x1024x296 : Shape := ⟨3, ![1, 1024, 296]⟩

class Facts : Prop where
  bcast_S1x1024_S1x1024x1_0_1 : S1x1024.BroadcastsInDim S1x1024x1 (![0, 1] : Fin 2 → Fin S1x1024x1.rank)
  bcast_S_S1x1024x1 : S_.BroadcastsInDim S1x1024x1 (![] : Fin 0 → Fin S1x1024x1.rank)
  slices_S1x1024x2344_S1x1024x296_0_0_2048 : S1x1024x2344.Slices ![0, 0, 2048] S1x1024x296
  bcast_S_S1x1024x296 : S_.BroadcastsInDim S1x1024x296 (![] : Fin 0 → Fin S1x1024x296.rank)
  bcast_S1x1024x1_S1x1024x296_0_1_2 : S1x1024x1.BroadcastsInDim S1x1024x296 (![0, 1, 2] : Fin 3 → Fin S1x1024x296.rank)

variable [Facts]

def fn {F : FTy → Type} [FloatOps F] (main_arg0 : FVec F S1x16384x1024 .f32) (main_arg1 : FVec F S1x1024 .f32) (main_arg2 : FVec F S1x1024x2344 .f32) : IVec S1x1024x296 1 :=
  let main_v0 : FVec F S1x1024 .f32 := Host.absf main_arg1
  let main_v1 : FVec F S1x1024x1 .f32 := broadcastInDim S1x1024x1 ![0, 1] bcast_S1x1024_S1x1024x1_0_1 main_v0
  let main_cst : FVec F S_ .f32 := constant S_ .f32 0x7F800000#32
  let main_v2 : FVec F S1x1024x1 .f32 := broadcastInDim S1x1024x1 ![] bcast_S_S1x1024x1 main_cst
  let main_v3 : IVec S1x1024x1 1 := cmpf .olt main_v1 main_v2
  let main_v4 : FVec F S1x1024x296 .f32 := (extractStridedSlice S1x1024x296 ![0, 0, 2048] · slices_S1x1024x2344_S1x1024x296_0_0_2048) main_arg2
  let main_v5 : FVec F S1x1024x296 .f32 := Host.absf main_v4
  let main_cst_0 : FVec F S_ .f32 := constant S_ .f32 0x7F800000#32
  let main_v6 : FVec F S1x1024x296 .f32 := broadcastInDim S1x1024x296 ![] bcast_S_S1x1024x296 main_cst_0
  let main_v7 : IVec S1x1024x296 1 := cmpf .olt main_v5 main_v6
  let main_v8 : IVec S1x1024x296 1 := broadcastInDim S1x1024x296 ![0, 1, 2] bcast_S1x1024x1_S1x1024x296_0_1_2 main_v3
  let main_v9 : IVec S1x1024x296 1 := andi main_v8 main_v7
  main_v9
-- ==== Pre_weights_finite.lean ====
abbrev S8x64x1024 : Shape := ⟨3, ![8, 64, 1024]⟩
abbrev S1x1024 : Shape := ⟨2, ![1, 1024]⟩
abbrev S1x1024x2344 : Shape := ⟨3, ![1, 1024, 2344]⟩
abbrev S1x1024x1 : Shape := ⟨3, ![1, 1024, 1]⟩
abbrev S_ : Shape := ⟨0, ![]⟩
abbrev S1x1024x296 : Shape := ⟨3, ![1, 1024, 296]⟩

class Facts : Prop where
  bcast_S1x1024_S1x1024x1_0_1 : S1x1024.BroadcastsInDim S1x1024x1 (![0, 1] : Fin 2 → Fin S1x1024x1.rank)
  bcast_S_S1x1024x1 : S_.BroadcastsInDim S1x1024x1 (![] : Fin 0 → Fin S1x1024x1.rank)
  slices_S1x1024x2344_S1x1024x296_0_0_2048 : S1x1024x2344.Slices ![0, 0, 2048] S1x1024x296
  bcast_S_S1x1024x296 : S_.BroadcastsInDim S1x1024x296 (![] : Fin 0 → Fin S1x1024x296.rank)
  bcast_S1x1024x1_S1x1024x296_0_1_2 : S1x1024x1.BroadcastsInDim S1x1024x296 (![0, 1, 2] : Fin 3 → Fin S1x1024x296.rank)

variable [Facts]

def fn {F : FTy → Type} [FloatOps F] (main_arg0 : FVec F S8x64x1024 .f32) (main_arg1 : FVec F S1x1024 .f32) (main_arg2 : FVec F S1x1024x2344 .f32) : IVec S1x1024x296 1 :=
  let main_v0 : FVec F S1x1024 .f32 := Host.absf main_arg1
  let main_v1 : FVec F S1x1024x1 .f32 := broadcastInDim S1x1024x1 ![0, 1] bcast_S1x1024_S1x1024x1_0_1 main_v0
  let main_cst : FVec F S_ .f32 := constant S_ .f32 0x7F800000#32
  let main_v2 : FVec F S1x1024x1 .f32 := broadcastInDim S1x1024x1 ![] bcast_S_S1x1024x1 main_cst
  let main_v3 : IVec S1x1024x1 1 := cmpf .olt main_v1 main_v2
  let main_v4 : FVec F S1x1024x296 .f32 := (extractStridedSlice S1x1024x296 ![0, 0, 2048] · slices_S1x1024x2344_S1x1024x296_0_0_2048) main_arg2
  let main_v5 : FVec F S1x1024x296 .f32 := Host.absf main_v4
  let main_cst_0 : FVec F S_ .f32 := constant S_ .f32 0x7F800000#32
  let main_v6 : FVec F S1x1024x296 .f32 := broadcastInDim S1x1024x296 ![] bcast_S_S1x1024x296 main_cst_0
  let main_v7 : IVec S1x1024x296 1 := cmpf .olt main_v5 main_v6
  let main_v8 : IVec S1x1024x296 1 := broadcastInDim S1x1024x296 ![0, 1, 2] bcast_S1x1024x1_S1x1024x296_0_1_2 main_v3
  let main_v9 : IVec S1x1024x296 1 := andi main_v8 main_v7
  main_v9
-- ==== Kernel.lean ====
abbrev S8x64x512 : Shape := ⟨3, ![8, 64, 512]⟩
abbrev S8x64x256 : Shape := ⟨3, ![8, 64, 256]⟩
abbrev S8x64x8 : Shape := ⟨3, ![8, 64, 8]⟩
abbrev S8x64x32 : Shape := ⟨3, ![8, 64, 32]⟩
abbrev S8x2048x8x64 : Shape := ⟨4, ![8, 2048, 8, 64]⟩
abbrev S8x2048x32 : Shape := ⟨3, ![8, 2048, 32]⟩
abbrev S64 : Shape := ⟨1, ![64]⟩
abbrev S1x64 : Shape := ⟨2, ![1, 64]⟩
abbrev S_ : Shape := ⟨0, ![]⟩
abbrev S8x64 : Shape := ⟨2, ![8, 64]⟩
abbrev S8x128 : Shape := ⟨2, ![8, 128]⟩
abbrev S8x1x1x128 : Shape := ⟨4, ![8, 1, 1, 128]⟩
abbrev S8x128x256 : Shape := ⟨3, ![8, 128, 256]⟩
abbrev S8x128x8x32 : Shape := ⟨4, ![8, 128, 8, 32]⟩
abbrev S8x128x8x128 : Shape := ⟨4, ![8, 128, 8, 128]⟩
abbrev S8x1x1x128x8x128 : Shape := ⟨6, ![8, 1, 1, 128, 8, 128]⟩
abbrev S8x1x1x128x1024 : Shape := ⟨5, ![8, 1, 1, 128, 1024]⟩
abbrev S8x128x8 : Shape := ⟨3, ![8, 128, 8]⟩
abbrev S8x1x1x128x8 : Shape := ⟨5, ![8, 1, 1, 128, 8]⟩
abbrev S8x1x1x8x128 : Shape := ⟨5, ![8, 1, 1, 8, 128]⟩
abbrev S8x1x1x1x1024 : Shape := ⟨5, ![8, 1, 1, 1, 1024]⟩
abbrev S8x128x512 : Shape := ⟨3, ![8, 128, 512]⟩
abbrev S8x1x128x8x64 : Shape := ⟨5, ![8, 1, 128, 8, 64]⟩
abbrev S8x1x8x64x128 : Shape := ⟨5, ![8, 1, 8, 64, 128]⟩
abbrev S8x1x8x128x128 : Shape := ⟨5, ![8, 1, 8, 128, 128]⟩
abbrev S8 : Shape := ⟨1, ![8]⟩
abbrev S1x1x8x1x1 : Shape := ⟨5, ![1, 1, 8, 1, 1]⟩
abbrev S8x2112x32 : Shape := ⟨3, ![8, 2112, 32]⟩
abbrev S8x2304x32 : Shape := ⟨3, ![8, 2304, 32]⟩
abbrev S8x2304x128 : Shape := ⟨3, ![8, 2304, 128]⟩
abbrev S8x9x256x128 : Shape := ⟨4, ![8, 9, 256, 128]⟩
abbrev S8x2048x512 : Shape := ⟨3, ![8, 2048, 512]⟩
abbrev S8x2112x512 : Shape := ⟨3, ![8, 2112, 512]⟩
abbrev S8x2304x512 : Shape := ⟨3, ![8, 2304, 512]⟩
abbrev S8x9x256x512 : Shape := ⟨4, ![8, 9, 256, 512]⟩
abbrev S8x9x256x8x64 : Shape := ⟨5, ![8, 9, 256, 8, 64]⟩
abbrev S8x9x8x64x256 : Shape := ⟨5, ![8, 9, 8, 64, 256]⟩
abbrev S1x1x1x128 : Shape := ⟨4, ![1, 1, 1, 128]⟩
abbrev S1x1x1x128x1024 : Shape := ⟨5, ![1, 1, 1, 128, 1024]⟩
abbrev S1x1x1x1x1024 : Shape := ⟨5, ![1, 1, 1, 1, 1024]⟩
abbrev S1x1x8x128x128 : Shape := ⟨5, ![1, 1, 8, 128, 128]⟩
abbrev S1x9x256x128 : Shape := ⟨4, ![1, 9, 256, 128]⟩
abbrev S1x9x256x512 : Shape := ⟨4, ![1, 9, 256, 512]⟩
abbrev S1x9x8x64x256 : Shape := ⟨5, ![1, 9, 8, 64, 256]⟩
abbrev S1x128x512 : Shape := ⟨3, ![1, 128, 512]⟩
abbrev S16x32x8x128 : Shape := ⟨4, ![16, 32, 8, 128]⟩
abbrev S16x8x128 : Shape := ⟨3, ![16, 8, 128]⟩
abbrev S8x256x128 : Shape := ⟨3, ![8, 256, 128]⟩
abbrev S256x128 : Shape := ⟨2, ![256, 128]⟩
abbrev S2x256x128 : Shape := ⟨3, ![2, 256, 128]⟩
abbrev S8x1x128 : Shape := ⟨3, ![8, 1, 128]⟩
abbrev S8x80x128 : Shape := ⟨3, ![8, 80, 128]⟩
abbrev S1x128 : Shape := ⟨2, ![1, 128]⟩
abbrev S1x1024 : Shape := ⟨2, ![1, 1024]⟩
abbrev S1x1x256x128 : Shape := ⟨4, ![1, 1, 256, 128]⟩
abbrev S128x1024 : Shape := ⟨2, ![128, 1024]⟩
abbrev S256x1024 : Shape := ⟨2, ![256, 1024]⟩
abbrev S1x256x128 : Shape := ⟨3, ![1, 256, 128]⟩
abbrev S1x8x128 : Shape := ⟨3, ![1, 8, 128]⟩
abbrev S1x1x8x128 : Shape := ⟨4, ![1, 1, 8, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S16x256 : Shape := ⟨2, ![16, 256]⟩
abbrev S1x1x256x512 : Shape := ⟨4, ![1, 1, 256, 512]⟩
abbrev S256x512 : Shape := ⟨2, ![256, 512]⟩
abbrev S1x1x1x128x128 : Shape := ⟨5, ![1, 1, 1, 128, 128]⟩
abbrev S128x128 : Shape := ⟨2, ![128, 128]⟩
abbrev S1x32x128 : Shape := ⟨3, ![1, 32, 128]⟩
abbrev S32x128 : Shape := ⟨2, ![32, 128]⟩
abbrev S1x1x1x64x256 : Shape := ⟨5, ![1, 1, 1, 64, 256]⟩
abbrev S64x256 : Shape := ⟨2, ![64, 256]⟩
abbrev S80x256 : Shape := ⟨2, ![80, 256]⟩
abbrev S1x80x128 : Shape := ⟨3, ![1, 80, 128]⟩
abbrev S80x128 : Shape := ⟨2, ![80, 128]⟩
abbrev S64x128 : Shape := ⟨2, ![64, 128]⟩
abbrev S1x128x128 : Shape := ⟨3, ![1, 128, 128]⟩

abbrev nBuf : Space → Nat
  | .hbm => 98
  | .vmem => 26
  | .smem => 0
  | _ => 0

abbrev bufTy : (tb : Table) → Fin (tcTables nBuf tb) → BufTy
  | .hbm, ⟨0, _⟩ => ⟨S8x64x512, .bf16⟩
  | .hbm, ⟨1, _⟩ => ⟨S8x64x256, .f32⟩
  | .hbm, ⟨2, _⟩ => ⟨S8x64x8, .f32⟩
  | .hbm, ⟨3, _⟩ => ⟨S8x64x512, .bf16⟩
  | .hbm, ⟨4, _⟩ => ⟨S8x64x512, .f32⟩
  | .hbm, ⟨5, _⟩ => ⟨S8x64x32, .f32⟩
  | .hbm, ⟨6, _⟩ => ⟨S8x2048x8x64, .f32⟩
  | .hbm, ⟨7, _⟩ => ⟨S8x2048x8x64, .f32⟩
  | .hbm, ⟨8, _⟩ => ⟨S8x2048x32, .f32⟩
  | .hbm, ⟨9, _⟩ => ⟨S64, .i32⟩
  | .hbm, ⟨10, _⟩ => ⟨S1x64, .i32⟩
  | .hbm, ⟨11, _⟩ => ⟨S_, .i32⟩
  | .hbm, ⟨12, _⟩ => ⟨S1x64, .i32⟩
  | .hbm, ⟨13, _⟩ => ⟨S1x64, .i32⟩
  | .hbm, ⟨14, _⟩ => ⟨S8x64, .i32⟩
  | .hbm, ⟨15, _⟩ => ⟨S8x128, .i32⟩
  | .hbm, ⟨16, _⟩ => ⟨S8x1x1x128, .i32⟩
  | .hbm, ⟨17, _⟩ => ⟨S8x128x256, .f32⟩
  | .hbm, ⟨18, _⟩ => ⟨S8x128x8x32, .f32⟩
  | .hbm, ⟨19, _⟩ => ⟨S8x128x8x32, .bf16⟩
  | .hbm, ⟨20, _⟩ => ⟨S8x128x8x32, .f32⟩
  | .hbm, ⟨21, _⟩ => ⟨S8x128x8x32, .f32⟩
  | .hbm, ⟨22, _⟩ => ⟨S8x128x8x32, .bf16⟩
  | .hbm, ⟨23, _⟩ => ⟨S_, .bf16⟩
  | .hbm, ⟨24, _⟩ => ⟨S8x128x8x32, .bf16⟩
  | .hbm, ⟨25, _⟩ => ⟨S8x128x8x128, .bf16⟩
  | .hbm, ⟨26, _⟩ => ⟨S8x1x1x128x8x128, .bf16⟩
  | .hbm, ⟨27, _⟩ => ⟨S8x1x1x128x8x128, .bf16⟩
  | .hbm, ⟨28, _⟩ => ⟨S8x1x1x128x1024, .bf16⟩
  | .hbm, ⟨29, _⟩ => ⟨S8x128x8, .f32⟩
  | .hbm, ⟨30, _⟩ => ⟨S8x1x1x128x8, .f32⟩
  | .hbm, ⟨31, _⟩ => ⟨S8x1x1x8x128, .f32⟩
  | .hbm, ⟨32, _⟩ => ⟨S8x1x1x1x1024, .f32⟩
  | .hbm, ⟨33, _⟩ => ⟨S8x128x512, .bf16⟩
  | .hbm, ⟨34, _⟩ => ⟨S8x1x128x8x64, .bf16⟩
  | .hbm, ⟨35, _⟩ => ⟨S8x1x8x64x128, .bf16⟩
  | .hbm, ⟨36, _⟩ => ⟨S_, .bf16⟩
  | .hbm, ⟨37, _⟩ => ⟨S8x1x8x64x128, .bf16⟩
  | .hbm, ⟨38, _⟩ => ⟨S8x1x8x128x128, .bf16⟩
  | .hbm, ⟨39, _⟩ => ⟨S8x1x8x128x128, .bf16⟩
  | .hbm, ⟨40, _⟩ => ⟨S8, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S8, .i32⟩
  | .hbm, ⟨48, _⟩ => ⟨S8, .i32⟩
  | .hbm, ⟨49, _⟩ => ⟨S_, .i32⟩
  | .hbm, ⟨50, _⟩ => ⟨S8, .i32⟩
  | .hbm, ⟨51, _⟩ => ⟨S8, .i1⟩
  | .hbm, ⟨52, _⟩ => ⟨S_, .i32⟩
  | .hbm, ⟨53, _⟩ => ⟨S8, .i32⟩
  | .hbm, ⟨54, _⟩ => ⟨S8, .i1⟩
  | .hbm, ⟨55, _⟩ => ⟨S_, .i32⟩
  | .hbm, ⟨56, _⟩ => ⟨S_, .i1⟩
  | .hbm, ⟨57, _⟩ => ⟨S8, .i1⟩
  | .hbm, ⟨58, _⟩ => ⟨S8, .i1⟩
  | .hbm, ⟨59, _⟩ => ⟨S8, .i1⟩
  | .hbm, ⟨60, _⟩ => ⟨S8, .i32⟩
  | .hbm, ⟨61, _⟩ => ⟨S8, .i32⟩
  | .hbm, ⟨62, _⟩ => ⟨S8, .i32⟩
  | .hbm, ⟨63, _⟩ => ⟨S_, .i32⟩
  | .hbm, ⟨64, _⟩ => ⟨S8, .i32⟩
  | .hbm, ⟨65, _⟩ => ⟨S8, .i1⟩
  | .hbm, ⟨66, _⟩ => ⟨S1x1x8x1x1, .i1⟩
  | .hbm, ⟨67, _⟩ => ⟨S8x1x8x128x128, .i1⟩
  | .hbm, ⟨68, _⟩ => ⟨S8x1x8x128x128, .bf16⟩
  | .hbm, ⟨69, _⟩ => ⟨S8x2112x32, .f32⟩
  | .hbm, ⟨70, _⟩ => ⟨S_, .i32⟩
  | .hbm, ⟨71, _⟩ => ⟨S_, .f32⟩
  | .hbm, ⟨72, _⟩ => ⟨S8x2304x32, .f32⟩
  | .hbm, ⟨73, _⟩ => ⟨S8x2304x32, .bf16⟩
  | .hbm, ⟨74, _⟩ => ⟨S8x2304x32, .f32⟩
  | .hbm, ⟨75, _⟩ => ⟨S8x2304x32, .f32⟩
  | .hbm, ⟨76, _⟩ => ⟨S8x2304x32, .bf16⟩
  | .hbm, ⟨77, _⟩ => ⟨S_, .bf16⟩
  | .hbm, ⟨78, _⟩ => ⟨S8x2304x32, .bf16⟩
  | .hbm, ⟨79, _⟩ => ⟨S8x2304x128, .bf16⟩
  | .hbm, ⟨80, _⟩ => ⟨S8x9x256x128, .bf16⟩
  | .hbm, ⟨81, _⟩ => ⟨S8x2048x512, .f32⟩
  | .hbm, ⟨82, _⟩ => ⟨S8x2048x512, .bf16⟩
  | .hbm, ⟨83, _⟩ => ⟨S8x2112x512, .bf16⟩
  | .hbm, ⟨84, _⟩ => ⟨S_, .i32⟩
  | .hbm, ⟨85, _⟩ => ⟨S_, .bf16⟩
  | .hbm, ⟨86, _⟩ => ⟨S8x2304x512, .bf16⟩
  | .hbm, ⟨87, _⟩ => ⟨S8x9x256x512, .bf16⟩
  | .hbm, ⟨88, _⟩ => ⟨S8x2048x512, .f32⟩
  | .hbm, ⟨89, _⟩ => ⟨S8x2112x512, .f32⟩
  | .hbm, ⟨90, _⟩ => ⟨S_, .i32⟩
  | .hbm, ⟨91, _⟩ => ⟨S_, .f32⟩
  | .hbm, ⟨92, _⟩ => ⟨S8x2304x512, .f32⟩
  | .hbm, ⟨93, _⟩ => ⟨S8x2304x512, .bf16⟩
  | .hbm, ⟨94, _⟩ => ⟨S8x9x256x8x64, .bf16⟩
  | .hbm, ⟨95, _⟩ => ⟨S8x9x8x64x256, .bf16⟩
  | .hbm, ⟨96, _⟩ => ⟨S8x128x512, .f32⟩
  | .hbm, ⟨97, _⟩ => ⟨S8x64x512, .f32⟩
  | .local _ .vmem, ⟨0, _⟩ => ⟨S1x1x1x128, .i32⟩
  | .local _ .vmem, ⟨1, _⟩ => ⟨S1x1x1x128, .i32⟩
  | .local _ .vmem, ⟨2, _⟩ => ⟨S1x1x1x128x1024, .bf16⟩
  | .local _ .vmem, ⟨3, _⟩ => ⟨S1x1x1x128x1024, .bf16⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x8x128x128, .bf16⟩
  | .local _ .vmem, ⟨7, _⟩ => ⟨S1x1x8x128x128, .bf16⟩
  | .local _ .vmem, ⟨8, _⟩ => ⟨S1x9x256x128, .bf16⟩
  | .local _ .vmem, ⟨9, _⟩ => ⟨S1x9x256x128, .bf16⟩
  | .local _ .vmem, ⟨10, _⟩ => ⟨S1x9x256x512, .bf16⟩
  | .local _ .vmem, ⟨11, _⟩ => ⟨S1x9x256x512, .bf16⟩
  | .local _ .vmem, ⟨12, _⟩ => ⟨S1x9x8x64x256, .bf16⟩
  | .local _ .vmem, ⟨13, _⟩ => ⟨S1x9x8x64x256, .bf16⟩
  | .local _ .vmem, ⟨14, _⟩ => ⟨S1x128x512, .f32⟩
  | .local _ .vmem, ⟨15, _⟩ => ⟨S1x128x512, .f32⟩
  | .local _ .vmem, ⟨16, _⟩ => ⟨S16x32x8x128, .i32⟩
  | .local _ .vmem, ⟨17, _⟩ => ⟨S16x8x128, .i32⟩
  | .local _ .vmem, ⟨18, _⟩ => ⟨S16x8x128, .i32⟩
  | .local _ .vmem, ⟨19, _⟩ => ⟨S8x256x128, .f32⟩
  | .local _ .vmem, ⟨20, _⟩ => ⟨S8x256x128, .f32⟩
  | .local _ .vmem, ⟨21, _⟩ => ⟨S256x128, .f32⟩
  | .local _ .vmem, ⟨22, _⟩ => ⟨S256x128, .f32⟩
  | .local _ .vmem, ⟨23, _⟩ => ⟨S2x256x128, .bf16⟩
  | .local _ .vmem, ⟨24, _⟩ => ⟨S8x1x128, .f32⟩
  | .local _ .vmem, ⟨25, _⟩ => ⟨S8x80x128, .f32⟩
  | _, _ => ⟨S8x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_1 : Ref sig .tc := ⟨.hbm, 41, rfl⟩
abbrev main_call0_v0 : Ref sig .tc := ⟨.hbm, 42, rfl⟩
abbrev main_call0_c : Ref sig .tc := ⟨.hbm, 43, rfl⟩
abbrev main_call0_v1 : Ref sig .tc := ⟨.hbm, 44, rfl⟩
abbrev main_call0_c_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_c_1 : Ref sig .tc := ⟨.hbm, 49, rfl⟩
abbrev main_call0_v5 : Ref sig .tc := ⟨.hbm, 50, rfl⟩
abbrev main_call0_v6 : Ref sig .tc := ⟨.hbm, 51, rfl⟩
abbrev main_call0_c_2 : Ref sig .tc := ⟨.hbm, 52, rfl⟩
abbrev main_call0_v7 : Ref sig .tc := ⟨.hbm, 53, rfl⟩
abbrev main_call0_v8 : Ref sig .tc := ⟨.hbm, 54, rfl⟩
abbrev main_call0_c_3 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_v12 : Ref sig .tc := ⟨.hbm, 59, rfl⟩
abbrev main_call0_v13 : Ref sig .tc := ⟨.hbm, 60, rfl⟩
abbrev main_call0_v14 : Ref sig .tc := ⟨.hbm, 61, rfl⟩
abbrev main_v29 : Ref sig .tc := ⟨.hbm, 62, rfl⟩
abbrev main_c_2 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_call1_v0 : Ref sig .tc := ⟨.hbm, 67, rfl⟩
abbrev main_v33 : Ref sig .tc := ⟨.hbm, 68, rfl⟩
abbrev main_v34 : Ref sig .tc := ⟨.hbm, 69, rfl⟩
abbrev main_c_3 : Ref sig .tc := ⟨.hbm, 70, rfl⟩
abbrev main_call2_v0 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_4 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_c_5 : Ref sig .tc := ⟨.hbm, 84, rfl⟩
abbrev main_call3_v0 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_c_6 : Ref sig .tc := ⟨.hbm, 90, rfl⟩
abbrev main_call4_v0 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [BitOps F]

abbrev grid0 : Pipeline.Grid := ⟨2, ![8, 1], ![false, false]⟩

def k0_off1 : Fin 4 → Nat :=
  let c0_39 : Index := 0#32
  let c0_i32_38 : BitVec 32 := 0#32
  let c8_i32 : BitVec 32 := 8#32
  let v102 : BitVec 32 := Scalar.minsi c0_i32_38 c8_i32
  let v103 : Index := Scalar.indexCast v102
  let c0_40 : Index := 0#32
  let c0_41 : Index := 0#32
  ![0, v103.toNat, 0, 0]
@[reducible] def k0_t1_loop (i : grid0.Coords) : Scf.Loop 32 :=
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_67 : BitVec 32 := 1#32
  ⟨c0_i32_65, v145, c1_i32_67⟩
def k0_off2 (i : grid0.Coords) (k0_t1 : Fin (k0_t1_loop i).trips) (c1_i32_379 : BitVec 32) : Fin 4 → Nat :=
  let c0_381 : Index := 0#32
  let c2_i32_378 : BitVec 32 := 2#32
  let c0_i32_65 : BitVec 32 := 0#32
  let c1_i32_67 : BitVec 32 := 1#32
  let arg20 : BitVec 32 := Scf.iv c0_i32_65 c1_i32_67 k0_t1
  let v674 : BitVec 32 := Scalar.muli c2_i32_378 arg20
  let v675 : BitVec 32 := Scalar.addi v674 c1_i32_379
  let c8_i32_380 : BitVec 32 := 8#32
  let v676 : BitVec 32 := Scalar.minsi v675 c8_i32_380
  let v677 : Index := Scalar.indexCast v676
  let c0_382 : Index := 0#32
  let c0_383 : Index := 0#32
  ![0, v677.toNat, 0, 0]
def k0_off3 (i : grid0.Coords) (k0_t1 : Fin (k0_t1_loop i).trips) : Fin 4 → Nat :=
  let c2_i32_414 : BitVec 32 := 2#32
  let c0_i32_65 : BitVec 32 := 0#32
  let c1_i32_67 : BitVec 32 := 1#32
  let arg20 : BitVec 32 := Scf.iv c0_i32_65 c1_i32_67 k0_t1
  let v715 : BitVec 32 := Scalar.muli c2_i32_414 arg20
  let v3133 : Index := Scalar.indexCast v715
  let c0_1739 : Index := 0#32
  let c0_1740 : Index := 0#32
  let c0_1741 : Index := 0#32
  ![v3133.toNat, 0, 0, 0]
def k0_off4 (i : grid0.Coords) (k0_t1 : Fin (k0_t1_loop i).trips) : Fin 4 → Nat :=
  let c2_i32_414 : BitVec 32 := 2#32
  let c0_i32_65 : BitVec 32 := 0#32
  let c1_i32_67 : BitVec 32 := 1#32
  let arg20 : BitVec 32 := Scf.iv c0_i32_65 c1_i32_67 k0_t1
  let v715 : BitVec 32 := Scalar.muli c2_i32_414 arg20
  let v3137 : Index := Scalar.indexCast v715
  let c1_1742 : Index := 1#32
  let c0_1743 : Index := 0#32
  let c0_1744 : Index := 0#32
  ![v3137.toNat, 1, 0, 0]
def k0_off5 (i : grid0.Coords) (k0_t1 : Fin (k0_t1_loop i).trips) : Fin 4 → Nat :=
  let c2_i32_414 : BitVec 32 := 2#32
  let c0_i32_65 : BitVec 32 := 0#32
  let c1_i32_67 : BitVec 32 := 1#32
  let arg20 : BitVec 32 := Scf.iv c0_i32_65 c1_i32_67 k0_t1
  let v715 : BitVec 32 := Scalar.muli c2_i32_414 arg20
  let v3141 : Index := Scalar.indexCast v715
  let c2_1745 : Index := 2#32
  let c0_1746 : Index := 0#32
  let c0_1747 : Index := 0#32
  ![v3141.toNat, 2, 0, 0]
def k0_off6 (i : grid0.Coords) (k0_t1 : Fin (k0_t1_loop i).trips) : Fin 4 → Nat :=
  let c2_i32_414 : BitVec 32 := 2#32
  let c0_i32_65 : BitVec 32 := 0#32
  let c1_i32_67 : BitVec 32 := 1#32
  let arg20 : BitVec 32 := Scf.iv c0_i32_65 c1_i32_67 k0_t1
  let v715 : BitVec 32 := Scalar.muli c2_i32_414 arg20
  let v3145 : Index := Scalar.indexCast v715
  let c3_1748 : Index := 3#32
  let c0_1749 : Index := 0#32
  let c0_1750 : Index := 0#32
  ![v3145.toNat, 3, 0, 0]
def k0_off7 (i : grid0.Coords) (k0_t1 : Fin (k0_t1_loop i).trips) : Fin 4 → Nat :=
  let c2_i32_414 : BitVec 32 := 2#32
  let c0_i32_65 : BitVec 32 := 0#32
  let c1_i32_67 : BitVec 32 := 1#32
  let arg20 : BitVec 32 := Scf.iv c0_i32_65 c1_i32_67 k0_t1
  let v715 : BitVec 32 := Scalar.muli c2_i32_414 arg20
  let v3149 : Index := Scalar.indexCast v715
  let c4_1751 : Index := 4#32
  let c0_1752 : Index := 0#32
  let c0_1753 : Index := 0#32
  ![v3149.toNat, 4, 0, 0]
def k0_off8 (i : grid0.Coords) (k0_t1 : Fin (k0_t1_loop i).trips) : Fin 4 → Nat :=
  let c2_i32_414 : BitVec 32 := 2#32
  let c0_i32_65 : BitVec 32 := 0#32
  let c1_i32_67 : BitVec 32 := 1#32
  let arg20 : BitVec 32 := Scf.iv c0_i32_65 c1_i32_67 k0_t1
  let v715 : BitVec 32 := Scalar.muli c2_i32_414 arg20
  let v3153 : Index := Scalar.indexCast v715
  let c5_1754 : Index := 5#32
  let c0_1755 : Index := 0#32
  let c0_1756 : Index := 0#32
  ![v3153.toNat, 5, 0, 0]
def k0_off9 (i : grid0.Coords) (k0_t1 : Fin (k0_t1_loop i).trips) : Fin 4 → Nat :=
  let c2_i32_414 : BitVec 32 := 2#32
  let c0_i32_65 : BitVec 32 := 0#32
  let c1_i32_67 : BitVec 32 := 1#32
  let arg20 : BitVec 32 := Scf.iv c0_i32_65 c1_i32_67 k0_t1
  let v715 : BitVec 32 := Scalar.muli c2_i32_414 arg20
  let v3157 : Index := Scalar.indexCast v715
  let c6_1757 : Index := 6#32
  let c0_1758 : Index := 0#32
  let c0_1759 : Index := 0#32
  ![v3157.toNat, 6, 0, 0]
def k0_off10 (i : grid0.Coords) (k0_t1 : Fin (k0_t1_loop i).trips) : Fin 4 → Nat :=
  let c2_i32_414 : BitVec 32 := 2#32
  let c0_i32_65 : BitVec 32 := 0#32
  let c1_i32_67 : BitVec 32 := 1#32
  let arg20 : BitVec 32 := Scf.iv c0_i32_65 c1_i32_67 k0_t1
  let v715 : BitVec 32 := Scalar.muli c2_i32_414 arg20
  let v3161 : Index := Scalar.indexCast v715
  let c7_1760 : Index := 7#32
  let c0_1761 : Index := 0#32
  let c0_1762 : Index := 0#32
  ![v3161.toNat, 7, 0, 0]
def k0_off11 (i : grid0.Coords) (k0_t1 : Fin (k0_t1_loop i).trips) : Fin 4 → Nat :=
  let c2_i32_414 : BitVec 32 := 2#32
  let c0_i32_65 : BitVec 32 := 0#32
  let c1_i32_67 : BitVec 32 := 1#32
  let arg20 : BitVec 32 := Scf.iv c0_i32_65 c1_i32_67 k0_t1
  let v715 : BitVec 32 := Scalar.muli c2_i32_414 arg20
  let v3165 : Index := Scalar.indexCast v715
  let c8_1763 : Index := 8#32
  let c0_1764 : Index := 0#32
  let c0_1765 : Index := 0#32
  ![v3165.toNat, 8, 0, 0]
def k0_off12 (i : grid0.Coords) (k0_t1 : Fin (k0_t1_loop i).trips) : Fin 4 → Nat :=
  let c2_i32_414 : BitVec 32 := 2#32
  let c0_i32_65 : BitVec 32 := 0#32
  let c1_i32_67 : BitVec 32 := 1#32
  let arg20 : BitVec 32 := Scf.iv c0_i32_65 c1_i32_67 k0_t1
  let v715 : BitVec 32 := Scalar.muli c2_i32_414 arg20
  let v3169 : Index := Scalar.indexCast v715
  let c9 : Index := 9#32
  let c0_1766 : Index := 0#32
  let c0_1767 : Index := 0#32
  ![v3169.toNat, 9, 0, 0]
def k0_off13 (i : grid0.Coords) (k0_t1 : Fin (k0_t1_loop i).trips) : Fin 4 → Nat :=
  let c2_i32_414 : BitVec 32 := 2#32
  let c0_i32_65 : BitVec 32 := 0#32
  let c1_i32_67 : BitVec 32 := 1#32
  let arg20 : BitVec 32 := Scf.iv c0_i32_65 c1_i32_67 k0_t1
  let v715 : BitVec 32 := Scalar.muli c2_i32_414 arg20
  let v3173 : Index := Scalar.indexCast v715
  let c10 : Index := 10#32
  let c0_1768 : Index := 0#32
  let c0_1769 : Index := 0#32
  ![v3173.toNat, 10, 0, 0]
def k0_off14 (i : grid0.Coords) (k0_t1 : Fin (k0_t1_loop i).trips) : Fin 4 → Nat :=
  let c2_i32_414 : BitVec 32 := 2#32
  let c0_i32_65 : BitVec 32 := 0#32
  let c1_i32_67 : BitVec 32 := 1#32
  let arg20 : BitVec 32 := Scf.iv c0_i32_65 c1_i32_67 k0_t1
  let v715 : BitVec 32 := Scalar.muli c2_i32_414 arg20
  let v3177 : Index := Scalar.indexCast v715
  let c11 : Index := 11#32
  let c0_1770 : Index := 0#32
  let c0_1771 : Index := 0#32
  ![v3177.toNat, 11, 0, 0]
def k0_off15 (i : grid0.Coords) (k0_t1 : Fin (k0_t1_loop i).trips) : Fin 4 → Nat :=
  let c2_i32_414 : BitVec 32 := 2#32
  let c0_i32_65 : BitVec 32 := 0#32
  let c1_i32_67 : BitVec 32 := 1#32
  let arg20 : BitVec 32 := Scf.iv c0_i32_65 c1_i32_67 k0_t1
  let v715 : BitVec 32 := Scalar.muli c2_i32_414 arg20
  let v3181 : Index := Scalar.indexCast v715
  let c12 : Index := 12#32
  let c0_1772 : Index := 0#32
  let c0_1773 : Index := 0#32
  ![v3181.toNat, 12, 0, 0]
def k0_off16 (i : grid0.Coords) (k0_t1 : Fin (k0_t1_loop i).trips) : Fin 4 → Nat :=
  let c2_i32_414 : BitVec 32 := 2#32
  let c0_i32_65 : BitVec 32 := 0#32
  let c1_i32_67 : BitVec 32 := 1#32
  let arg20 : BitVec 32 := Scf.iv c0_i32_65 c1_i32_67 k0_t1
  let v715 : BitVec 32 := Scalar.muli c2_i32_414 arg20
  let v3185 : Index := Scalar.indexCast v715
  let c13 : Index := 13#32
  let c0_1774 : Index := 0#32
  let c0_1775 : Index := 0#32
  ![v3185.toNat, 13, 0, 0]
def k0_off17 (i : grid0.Coords) (k0_t1 : Fin (k0_t1_loop i).trips) : Fin 4 → Nat :=
  let c2_i32_414 : BitVec 32 := 2#32
  let c0_i32_65 : BitVec 32 := 0#32
  let c1_i32_67 : BitVec 32 := 1#32
  let arg20 : BitVec 32 := Scf.iv c0_i32_65 c1_i32_67 k0_t1
  let v715 : BitVec 32 := Scalar.muli c2_i32_414 arg20
  let v3189 : Index := Scalar.indexCast v715
  let c14 : Index := 14#32
  let c0_1776 : Index := 0#32
  let c0_1777 : Index := 0#32
  ![v3189.toNat, 14, 0, 0]
def k0_off18 (i : grid0.Coords) (k0_t1 : Fin (k0_t1_loop i).trips) : Fin 4 → Nat :=
  let c2_i32_414 : BitVec 32 := 2#32
  let c0_i32_65 : BitVec 32 := 0#32
  let c1_i32_67 : BitVec 32 := 1#32
  let arg20 : BitVec 32 := Scf.iv c0_i32_65 c1_i32_67 k0_t1
  let v715 : BitVec 32 := Scalar.muli c2_i32_414 arg20
  let v3193 : Index := Scalar.indexCast v715
  let c15 : Index := 15#32
  let c0_1778 : Index := 0#32
  let c0_1779 : Index := 0#32
  ![v3193.toNat, 15, 0, 0]
def k0_off19 (i : grid0.Coords) (k0_t1 : Fin (k0_t1_loop i).trips) : Fin 4 → Nat :=
  let c2_i32_414 : BitVec 32 := 2#32
  let c0_i32_65 : BitVec 32 := 0#32
  let c1_i32_67 : BitVec 32 := 1#32
  let arg20 : BitVec 32 := Scf.iv c0_i32_65 c1_i32_67 k0_t1
  let v715 : BitVec 32 := Scalar.muli c2_i32_414 arg20
  let v3197 : Index := Scalar.indexCast v715
  let c16_1780 : Index := 16#32
  let c0_1781 : Index := 0#32
  let c0_1782 : Index := 0#32
  ![v3197.toNat, 16, 0, 0]
def k0_off20 (i : grid0.Coords) (k0_t1 : Fin (k0_t1_loop i).trips) : Fin 4 → Nat :=
  let c2_i32_414 : BitVec 32 := 2#32
  let c0_i32_65 : BitVec 32 := 0#32
  let c1_i32_67 : BitVec 32 := 1#32
  let arg20 : BitVec 32 := Scf.iv c0_i32_65 c1_i32_67 k0_t1
  let v715 : BitVec 32 := Scalar.muli c2_i32_414 arg20
  let v3201 : Index := Scalar.indexCast v715
  let c17 : Index := 17#32
  let c0_1783 : Index := 0#32
  let c0_1784 : Index := 0#32
  ![v3201.toNat, 17, 0, 0]
def k0_off21 (i : grid0.Coords) (k0_t1 : Fin (k0_t1_loop i).trips) : Fin 4 → Nat :=
  let c2_i32_414 : BitVec 32 := 2#32
  let c0_i32_65 : BitVec 32 := 0#32
  let c1_i32_67 : BitVec 32 := 1#32
  let arg20 : BitVec 32 := Scf.iv c0_i32_65 c1_i32_67 k0_t1
  let v715 : BitVec 32 := Scalar.muli c2_i32_414 arg20
  let v3205 : Index := Scalar.indexCast v715
  let c18 : Index := 18#32
  let c0_1785 : Index := 0#32
  let c0_1786 : Index := 0#32
  ![v3205.toNat, 18, 0, 0]
def k0_off22 (i : grid0.Coords) (k0_t1 : Fin (k0_t1_loop i).trips) : Fin 4 → Nat :=
  let c2_i32_414 : BitVec 32 := 2#32
  let c0_i32_65 : BitVec 32 := 0#32
  let c1_i32_67 : BitVec 32 := 1#32
  let arg20 : BitVec 32 := Scf.iv c0_i32_65 c1_i32_67 k0_t1
  let v715 : BitVec 32 := Scalar.muli c2_i32_414 arg20
  let v3209 : Index := Scalar.indexCast v715
  let c19 : Index := 19#32
  let c0_1787 : Index := 0#32
  let c0_1788 : Index := 0#32
  ![v3209.toNat, 19, 0, 0]
def k0_off23 (i : grid0.Coords) (k0_t1 : Fin (k0_t1_loop i).trips) : Fin 4 → Nat :=
  let c2_i32_414 : BitVec 32 := 2#32
  let c0_i32_65 : BitVec 32 := 0#32
  let c1_i32_67 : BitVec 32 := 1#32
  let arg20 : BitVec 32 := Scf.iv c0_i32_65 c1_i32_67 k0_t1
  let v715 : BitVec 32 := Scalar.muli c2_i32_414 arg20
  let v3213 : Index := Scalar.indexCast v715
  let c20 : Index := 20#32
  let c0_1789 : Index := 0#32
  let c0_1790 : Index := 0#32
  ![v3213.toNat, 20, 0, 0]
def k0_off24 (i : grid0.Coords) (k0_t1 : Fin (k0_t1_loop i).trips) : Fin 4 → Nat :=
  let c2_i32_414 : BitVec 32 := 2#32
  let c0_i32_65 : BitVec 32 := 0#32
  let c1_i32_67 : BitVec 32 := 1#32
  let arg20 : BitVec 32 := Scf.iv c0_i32_65 c1_i32_67 k0_t1
  let v715 : BitVec 32 := Scalar.muli c2_i32_414 arg20
  let v3217 : Index := Scalar.indexCast v715
  let c21 : Index := 21#32
  let c0_1791 : Index := 0#32
  let c0_1792 : Index := 0#32
  ![v3217.toNat, 21, 0, 0]
def k0_off25 (i : grid0.Coords) (k0_t1 : Fin (k0_t1_loop i).trips) : Fin 4 → Nat :=
  let c2_i32_414 : BitVec 32 := 2#32
  let c0_i32_65 : BitVec 32 := 0#32
  let c1_i32_67 : BitVec 32 := 1#32
  let arg20 : BitVec 32 := Scf.iv c0_i32_65 c1_i32_67 k0_t1
  let v715 : BitVec 32 := Scalar.muli c2_i32_414 arg20
  let v3221 : Index := Scalar.indexCast v715
  let c22 : Index := 22#32
  let c0_1793 : Index := 0#32
  let c0_1794 : Index := 0#32
  ![v3221.toNat, 22, 0, 0]
def k0_off26 (i : grid0.Coords) (k0_t1 : Fin (k0_t1_loop i).trips) : Fin 4 → Nat :=
  let c2_i32_414 : BitVec 32 := 2#32
  let c0_i32_65 : BitVec 32 := 0#32
  let c1_i32_67 : BitVec 32 := 1#32
  let arg20 : BitVec 32 := Scf.iv c0_i32_65 c1_i32_67 k0_t1
  let v715 : BitVec 32 := Scalar.muli c2_i32_414 arg20
  let v3225 : Index := Scalar.indexCast v715
  let c23 : Index := 23#32
  let c0_1795 : Index := 0#32
  let c0_1796 : Index := 0#32
  ![v3225.toNat, 23, 0, 0]
def k0_off27 (i : grid0.Coords) (k0_t1 : Fin (k0_t1_loop i).trips) : Fin 4 → Nat :=
  let c2_i32_414 : BitVec 32 := 2#32
  let c0_i32_65 : BitVec 32 := 0#32
  let c1_i32_67 : BitVec 32 := 1#32
  let arg20 : BitVec 32 := Scf.iv c0_i32_65 c1_i32_67 k0_t1
  let v715 : BitVec 32 := Scalar.muli c2_i32_414 arg20
  let v3229 : Index := Scalar.indexCast v715
  let c24_1797 : Index := 24#32
  let c0_1798 : Index := 0#32
  let c0_1799 : Index := 0#32
  ![v3229.toNat, 24, 0, 0]
def k0_off28 (i : grid0.Coords) (k0_t1 : Fin (k0_t1_loop i).trips) : Fin 4 → Nat :=
  let c2_i32_414 : BitVec 32 := 2#32
  let c0_i32_65 : BitVec 32 := 0#32
  let c1_i32_67 : BitVec 32 := 1#32
  let arg20 : BitVec 32 := Scf.iv c0_i32_65 c1_i32_67 k0_t1
  let v715 : BitVec 32 := Scalar.muli c2_i32_414 arg20
  let v3233 : Index := Scalar.indexCast v715
  let c25 : Index := 25#32
  let c0_1800 : Index := 0#32
  let c0_1801 : Index := 0#32
  ![v3233.toNat, 25, 0, 0]
def k0_off29 (i : grid0.Coords) (k0_t1 : Fin (k0_t1_loop i).trips) : Fin 4 → Nat :=
  let c2_i32_414 : BitVec 32 := 2#32
  let c0_i32_65 : BitVec 32 := 0#32
  let c1_i32_67 : BitVec 32 := 1#32
  let arg20 : BitVec 32 := Scf.iv c0_i32_65 c1_i32_67 k0_t1
  let v715 : BitVec 32 := Scalar.muli c2_i32_414 arg20
  let v3237 : Index := Scalar.indexCast v715
  let c26 : Index := 26#32
  let c0_1802 : Index := 0#32
  let c0_1803 : Index := 0#32
  ![v3237.toNat, 26, 0, 0]
def k0_off30 (i : grid0.Coords) (k0_t1 : Fin (k0_t1_loop i).trips) : Fin 4 → Nat :=
  let c2_i32_414 : BitVec 32 := 2#32
  let c0_i32_65 : BitVec 32 := 0#32
  let c1_i32_67 : BitVec 32 := 1#32
  let arg20 : BitVec 32 := Scf.iv c0_i32_65 c1_i32_67 k0_t1
  let v715 : BitVec 32 := Scalar.muli c2_i32_414 arg20
  let v3241 : Index := Scalar.indexCast v715
  let c27 : Index := 27#32
  let c0_1804 : Index := 0#32
  let c0_1805 : Index := 0#32
  ![v3241.toNat, 27, 0, 0]
def k0_off31 (i : grid0.Coords) (k0_t1 : Fin (k0_t1_loop i).trips) : Fin 4 → Nat :=
  let c2_i32_414 : BitVec 32 := 2#32
  let c0_i32_65 : BitVec 32 := 0#32
  let c1_i32_67 : BitVec 32 := 1#32
  let arg20 : BitVec 32 := Scf.iv c0_i32_65 c1_i32_67 k0_t1
  let v715 : BitVec 32 := Scalar.muli c2_i32_414 arg20
  let v3245 : Index := Scalar.indexCast v715
  let c28 : Index := 28#32
  let c0_1806 : Index := 0#32
  let c0_1807 : Index := 0#32
  ![v3245.toNat, 28, 0, 0]
def k0_off32 (i : grid0.Coords) (k0_t1 : Fin (k0_t1_loop i).trips) : Fin 4 → Nat :=
  let c2_i32_414 : BitVec 32 := 2#32
  let c0_i32_65 : BitVec 32 := 0#32
  let c1_i32_67 : BitVec 32 := 1#32
  let arg20 : BitVec 32 := Scf.iv c0_i32_65 c1_i32_67 k0_t1
  let v715 : BitVec 32 := Scalar.muli c2_i32_414 arg20
  let v3249 : Index := Scalar.indexCast v715
  let c29 : Index := 29#32
  let c0_1808 : Index := 0#32
  let c0_1809 : Index := 0#32
  ![v3249.toNat, 29, 0, 0]
def k0_off33 (i : grid0.Coords) (k0_t1 : Fin (k0_t1_loop i).trips) : Fin 4 → Nat :=
  let c2_i32_414 : BitVec 32 := 2#32
  let c0_i32_65 : BitVec 32 := 0#32
  let c1_i32_67 : BitVec 32 := 1#32
  let arg20 : BitVec 32 := Scf.iv c0_i32_65 c1_i32_67 k0_t1
  let v715 : BitVec 32 := Scalar.muli c2_i32_414 arg20
  let v3253 : Index := Scalar.indexCast v715
  let c30 : Index := 30#32
  let c0_1810 : Index := 0#32
  let c0_1811 : Index := 0#32
  ![v3253.toNat, 30, 0, 0]
def k0_off34 (i : grid0.Coords) (k0_t1 : Fin (k0_t1_loop i).trips) : Fin 4 → Nat :=
  let c2_i32_414 : BitVec 32 := 2#32
  let c0_i32_65 : BitVec 32 := 0#32
  let c1_i32_67 : BitVec 32 := 1#32
  let arg20 : BitVec 32 := Scf.iv c0_i32_65 c1_i32_67 k0_t1
  let v715 : BitVec 32 := Scalar.muli c2_i32_414 arg20
  let v3257 : Index := Scalar.indexCast v715
  let c31 : Index := 31#32
  let c0_1812 : Index := 0#32
  let c0_1813 : Index := 0#32
  ![v3257.toNat, 31, 0, 0]
def k0_off35 (i : grid0.Coords) (k0_t1 : Fin (k0_t1_loop i).trips) : Fin 4 → Nat :=
  let c2_i32_1850 : BitVec 32 := 2#32
  let c0_i32_65 : BitVec 32 := 0#32
  let c1_i32_67 : BitVec 32 := 1#32
  let arg20 : BitVec 32 := Scf.iv c0_i32_65 c1_i32_67 k0_t1
  let v3302 : BitVec 32 := Scalar.muli c2_i32_1850 arg20
  let c1_i32_1851 : BitVec 32 := 1#32
  let v3303 : BitVec 32 := Scalar.addi v3302 c1_i32_1851
  let v5721 : Index := Scalar.indexCast v3303
  let c0_3181 : Index := 0#32
  let c0_3182 : Index := 0#32
  let c0_3183 : Index := 0#32
  ![v5721.toNat, 0, 0, 0]
def k0_off36 (i : grid0.Coords) (k0_t1 : Fin (k0_t1_loop i).trips) : Fin 4 → Nat :=
  let c2_i32_1850 : BitVec 32 := 2#32
  let c0_i32_65 : BitVec 32 := 0#32
  let c1_i32_67 : BitVec 32 := 1#32
  let arg20 : BitVec 32 := Scf.iv c0_i32_65 c1_i32_67 k0_t1
  let v3302 : BitVec 32 := Scalar.muli c2_i32_1850 arg20
  let c1_i32_1851 : BitVec 32 := 1#32
  let v3303 : BitVec 32 := Scalar.addi v3302 c1_i32_1851
  let v5725 : Index := Scalar.indexCast v3303
  let c1_3184 : Index := 1#32
  let c0_3185 : Index := 0#32
  let c0_3186 : Index := 0#32
  ![v5725.toNat, 1, 0, 0]
def k0_off37 (i : grid0.Coords) (k0_t1 : Fin (k0_t1_loop i).trips) : Fin 4 → Nat :=
  let c2_i32_1850 : BitVec 32 := 2#32
  let c0_i32_65 : BitVec 32 := 0#32
  let c1_i32_67 : BitVec 32 := 1#32
  let arg20 : BitVec 32 := Scf.iv c0_i32_65 c1_i32_67 k0_t1
  let v3302 : BitVec 32 := Scalar.muli c2_i32_1850 arg20
  let c1_i32_1851 : BitVec 32 := 1#32
  let v3303 : BitVec 32 := Scalar.addi v3302 c1_i32_1851
  let v5729 : Index := Scalar.indexCast v3303
  let c2_3187 : Index := 2#32
  let c0_3188 : Index := 0#32
  let c0_3189 : Index := 0#32
  ![v5729.toNat, 2, 0, 0]
def k0_off38 (i : grid0.Coords) (k0_t1 : Fin (k0_t1_loop i).trips) : Fin 4 → Nat :=
  let c2_i32_1850 : BitVec 32 := 2#32
  let c0_i32_65 : BitVec 32 := 0#32
  let c1_i32_67 : BitVec 32 := 1#32
  let arg20 : BitVec 32 := Scf.iv c0_i32_65 c1_i32_67 k0_t1
  let v3302 : BitVec 32 := Scalar.muli c2_i32_1850 arg20
  let c1_i32_1851 : BitVec 32 := 1#32
  let v3303 : BitVec 32 := Scalar.addi v3302 c1_i32_1851
  let v5733 : Index := Scalar.indexCast v3303
  let c3_3190 : Index := 3#32
  let c0_3191 : Index := 0#32
  let c0_3192 : Index := 0#32
  ![v5733.toNat, 3, 0, 0]
def k0_off39 (i : grid0.Coords) (k0_t1 : Fin (k0_t1_loop i).trips) : Fin 4 → Nat :=
  let c2_i32_1850 : BitVec 32 := 2#32
  let c0_i32_65 : BitVec 32 := 0#32
  let c1_i32_67 : BitVec 32 := 1#32
  let arg20 : BitVec 32 := Scf.iv c0_i32_65 c1_i32_67 k0_t1
  let v3302 : BitVec 32 := Scalar.muli c2_i32_1850 arg20
  let c1_i32_1851 : BitVec 32 := 1#32
  let v3303 : BitVec 32 := Scalar.addi v3302 c1_i32_1851
  let v5737 : Index := Scalar.indexCast v3303
  let c4_3193 : Index := 4#32
  let c0_3194 : Index := 0#32
  let c0_3195 : Index := 0#32
  ![v5737.toNat, 4, 0, 0]
def k0_off40 (i : grid0.Coords) (k0_t1 : Fin (k0_t1_loop i).trips) : Fin 4 → Nat :=
  let c2_i32_1850 : BitVec 32 := 2#32
  let c0_i32_65 : BitVec 32 := 0#32
  let c1_i32_67 : BitVec 32 := 1#32
  let arg20 : BitVec 32 := Scf.iv c0_i32_65 c1_i32_67 k0_t1
  let v3302 : BitVec 32 := Scalar.muli c2_i32_1850 arg20
  let c1_i32_1851 : BitVec 32 := 1#32
  let v3303 : BitVec 32 := Scalar.addi v3302 c1_i32_1851
  let v5741 : Index := Scalar.indexCast v3303
  let c5_3196 : Index := 5#32
  let c0_3197 : Index := 0#32
  let c0_3198 : Index := 0#32
  ![v5741.toNat, 5, 0, 0]
def k0_off41 (i : grid0.Coords) (k0_t1 : Fin (k0_t1_loop i).trips) : Fin 4 → Nat :=
  let c2_i32_1850 : BitVec 32 := 2#32
  let c0_i32_65 : BitVec 32 := 0#32
  let c1_i32_67 : BitVec 32 := 1#32
  let arg20 : BitVec 32 := Scf.iv c0_i32_65 c1_i32_67 k0_t1
  let v3302 : BitVec 32 := Scalar.muli c2_i32_1850 arg20
  let c1_i32_1851 : BitVec 32 := 1#32
  let v3303 : BitVec 32 := Scalar.addi v3302 c1_i32_1851
  let v5745 : Index := Scalar.indexCast v3303
  let c6_3199 : Index := 6#32
  let c0_3200 : Index := 0#32
  let c0_3201 : Index := 0#32
  ![v5745.toNat, 6, 0, 0]
def k0_off42 (i : grid0.Coords) (k0_t1 : Fin (k0_t1_loop i).trips) : Fin 4 → Nat :=
  let c2_i32_1850 : BitVec 32 := 2#32
  let c0_i32_65 : BitVec 32 := 0#32
  let c1_i32_67 : BitVec 32 := 1#32
  let arg20 : BitVec 32 := Scf.iv c0_i32_65 c1_i32_67 k0_t1
  let v3302 : BitVec 32 := Scalar.muli c2_i32_1850 arg20
  let c1_i32_1851 : BitVec 32 := 1#32
  let v3303 : BitVec 32 := Scalar.addi v3302 c1_i32_1851
  let v5749 : Index := Scalar.indexCast v3303
  let c7_3202 : Index := 7#32
  let c0_3203 : Index := 0#32
  let c0_3204 : Index := 0#32
  ![v5749.toNat, 7, 0, 0]
def k0_off43 (i : grid0.Coords) (k0_t1 : Fin (k0_t1_loop i).trips) : Fin 4 → Nat :=
  let c2_i32_1850 : BitVec 32 := 2#32
  let c0_i32_65 : BitVec 32 := 0#32
  let c1_i32_67 : BitVec 32 := 1#32
  let arg20 : BitVec 32 := Scf.iv c0_i32_65 c1_i32_67 k0_t1
  let v3302 : BitVec 32 := Scalar.muli c2_i32_1850 arg20
  let c1_i32_1851 : BitVec 32 := 1#32
  let v3303 : BitVec 32 := Scalar.addi v3302 c1_i32_1851
  let v5753 : Index := Scalar.indexCast v3303
  let c8_3205 : Index := 8#32
  let c0_3206 : Index := 0#32
  let c0_3207 : Index := 0#32
  ![v5753.toNat, 8, 0, 0]
def k0_off44 (i : grid0.Coords) (k0_t1 : Fin (k0_t1_loop i).trips) : Fin 4 → Nat :=
  let c2_i32_1850 : BitVec 32 := 2#32
  let c0_i32_65 : BitVec 32 := 0#32
  let c1_i32_67 : BitVec 32 := 1#32
  let arg20 : BitVec 32 := Scf.iv c0_i32_65 c1_i32_67 k0_t1
  let v3302 : BitVec 32 := Scalar.muli c2_i32_1850 arg20
  let c1_i32_1851 : BitVec 32 := 1#32
  let v3303 : BitVec 32 := Scalar.addi v3302 c1_i32_1851
  let v5757 : Index := Scalar.indexCast v3303
  let c9_3208 : Index := 9#32
  let c0_3209 : Index := 0#32
  let c0_3210 : Index := 0#32
  ![v5757.toNat, 9, 0, 0]
def k0_off45 (i : grid0.Coords) (k0_t1 : Fin (k0_t1_loop i).trips) : Fin 4 → Nat :=
  let c2_i32_1850 : BitVec 32 := 2#32
  let c0_i32_65 : BitVec 32 := 0#32
  let c1_i32_67 : BitVec 32 := 1#32
  let arg20 : BitVec 32 := Scf.iv c0_i32_65 c1_i32_67 k0_t1
  let v3302 : BitVec 32 := Scalar.muli c2_i32_1850 arg20
  let c1_i32_1851 : BitVec 32 := 1#32
  let v3303 : BitVec 32 := Scalar.addi v3302 c1_i32_1851
  let v5761 : Index := Scalar.indexCast v3303
  let c10_3211 : Index := 10#32
  let c0_3212 : Index := 0#32
  let c0_3213 : Index := 0#32
  ![v5761.toNat, 10, 0, 0]
def k0_off46 (i : grid0.Coords) (k0_t1 : Fin (k0_t1_loop i).trips) : Fin 4 → Nat :=
  let c2_i32_1850 : BitVec 32 := 2#32
  let c0_i32_65 : BitVec 32 := 0#32
  let c1_i32_67 : BitVec 32 := 1#32
  let arg20 : BitVec 32 := Scf.iv c0_i32_65 c1_i32_67 k0_t1
  let v3302 : BitVec 32 := Scalar.muli c2_i32_1850 arg20
  let c1_i32_1851 : BitVec 32 := 1#32
  let v3303 : BitVec 32 := Scalar.addi v3302 c1_i32_1851
  let v5765 : Index := Scalar.indexCast v3303
  let c11_3214 : Index := 11#32
  let c0_3215 : Index := 0#32
  let c0_3216 : Index := 0#32
  ![v5765.toNat, 11, 0, 0]
def k0_off47 (i : grid0.Coords) (k0_t1 : Fin (k0_t1_loop i).trips) : Fin 4 → Nat :=
  let c2_i32_1850 : BitVec 32 := 2#32
  let c0_i32_65 : BitVec 32 := 0#32
  let c1_i32_67 : BitVec 32 := 1#32
  let arg20 : BitVec 32 := Scf.iv c0_i32_65 c1_i32_67 k0_t1
  let v3302 : BitVec 32 := Scalar.muli c2_i32_1850 arg20
  let c1_i32_1851 : BitVec 32 := 1#32
  let v3303 : BitVec 32 := Scalar.addi v3302 c1_i32_1851
  let v5769 : Index := Scalar.indexCast v3303
  let c12_3217 : Index := 12#32
  let c0_3218 : Index := 0#32
  let c0_3219 : Index := 0#32
  ![v5769.toNat, 12, 0, 0]
def k0_off48 (i : grid0.Coords) (k0_t1 : Fin (k0_t1_loop i).trips) : Fin 4 → Nat :=
  let c2_i32_1850 : BitVec 32 := 2#32
  let c0_i32_65 : BitVec 32 := 0#32
  let c1_i32_67 : BitVec 32 := 1#32
  let arg20 : BitVec 32 := Scf.iv c0_i32_65 c1_i32_67 k0_t1
  let v3302 : BitVec 32 := Scalar.muli c2_i32_1850 arg20
  let c1_i32_1851 : BitVec 32 := 1#32
  let v3303 : BitVec 32 := Scalar.addi v3302 c1_i32_1851
  let v5773 : Index := Scalar.indexCast v3303
  let c13_3220 : Index := 13#32
  let c0_3221 : Index := 0#32
  let c0_3222 : Index := 0#32
  ![v5773.toNat, 13, 0, 0]
def k0_off49 (i : grid0.Coords) (k0_t1 : Fin (k0_t1_loop i).trips) : Fin 4 → Nat :=
  let c2_i32_1850 : BitVec 32 := 2#32
  let c0_i32_65 : BitVec 32 := 0#32
  let c1_i32_67 : BitVec 32 := 1#32
  let arg20 : BitVec 32 := Scf.iv c0_i32_65 c1_i32_67 k0_t1
  let v3302 : BitVec 32 := Scalar.muli c2_i32_1850 arg20
  let c1_i32_1851 : BitVec 32 := 1#32
  let v3303 : BitVec 32 := Scalar.addi v3302 c1_i32_1851
  let v5777 : Index := Scalar.indexCast v3303
  let c14_3223 : Index := 14#32
  let c0_3224 : Index := 0#32
  let c0_3225 : Index := 0#32
  ![v5777.toNat, 14, 0, 0]
def k0_off50 (i : grid0.Coords) (k0_t1 : Fin (k0_t1_loop i).trips) : Fin 4 → Nat :=
  let c2_i32_1850 : BitVec 32 := 2#32
  let c0_i32_65 : BitVec 32 := 0#32
  let c1_i32_67 : BitVec 32 := 1#32
  let arg20 : BitVec 32 := Scf.iv c0_i32_65 c1_i32_67 k0_t1
  let v3302 : BitVec 32 := Scalar.muli c2_i32_1850 arg20
  let c1_i32_1851 : BitVec 32 := 1#32
  let v3303 : BitVec 32 := Scalar.addi v3302 c1_i32_1851
  let v5781 : Index := Scalar.indexCast v3303
  let c15_3226 : Index := 15#32
  let c0_3227 : Index := 0#32
  let c0_3228 : Index := 0#32
  ![v5781.toNat, 15, 0, 0]
def k0_off51 (i : grid0.Coords) (k0_t1 : Fin (k0_t1_loop i).trips) : Fin 4 → Nat :=
  let c2_i32_1850 : BitVec 32 := 2#32
  let c0_i32_65 : BitVec 32 := 0#32
  let c1_i32_67 : BitVec 32 := 1#32
  let arg20 : BitVec 32 := Scf.iv c0_i32_65 c1_i32_67 k0_t1
  let v3302 : BitVec 32 := Scalar.muli c2_i32_1850 arg20
  let c1_i32_1851 : BitVec 32 := 1#32
  let v3303 : BitVec 32 := Scalar.addi v3302 c1_i32_1851
  let v5785 : Index := Scalar.indexCast v3303
  let c16_3229 : Index := 16#32
  let c0_3230 : Index := 0#32
  let c0_3231 : Index := 0#32
  ![v5785.toNat, 16, 0, 0]
def k0_off52 (i : grid0.Coords) (k0_t1 : Fin (k0_t1_loop i).trips) : Fin 4 → Nat :=
  let c2_i32_1850 : BitVec 32 := 2#32
  let c0_i32_65 : BitVec 32 := 0#32
  let c1_i32_67 : BitVec 32 := 1#32
  let arg20 : BitVec 32 := Scf.iv c0_i32_65 c1_i32_67 k0_t1
  let v3302 : BitVec 32 := Scalar.muli c2_i32_1850 arg20
  let c1_i32_1851 : BitVec 32 := 1#32
  let v3303 : BitVec 32 := Scalar.addi v3302 c1_i32_1851
  let v5789 : Index := Scalar.indexCast v3303
  let c17_3232 : Index := 17#32
  let c0_3233 : Index := 0#32
  let c0_3234 : Index := 0#32
  ![v5789.toNat, 17, 0, 0]
def k0_off53 (i : grid0.Coords) (k0_t1 : Fin (k0_t1_loop i).trips) : Fin 4 → Nat :=
  let c2_i32_1850 : BitVec 32 := 2#32
  let c0_i32_65 : BitVec 32 := 0#32
  let c1_i32_67 : BitVec 32 := 1#32
  let arg20 : BitVec 32 := Scf.iv c0_i32_65 c1_i32_67 k0_t1
  let v3302 : BitVec 32 := Scalar.muli c2_i32_1850 arg20
  let c1_i32_1851 : BitVec 32 := 1#32
  let v3303 : BitVec 32 := Scalar.addi v3302 c1_i32_1851
  let v5793 : Index := Scalar.indexCast v3303
  let c18_3235 : Index := 18#32
  let c0_3236 : Index := 0#32
  let c0_3237 : Index := 0#32
  ![v5793.toNat, 18, 0, 0]
def k0_off54 (i : grid0.Coords) (k0_t1 : Fin (k0_t1_loop i).trips) : Fin 4 → Nat :=
  let c2_i32_1850 : BitVec 32 := 2#32
  let c0_i32_65 : BitVec 32 := 0#32
  let c1_i32_67 : BitVec 32 := 1#32
  let arg20 : BitVec 32 := Scf.iv c0_i32_65 c1_i32_67 k0_t1
  let v3302 : BitVec 32 := Scalar.muli c2_i32_1850 arg20
  let c1_i32_1851 : BitVec 32 := 1#32
  let v3303 : BitVec 32 := Scalar.addi v3302 c1_i32_1851
  let v5797 : Index := Scalar.indexCast v3303
  let c19_3238 : Index := 19#32
  let c0_3239 : Index := 0#32
  let c0_3240 : Index := 0#32
  ![v5797.toNat, 19, 0, 0]
def k0_off55 (i : grid0.Coords) (k0_t1 : Fin (k0_t1_loop i).trips) : Fin 4 → Nat :=
  let c2_i32_1850 : BitVec 32 := 2#32
  let c0_i32_65 : BitVec 32 := 0#32
  let c1_i32_67 : BitVec 32 := 1#32
  let arg20 : BitVec 32 := Scf.iv c0_i32_65 c1_i32_67 k0_t1
  let v3302 : BitVec 32 := Scalar.muli c2_i32_1850 arg20
  let c1_i32_1851 : BitVec 32 := 1#32
  let v3303 : BitVec 32 := Scalar.addi v3302 c1_i32_1851
  let v5801 : Index := Scalar.indexCast v3303
  let c20_3241 : Index := 20#32
  let c0_3242 : Index := 0#32
  let c0_3243 : Index := 0#32
  ![v5801.toNat, 20, 0, 0]
def k0_off56 (i : grid0.Coords) (k0_t1 : Fin (k0_t1_loop i).trips) : Fin 4 → Nat :=
  let c2_i32_1850 : BitVec 32 := 2#32
  let c0_i32_65 : BitVec 32 := 0#32
  let c1_i32_67 : BitVec 32 := 1#32
  let arg20 : BitVec 32 := Scf.iv c0_i32_65 c1_i32_67 k0_t1
  let v3302 : BitVec 32 := Scalar.muli c2_i32_1850 arg20
  let c1_i32_1851 : BitVec 32 := 1#32
  let v3303 : BitVec 32 := Scalar.addi v3302 c1_i32_1851
  let v5805 : Index := Scalar.indexCast v3303
  let c21_3244 : Index := 21#32
  let c0_3245 : Index := 0#32
  let c0_3246 : Index := 0#32
  ![v5805.toNat, 21, 0, 0]
def k0_off57 (i : grid0.Coords) (k0_t1 : Fin (k0_t1_loop i).trips) : Fin 4 → Nat :=
  let c2_i32_1850 : BitVec 32 := 2#32
  let c0_i32_65 : BitVec 32 := 0#32
  let c1_i32_67 : BitVec 32 := 1#32
  let arg20 : BitVec 32 := Scf.iv c0_i32_65 c1_i32_67 k0_t1
  let v3302 : BitVec 32 := Scalar.muli c2_i32_1850 arg20
  let c1_i32_1851 : BitVec 32 := 1#32
  let v3303 : BitVec 32 := Scalar.addi v3302 c1_i32_1851
  let v5809 : Index := Scalar.indexCast v3303
  let c22_3247 : Index := 22#32
  let c0_3248 : Index := 0#32
  let c0_3249 : Index := 0#32
  ![v5809.toNat, 22, 0, 0]
def k0_off58 (i : grid0.Coords) (k0_t1 : Fin (k0_t1_loop i).trips) : Fin 4 → Nat :=
  let c2_i32_1850 : BitVec 32 := 2#32
  let c0_i32_65 : BitVec 32 := 0#32
  let c1_i32_67 : BitVec 32 := 1#32
  let arg20 : BitVec 32 := Scf.iv c0_i32_65 c1_i32_67 k0_t1
  let v3302 : BitVec 32 := Scalar.muli c2_i32_1850 arg20
  let c1_i32_1851 : BitVec 32 := 1#32
  let v3303 : BitVec 32 := Scalar.addi v3302 c1_i32_1851
  let v5813 : Index := Scalar.indexCast v3303
  let c23_3250 : Index := 23#32
  let c0_3251 : Index := 0#32
  let c0_3252 : Index := 0#32
  ![v5813.toNat, 23, 0, 0]
def k0_off59 (i : grid0.Coords) (k0_t1 : Fin (k0_t1_loop i).trips) : Fin 4 → Nat :=
  let c2_i32_1850 : BitVec 32 := 2#32
  let c0_i32_65 : BitVec 32 := 0#32
  let c1_i32_67 : BitVec 32 := 1#32
  let arg20 : BitVec 32 := Scf.iv c0_i32_65 c1_i32_67 k0_t1
  let v3302 : BitVec 32 := Scalar.muli c2_i32_1850 arg20
  let c1_i32_1851 : BitVec 32 := 1#32
  let v3303 : BitVec 32 := Scalar.addi v3302 c1_i32_1851
  let v5817 : Index := Scalar.indexCast v3303
  let c24_3253 : Index := 24#32
  let c0_3254 : Index := 0#32
  let c0_3255 : Index := 0#32
  ![v5817.toNat, 24, 0, 0]
def k0_off60 (i : grid0.Coords) (k0_t1 : Fin (k0_t1_loop i).trips) : Fin 4 → Nat :=
  let c2_i32_1850 : BitVec 32 := 2#32
  let c0_i32_65 : BitVec 32 := 0#32
  let c1_i32_67 : BitVec 32 := 1#32
  let arg20 : BitVec 32 := Scf.iv c0_i32_65 c1_i32_67 k0_t1
  let v3302 : BitVec 32 := Scalar.muli c2_i32_1850 arg20
  let c1_i32_1851 : BitVec 32 := 1#32
  let v3303 : BitVec 32 := Scalar.addi v3302 c1_i32_1851
  let v5821 : Index := Scalar.indexCast v3303
  let c25_3256 : Index := 25#32
  let c0_3257 : Index := 0#32
  let c0_3258 : Index := 0#32
  ![v5821.toNat, 25, 0, 0]
def k0_off61 (i : grid0.Coords) (k0_t1 : Fin (k0_t1_loop i).trips) : Fin 4 → Nat :=
  let c2_i32_1850 : BitVec 32 := 2#32
  let c0_i32_65 : BitVec 32 := 0#32
  let c1_i32_67 : BitVec 32 := 1#32
  let arg20 : BitVec 32 := Scf.iv c0_i32_65 c1_i32_67 k0_t1
  let v3302 : BitVec 32 := Scalar.muli c2_i32_1850 arg20
  let c1_i32_1851 : BitVec 32 := 1#32
  let v3303 : BitVec 32 := Scalar.addi v3302 c1_i32_1851
  let v5825 : Index := Scalar.indexCast v3303
  let c26_3259 : Index := 26#32
  let c0_3260 : Index := 0#32
  let c0_3261 : Index := 0#32
  ![v5825.toNat, 26, 0, 0]
def k0_off62 (i : grid0.Coords) (k0_t1 : Fin (k0_t1_loop i).trips) : Fin 4 → Nat :=
  let c2_i32_1850 : BitVec 32 := 2#32
  let c0_i32_65 : BitVec 32 := 0#32
  let c1_i32_67 : BitVec 32 := 1#32
  let arg20 : BitVec 32 := Scf.iv c0_i32_65 c1_i32_67 k0_t1
  let v3302 : BitVec 32 := Scalar.muli c2_i32_1850 arg20
  let c1_i32_1851 : BitVec 32 := 1#32
  let v3303 : BitVec 32 := Scalar.addi v3302 c1_i32_1851
  let v5829 : Index := Scalar.indexCast v3303
  let c27_3262 : Index := 27#32
  let c0_3263 : Index := 0#32
  let c0_3264 : Index := 0#32
  ![v5829.toNat, 27, 0, 0]
def k0_off63 (i : grid0.Coords) (k0_t1 : Fin (k0_t1_loop i).trips) : Fin 4 → Nat :=
  let c2_i32_1850 : BitVec 32 := 2#32
  let c0_i32_65 : BitVec 32 := 0#32
  let c1_i32_67 : BitVec 32 := 1#32
  let arg20 : BitVec 32 := Scf.iv c0_i32_65 c1_i32_67 k0_t1
  let v3302 : BitVec 32 := Scalar.muli c2_i32_1850 arg20
  let c1_i32_1851 : BitVec 32 := 1#32
  let v3303 : BitVec 32 := Scalar.addi v3302 c1_i32_1851
  let v5833 : Index := Scalar.indexCast v3303
  let c28_3265 : Index := 28#32
  let c0_3266 : Index := 0#32
  let c0_3267 : Index := 0#32
  ![v5833.toNat, 28, 0, 0]
def k0_off64 (i : grid0.Coords) (k0_t1 : Fin (k0_t1_loop i).trips) : Fin 4 → Nat :=
  let c2_i32_1850 : BitVec 32 := 2#32
  let c0_i32_65 : BitVec 32 := 0#32
  let c1_i32_67 : BitVec 32 := 1#32
  let arg20 : BitVec 32 := Scf.iv c0_i32_65 c1_i32_67 k0_t1
  let v3302 : BitVec 32 := Scalar.muli c2_i32_1850 arg20
  let c1_i32_1851 : BitVec 32 := 1#32
  let v3303 : BitVec 32 := Scalar.addi v3302 c1_i32_1851
  let v5837 : Index := Scalar.indexCast v3303
  let c29_3268 : Index := 29#32
  let c0_3269 : Index := 0#32
  let c0_3270 : Index := 0#32
  ![v5837.toNat, 29, 0, 0]
def k0_off65 (i : grid0.Coords) (k0_t1 : Fin (k0_t1_loop i).trips) : Fin 4 → Nat :=
  let c2_i32_1850 : BitVec 32 := 2#32
  let c0_i32_65 : BitVec 32 := 0#32
  let c1_i32_67 : BitVec 32 := 1#32
  let arg20 : BitVec 32 := Scf.iv c0_i32_65 c1_i32_67 k0_t1
  let v3302 : BitVec 32 := Scalar.muli c2_i32_1850 arg20
  let c1_i32_1851 : BitVec 32 := 1#32
  let v3303 : BitVec 32 := Scalar.addi v3302 c1_i32_1851
  let v5841 : Index := Scalar.indexCast v3303
  let c30_3271 : Index := 30#32
  let c0_3272 : Index := 0#32
  let c0_3273 : Index := 0#32
  ![v5841.toNat, 30, 0, 0]
def k0_off66 (i : grid0.Coords) (k0_t1 : Fin (k0_t1_loop i).trips) : Fin 4 → Nat :=
  let c2_i32_1850 : BitVec 32 := 2#32
  let c0_i32_65 : BitVec 32 := 0#32
  let c1_i32_67 : BitVec 32 := 1#32
  let arg20 : BitVec 32 := Scf.iv c0_i32_65 c1_i32_67 k0_t1
  let v3302 : BitVec 32 := Scalar.muli c2_i32_1850 arg20
  let c1_i32_1851 : BitVec 32 := 1#32
  let v3303 : BitVec 32 := Scalar.addi v3302 c1_i32_1851
  let v5845 : Index := Scalar.indexCast v3303
  let c31_3274 : Index := 31#32
  let c0_3275 : Index := 0#32
  let c0_3276 : Index := 0#32
  ![v5845.toNat, 31, 0, 0]
@[reducible] def k0_t2_loop (i : grid0.Coords) : Scf.Loop 32 :=
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let v142 : BitVec 32 := Scalar.addi c0_i32_65 v141
  let c1_i32_68 : BitVec 32 := 1#32
  ⟨v145, v142, c1_i32_68⟩
def k0_off67 (i : grid0.Coords) (k0_t2 : Fin (k0_t2_loop i).trips) (c1_i32_379 : BitVec 32) : Fin 4 → Nat :=
  let c0_381 : Index := 0#32
  let c2_i32_378 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v674 : BitVec 32 := Scalar.muli c2_i32_378 arg20
  let v675 : BitVec 32 := Scalar.addi v674 c1_i32_379
  let c8_i32_380 : BitVec 32 := 8#32
  let v676 : BitVec 32 := Scalar.minsi v675 c8_i32_380
  let v677 : Index := Scalar.indexCast v676
  let c0_382 : Index := 0#32
  let c0_383 : Index := 0#32
  ![0, v677.toNat, 0, 0]
def k0_off68 (i : grid0.Coords) (k0_t2 : Fin (k0_t2_loop i).trips) : Fin 4 → Nat :=
  let c2_i32_414 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v715 : BitVec 32 := Scalar.muli c2_i32_414 arg20
  let v3133 : Index := Scalar.indexCast v715
  let c0_1739 : Index := 0#32
  let c0_1740 : Index := 0#32
  let c0_1741 : Index := 0#32
  ![v3133.toNat, 0, 0, 0]
def k0_off69 (i : grid0.Coords) (k0_t2 : Fin (k0_t2_loop i).trips) : Fin 4 → Nat :=
  let c2_i32_414 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v715 : BitVec 32 := Scalar.muli c2_i32_414 arg20
  let v3137 : Index := Scalar.indexCast v715
  let c1_1742 : Index := 1#32
  let c0_1743 : Index := 0#32
  let c0_1744 : Index := 0#32
  ![v3137.toNat, 1, 0, 0]
def k0_off70 (i : grid0.Coords) (k0_t2 : Fin (k0_t2_loop i).trips) : Fin 4 → Nat :=
  let c2_i32_414 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v715 : BitVec 32 := Scalar.muli c2_i32_414 arg20
  let v3141 : Index := Scalar.indexCast v715
  let c2_1745 : Index := 2#32
  let c0_1746 : Index := 0#32
  let c0_1747 : Index := 0#32
  ![v3141.toNat, 2, 0, 0]
def k0_off71 (i : grid0.Coords) (k0_t2 : Fin (k0_t2_loop i).trips) : Fin 4 → Nat :=
  let c2_i32_414 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v715 : BitVec 32 := Scalar.muli c2_i32_414 arg20
  let v3145 : Index := Scalar.indexCast v715
  let c3_1748 : Index := 3#32
  let c0_1749 : Index := 0#32
  let c0_1750 : Index := 0#32
  ![v3145.toNat, 3, 0, 0]
def k0_off72 (i : grid0.Coords) (k0_t2 : Fin (k0_t2_loop i).trips) : Fin 4 → Nat :=
  let c2_i32_414 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v715 : BitVec 32 := Scalar.muli c2_i32_414 arg20
  let v3149 : Index := Scalar.indexCast v715
  let c4_1751 : Index := 4#32
  let c0_1752 : Index := 0#32
  let c0_1753 : Index := 0#32
  ![v3149.toNat, 4, 0, 0]
def k0_off73 (i : grid0.Coords) (k0_t2 : Fin (k0_t2_loop i).trips) : Fin 4 → Nat :=
  let c2_i32_414 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v715 : BitVec 32 := Scalar.muli c2_i32_414 arg20
  let v3153 : Index := Scalar.indexCast v715
  let c5_1754 : Index := 5#32
  let c0_1755 : Index := 0#32
  let c0_1756 : Index := 0#32
  ![v3153.toNat, 5, 0, 0]
def k0_off74 (i : grid0.Coords) (k0_t2 : Fin (k0_t2_loop i).trips) : Fin 4 → Nat :=
  let c2_i32_414 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v715 : BitVec 32 := Scalar.muli c2_i32_414 arg20
  let v3157 : Index := Scalar.indexCast v715
  let c6_1757 : Index := 6#32
  let c0_1758 : Index := 0#32
  let c0_1759 : Index := 0#32
  ![v3157.toNat, 6, 0, 0]
def k0_off75 (i : grid0.Coords) (k0_t2 : Fin (k0_t2_loop i).trips) : Fin 4 → Nat :=
  let c2_i32_414 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v715 : BitVec 32 := Scalar.muli c2_i32_414 arg20
  let v3161 : Index := Scalar.indexCast v715
  let c7_1760 : Index := 7#32
  let c0_1761 : Index := 0#32
  let c0_1762 : Index := 0#32
  ![v3161.toNat, 7, 0, 0]
def k0_off76 (i : grid0.Coords) (k0_t2 : Fin (k0_t2_loop i).trips) : Fin 4 → Nat :=
  let c2_i32_414 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v715 : BitVec 32 := Scalar.muli c2_i32_414 arg20
  let v3165 : Index := Scalar.indexCast v715
  let c8_1763 : Index := 8#32
  let c0_1764 : Index := 0#32
  let c0_1765 : Index := 0#32
  ![v3165.toNat, 8, 0, 0]
def k0_off77 (i : grid0.Coords) (k0_t2 : Fin (k0_t2_loop i).trips) : Fin 4 → Nat :=
  let c2_i32_414 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v715 : BitVec 32 := Scalar.muli c2_i32_414 arg20
  let v3169 : Index := Scalar.indexCast v715
  let c9 : Index := 9#32
  let c0_1766 : Index := 0#32
  let c0_1767 : Index := 0#32
  ![v3169.toNat, 9, 0, 0]
def k0_off78 (i : grid0.Coords) (k0_t2 : Fin (k0_t2_loop i).trips) : Fin 4 → Nat :=
  let c2_i32_414 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v715 : BitVec 32 := Scalar.muli c2_i32_414 arg20
  let v3173 : Index := Scalar.indexCast v715
  let c10 : Index := 10#32
  let c0_1768 : Index := 0#32
  let c0_1769 : Index := 0#32
  ![v3173.toNat, 10, 0, 0]
def k0_off79 (i : grid0.Coords) (k0_t2 : Fin (k0_t2_loop i).trips) : Fin 4 → Nat :=
  let c2_i32_414 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v715 : BitVec 32 := Scalar.muli c2_i32_414 arg20
  let v3177 : Index := Scalar.indexCast v715
  let c11 : Index := 11#32
  let c0_1770 : Index := 0#32
  let c0_1771 : Index := 0#32
  ![v3177.toNat, 11, 0, 0]
def k0_off80 (i : grid0.Coords) (k0_t2 : Fin (k0_t2_loop i).trips) : Fin 4 → Nat :=
  let c2_i32_414 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v715 : BitVec 32 := Scalar.muli c2_i32_414 arg20
  let v3181 : Index := Scalar.indexCast v715
  let c12 : Index := 12#32
  let c0_1772 : Index := 0#32
  let c0_1773 : Index := 0#32
  ![v3181.toNat, 12, 0, 0]
def k0_off81 (i : grid0.Coords) (k0_t2 : Fin (k0_t2_loop i).trips) : Fin 4 → Nat :=
  let c2_i32_414 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v715 : BitVec 32 := Scalar.muli c2_i32_414 arg20
  let v3185 : Index := Scalar.indexCast v715
  let c13 : Index := 13#32
  let c0_1774 : Index := 0#32
  let c0_1775 : Index := 0#32
  ![v3185.toNat, 13, 0, 0]
def k0_off82 (i : grid0.Coords) (k0_t2 : Fin (k0_t2_loop i).trips) : Fin 4 → Nat :=
  let c2_i32_414 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v715 : BitVec 32 := Scalar.muli c2_i32_414 arg20
  let v3189 : Index := Scalar.indexCast v715
  let c14 : Index := 14#32
  let c0_1776 : Index := 0#32
  let c0_1777 : Index := 0#32
  ![v3189.toNat, 14, 0, 0]
def k0_off83 (i : grid0.Coords) (k0_t2 : Fin (k0_t2_loop i).trips) : Fin 4 → Nat :=
  let c2_i32_414 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v715 : BitVec 32 := Scalar.muli c2_i32_414 arg20
  let v3193 : Index := Scalar.indexCast v715
  let c15 : Index := 15#32
  let c0_1778 : Index := 0#32
  let c0_1779 : Index := 0#32
  ![v3193.toNat, 15, 0, 0]
def k0_off84 (i : grid0.Coords) (k0_t2 : Fin (k0_t2_loop i).trips) : Fin 4 → Nat :=
  let c2_i32_414 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v715 : BitVec 32 := Scalar.muli c2_i32_414 arg20
  let v3197 : Index := Scalar.indexCast v715
  let c16_1780 : Index := 16#32
  let c0_1781 : Index := 0#32
  let c0_1782 : Index := 0#32
  ![v3197.toNat, 16, 0, 0]
def k0_off85 (i : grid0.Coords) (k0_t2 : Fin (k0_t2_loop i).trips) : Fin 4 → Nat :=
  let c2_i32_414 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v715 : BitVec 32 := Scalar.muli c2_i32_414 arg20
  let v3201 : Index := Scalar.indexCast v715
  let c17 : Index := 17#32
  let c0_1783 : Index := 0#32
  let c0_1784 : Index := 0#32
  ![v3201.toNat, 17, 0, 0]
def k0_off86 (i : grid0.Coords) (k0_t2 : Fin (k0_t2_loop i).trips) : Fin 4 → Nat :=
  let c2_i32_414 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v715 : BitVec 32 := Scalar.muli c2_i32_414 arg20
  let v3205 : Index := Scalar.indexCast v715
  let c18 : Index := 18#32
  let c0_1785 : Index := 0#32
  let c0_1786 : Index := 0#32
  ![v3205.toNat, 18, 0, 0]
def k0_off87 (i : grid0.Coords) (k0_t2 : Fin (k0_t2_loop i).trips) : Fin 4 → Nat :=
  let c2_i32_414 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v715 : BitVec 32 := Scalar.muli c2_i32_414 arg20
  let v3209 : Index := Scalar.indexCast v715
  let c19 : Index := 19#32
  let c0_1787 : Index := 0#32
  let c0_1788 : Index := 0#32
  ![v3209.toNat, 19, 0, 0]
def k0_off88 (i : grid0.Coords) (k0_t2 : Fin (k0_t2_loop i).trips) : Fin 4 → Nat :=
  let c2_i32_414 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v715 : BitVec 32 := Scalar.muli c2_i32_414 arg20
  let v3213 : Index := Scalar.indexCast v715
  let c20 : Index := 20#32
  let c0_1789 : Index := 0#32
  let c0_1790 : Index := 0#32
  ![v3213.toNat, 20, 0, 0]
def k0_off89 (i : grid0.Coords) (k0_t2 : Fin (k0_t2_loop i).trips) : Fin 4 → Nat :=
  let c2_i32_414 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v715 : BitVec 32 := Scalar.muli c2_i32_414 arg20
  let v3217 : Index := Scalar.indexCast v715
  let c21 : Index := 21#32
  let c0_1791 : Index := 0#32
  let c0_1792 : Index := 0#32
  ![v3217.toNat, 21, 0, 0]
def k0_off90 (i : grid0.Coords) (k0_t2 : Fin (k0_t2_loop i).trips) : Fin 4 → Nat :=
  let c2_i32_414 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v715 : BitVec 32 := Scalar.muli c2_i32_414 arg20
  let v3221 : Index := Scalar.indexCast v715
  let c22 : Index := 22#32
  let c0_1793 : Index := 0#32
  let c0_1794 : Index := 0#32
  ![v3221.toNat, 22, 0, 0]
def k0_off91 (i : grid0.Coords) (k0_t2 : Fin (k0_t2_loop i).trips) : Fin 4 → Nat :=
  let c2_i32_414 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v715 : BitVec 32 := Scalar.muli c2_i32_414 arg20
  let v3225 : Index := Scalar.indexCast v715
  let c23 : Index := 23#32
  let c0_1795 : Index := 0#32
  let c0_1796 : Index := 0#32
  ![v3225.toNat, 23, 0, 0]
def k0_off92 (i : grid0.Coords) (k0_t2 : Fin (k0_t2_loop i).trips) : Fin 4 → Nat :=
  let c2_i32_414 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v715 : BitVec 32 := Scalar.muli c2_i32_414 arg20
  let v3229 : Index := Scalar.indexCast v715
  let c24_1797 : Index := 24#32
  let c0_1798 : Index := 0#32
  let c0_1799 : Index := 0#32
  ![v3229.toNat, 24, 0, 0]
def k0_off93 (i : grid0.Coords) (k0_t2 : Fin (k0_t2_loop i).trips) : Fin 4 → Nat :=
  let c2_i32_414 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v715 : BitVec 32 := Scalar.muli c2_i32_414 arg20
  let v3233 : Index := Scalar.indexCast v715
  let c25 : Index := 25#32
  let c0_1800 : Index := 0#32
  let c0_1801 : Index := 0#32
  ![v3233.toNat, 25, 0, 0]
def k0_off94 (i : grid0.Coords) (k0_t2 : Fin (k0_t2_loop i).trips) : Fin 4 → Nat :=
  let c2_i32_414 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v715 : BitVec 32 := Scalar.muli c2_i32_414 arg20
  let v3237 : Index := Scalar.indexCast v715
  let c26 : Index := 26#32
  let c0_1802 : Index := 0#32
  let c0_1803 : Index := 0#32
  ![v3237.toNat, 26, 0, 0]
def k0_off95 (i : grid0.Coords) (k0_t2 : Fin (k0_t2_loop i).trips) : Fin 4 → Nat :=
  let c2_i32_414 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v715 : BitVec 32 := Scalar.muli c2_i32_414 arg20
  let v3241 : Index := Scalar.indexCast v715
  let c27 : Index := 27#32
  let c0_1804 : Index := 0#32
  let c0_1805 : Index := 0#32
  ![v3241.toNat, 27, 0, 0]
def k0_off96 (i : grid0.Coords) (k0_t2 : Fin (k0_t2_loop i).trips) : Fin 4 → Nat :=
  let c2_i32_414 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v715 : BitVec 32 := Scalar.muli c2_i32_414 arg20
  let v3245 : Index := Scalar.indexCast v715
  let c28 : Index := 28#32
  let c0_1806 : Index := 0#32
  let c0_1807 : Index := 0#32
  ![v3245.toNat, 28, 0, 0]
def k0_off97 (i : grid0.Coords) (k0_t2 : Fin (k0_t2_loop i).trips) : Fin 4 → Nat :=
  let c2_i32_414 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v715 : BitVec 32 := Scalar.muli c2_i32_414 arg20
  let v3249 : Index := Scalar.indexCast v715
  let c29 : Index := 29#32
  let c0_1808 : Index := 0#32
  let c0_1809 : Index := 0#32
  ![v3249.toNat, 29, 0, 0]
def k0_off98 (i : grid0.Coords) (k0_t2 : Fin (k0_t2_loop i).trips) : Fin 4 → Nat :=
  let c2_i32_414 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v715 : BitVec 32 := Scalar.muli c2_i32_414 arg20
  let v3253 : Index := Scalar.indexCast v715
  let c30 : Index := 30#32
  let c0_1810 : Index := 0#32
  let c0_1811 : Index := 0#32
  ![v3253.toNat, 30, 0, 0]
def k0_off99 (i : grid0.Coords) (k0_t2 : Fin (k0_t2_loop i).trips) : Fin 4 → Nat :=
  let c2_i32_414 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v715 : BitVec 32 := Scalar.muli c2_i32_414 arg20
  let v3257 : Index := Scalar.indexCast v715
  let c31 : Index := 31#32
  let c0_1812 : Index := 0#32
  let c0_1813 : Index := 0#32
  ![v3257.toNat, 31, 0, 0]
def k0_off100 (i : grid0.Coords) (k0_t2 : Fin (k0_t2_loop i).trips) : Fin 4 → Nat :=
  let c2_i32_1850 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v3302 : BitVec 32 := Scalar.muli c2_i32_1850 arg20
  let c1_i32_1851 : BitVec 32 := 1#32
  let v3303 : BitVec 32 := Scalar.addi v3302 c1_i32_1851
  let v5721 : Index := Scalar.indexCast v3303
  let c0_3181 : Index := 0#32
  let c0_3182 : Index := 0#32
  let c0_3183 : Index := 0#32
  ![v5721.toNat, 0, 0, 0]
def k0_off101 (i : grid0.Coords) (k0_t2 : Fin (k0_t2_loop i).trips) : Fin 4 → Nat :=
  let c2_i32_1850 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v3302 : BitVec 32 := Scalar.muli c2_i32_1850 arg20
  let c1_i32_1851 : BitVec 32 := 1#32
  let v3303 : BitVec 32 := Scalar.addi v3302 c1_i32_1851
  let v5725 : Index := Scalar.indexCast v3303
  let c1_3184 : Index := 1#32
  let c0_3185 : Index := 0#32
  let c0_3186 : Index := 0#32
  ![v5725.toNat, 1, 0, 0]
def k0_off102 (i : grid0.Coords) (k0_t2 : Fin (k0_t2_loop i).trips) : Fin 4 → Nat :=
  let c2_i32_1850 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v3302 : BitVec 32 := Scalar.muli c2_i32_1850 arg20
  let c1_i32_1851 : BitVec 32 := 1#32
  let v3303 : BitVec 32 := Scalar.addi v3302 c1_i32_1851
  let v5729 : Index := Scalar.indexCast v3303
  let c2_3187 : Index := 2#32
  let c0_3188 : Index := 0#32
  let c0_3189 : Index := 0#32
  ![v5729.toNat, 2, 0, 0]
def k0_off103 (i : grid0.Coords) (k0_t2 : Fin (k0_t2_loop i).trips) : Fin 4 → Nat :=
  let c2_i32_1850 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v3302 : BitVec 32 := Scalar.muli c2_i32_1850 arg20
  let c1_i32_1851 : BitVec 32 := 1#32
  let v3303 : BitVec 32 := Scalar.addi v3302 c1_i32_1851
  let v5733 : Index := Scalar.indexCast v3303
  let c3_3190 : Index := 3#32
  let c0_3191 : Index := 0#32
  let c0_3192 : Index := 0#32
  ![v5733.toNat, 3, 0, 0]
def k0_off104 (i : grid0.Coords) (k0_t2 : Fin (k0_t2_loop i).trips) : Fin 4 → Nat :=
  let c2_i32_1850 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v3302 : BitVec 32 := Scalar.muli c2_i32_1850 arg20
  let c1_i32_1851 : BitVec 32 := 1#32
  let v3303 : BitVec 32 := Scalar.addi v3302 c1_i32_1851
  let v5737 : Index := Scalar.indexCast v3303
  let c4_3193 : Index := 4#32
  let c0_3194 : Index := 0#32
  let c0_3195 : Index := 0#32
  ![v5737.toNat, 4, 0, 0]
def k0_off105 (i : grid0.Coords) (k0_t2 : Fin (k0_t2_loop i).trips) : Fin 4 → Nat :=
  let c2_i32_1850 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v3302 : BitVec 32 := Scalar.muli c2_i32_1850 arg20
  let c1_i32_1851 : BitVec 32 := 1#32
  let v3303 : BitVec 32 := Scalar.addi v3302 c1_i32_1851
  let v5741 : Index := Scalar.indexCast v3303
  let c5_3196 : Index := 5#32
  let c0_3197 : Index := 0#32
  let c0_3198 : Index := 0#32
  ![v5741.toNat, 5, 0, 0]
def k0_off106 (i : grid0.Coords) (k0_t2 : Fin (k0_t2_loop i).trips) : Fin 4 → Nat :=
  let c2_i32_1850 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v3302 : BitVec 32 := Scalar.muli c2_i32_1850 arg20
  let c1_i32_1851 : BitVec 32 := 1#32
  let v3303 : BitVec 32 := Scalar.addi v3302 c1_i32_1851
  let v5745 : Index := Scalar.indexCast v3303
  let c6_3199 : Index := 6#32
  let c0_3200 : Index := 0#32
  let c0_3201 : Index := 0#32
  ![v5745.toNat, 6, 0, 0]
def k0_off107 (i : grid0.Coords) (k0_t2 : Fin (k0_t2_loop i).trips) : Fin 4 → Nat :=
  let c2_i32_1850 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v3302 : BitVec 32 := Scalar.muli c2_i32_1850 arg20
  let c1_i32_1851 : BitVec 32 := 1#32
  let v3303 : BitVec 32 := Scalar.addi v3302 c1_i32_1851
  let v5749 : Index := Scalar.indexCast v3303
  let c7_3202 : Index := 7#32
  let c0_3203 : Index := 0#32
  let c0_3204 : Index := 0#32
  ![v5749.toNat, 7, 0, 0]
def k0_off108 (i : grid0.Coords) (k0_t2 : Fin (k0_t2_loop i).trips) : Fin 4 → Nat :=
  let c2_i32_1850 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v3302 : BitVec 32 := Scalar.muli c2_i32_1850 arg20
  let c1_i32_1851 : BitVec 32 := 1#32
  let v3303 : BitVec 32 := Scalar.addi v3302 c1_i32_1851
  let v5753 : Index := Scalar.indexCast v3303
  let c8_3205 : Index := 8#32
  let c0_3206 : Index := 0#32
  let c0_3207 : Index := 0#32
  ![v5753.toNat, 8, 0, 0]
def k0_off109 (i : grid0.Coords) (k0_t2 : Fin (k0_t2_loop i).trips) : Fin 4 → Nat :=
  let c2_i32_1850 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v3302 : BitVec 32 := Scalar.muli c2_i32_1850 arg20
  let c1_i32_1851 : BitVec 32 := 1#32
  let v3303 : BitVec 32 := Scalar.addi v3302 c1_i32_1851
  let v5757 : Index := Scalar.indexCast v3303
  let c9_3208 : Index := 9#32
  let c0_3209 : Index := 0#32
  let c0_3210 : Index := 0#32
  ![v5757.toNat, 9, 0, 0]
def k0_off110 (i : grid0.Coords) (k0_t2 : Fin (k0_t2_loop i).trips) : Fin 4 → Nat :=
  let c2_i32_1850 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v3302 : BitVec 32 := Scalar.muli c2_i32_1850 arg20
  let c1_i32_1851 : BitVec 32 := 1#32
  let v3303 : BitVec 32 := Scalar.addi v3302 c1_i32_1851
  let v5761 : Index := Scalar.indexCast v3303
  let c10_3211 : Index := 10#32
  let c0_3212 : Index := 0#32
  let c0_3213 : Index := 0#32
  ![v5761.toNat, 10, 0, 0]
def k0_off111 (i : grid0.Coords) (k0_t2 : Fin (k0_t2_loop i).trips) : Fin 4 → Nat :=
  let c2_i32_1850 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v3302 : BitVec 32 := Scalar.muli c2_i32_1850 arg20
  let c1_i32_1851 : BitVec 32 := 1#32
  let v3303 : BitVec 32 := Scalar.addi v3302 c1_i32_1851
  let v5765 : Index := Scalar.indexCast v3303
  let c11_3214 : Index := 11#32
  let c0_3215 : Index := 0#32
  let c0_3216 : Index := 0#32
  ![v5765.toNat, 11, 0, 0]
def k0_off112 (i : grid0.Coords) (k0_t2 : Fin (k0_t2_loop i).trips) : Fin 4 → Nat :=
  let c2_i32_1850 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v3302 : BitVec 32 := Scalar.muli c2_i32_1850 arg20
  let c1_i32_1851 : BitVec 32 := 1#32
  let v3303 : BitVec 32 := Scalar.addi v3302 c1_i32_1851
  let v5769 : Index := Scalar.indexCast v3303
  let c12_3217 : Index := 12#32
  let c0_3218 : Index := 0#32
  let c0_3219 : Index := 0#32
  ![v5769.toNat, 12, 0, 0]
def k0_off113 (i : grid0.Coords) (k0_t2 : Fin (k0_t2_loop i).trips) : Fin 4 → Nat :=
  let c2_i32_1850 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v3302 : BitVec 32 := Scalar.muli c2_i32_1850 arg20
  let c1_i32_1851 : BitVec 32 := 1#32
  let v3303 : BitVec 32 := Scalar.addi v3302 c1_i32_1851
  let v5773 : Index := Scalar.indexCast v3303
  let c13_3220 : Index := 13#32
  let c0_3221 : Index := 0#32
  let c0_3222 : Index := 0#32
  ![v5773.toNat, 13, 0, 0]
def k0_off114 (i : grid0.Coords) (k0_t2 : Fin (k0_t2_loop i).trips) : Fin 4 → Nat :=
  let c2_i32_1850 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v3302 : BitVec 32 := Scalar.muli c2_i32_1850 arg20
  let c1_i32_1851 : BitVec 32 := 1#32
  let v3303 : BitVec 32 := Scalar.addi v3302 c1_i32_1851
  let v5777 : Index := Scalar.indexCast v3303
  let c14_3223 : Index := 14#32
  let c0_3224 : Index := 0#32
  let c0_3225 : Index := 0#32
  ![v5777.toNat, 14, 0, 0]
def k0_off115 (i : grid0.Coords) (k0_t2 : Fin (k0_t2_loop i).trips) : Fin 4 → Nat :=
  let c2_i32_1850 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v3302 : BitVec 32 := Scalar.muli c2_i32_1850 arg20
  let c1_i32_1851 : BitVec 32 := 1#32
  let v3303 : BitVec 32 := Scalar.addi v3302 c1_i32_1851
  let v5781 : Index := Scalar.indexCast v3303
  let c15_3226 : Index := 15#32
  let c0_3227 : Index := 0#32
  let c0_3228 : Index := 0#32
  ![v5781.toNat, 15, 0, 0]
def k0_off116 (i : grid0.Coords) (k0_t2 : Fin (k0_t2_loop i).trips) : Fin 4 → Nat :=
  let c2_i32_1850 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v3302 : BitVec 32 := Scalar.muli c2_i32_1850 arg20
  let c1_i32_1851 : BitVec 32 := 1#32
  let v3303 : BitVec 32 := Scalar.addi v3302 c1_i32_1851
  let v5785 : Index := Scalar.indexCast v3303
  let c16_3229 : Index := 16#32
  let c0_3230 : Index := 0#32
  let c0_3231 : Index := 0#32
  ![v5785.toNat, 16, 0, 0]
def k0_off117 (i : grid0.Coords) (k0_t2 : Fin (k0_t2_loop i).trips) : Fin 4 → Nat :=
  let c2_i32_1850 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v3302 : BitVec 32 := Scalar.muli c2_i32_1850 arg20
  let c1_i32_1851 : BitVec 32 := 1#32
  let v3303 : BitVec 32 := Scalar.addi v3302 c1_i32_1851
  let v5789 : Index := Scalar.indexCast v3303
  let c17_3232 : Index := 17#32
  let c0_3233 : Index := 0#32
  let c0_3234 : Index := 0#32
  ![v5789.toNat, 17, 0, 0]
def k0_off118 (i : grid0.Coords) (k0_t2 : Fin (k0_t2_loop i).trips) : Fin 4 → Nat :=
  let c2_i32_1850 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v3302 : BitVec 32 := Scalar.muli c2_i32_1850 arg20
  let c1_i32_1851 : BitVec 32 := 1#32
  let v3303 : BitVec 32 := Scalar.addi v3302 c1_i32_1851
  let v5793 : Index := Scalar.indexCast v3303
  let c18_3235 : Index := 18#32
  let c0_3236 : Index := 0#32
  let c0_3237 : Index := 0#32
  ![v5793.toNat, 18, 0, 0]
def k0_off119 (i : grid0.Coords) (k0_t2 : Fin (k0_t2_loop i).trips) : Fin 4 → Nat :=
  let c2_i32_1850 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v3302 : BitVec 32 := Scalar.muli c2_i32_1850 arg20
  let c1_i32_1851 : BitVec 32 := 1#32
  let v3303 : BitVec 32 := Scalar.addi v3302 c1_i32_1851
  let v5797 : Index := Scalar.indexCast v3303
  let c19_3238 : Index := 19#32
  let c0_3239 : Index := 0#32
  let c0_3240 : Index := 0#32
  ![v5797.toNat, 19, 0, 0]
def k0_off120 (i : grid0.Coords) (k0_t2 : Fin (k0_t2_loop i).trips) : Fin 4 → Nat :=
  let c2_i32_1850 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v3302 : BitVec 32 := Scalar.muli c2_i32_1850 arg20
  let c1_i32_1851 : BitVec 32 := 1#32
  let v3303 : BitVec 32 := Scalar.addi v3302 c1_i32_1851
  let v5801 : Index := Scalar.indexCast v3303
  let c20_3241 : Index := 20#32
  let c0_3242 : Index := 0#32
  let c0_3243 : Index := 0#32
  ![v5801.toNat, 20, 0, 0]
def k0_off121 (i : grid0.Coords) (k0_t2 : Fin (k0_t2_loop i).trips) : Fin 4 → Nat :=
  let c2_i32_1850 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v3302 : BitVec 32 := Scalar.muli c2_i32_1850 arg20
  let c1_i32_1851 : BitVec 32 := 1#32
  let v3303 : BitVec 32 := Scalar.addi v3302 c1_i32_1851
  let v5805 : Index := Scalar.indexCast v3303
  let c21_3244 : Index := 21#32
  let c0_3245 : Index := 0#32
  let c0_3246 : Index := 0#32
  ![v5805.toNat, 21, 0, 0]
def k0_off122 (i : grid0.Coords) (k0_t2 : Fin (k0_t2_loop i).trips) : Fin 4 → Nat :=
  let c2_i32_1850 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v3302 : BitVec 32 := Scalar.muli c2_i32_1850 arg20
  let c1_i32_1851 : BitVec 32 := 1#32
  let v3303 : BitVec 32 := Scalar.addi v3302 c1_i32_1851
  let v5809 : Index := Scalar.indexCast v3303
  let c22_3247 : Index := 22#32
  let c0_3248 : Index := 0#32
  let c0_3249 : Index := 0#32
  ![v5809.toNat, 22, 0, 0]
def k0_off123 (i : grid0.Coords) (k0_t2 : Fin (k0_t2_loop i).trips) : Fin 4 → Nat :=
  let c2_i32_1850 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v3302 : BitVec 32 := Scalar.muli c2_i32_1850 arg20
  let c1_i32_1851 : BitVec 32 := 1#32
  let v3303 : BitVec 32 := Scalar.addi v3302 c1_i32_1851
  let v5813 : Index := Scalar.indexCast v3303
  let c23_3250 : Index := 23#32
  let c0_3251 : Index := 0#32
  let c0_3252 : Index := 0#32
  ![v5813.toNat, 23, 0, 0]
def k0_off124 (i : grid0.Coords) (k0_t2 : Fin (k0_t2_loop i).trips) : Fin 4 → Nat :=
  let c2_i32_1850 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v3302 : BitVec 32 := Scalar.muli c2_i32_1850 arg20
  let c1_i32_1851 : BitVec 32 := 1#32
  let v3303 : BitVec 32 := Scalar.addi v3302 c1_i32_1851
  let v5817 : Index := Scalar.indexCast v3303
  let c24_3253 : Index := 24#32
  let c0_3254 : Index := 0#32
  let c0_3255 : Index := 0#32
  ![v5817.toNat, 24, 0, 0]
def k0_off125 (i : grid0.Coords) (k0_t2 : Fin (k0_t2_loop i).trips) : Fin 4 → Nat :=
  let c2_i32_1850 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v3302 : BitVec 32 := Scalar.muli c2_i32_1850 arg20
  let c1_i32_1851 : BitVec 32 := 1#32
  let v3303 : BitVec 32 := Scalar.addi v3302 c1_i32_1851
  let v5821 : Index := Scalar.indexCast v3303
  let c25_3256 : Index := 25#32
  let c0_3257 : Index := 0#32
  let c0_3258 : Index := 0#32
  ![v5821.toNat, 25, 0, 0]
def k0_off126 (i : grid0.Coords) (k0_t2 : Fin (k0_t2_loop i).trips) : Fin 4 → Nat :=
  let c2_i32_1850 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v3302 : BitVec 32 := Scalar.muli c2_i32_1850 arg20
  let c1_i32_1851 : BitVec 32 := 1#32
  let v3303 : BitVec 32 := Scalar.addi v3302 c1_i32_1851
  let v5825 : Index := Scalar.indexCast v3303
  let c26_3259 : Index := 26#32
  let c0_3260 : Index := 0#32
  let c0_3261 : Index := 0#32
  ![v5825.toNat, 26, 0, 0]
def k0_off127 (i : grid0.Coords) (k0_t2 : Fin (k0_t2_loop i).trips) : Fin 4 → Nat :=
  let c2_i32_1850 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v3302 : BitVec 32 := Scalar.muli c2_i32_1850 arg20
  let c1_i32_1851 : BitVec 32 := 1#32
  let v3303 : BitVec 32 := Scalar.addi v3302 c1_i32_1851
  let v5829 : Index := Scalar.indexCast v3303
  let c27_3262 : Index := 27#32
  let c0_3263 : Index := 0#32
  let c0_3264 : Index := 0#32
  ![v5829.toNat, 27, 0, 0]
def k0_off128 (i : grid0.Coords) (k0_t2 : Fin (k0_t2_loop i).trips) : Fin 4 → Nat :=
  let c2_i32_1850 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v3302 : BitVec 32 := Scalar.muli c2_i32_1850 arg20
  let c1_i32_1851 : BitVec 32 := 1#32
  let v3303 : BitVec 32 := Scalar.addi v3302 c1_i32_1851
  let v5833 : Index := Scalar.indexCast v3303
  let c28_3265 : Index := 28#32
  let c0_3266 : Index := 0#32
  let c0_3267 : Index := 0#32
  ![v5833.toNat, 28, 0, 0]
def k0_off129 (i : grid0.Coords) (k0_t2 : Fin (k0_t2_loop i).trips) : Fin 4 → Nat :=
  let c2_i32_1850 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v3302 : BitVec 32 := Scalar.muli c2_i32_1850 arg20
  let c1_i32_1851 : BitVec 32 := 1#32
  let v3303 : BitVec 32 := Scalar.addi v3302 c1_i32_1851
  let v5837 : Index := Scalar.indexCast v3303
  let c29_3268 : Index := 29#32
  let c0_3269 : Index := 0#32
  let c0_3270 : Index := 0#32
  ![v5837.toNat, 29, 0, 0]
def k0_off130 (i : grid0.Coords) (k0_t2 : Fin (k0_t2_loop i).trips) : Fin 4 → Nat :=
  let c2_i32_1850 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v3302 : BitVec 32 := Scalar.muli c2_i32_1850 arg20
  let c1_i32_1851 : BitVec 32 := 1#32
  let v3303 : BitVec 32 := Scalar.addi v3302 c1_i32_1851
  let v5841 : Index := Scalar.indexCast v3303
  let c30_3271 : Index := 30#32
  let c0_3272 : Index := 0#32
  let c0_3273 : Index := 0#32
  ![v5841.toNat, 30, 0, 0]
def k0_off131 (i : grid0.Coords) (k0_t2 : Fin (k0_t2_loop i).trips) : Fin 4 → Nat :=
  let c2_i32_1850 : BitVec 32 := 2#32
  let c0_i32_65 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v141 : BitVec 32 := Scalar.subi v44 c0_i32_65
  let c1_i32_66 : BitVec 32 := 1#32
  let v143 : BitVec 32 := Scalar.divsi v141 c1_i32_66
  let v144 : BitVec 32 := Scalar.muli v143 c1_i32_66
  let v145 : BitVec 32 := Scalar.addi c0_i32_65 v144
  let c1_i32_68 : BitVec 32 := 1#32
  let arg20 : BitVec 32 := Scf.iv v145 c1_i32_68 k0_t2
  let v3302 : BitVec 32 := Scalar.muli c2_i32_1850 arg20
  let c1_i32_1851 : BitVec 32 := 1#32
  let v3303 : BitVec 32 := Scalar.addi v3302 c1_i32_1851
  let v5845 : Index := Scalar.indexCast v3303
  let c31_3274 : Index := 31#32
  let c0_3275 : Index := 0#32
  let c0_3276 : Index := 0#32
  ![v5845.toNat, 31, 0, 0]
@[reducible] def k0_t3_loop (i : grid0.Coords) : Scf.Loop 32 :=
  let c0_i32_71 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c16_i32 : BitVec 32 := 16#32
  let v45 : BitVec 32 := Scalar.addi v26 c16_i32
  let c1_i32_17 : BitVec 32 := 1#32
  let v46 : BitVec 32 := Scalar.subi v45 c1_i32_17
  let c0_i32_19 : BitVec 32 := 0#32
  let v48 : BitVec 1 := Scalar.cmpi .sgt v46 c0_i32_19
  let v49 : BitVec 32 := Scalar.extui v48
  let c0_i32_20 : BitVec 32 := 0#32
  let v50 : BitVec 1 := Scalar.cmpi .slt v46 c0_i32_20
  let v51 : BitVec 32 := Scalar.extui v50
  let v52 : BitVec 32 := Scalar.subi v49 v51
  let c16_i32_18 : BitVec 32 := 16#32
  let c0_i32_21 : BitVec 32 := 0#32
  let v53 : BitVec 1 := Scalar.cmpi .sgt c16_i32_18 c0_i32_21
  let v54 : BitVec 32 := Scalar.extui v53
  let c0_i32_22 : BitVec 32 := 0#32
  let v55 : BitVec 1 := Scalar.cmpi .slt c16_i32_18 c0_i32_22
  let v56 : BitVec 32 := Scalar.extui v55
  let v57 : BitVec 32 := Scalar.subi v54 v56
  let v58 : BitVec 1 := Scalar.cmpi .ne v52 v57
  let v59 : BitVec 32 := Scalar.remsi v46 c16_i32_18
  let c0_i32_23 : BitVec 32 := 0#32
  let v60 : BitVec 1 := Scalar.cmpi .ne v59 c0_i32_23
  let v61 : BitVec 1 := Scalar.andi v58 v60
  let v47 : BitVec 32 := Scalar.divsi v46 c16_i32_18
  let c1_i32_24 : BitVec 32 := 1#32
  let v62 : BitVec 32 := Scalar.subi v47 c1_i32_24
  let v63 : BitVec 32 := Scalar.select v61 v62 v47
  let c16_i32_69 : BitVec 32 := 16#32
  let v146 : BitVec 32 := Scalar.muli v63 c16_i32_69
  let v147 : BitVec 32 := Scalar.subi v146 c0_i32_71
  let c1_i32_72 : BitVec 32 := 1#32
  let v149 : BitVec 32 := Scalar.divsi v147 c1_i32_72
  let v150 : BitVec 32 := Scalar.muli v149 c1_i32_72
  let v151 : BitVec 32 := Scalar.addi c0_i32_71 v150
  let c1_i32_73 : BitVec 32 := 1#32
  ⟨c0_i32_71, v151, c1_i32_73⟩
def k0_off132 (i : grid0.Coords) (k0_t3 : Fin (k0_t3_loop i).trips) : Fin 3 → Nat :=
  let c0_i32_71 : BitVec 32 := 0#32
  let c1_i32_73 : BitVec 32 := 1#32
  let arg20 : BitVec 32 := Scf.iv c0_i32_71 c1_i32_73 k0_t3
  let v697 : Index := Scalar.indexCast arg20
  let c0_385 : Index := 0#32
  let c0_386 : Index := 0#32
  ![v697.toNat, 0, 0]
@[reducible] def k0_t4_loop (i : grid0.Coords) : Scf.Loop 32 :=
  let c0_i32_71 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c16_i32 : BitVec 32 := 16#32
  let v45 : BitVec 32 := Scalar.addi v26 c16_i32
  let c1_i32_17 : BitVec 32 := 1#32
  let v46 : BitVec 32 := Scalar.subi v45 c1_i32_17
  let c0_i32_19 : BitVec 32 := 0#32
  let v48 : BitVec 1 := Scalar.cmpi .sgt v46 c0_i32_19
  let v49 : BitVec 32 := Scalar.extui v48
  let c0_i32_20 : BitVec 32 := 0#32
  let v50 : BitVec 1 := Scalar.cmpi .slt v46 c0_i32_20
  let v51 : BitVec 32 := Scalar.extui v50
  let v52 : BitVec 32 := Scalar.subi v49 v51
  let c16_i32_18 : BitVec 32 := 16#32
  let c0_i32_21 : BitVec 32 := 0#32
  let v53 : BitVec 1 := Scalar.cmpi .sgt c16_i32_18 c0_i32_21
  let v54 : BitVec 32 := Scalar.extui v53
  let c0_i32_22 : BitVec 32 := 0#32
  let v55 : BitVec 1 := Scalar.cmpi .slt c16_i32_18 c0_i32_22
  let v56 : BitVec 32 := Scalar.extui v55
  let v57 : BitVec 32 := Scalar.subi v54 v56
  let v58 : BitVec 1 := Scalar.cmpi .ne v52 v57
  let v59 : BitVec 32 := Scalar.remsi v46 c16_i32_18
  let c0_i32_23 : BitVec 32 := 0#32
  let v60 : BitVec 1 := Scalar.cmpi .ne v59 c0_i32_23
  let v61 : BitVec 1 := Scalar.andi v58 v60
  let v47 : BitVec 32 := Scalar.divsi v46 c16_i32_18
  let c1_i32_24 : BitVec 32 := 1#32
  let v62 : BitVec 32 := Scalar.subi v47 c1_i32_24
  let v63 : BitVec 32 := Scalar.select v61 v62 v47
  let c16_i32_69 : BitVec 32 := 16#32
  let v146 : BitVec 32 := Scalar.muli v63 c16_i32_69
  let v147 : BitVec 32 := Scalar.subi v146 c0_i32_71
  let c1_i32_72 : BitVec 32 := 1#32
  let v149 : BitVec 32 := Scalar.divsi v147 c1_i32_72
  let v150 : BitVec 32 := Scalar.muli v149 c1_i32_72
  let v151 : BitVec 32 := Scalar.addi c0_i32_71 v150
  let v148 : BitVec 32 := Scalar.addi c0_i32_71 v147
  let c1_i32_74 : BitVec 32 := 1#32
  ⟨v151, v148, c1_i32_74⟩
def k0_off133 (i : grid0.Coords) (k0_t4 : Fin (k0_t4_loop i).trips) : Fin 3 → Nat :=
  let c0_i32_71 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c16_i32 : BitVec 32 := 16#32
  let v45 : BitVec 32 := Scalar.addi v26 c16_i32
  let c1_i32_17 : BitVec 32 := 1#32
  let v46 : BitVec 32 := Scalar.subi v45 c1_i32_17
  let c0_i32_19 : BitVec 32 := 0#32
  let v48 : BitVec 1 := Scalar.cmpi .sgt v46 c0_i32_19
  let v49 : BitVec 32 := Scalar.extui v48
  let c0_i32_20 : BitVec 32 := 0#32
  let v50 : BitVec 1 := Scalar.cmpi .slt v46 c0_i32_20
  let v51 : BitVec 32 := Scalar.extui v50
  let v52 : BitVec 32 := Scalar.subi v49 v51
  let c16_i32_18 : BitVec 32 := 16#32
  let c0_i32_21 : BitVec 32 := 0#32
  let v53 : BitVec 1 := Scalar.cmpi .sgt c16_i32_18 c0_i32_21
  let v54 : BitVec 32 := Scalar.extui v53
  let c0_i32_22 : BitVec 32 := 0#32
  let v55 : BitVec 1 := Scalar.cmpi .slt c16_i32_18 c0_i32_22
  let v56 : BitVec 32 := Scalar.extui v55
  let v57 : BitVec 32 := Scalar.subi v54 v56
  let v58 : BitVec 1 := Scalar.cmpi .ne v52 v57
  let v59 : BitVec 32 := Scalar.remsi v46 c16_i32_18
  let c0_i32_23 : BitVec 32 := 0#32
  let v60 : BitVec 1 := Scalar.cmpi .ne v59 c0_i32_23
  let v61 : BitVec 1 := Scalar.andi v58 v60
  let v47 : BitVec 32 := Scalar.divsi v46 c16_i32_18
  let c1_i32_24 : BitVec 32 := 1#32
  let v62 : BitVec 32 := Scalar.subi v47 c1_i32_24
  let v63 : BitVec 32 := Scalar.select v61 v62 v47
  let c16_i32_69 : BitVec 32 := 16#32
  let v146 : BitVec 32 := Scalar.muli v63 c16_i32_69
  let v147 : BitVec 32 := Scalar.subi v146 c0_i32_71
  let c1_i32_72 : BitVec 32 := 1#32
  let v149 : BitVec 32 := Scalar.divsi v147 c1_i32_72
  let v150 : BitVec 32 := Scalar.muli v149 c1_i32_72
  let v151 : BitVec 32 := Scalar.addi c0_i32_71 v150
  let c1_i32_74 : BitVec 32 := 1#32
  let arg20 : BitVec 32 := Scf.iv v151 c1_i32_74 k0_t4
  let v697 : Index := Scalar.indexCast arg20
  let c0_385 : Index := 0#32
  let c0_386 : Index := 0#32
  ![v697.toNat, 0, 0]
@[reducible] def k0_t5_loop (i : grid0.Coords) : Scf.Loop 32 :=
  let c0_i32_76 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c16_i32 : BitVec 32 := 16#32
  let v45 : BitVec 32 := Scalar.addi v26 c16_i32
  let c1_i32_17 : BitVec 32 := 1#32
  let v46 : BitVec 32 := Scalar.subi v45 c1_i32_17
  let c0_i32_19 : BitVec 32 := 0#32
  let v48 : BitVec 1 := Scalar.cmpi .sgt v46 c0_i32_19
  let v49 : BitVec 32 := Scalar.extui v48
  let c0_i32_20 : BitVec 32 := 0#32
  let v50 : BitVec 1 := Scalar.cmpi .slt v46 c0_i32_20
  let v51 : BitVec 32 := Scalar.extui v50
  let v52 : BitVec 32 := Scalar.subi v49 v51
  let c16_i32_18 : BitVec 32 := 16#32
  let c0_i32_21 : BitVec 32 := 0#32
  let v53 : BitVec 1 := Scalar.cmpi .sgt c16_i32_18 c0_i32_21
  let v54 : BitVec 32 := Scalar.extui v53
  let c0_i32_22 : BitVec 32 := 0#32
  let v55 : BitVec 1 := Scalar.cmpi .slt c16_i32_18 c0_i32_22
  let v56 : BitVec 32 := Scalar.extui v55
  let v57 : BitVec 32 := Scalar.subi v54 v56
  let v58 : BitVec 1 := Scalar.cmpi .ne v52 v57
  let v59 : BitVec 32 := Scalar.remsi v46 c16_i32_18
  let c0_i32_23 : BitVec 32 := 0#32
  let v60 : BitVec 1 := Scalar.cmpi .ne v59 c0_i32_23
  let v61 : BitVec 1 := Scalar.andi v58 v60
  let v47 : BitVec 32 := Scalar.divsi v46 c16_i32_18
  let c1_i32_24 : BitVec 32 := 1#32
  let v62 : BitVec 32 := Scalar.subi v47 c1_i32_24
  let v63 : BitVec 32 := Scalar.select v61 v62 v47
  let v153 : BitVec 32 := Scalar.subi v63 c0_i32_76
  let c1_i32_77 : BitVec 32 := 1#32
  let v155 : BitVec 32 := Scalar.divsi v153 c1_i32_77
  let v156 : BitVec 32 := Scalar.muli v155 c1_i32_77
  let v157 : BitVec 32 := Scalar.addi c0_i32_76 v156
  let c1_i32_78 : BitVec 32 := 1#32
  ⟨c0_i32_76, v157, c1_i32_78⟩
def k0_off134 (i : grid0.Coords) (k0_t5 : Fin (k0_t5_loop i).trips) (c0_i32_379 : BitVec 32) : Fin 3 → Nat :=
  let c0_i32_76 : BitVec 32 := 0#32
  let c1_i32_78 : BitVec 32 := 1#32
  let arg20 : BitVec 32 := Scf.iv c0_i32_76 c1_i32_78 k0_t5
  let c16_i32_378 : BitVec 32 := 16#32
  let v674 : BitVec 32 := Scalar.muli arg20 c16_i32_378
  let v675 : BitVec 32 := Scalar.addi v674 c0_i32_379
  let v676 : Index := Scalar.indexCast v675
  let c0_380 : Index := 0#32
  let c0_381 : Index := 0#32
  ![v676.toNat, 0, 0]
def k0_off135 (i : grid0.Coords) (k0_t5 : Fin (k0_t5_loop i).trips) (c0_i32_379 : BitVec 32) : Fin 4 → Nat :=
  let c0_i32_76 : BitVec 32 := 0#32
  let c1_i32_78 : BitVec 32 := 1#32
  let arg20 : BitVec 32 := Scf.iv c0_i32_76 c1_i32_78 k0_t5
  let c16_i32_378 : BitVec 32 := 16#32
  let v674 : BitVec 32 := Scalar.muli arg20 c16_i32_378
  let v675 : BitVec 32 := Scalar.addi v674 c0_i32_379
  let v679 : Index := Scalar.indexCast v675
  let c0_382 : Index := 0#32
  let c0_383 : Index := 0#32
  let c0_384 : Index := 0#32
  ![v679.toNat, 0, 0, 0]
@[reducible] def k0_t6_loop (i : grid0.Coords) : Scf.Loop 32 :=
  let c0_i32_76 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c16_i32 : BitVec 32 := 16#32
  let v45 : BitVec 32 := Scalar.addi v26 c16_i32
  let c1_i32_17 : BitVec 32 := 1#32
  let v46 : BitVec 32 := Scalar.subi v45 c1_i32_17
  let c0_i32_19 : BitVec 32 := 0#32
  let v48 : BitVec 1 := Scalar.cmpi .sgt v46 c0_i32_19
  let v49 : BitVec 32 := Scalar.extui v48
  let c0_i32_20 : BitVec 32 := 0#32
  let v50 : BitVec 1 := Scalar.cmpi .slt v46 c0_i32_20
  let v51 : BitVec 32 := Scalar.extui v50
  let v52 : BitVec 32 := Scalar.subi v49 v51
  let c16_i32_18 : BitVec 32 := 16#32
  let c0_i32_21 : BitVec 32 := 0#32
  let v53 : BitVec 1 := Scalar.cmpi .sgt c16_i32_18 c0_i32_21
  let v54 : BitVec 32 := Scalar.extui v53
  let c0_i32_22 : BitVec 32 := 0#32
  let v55 : BitVec 1 := Scalar.cmpi .slt c16_i32_18 c0_i32_22
  let v56 : BitVec 32 := Scalar.extui v55
  let v57 : BitVec 32 := Scalar.subi v54 v56
  let v58 : BitVec 1 := Scalar.cmpi .ne v52 v57
  let v59 : BitVec 32 := Scalar.remsi v46 c16_i32_18
  let c0_i32_23 : BitVec 32 := 0#32
  let v60 : BitVec 1 := Scalar.cmpi .ne v59 c0_i32_23
  let v61 : BitVec 1 := Scalar.andi v58 v60
  let v47 : BitVec 32 := Scalar.divsi v46 c16_i32_18
  let c1_i32_24 : BitVec 32 := 1#32
  let v62 : BitVec 32 := Scalar.subi v47 c1_i32_24
  let v63 : BitVec 32 := Scalar.select v61 v62 v47
  let v153 : BitVec 32 := Scalar.subi v63 c0_i32_76
  let c1_i32_77 : BitVec 32 := 1#32
  let v155 : BitVec 32 := Scalar.divsi v153 c1_i32_77
  let v156 : BitVec 32 := Scalar.muli v155 c1_i32_77
  let v157 : BitVec 32 := Scalar.addi c0_i32_76 v156
  let v154 : BitVec 32 := Scalar.addi c0_i32_76 v153
  let c1_i32_79 : BitVec 32 := 1#32
  ⟨v157, v154, c1_i32_79⟩
def k0_off136 (i : grid0.Coords) (k0_t6 : Fin (k0_t6_loop i).trips) (c0_i32_379 : BitVec 32) : Fin 3 → Nat :=
  let c0_i32_76 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c16_i32 : BitVec 32 := 16#32
  let v45 : BitVec 32 := Scalar.addi v26 c16_i32
  let c1_i32_17 : BitVec 32 := 1#32
  let v46 : BitVec 32 := Scalar.subi v45 c1_i32_17
  let c0_i32_19 : BitVec 32 := 0#32
  let v48 : BitVec 1 := Scalar.cmpi .sgt v46 c0_i32_19
  let v49 : BitVec 32 := Scalar.extui v48
  let c0_i32_20 : BitVec 32 := 0#32
  let v50 : BitVec 1 := Scalar.cmpi .slt v46 c0_i32_20
  let v51 : BitVec 32 := Scalar.extui v50
  let v52 : BitVec 32 := Scalar.subi v49 v51
  let c16_i32_18 : BitVec 32 := 16#32
  let c0_i32_21 : BitVec 32 := 0#32
  let v53 : BitVec 1 := Scalar.cmpi .sgt c16_i32_18 c0_i32_21
  let v54 : BitVec 32 := Scalar.extui v53
  let c0_i32_22 : BitVec 32 := 0#32
  let v55 : BitVec 1 := Scalar.cmpi .slt c16_i32_18 c0_i32_22
  let v56 : BitVec 32 := Scalar.extui v55
  let v57 : BitVec 32 := Scalar.subi v54 v56
  let v58 : BitVec 1 := Scalar.cmpi .ne v52 v57
  let v59 : BitVec 32 := Scalar.remsi v46 c16_i32_18
  let c0_i32_23 : BitVec 32 := 0#32
  let v60 : BitVec 1 := Scalar.cmpi .ne v59 c0_i32_23
  let v61 : BitVec 1 := Scalar.andi v58 v60
  let v47 : BitVec 32 := Scalar.divsi v46 c16_i32_18
  let c1_i32_24 : BitVec 32 := 1#32
  let v62 : BitVec 32 := Scalar.subi v47 c1_i32_24
  let v63 : BitVec 32 := Scalar.select v61 v62 v47
  let v153 : BitVec 32 := Scalar.subi v63 c0_i32_76
  let c1_i32_77 : BitVec 32 := 1#32
  let v155 : BitVec 32 := Scalar.divsi v153 c1_i32_77
  let v156 : BitVec 32 := Scalar.muli v155 c1_i32_77
  let v157 : BitVec 32 := Scalar.addi c0_i32_76 v156
  let c1_i32_79 : BitVec 32 := 1#32
  let arg20 : BitVec 32 := Scf.iv v157 c1_i32_79 k0_t6
  let c16_i32_378 : BitVec 32 := 16#32
  let v674 : BitVec 32 := Scalar.muli arg20 c16_i32_378
  let v675 : BitVec 32 := Scalar.addi v674 c0_i32_379
  let v676 : Index := Scalar.indexCast v675
  let c0_380 : Index := 0#32
  let c0_381 : Index := 0#32
  ![v676.toNat, 0, 0]
def k0_off137 (i : grid0.Coords) (k0_t6 : Fin (k0_t6_loop i).trips) (c0_i32_379 : BitVec 32) : Fin 4 → Nat :=
  let c0_i32_76 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c16_i32 : BitVec 32 := 16#32
  let v45 : BitVec 32 := Scalar.addi v26 c16_i32
  let c1_i32_17 : BitVec 32 := 1#32
  let v46 : BitVec 32 := Scalar.subi v45 c1_i32_17
  let c0_i32_19 : BitVec 32 := 0#32
  let v48 : BitVec 1 := Scalar.cmpi .sgt v46 c0_i32_19
  let v49 : BitVec 32 := Scalar.extui v48
  let c0_i32_20 : BitVec 32 := 0#32
  let v50 : BitVec 1 := Scalar.cmpi .slt v46 c0_i32_20
  let v51 : BitVec 32 := Scalar.extui v50
  let v52 : BitVec 32 := Scalar.subi v49 v51
  let c16_i32_18 : BitVec 32 := 16#32
  let c0_i32_21 : BitVec 32 := 0#32
  let v53 : BitVec 1 := Scalar.cmpi .sgt c16_i32_18 c0_i32_21
  let v54 : BitVec 32 := Scalar.extui v53
  let c0_i32_22 : BitVec 32 := 0#32
  let v55 : BitVec 1 := Scalar.cmpi .slt c16_i32_18 c0_i32_22
  let v56 : BitVec 32 := Scalar.extui v55
  let v57 : BitVec 32 := Scalar.subi v54 v56
  let v58 : BitVec 1 := Scalar.cmpi .ne v52 v57
  let v59 : BitVec 32 := Scalar.remsi v46 c16_i32_18
  let c0_i32_23 : BitVec 32 := 0#32
  let v60 : BitVec 1 := Scalar.cmpi .ne v59 c0_i32_23
  let v61 : BitVec 1 := Scalar.andi v58 v60
  let v47 : BitVec 32 := Scalar.divsi v46 c16_i32_18
  let c1_i32_24 : BitVec 32 := 1#32
  let v62 : BitVec 32 := Scalar.subi v47 c1_i32_24
  let v63 : BitVec 32 := Scalar.select v61 v62 v47
  let v153 : BitVec 32 := Scalar.subi v63 c0_i32_76
  let c1_i32_77 : BitVec 32 := 1#32
  let v155 : BitVec 32 := Scalar.divsi v153 c1_i32_77
  let v156 : BitVec 32 := Scalar.muli v155 c1_i32_77
  let v157 : BitVec 32 := Scalar.addi c0_i32_76 v156
  let c1_i32_79 : BitVec 32 := 1#32
  let arg20 : BitVec 32 := Scf.iv v157 c1_i32_79 k0_t6
  let c16_i32_378 : BitVec 32 := 16#32
  let v674 : BitVec 32 := Scalar.muli arg20 c16_i32_378
  let v675 : BitVec 32 := Scalar.addi v674 c0_i32_379
  let v679 : Index := Scalar.indexCast v675
  let c0_382 : Index := 0#32
  let c0_383 : Index := 0#32
  let c0_384 : Index := 0#32
  ![v679.toNat, 0, 0, 0]
@[reducible] def k0_t7_loop : Scf.Loop 32 :=
  let c1_i32_81 : BitVec 32 := 1#32
  let c31_i32 : BitVec 32 := 31#32
  let v166 : BitVec 32 := Scalar.addi c1_i32_81 c31_i32
  let c1_i32_82 : BitVec 32 := 1#32
  ⟨c1_i32_81, v166, c1_i32_82⟩
@[reducible] def k0_t8_loop (i : grid0.Coords) : Scf.Loop 32 :=
  let c0_i32_379 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c16_i32 : BitVec 32 := 16#32
  let v45 : BitVec 32 := Scalar.addi v26 c16_i32
  let c1_i32_17 : BitVec 32 := 1#32
  let v46 : BitVec 32 := Scalar.subi v45 c1_i32_17
  let c0_i32_19 : BitVec 32 := 0#32
  let v48 : BitVec 1 := Scalar.cmpi .sgt v46 c0_i32_19
  let v49 : BitVec 32 := Scalar.extui v48
  let c0_i32_20 : BitVec 32 := 0#32
  let v50 : BitVec 1 := Scalar.cmpi .slt v46 c0_i32_20
  let v51 : BitVec 32 := Scalar.extui v50
  let v52 : BitVec 32 := Scalar.subi v49 v51
  let c16_i32_18 : BitVec 32 := 16#32
  let c0_i32_21 : BitVec 32 := 0#32
  let v53 : BitVec 1 := Scalar.cmpi .sgt c16_i32_18 c0_i32_21
  let v54 : BitVec 32 := Scalar.extui v53
  let c0_i32_22 : BitVec 32 := 0#32
  let v55 : BitVec 1 := Scalar.cmpi .slt c16_i32_18 c0_i32_22
  let v56 : BitVec 32 := Scalar.extui v55
  let v57 : BitVec 32 := Scalar.subi v54 v56
  let v58 : BitVec 1 := Scalar.cmpi .ne v52 v57
  let v59 : BitVec 32 := Scalar.remsi v46 c16_i32_18
  let c0_i32_23 : BitVec 32 := 0#32
  let v60 : BitVec 1 := Scalar.cmpi .ne v59 c0_i32_23
  let v61 : BitVec 1 := Scalar.andi v58 v60
  let v47 : BitVec 32 := Scalar.divsi v46 c16_i32_18
  let c1_i32_24 : BitVec 32 := 1#32
  let v62 : BitVec 32 := Scalar.subi v47 c1_i32_24
  let v63 : BitVec 32 := Scalar.select v61 v62 v47
  let v676 : BitVec 32 := Scalar.subi v63 c0_i32_379
  let c1_i32_380 : BitVec 32 := 1#32
  let v678 : BitVec 32 := Scalar.divsi v676 c1_i32_380
  let v679 : BitVec 32 := Scalar.muli v678 c1_i32_380
  let v680 : BitVec 32 := Scalar.addi c0_i32_379 v679
  let c1_i32_381 : BitVec 32 := 1#32
  ⟨c0_i32_379, v680, c1_i32_381⟩
def k0_off138 (i : grid0.Coords) (k0_t8 : Fin (k0_t8_loop i).trips) (c0_i32_385 : BitVec 32) : Fin 3 → Nat :=
  let c0_i32_379 : BitVec 32 := 0#32
  let c1_i32_381 : BitVec 32 := 1#32
  let arg23 : BitVec 32 := Scf.iv c0_i32_379 c1_i32_381 k0_t8
  let c16_i32_384 : BitVec 32 := 16#32
  let v689 : BitVec 32 := Scalar.muli arg23 c16_i32_384
  let v690 : BitVec 32 := Scalar.addi v689 c0_i32_385
  let v692 : Index := Scalar.indexCast v690
  let c0_387 : Index := 0#32
  let c0_388 : Index := 0#32
  ![v692.toNat, 0, 0]
def k0_off139 (i : grid0.Coords) (k0_t7 : Fin k0_t7_loop.trips) (k0_t8 : Fin (k0_t8_loop i).trips) (c0_i32_385 : BitVec 32) : Fin 4 → Nat :=
  let c0_i32_379 : BitVec 32 := 0#32
  let c1_i32_381 : BitVec 32 := 1#32
  let arg23 : BitVec 32 := Scf.iv c0_i32_379 c1_i32_381 k0_t8
  let c16_i32_384 : BitVec 32 := 16#32
  let v689 : BitVec 32 := Scalar.muli arg23 c16_i32_384
  let v690 : BitVec 32 := Scalar.addi v689 c0_i32_385
  let v695 : Index := Scalar.indexCast v690
  let c1_i32_81 : BitVec 32 := 1#32
  let c1_i32_82 : BitVec 32 := 1#32
  let arg20 : BitVec 32 := Scf.iv c1_i32_81 c1_i32_82 k0_t7
  let c1_i32_386 : BitVec 32 := 1#32
  let v691 : BitVec 32 := Scalar.subi arg20 c1_i32_386
  let v696 : Index := Scalar.indexCast v691
  let c0_389 : Index := 0#32
  let c0_390 : Index := 0#32
  ![v695.toNat, v696.toNat, 0, 0]
def k0_off140 (i : grid0.Coords) (k0_t7 : Fin k0_t7_loop.trips) (k0_t8 : Fin (k0_t8_loop i).trips) (c0_i32_385 : BitVec 32) : Fin 4 → Nat :=
  let c0_i32_379 : BitVec 32 := 0#32
  let c1_i32_381 : BitVec 32 := 1#32
  let arg23 : BitVec 32 := Scf.iv c0_i32_379 c1_i32_381 k0_t8
  let c16_i32_384 : BitVec 32 := 16#32
  let v689 : BitVec 32 := Scalar.muli arg23 c16_i32_384
  let v690 : BitVec 32 := Scalar.addi v689 c0_i32_385
  let v723 : Index := Scalar.indexCast v690
  let c1_i32_81 : BitVec 32 := 1#32
  let c1_i32_82 : BitVec 32 := 1#32
  let arg20 : BitVec 32 := Scf.iv c1_i32_81 c1_i32_82 k0_t7
  let v724 : Index := Scalar.indexCast arg20
  let c0_400 : Index := 0#32
  let c0_401 : Index := 0#32
  ![v723.toNat, v724.toNat, 0, 0]
@[reducible] def k0_t9_loop (i : grid0.Coords) : Scf.Loop 32 :=
  let c0_i32_379 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c16_i32 : BitVec 32 := 16#32
  let v45 : BitVec 32 := Scalar.addi v26 c16_i32
  let c1_i32_17 : BitVec 32 := 1#32
  let v46 : BitVec 32 := Scalar.subi v45 c1_i32_17
  let c0_i32_19 : BitVec 32 := 0#32
  let v48 : BitVec 1 := Scalar.cmpi .sgt v46 c0_i32_19
  let v49 : BitVec 32 := Scalar.extui v48
  let c0_i32_20 : BitVec 32 := 0#32
  let v50 : BitVec 1 := Scalar.cmpi .slt v46 c0_i32_20
  let v51 : BitVec 32 := Scalar.extui v50
  let v52 : BitVec 32 := Scalar.subi v49 v51
  let c16_i32_18 : BitVec 32 := 16#32
  let c0_i32_21 : BitVec 32 := 0#32
  let v53 : BitVec 1 := Scalar.cmpi .sgt c16_i32_18 c0_i32_21
  let v54 : BitVec 32 := Scalar.extui v53
  let c0_i32_22 : BitVec 32 := 0#32
  let v55 : BitVec 1 := Scalar.cmpi .slt c16_i32_18 c0_i32_22
  let v56 : BitVec 32 := Scalar.extui v55
  let v57 : BitVec 32 := Scalar.subi v54 v56
  let v58 : BitVec 1 := Scalar.cmpi .ne v52 v57
  let v59 : BitVec 32 := Scalar.remsi v46 c16_i32_18
  let c0_i32_23 : BitVec 32 := 0#32
  let v60 : BitVec 1 := Scalar.cmpi .ne v59 c0_i32_23
  let v61 : BitVec 1 := Scalar.andi v58 v60
  let v47 : BitVec 32 := Scalar.divsi v46 c16_i32_18
  let c1_i32_24 : BitVec 32 := 1#32
  let v62 : BitVec 32 := Scalar.subi v47 c1_i32_24
  let v63 : BitVec 32 := Scalar.select v61 v62 v47
  let v676 : BitVec 32 := Scalar.subi v63 c0_i32_379
  let c1_i32_380 : BitVec 32 := 1#32
  let v678 : BitVec 32 := Scalar.divsi v676 c1_i32_380
  let v679 : BitVec 32 := Scalar.muli v678 c1_i32_380
  let v680 : BitVec 32 := Scalar.addi c0_i32_379 v679
  let v677 : BitVec 32 := Scalar.addi c0_i32_379 v676
  let c1_i32_382 : BitVec 32 := 1#32
  ⟨v680, v677, c1_i32_382⟩
def k0_off141 (i : grid0.Coords) (k0_t9 : Fin (k0_t9_loop i).trips) (c0_i32_385 : BitVec 32) : Fin 3 → Nat :=
  let c0_i32_379 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c16_i32 : BitVec 32 := 16#32
  let v45 : BitVec 32 := Scalar.addi v26 c16_i32
  let c1_i32_17 : BitVec 32 := 1#32
  let v46 : BitVec 32 := Scalar.subi v45 c1_i32_17
  let c0_i32_19 : BitVec 32 := 0#32
  let v48 : BitVec 1 := Scalar.cmpi .sgt v46 c0_i32_19
  let v49 : BitVec 32 := Scalar.extui v48
  let c0_i32_20 : BitVec 32 := 0#32
  let v50 : BitVec 1 := Scalar.cmpi .slt v46 c0_i32_20
  let v51 : BitVec 32 := Scalar.extui v50
  let v52 : BitVec 32 := Scalar.subi v49 v51
  let c16_i32_18 : BitVec 32 := 16#32
  let c0_i32_21 : BitVec 32 := 0#32
  let v53 : BitVec 1 := Scalar.cmpi .sgt c16_i32_18 c0_i32_21
  let v54 : BitVec 32 := Scalar.extui v53
  let c0_i32_22 : BitVec 32 := 0#32
  let v55 : BitVec 1 := Scalar.cmpi .slt c16_i32_18 c0_i32_22
  let v56 : BitVec 32 := Scalar.extui v55
  let v57 : BitVec 32 := Scalar.subi v54 v56
  let v58 : BitVec 1 := Scalar.cmpi .ne v52 v57
  let v59 : BitVec 32 := Scalar.remsi v46 c16_i32_18
  let c0_i32_23 : BitVec 32 := 0#32
  let v60 : BitVec 1 := Scalar.cmpi .ne v59 c0_i32_23
  let v61 : BitVec 1 := Scalar.andi v58 v60
  let v47 : BitVec 32 := Scalar.divsi v46 c16_i32_18
  let c1_i32_24 : BitVec 32 := 1#32
  let v62 : BitVec 32 := Scalar.subi v47 c1_i32_24
  let v63 : BitVec 32 := Scalar.select v61 v62 v47
  let v676 : BitVec 32 := Scalar.subi v63 c0_i32_379
  let c1_i32_380 : BitVec 32 := 1#32
  let v678 : BitVec 32 := Scalar.divsi v676 c1_i32_380
  let v679 : BitVec 32 := Scalar.muli v678 c1_i32_380
  let v680 : BitVec 32 := Scalar.addi c0_i32_379 v679
  let c1_i32_382 : BitVec 32 := 1#32
  let arg23 : BitVec 32 := Scf.iv v680 c1_i32_382 k0_t9
  let c16_i32_384 : BitVec 32 := 16#32
  let v689 : BitVec 32 := Scalar.muli arg23 c16_i32_384
  let v690 : BitVec 32 := Scalar.addi v689 c0_i32_385
  let v692 : Index := Scalar.indexCast v690
  let c0_387 : Index := 0#32
  let c0_388 : Index := 0#32
  ![v692.toNat, 0, 0]
def k0_off142 (i : grid0.Coords) (k0_t7 : Fin k0_t7_loop.trips) (k0_t9 : Fin (k0_t9_loop i).trips) (c0_i32_385 : BitVec 32) : Fin 4 → Nat :=
  let c0_i32_379 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c16_i32 : BitVec 32 := 16#32
  let v45 : BitVec 32 := Scalar.addi v26 c16_i32
  let c1_i32_17 : BitVec 32 := 1#32
  let v46 : BitVec 32 := Scalar.subi v45 c1_i32_17
  let c0_i32_19 : BitVec 32 := 0#32
  let v48 : BitVec 1 := Scalar.cmpi .sgt v46 c0_i32_19
  let v49 : BitVec 32 := Scalar.extui v48
  let c0_i32_20 : BitVec 32 := 0#32
  let v50 : BitVec 1 := Scalar.cmpi .slt v46 c0_i32_20
  let v51 : BitVec 32 := Scalar.extui v50
  let v52 : BitVec 32 := Scalar.subi v49 v51
  let c16_i32_18 : BitVec 32 := 16#32
  let c0_i32_21 : BitVec 32 := 0#32
  let v53 : BitVec 1 := Scalar.cmpi .sgt c16_i32_18 c0_i32_21
  let v54 : BitVec 32 := Scalar.extui v53
  let c0_i32_22 : BitVec 32 := 0#32
  let v55 : BitVec 1 := Scalar.cmpi .slt c16_i32_18 c0_i32_22
  let v56 : BitVec 32 := Scalar.extui v55
  let v57 : BitVec 32 := Scalar.subi v54 v56
  let v58 : BitVec 1 := Scalar.cmpi .ne v52 v57
  let v59 : BitVec 32 := Scalar.remsi v46 c16_i32_18
  let c0_i32_23 : BitVec 32 := 0#32
  let v60 : BitVec 1 := Scalar.cmpi .ne v59 c0_i32_23
  let v61 : BitVec 1 := Scalar.andi v58 v60
  let v47 : BitVec 32 := Scalar.divsi v46 c16_i32_18
  let c1_i32_24 : BitVec 32 := 1#32
  let v62 : BitVec 32 := Scalar.subi v47 c1_i32_24
  let v63 : BitVec 32 := Scalar.select v61 v62 v47
  let v676 : BitVec 32 := Scalar.subi v63 c0_i32_379
  let c1_i32_380 : BitVec 32 := 1#32
  let v678 : BitVec 32 := Scalar.divsi v676 c1_i32_380
  let v679 : BitVec 32 := Scalar.muli v678 c1_i32_380
  let v680 : BitVec 32 := Scalar.addi c0_i32_379 v679
  let c1_i32_382 : BitVec 32 := 1#32
  let arg23 : BitVec 32 := Scf.iv v680 c1_i32_382 k0_t9
  let c16_i32_384 : BitVec 32 := 16#32
  let v689 : BitVec 32 := Scalar.muli arg23 c16_i32_384
  let v690 : BitVec 32 := Scalar.addi v689 c0_i32_385
  let v695 : Index := Scalar.indexCast v690
  let c1_i32_81 : BitVec 32 := 1#32
  let c1_i32_82 : BitVec 32 := 1#32
  let arg20 : BitVec 32 := Scf.iv c1_i32_81 c1_i32_82 k0_t7
  let c1_i32_386 : BitVec 32 := 1#32
  let v691 : BitVec 32 := Scalar.subi arg20 c1_i32_386
  let v696 : Index := Scalar.indexCast v691
  let c0_389 : Index := 0#32
  let c0_390 : Index := 0#32
  ![v695.toNat, v696.toNat, 0, 0]
def k0_off143 (i : grid0.Coords) (k0_t7 : Fin k0_t7_loop.trips) (k0_t9 : Fin (k0_t9_loop i).trips) (c0_i32_385 : BitVec 32) : Fin 4 → Nat :=
  let c0_i32_379 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c16_i32 : BitVec 32 := 16#32
  let v45 : BitVec 32 := Scalar.addi v26 c16_i32
  let c1_i32_17 : BitVec 32 := 1#32
  let v46 : BitVec 32 := Scalar.subi v45 c1_i32_17
  let c0_i32_19 : BitVec 32 := 0#32
  let v48 : BitVec 1 := Scalar.cmpi .sgt v46 c0_i32_19
  let v49 : BitVec 32 := Scalar.extui v48
  let c0_i32_20 : BitVec 32 := 0#32
  let v50 : BitVec 1 := Scalar.cmpi .slt v46 c0_i32_20
  let v51 : BitVec 32 := Scalar.extui v50
  let v52 : BitVec 32 := Scalar.subi v49 v51
  let c16_i32_18 : BitVec 32 := 16#32
  let c0_i32_21 : BitVec 32 := 0#32
  let v53 : BitVec 1 := Scalar.cmpi .sgt c16_i32_18 c0_i32_21
  let v54 : BitVec 32 := Scalar.extui v53
  let c0_i32_22 : BitVec 32 := 0#32
  let v55 : BitVec 1 := Scalar.cmpi .slt c16_i32_18 c0_i32_22
  let v56 : BitVec 32 := Scalar.extui v55
  let v57 : BitVec 32 := Scalar.subi v54 v56
  let v58 : BitVec 1 := Scalar.cmpi .ne v52 v57
  let v59 : BitVec 32 := Scalar.remsi v46 c16_i32_18
  let c0_i32_23 : BitVec 32 := 0#32
  let v60 : BitVec 1 := Scalar.cmpi .ne v59 c0_i32_23
  let v61 : BitVec 1 := Scalar.andi v58 v60
  let v47 : BitVec 32 := Scalar.divsi v46 c16_i32_18
  let c1_i32_24 : BitVec 32 := 1#32
  let v62 : BitVec 32 := Scalar.subi v47 c1_i32_24
  let v63 : BitVec 32 := Scalar.select v61 v62 v47
  let v676 : BitVec 32 := Scalar.subi v63 c0_i32_379
  let c1_i32_380 : BitVec 32 := 1#32
  let v678 : BitVec 32 := Scalar.divsi v676 c1_i32_380
  let v679 : BitVec 32 := Scalar.muli v678 c1_i32_380
  let v680 : BitVec 32 := Scalar.addi c0_i32_379 v679
  let c1_i32_382 : BitVec 32 := 1#32
  let arg23 : BitVec 32 := Scf.iv v680 c1_i32_382 k0_t9
  let c16_i32_384 : BitVec 32 := 16#32
  let v689 : BitVec 32 := Scalar.muli arg23 c16_i32_384
  let v690 : BitVec 32 := Scalar.addi v689 c0_i32_385
  let v723 : Index := Scalar.indexCast v690
  let c1_i32_81 : BitVec 32 := 1#32
  let c1_i32_82 : BitVec 32 := 1#32
  let arg20 : BitVec 32 := Scf.iv c1_i32_81 c1_i32_82 k0_t7
  let v724 : Index := Scalar.indexCast arg20
  let c0_400 : Index := 0#32
  let c0_401 : Index := 0#32
  ![v723.toNat, v724.toNat, 0, 0]
@[reducible] def k0_t10_loop (i : grid0.Coords) : Scf.Loop 32 :=
  let c0_i32_85 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c16_i32 : BitVec 32 := 16#32
  let v45 : BitVec 32 := Scalar.addi v26 c16_i32
  let c1_i32_17 : BitVec 32 := 1#32
  let v46 : BitVec 32 := Scalar.subi v45 c1_i32_17
  let c0_i32_19 : BitVec 32 := 0#32
  let v48 : BitVec 1 := Scalar.cmpi .sgt v46 c0_i32_19
  let v49 : BitVec 32 := Scalar.extui v48
  let c0_i32_20 : BitVec 32 := 0#32
  let v50 : BitVec 1 := Scalar.cmpi .slt v46 c0_i32_20
  let v51 : BitVec 32 := Scalar.extui v50
  let v52 : BitVec 32 := Scalar.subi v49 v51
  let c16_i32_18 : BitVec 32 := 16#32
  let c0_i32_21 : BitVec 32 := 0#32
  let v53 : BitVec 1 := Scalar.cmpi .sgt c16_i32_18 c0_i32_21
  let v54 : BitVec 32 := Scalar.extui v53
  let c0_i32_22 : BitVec 32 := 0#32
  let v55 : BitVec 1 := Scalar.cmpi .slt c16_i32_18 c0_i32_22
  let v56 : BitVec 32 := Scalar.extui v55
  let v57 : BitVec 32 := Scalar.subi v54 v56
  let v58 : BitVec 1 := Scalar.cmpi .ne v52 v57
  let v59 : BitVec 32 := Scalar.remsi v46 c16_i32_18
  let c0_i32_23 : BitVec 32 := 0#32
  let v60 : BitVec 1 := Scalar.cmpi .ne v59 c0_i32_23
  let v61 : BitVec 1 := Scalar.andi v58 v60
  let v47 : BitVec 32 := Scalar.divsi v46 c16_i32_18
  let c1_i32_24 : BitVec 32 := 1#32
  let v62 : BitVec 32 := Scalar.subi v47 c1_i32_24
  let v63 : BitVec 32 := Scalar.select v61 v62 v47
  let v170 : BitVec 32 := Scalar.subi v63 c0_i32_85
  let c1_i32_86 : BitVec 32 := 1#32
  let v172 : BitVec 32 := Scalar.divsi v170 c1_i32_86
  let v173 : BitVec 32 := Scalar.muli v172 c1_i32_86
  let v174 : BitVec 32 := Scalar.addi c0_i32_85 v173
  let c1_i32_87 : BitVec 32 := 1#32
  ⟨c0_i32_85, v174, c1_i32_87⟩
def k0_off144 (i : grid0.Coords) (k0_t10 : Fin (k0_t10_loop i).trips) (c0_i32_379 : BitVec 32) : Fin 3 → Nat :=
  let c0_i32_85 : BitVec 32 := 0#32
  let c1_i32_87 : BitVec 32 := 1#32
  let arg20 : BitVec 32 := Scf.iv c0_i32_85 c1_i32_87 k0_t10
  let c16_i32_378 : BitVec 32 := 16#32
  let v674 : BitVec 32 := Scalar.muli arg20 c16_i32_378
  let v675 : BitVec 32 := Scalar.addi v674 c0_i32_379
  let v676 : Index := Scalar.indexCast v675
  let c0_380 : Index := 0#32
  let c0_381 : Index := 0#32
  ![v676.toNat, 0, 0]
def k0_off145 (i : grid0.Coords) (k0_t10 : Fin (k0_t10_loop i).trips) (c0_i32_379 : BitVec 32) : Fin 4 → Nat :=
  let c0_i32_85 : BitVec 32 := 0#32
  let c1_i32_87 : BitVec 32 := 1#32
  let arg20 : BitVec 32 := Scf.iv c0_i32_85 c1_i32_87 k0_t10
  let c16_i32_378 : BitVec 32 := 16#32
  let v674 : BitVec 32 := Scalar.muli arg20 c16_i32_378
  let v675 : BitVec 32 := Scalar.addi v674 c0_i32_379
  let v679 : Index := Scalar.indexCast v675
  let c31 : Index := 31#32
  let c0_382 : Index := 0#32
  let c0_383 : Index := 0#32
  ![v679.toNat, 31, 0, 0]
@[reducible] def k0_t11_loop (i : grid0.Coords) : Scf.Loop 32 :=
  let c0_i32_85 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c16_i32 : BitVec 32 := 16#32
  let v45 : BitVec 32 := Scalar.addi v26 c16_i32
  let c1_i32_17 : BitVec 32 := 1#32
  let v46 : BitVec 32 := Scalar.subi v45 c1_i32_17
  let c0_i32_19 : BitVec 32 := 0#32
  let v48 : BitVec 1 := Scalar.cmpi .sgt v46 c0_i32_19
  let v49 : BitVec 32 := Scalar.extui v48
  let c0_i32_20 : BitVec 32 := 0#32
  let v50 : BitVec 1 := Scalar.cmpi .slt v46 c0_i32_20
  let v51 : BitVec 32 := Scalar.extui v50
  let v52 : BitVec 32 := Scalar.subi v49 v51
  let c16_i32_18 : BitVec 32 := 16#32
  let c0_i32_21 : BitVec 32 := 0#32
  let v53 : BitVec 1 := Scalar.cmpi .sgt c16_i32_18 c0_i32_21
  let v54 : BitVec 32 := Scalar.extui v53
  let c0_i32_22 : BitVec 32 := 0#32
  let v55 : BitVec 1 := Scalar.cmpi .slt c16_i32_18 c0_i32_22
  let v56 : BitVec 32 := Scalar.extui v55
  let v57 : BitVec 32 := Scalar.subi v54 v56
  let v58 : BitVec 1 := Scalar.cmpi .ne v52 v57
  let v59 : BitVec 32 := Scalar.remsi v46 c16_i32_18
  let c0_i32_23 : BitVec 32 := 0#32
  let v60 : BitVec 1 := Scalar.cmpi .ne v59 c0_i32_23
  let v61 : BitVec 1 := Scalar.andi v58 v60
  let v47 : BitVec 32 := Scalar.divsi v46 c16_i32_18
  let c1_i32_24 : BitVec 32 := 1#32
  let v62 : BitVec 32 := Scalar.subi v47 c1_i32_24
  let v63 : BitVec 32 := Scalar.select v61 v62 v47
  let v170 : BitVec 32 := Scalar.subi v63 c0_i32_85
  let c1_i32_86 : BitVec 32 := 1#32
  let v172 : BitVec 32 := Scalar.divsi v170 c1_i32_86
  let v173 : BitVec 32 := Scalar.muli v172 c1_i32_86
  let v174 : BitVec 32 := Scalar.addi c0_i32_85 v173
  let v171 : BitVec 32 := Scalar.addi c0_i32_85 v170
  let c1_i32_88 : BitVec 32 := 1#32
  ⟨v174, v171, c1_i32_88⟩
def k0_off146 (i : grid0.Coords) (k0_t11 : Fin (k0_t11_loop i).trips) (c0_i32_379 : BitVec 32) : Fin 3 → Nat :=
  let c0_i32_85 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c16_i32 : BitVec 32 := 16#32
  let v45 : BitVec 32 := Scalar.addi v26 c16_i32
  let c1_i32_17 : BitVec 32 := 1#32
  let v46 : BitVec 32 := Scalar.subi v45 c1_i32_17
  let c0_i32_19 : BitVec 32 := 0#32
  let v48 : BitVec 1 := Scalar.cmpi .sgt v46 c0_i32_19
  let v49 : BitVec 32 := Scalar.extui v48
  let c0_i32_20 : BitVec 32 := 0#32
  let v50 : BitVec 1 := Scalar.cmpi .slt v46 c0_i32_20
  let v51 : BitVec 32 := Scalar.extui v50
  let v52 : BitVec 32 := Scalar.subi v49 v51
  let c16_i32_18 : BitVec 32 := 16#32
  let c0_i32_21 : BitVec 32 := 0#32
  let v53 : BitVec 1 := Scalar.cmpi .sgt c16_i32_18 c0_i32_21
  let v54 : BitVec 32 := Scalar.extui v53
  let c0_i32_22 : BitVec 32 := 0#32
  let v55 : BitVec 1 := Scalar.cmpi .slt c16_i32_18 c0_i32_22
  let v56 : BitVec 32 := Scalar.extui v55
  let v57 : BitVec 32 := Scalar.subi v54 v56
  let v58 : BitVec 1 := Scalar.cmpi .ne v52 v57
  let v59 : BitVec 32 := Scalar.remsi v46 c16_i32_18
  let c0_i32_23 : BitVec 32 := 0#32
  let v60 : BitVec 1 := Scalar.cmpi .ne v59 c0_i32_23
  let v61 : BitVec 1 := Scalar.andi v58 v60
  let v47 : BitVec 32 := Scalar.divsi v46 c16_i32_18
  let c1_i32_24 : BitVec 32 := 1#32
  let v62 : BitVec 32 := Scalar.subi v47 c1_i32_24
  let v63 : BitVec 32 := Scalar.select v61 v62 v47
  let v170 : BitVec 32 := Scalar.subi v63 c0_i32_85
  let c1_i32_86 : BitVec 32 := 1#32
  let v172 : BitVec 32 := Scalar.divsi v170 c1_i32_86
  let v173 : BitVec 32 := Scalar.muli v172 c1_i32_86
  let v174 : BitVec 32 := Scalar.addi c0_i32_85 v173
  let c1_i32_88 : BitVec 32 := 1#32
  let arg20 : BitVec 32 := Scf.iv v174 c1_i32_88 k0_t11
  let c16_i32_378 : BitVec 32 := 16#32
  let v674 : BitVec 32 := Scalar.muli arg20 c16_i32_378
  let v675 : BitVec 32 := Scalar.addi v674 c0_i32_379
  let v676 : Index := Scalar.indexCast v675
  let c0_380 : Index := 0#32
  let c0_381 : Index := 0#32
  ![v676.toNat, 0, 0]
def k0_off147 (i : grid0.Coords) (k0_t11 : Fin (k0_t11_loop i).trips) (c0_i32_379 : BitVec 32) : Fin 4 → Nat :=
  let c0_i32_85 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c16_i32 : BitVec 32 := 16#32
  let v45 : BitVec 32 := Scalar.addi v26 c16_i32
  let c1_i32_17 : BitVec 32 := 1#32
  let v46 : BitVec 32 := Scalar.subi v45 c1_i32_17
  let c0_i32_19 : BitVec 32 := 0#32
  let v48 : BitVec 1 := Scalar.cmpi .sgt v46 c0_i32_19
  let v49 : BitVec 32 := Scalar.extui v48
  let c0_i32_20 : BitVec 32 := 0#32
  let v50 : BitVec 1 := Scalar.cmpi .slt v46 c0_i32_20
  let v51 : BitVec 32 := Scalar.extui v50
  let v52 : BitVec 32 := Scalar.subi v49 v51
  let c16_i32_18 : BitVec 32 := 16#32
  let c0_i32_21 : BitVec 32 := 0#32
  let v53 : BitVec 1 := Scalar.cmpi .sgt c16_i32_18 c0_i32_21
  let v54 : BitVec 32 := Scalar.extui v53
  let c0_i32_22 : BitVec 32 := 0#32
  let v55 : BitVec 1 := Scalar.cmpi .slt c16_i32_18 c0_i32_22
  let v56 : BitVec 32 := Scalar.extui v55
  let v57 : BitVec 32 := Scalar.subi v54 v56
  let v58 : BitVec 1 := Scalar.cmpi .ne v52 v57
  let v59 : BitVec 32 := Scalar.remsi v46 c16_i32_18
  let c0_i32_23 : BitVec 32 := 0#32
  let v60 : BitVec 1 := Scalar.cmpi .ne v59 c0_i32_23
  let v61 : BitVec 1 := Scalar.andi v58 v60
  let v47 : BitVec 32 := Scalar.divsi v46 c16_i32_18
  let c1_i32_24 : BitVec 32 := 1#32
  let v62 : BitVec 32 := Scalar.subi v47 c1_i32_24
  let v63 : BitVec 32 := Scalar.select v61 v62 v47
  let v170 : BitVec 32 := Scalar.subi v63 c0_i32_85
  let c1_i32_86 : BitVec 32 := 1#32
  let v172 : BitVec 32 := Scalar.divsi v170 c1_i32_86
  let v173 : BitVec 32 := Scalar.muli v172 c1_i32_86
  let v174 : BitVec 32 := Scalar.addi c0_i32_85 v173
  let c1_i32_88 : BitVec 32 := 1#32
  let arg20 : BitVec 32 := Scf.iv v174 c1_i32_88 k0_t11
  let c16_i32_378 : BitVec 32 := 16#32
  let v674 : BitVec 32 := Scalar.muli arg20 c16_i32_378
  let v675 : BitVec 32 := Scalar.addi v674 c0_i32_379
  let v679 : Index := Scalar.indexCast v675
  let c31 : Index := 31#32
  let c0_382 : Index := 0#32
  let c0_383 : Index := 0#32
  ![v679.toNat, 31, 0, 0]
@[reducible] def k0_t12_loop : Scf.Loop 32 :=
  let c0_i32_379 : BitVec 32 := 0#32
  let c12_i32 : BitVec 32 := 12#32
  let v675 : BitVec 32 := Scalar.addi c0_i32_379 c12_i32
  let c1_i32_380 : BitVec 32 := 1#32
  ⟨c0_i32_379, v675, c1_i32_380⟩
@[reducible] def k0_t13_loop (i : grid0.Coords) : Scf.Loop 32 :=
  let c0_i32_388 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c16_i32 : BitVec 32 := 16#32
  let v45 : BitVec 32 := Scalar.addi v26 c16_i32
  let c1_i32_17 : BitVec 32 := 1#32
  let v46 : BitVec 32 := Scalar.subi v45 c1_i32_17
  let c0_i32_19 : BitVec 32 := 0#32
  let v48 : BitVec 1 := Scalar.cmpi .sgt v46 c0_i32_19
  let v49 : BitVec 32 := Scalar.extui v48
  let c0_i32_20 : BitVec 32 := 0#32
  let v50 : BitVec 1 := Scalar.cmpi .slt v46 c0_i32_20
  let v51 : BitVec 32 := Scalar.extui v50
  let v52 : BitVec 32 := Scalar.subi v49 v51
  let c16_i32_18 : BitVec 32 := 16#32
  let c0_i32_21 : BitVec 32 := 0#32
  let v53 : BitVec 1 := Scalar.cmpi .sgt c16_i32_18 c0_i32_21
  let v54 : BitVec 32 := Scalar.extui v53
  let c0_i32_22 : BitVec 32 := 0#32
  let v55 : BitVec 1 := Scalar.cmpi .slt c16_i32_18 c0_i32_22
  let v56 : BitVec 32 := Scalar.extui v55
  let v57 : BitVec 32 := Scalar.subi v54 v56
  let v58 : BitVec 1 := Scalar.cmpi .ne v52 v57
  let v59 : BitVec 32 := Scalar.remsi v46 c16_i32_18
  let c0_i32_23 : BitVec 32 := 0#32
  let v60 : BitVec 1 := Scalar.cmpi .ne v59 c0_i32_23
  let v61 : BitVec 1 := Scalar.andi v58 v60
  let v47 : BitVec 32 := Scalar.divsi v46 c16_i32_18
  let c1_i32_24 : BitVec 32 := 1#32
  let v62 : BitVec 32 := Scalar.subi v47 c1_i32_24
  let v63 : BitVec 32 := Scalar.select v61 v62 v47
  let v686 : BitVec 32 := Scalar.subi v63 c0_i32_388
  let c1_i32_389 : BitVec 32 := 1#32
  let v688 : BitVec 32 := Scalar.divsi v686 c1_i32_389
  let v689 : BitVec 32 := Scalar.muli v688 c1_i32_389
  let v690 : BitVec 32 := Scalar.addi c0_i32_388 v689
  let c1_i32_390 : BitVec 32 := 1#32
  ⟨c0_i32_388, v690, c1_i32_390⟩
def k0_off148 (i : grid0.Coords) (k0_t13 : Fin (k0_t13_loop i).trips) (c0_i32_394 : BitVec 32) : Fin 3 → Nat :=
  let c0_i32_388 : BitVec 32 := 0#32
  let c1_i32_390 : BitVec 32 := 1#32
  let arg22 : BitVec 32 := Scf.iv c0_i32_388 c1_i32_390 k0_t13
  let c16_i32_393 : BitVec 32 := 16#32
  let v697 : BitVec 32 := Scalar.muli arg22 c16_i32_393
  let v698 : BitVec 32 := Scalar.addi v697 c0_i32_394
  let v699 : Index := Scalar.indexCast v698
  let c0_395 : Index := 0#32
  let c0_396 : Index := 0#32
  ![v699.toNat, 0, 0]
@[reducible] def k0_t14_loop (i : grid0.Coords) : Scf.Loop 32 :=
  let c0_i32_388 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c16_i32 : BitVec 32 := 16#32
  let v45 : BitVec 32 := Scalar.addi v26 c16_i32
  let c1_i32_17 : BitVec 32 := 1#32
  let v46 : BitVec 32 := Scalar.subi v45 c1_i32_17
  let c0_i32_19 : BitVec 32 := 0#32
  let v48 : BitVec 1 := Scalar.cmpi .sgt v46 c0_i32_19
  let v49 : BitVec 32 := Scalar.extui v48
  let c0_i32_20 : BitVec 32 := 0#32
  let v50 : BitVec 1 := Scalar.cmpi .slt v46 c0_i32_20
  let v51 : BitVec 32 := Scalar.extui v50
  let v52 : BitVec 32 := Scalar.subi v49 v51
  let c16_i32_18 : BitVec 32 := 16#32
  let c0_i32_21 : BitVec 32 := 0#32
  let v53 : BitVec 1 := Scalar.cmpi .sgt c16_i32_18 c0_i32_21
  let v54 : BitVec 32 := Scalar.extui v53
  let c0_i32_22 : BitVec 32 := 0#32
  let v55 : BitVec 1 := Scalar.cmpi .slt c16_i32_18 c0_i32_22
  let v56 : BitVec 32 := Scalar.extui v55
  let v57 : BitVec 32 := Scalar.subi v54 v56
  let v58 : BitVec 1 := Scalar.cmpi .ne v52 v57
  let v59 : BitVec 32 := Scalar.remsi v46 c16_i32_18
  let c0_i32_23 : BitVec 32 := 0#32
  let v60 : BitVec 1 := Scalar.cmpi .ne v59 c0_i32_23
  let v61 : BitVec 1 := Scalar.andi v58 v60
  let v47 : BitVec 32 := Scalar.divsi v46 c16_i32_18
  let c1_i32_24 : BitVec 32 := 1#32
  let v62 : BitVec 32 := Scalar.subi v47 c1_i32_24
  let v63 : BitVec 32 := Scalar.select v61 v62 v47
  let v686 : BitVec 32 := Scalar.subi v63 c0_i32_388
  let c1_i32_389 : BitVec 32 := 1#32
  let v688 : BitVec 32 := Scalar.divsi v686 c1_i32_389
  let v689 : BitVec 32 := Scalar.muli v688 c1_i32_389
  let v690 : BitVec 32 := Scalar.addi c0_i32_388 v689
  let v687 : BitVec 32 := Scalar.addi c0_i32_388 v686
  let c1_i32_391 : BitVec 32 := 1#32
  ⟨v690, v687, c1_i32_391⟩
def k0_off149 (i : grid0.Coords) (k0_t14 : Fin (k0_t14_loop i).trips) (c0_i32_394 : BitVec 32) : Fin 3 → Nat :=
  let c0_i32_388 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c16_i32 : BitVec 32 := 16#32
  let v45 : BitVec 32 := Scalar.addi v26 c16_i32
  let c1_i32_17 : BitVec 32 := 1#32
  let v46 : BitVec 32 := Scalar.subi v45 c1_i32_17
  let c0_i32_19 : BitVec 32 := 0#32
  let v48 : BitVec 1 := Scalar.cmpi .sgt v46 c0_i32_19
  let v49 : BitVec 32 := Scalar.extui v48
  let c0_i32_20 : BitVec 32 := 0#32
  let v50 : BitVec 1 := Scalar.cmpi .slt v46 c0_i32_20
  let v51 : BitVec 32 := Scalar.extui v50
  let v52 : BitVec 32 := Scalar.subi v49 v51
  let c16_i32_18 : BitVec 32 := 16#32
  let c0_i32_21 : BitVec 32 := 0#32
  let v53 : BitVec 1 := Scalar.cmpi .sgt c16_i32_18 c0_i32_21
  let v54 : BitVec 32 := Scalar.extui v53
  let c0_i32_22 : BitVec 32 := 0#32
  let v55 : BitVec 1 := Scalar.cmpi .slt c16_i32_18 c0_i32_22
  let v56 : BitVec 32 := Scalar.extui v55
  let v57 : BitVec 32 := Scalar.subi v54 v56
  let v58 : BitVec 1 := Scalar.cmpi .ne v52 v57
  let v59 : BitVec 32 := Scalar.remsi v46 c16_i32_18
  let c0_i32_23 : BitVec 32 := 0#32
  let v60 : BitVec 1 := Scalar.cmpi .ne v59 c0_i32_23
  let v61 : BitVec 1 := Scalar.andi v58 v60
  let v47 : BitVec 32 := Scalar.divsi v46 c16_i32_18
  let c1_i32_24 : BitVec 32 := 1#32
  let v62 : BitVec 32 := Scalar.subi v47 c1_i32_24
  let v63 : BitVec 32 := Scalar.select v61 v62 v47
  let v686 : BitVec 32 := Scalar.subi v63 c0_i32_388
  let c1_i32_389 : BitVec 32 := 1#32
  let v688 : BitVec 32 := Scalar.divsi v686 c1_i32_389
  let v689 : BitVec 32 := Scalar.muli v688 c1_i32_389
  let v690 : BitVec 32 := Scalar.addi c0_i32_388 v689
  let c1_i32_391 : BitVec 32 := 1#32
  let arg22 : BitVec 32 := Scf.iv v690 c1_i32_391 k0_t14
  let c16_i32_393 : BitVec 32 := 16#32
  let v697 : BitVec 32 := Scalar.muli arg22 c16_i32_393
  let v698 : BitVec 32 := Scalar.addi v697 c0_i32_394
  let v699 : Index := Scalar.indexCast v698
  let c0_395 : Index := 0#32
  let c0_396 : Index := 0#32
  ![v699.toNat, 0, 0]
@[reducible] def k0_t15_loop (i : grid0.Coords) : Scf.Loop 32 :=
  let c0_i32_383 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let v677 : BitVec 32 := Scalar.subi v26 c0_i32_383
  let c1_i32_384 : BitVec 32 := 1#32
  let v679 : BitVec 32 := Scalar.divsi v677 c1_i32_384
  let v680 : BitVec 32 := Scalar.muli v679 c1_i32_384
  let v681 : BitVec 32 := Scalar.addi c0_i32_383 v680
  let c1_i32_385 : BitVec 32 := 1#32
  ⟨c0_i32_383, v681, c1_i32_385⟩
def k0_off150 (i : grid0.Coords) (k0_t15 : Fin (k0_t15_loop i).trips) : Fin 3 → Nat :=
  let c0_i32_383 : BitVec 32 := 0#32
  let c1_i32_385 : BitVec 32 := 1#32
  let arg20 : BitVec 32 := Scf.iv c0_i32_383 c1_i32_385 k0_t15
  let v682 : Index := Scalar.indexCast arg20
  let c0_387 : Index := 0#32
  let c0_388 : Index := 0#32
  ![v682.toNat, 0, 0]
@[reducible] def k0_t16_loop (i : grid0.Coords) : Scf.Loop 32 :=
  let c0_i32_383 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let v677 : BitVec 32 := Scalar.subi v26 c0_i32_383
  let c1_i32_384 : BitVec 32 := 1#32
  let v679 : BitVec 32 := Scalar.divsi v677 c1_i32_384
  let v680 : BitVec 32 := Scalar.muli v679 c1_i32_384
  let v681 : BitVec 32 := Scalar.addi c0_i32_383 v680
  let v678 : BitVec 32 := Scalar.addi c0_i32_383 v677
  let c1_i32_386 : BitVec 32 := 1#32
  ⟨v681, v678, c1_i32_386⟩
def k0_off151 (i : grid0.Coords) (k0_t16 : Fin (k0_t16_loop i).trips) : Fin 3 → Nat :=
  let c0_i32_383 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let v677 : BitVec 32 := Scalar.subi v26 c0_i32_383
  let c1_i32_384 : BitVec 32 := 1#32
  let v679 : BitVec 32 := Scalar.divsi v677 c1_i32_384
  let v680 : BitVec 32 := Scalar.muli v679 c1_i32_384
  let v681 : BitVec 32 := Scalar.addi c0_i32_383 v680
  let c1_i32_386 : BitVec 32 := 1#32
  let arg20 : BitVec 32 := Scf.iv v681 c1_i32_386 k0_t16
  let v682 : Index := Scalar.indexCast arg20
  let c0_387 : Index := 0#32
  let c0_388 : Index := 0#32
  ![v682.toNat, 0, 0]
@[reducible] def k0_t17_loop (i : grid0.Coords) : Scf.Loop 32 :=
  let c0_i32_94 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let v187 : BitVec 32 := Scalar.subi v26 c0_i32_94
  let c1_i32_95 : BitVec 32 := 1#32
  let v189 : BitVec 32 := Scalar.divsi v187 c1_i32_95
  let v190 : BitVec 32 := Scalar.muli v189 c1_i32_95
  let v191 : BitVec 32 := Scalar.addi c0_i32_94 v190
  let c1_i32_96 : BitVec 32 := 1#32
  ⟨c0_i32_94, v191, c1_i32_96⟩
def k0_off152 (i : grid0.Coords) (k0_t17 : Fin (k0_t17_loop i).trips) : Fin 3 → Nat :=
  let c0_i32_94 : BitVec 32 := 0#32
  let c1_i32_96 : BitVec 32 := 1#32
  let arg20 : BitVec 32 := Scf.iv c0_i32_94 c1_i32_96 k0_t17
  let v674 : Index := Scalar.indexCast arg20
  let c0_378 : Index := 0#32
  let c0_379 : Index := 0#32
  ![v674.toNat, 0, 0]
@[reducible] def k0_t18_loop (i : grid0.Coords) : Scf.Loop 32 :=
  let c0_i32_94 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let v187 : BitVec 32 := Scalar.subi v26 c0_i32_94
  let c1_i32_95 : BitVec 32 := 1#32
  let v189 : BitVec 32 := Scalar.divsi v187 c1_i32_95
  let v190 : BitVec 32 := Scalar.muli v189 c1_i32_95
  let v191 : BitVec 32 := Scalar.addi c0_i32_94 v190
  let v188 : BitVec 32 := Scalar.addi c0_i32_94 v187
  let c1_i32_97 : BitVec 32 := 1#32
  ⟨v191, v188, c1_i32_97⟩
def k0_off153 (i : grid0.Coords) (k0_t18 : Fin (k0_t18_loop i).trips) : Fin 3 → Nat :=
  let c0_i32_94 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let v187 : BitVec 32 := Scalar.subi v26 c0_i32_94
  let c1_i32_95 : BitVec 32 := 1#32
  let v189 : BitVec 32 := Scalar.divsi v187 c1_i32_95
  let v190 : BitVec 32 := Scalar.muli v189 c1_i32_95
  let v191 : BitVec 32 := Scalar.addi c0_i32_94 v190
  let c1_i32_97 : BitVec 32 := 1#32
  let arg20 : BitVec 32 := Scf.iv v191 c1_i32_97 k0_t18
  let v674 : Index := Scalar.indexCast arg20
  let c0_378 : Index := 0#32
  let c0_379 : Index := 0#32
  ![v674.toNat, 0, 0]
def k0_off154 : Fin 3 → Nat :=
  let c0_i32_107 : BitVec 32 := 0#32
  let c15_i32 : BitVec 32 := 15#32
  let v201 : BitVec 32 := Scalar.minsi c0_i32_107 c15_i32
  let v202 : Index := Scalar.indexCast v201
  let c0_108 : Index := 0#32
  let c0_109 : Index := 0#32
  ![v202.toNat, 0, 0]
def k0_off155 : Fin 4 → Nat :=
  let c0_248 : Index := 0#32
  let c0_i32_246 : BitVec 32 := 0#32
  let c8_i32_247 : BitVec 32 := 8#32
  let v525 : BitVec 32 := Scalar.minsi c0_i32_246 c8_i32_247
  let v526 : Index := Scalar.indexCast v525
  let c0_249 : Index := 0#32
  let c0_250 : Index := 0#32
  ![0, v526.toNat, 0, 0]
@[reducible] def k0_t19_loop (i : grid0.Coords) : Scf.Loop 32 :=
  let c0_i32_340 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v601 : BitVec 32 := Scalar.subi v44 c0_i32_340
  let c1_i32_341 : BitVec 32 := 1#32
  let v603 : BitVec 32 := Scalar.divsi v601 c1_i32_341
  let v604 : BitVec 32 := Scalar.muli v603 c1_i32_341
  let v605 : BitVec 32 := Scalar.addi c0_i32_340 v604
  let c1_i32_342 : BitVec 32 := 1#32
  ⟨c0_i32_340, v605, c1_i32_342⟩
def k0_off156 (i : grid0.Coords) (k0_t19 : Fin (k0_t19_loop i).trips) (c1_i32_379 : BitVec 32) : Fin 3 → Nat :=
  let c2_i32_378 : BitVec 32 := 2#32
  let c0_i32_340 : BitVec 32 := 0#32
  let c1_i32_342 : BitVec 32 := 1#32
  let arg20 : BitVec 32 := Scf.iv c0_i32_340 c1_i32_342 k0_t19
  let v674 : BitVec 32 := Scalar.muli c2_i32_378 arg20
  let v675 : BitVec 32 := Scalar.addi v674 c1_i32_379
  let c15_i32_380 : BitVec 32 := 15#32
  let v676 : BitVec 32 := Scalar.minsi v675 c15_i32_380
  let v677 : Index := Scalar.indexCast v676
  let c0_381 : Index := 0#32
  let c0_382 : Index := 0#32
  ![v677.toNat, 0, 0]
def k0_off157 (i : grid0.Coords) (k0_t19 : Fin (k0_t19_loop i).trips) (c1_i32_379 : BitVec 32) : Fin 4 → Nat :=
  let c0_576 : Index := 0#32
  let c2_i32_378 : BitVec 32 := 2#32
  let c0_i32_340 : BitVec 32 := 0#32
  let c1_i32_342 : BitVec 32 := 1#32
  let arg20 : BitVec 32 := Scf.iv c0_i32_340 c1_i32_342 k0_t19
  let v674 : BitVec 32 := Scalar.muli c2_i32_378 arg20
  let v675 : BitVec 32 := Scalar.addi v674 c1_i32_379
  let c8_i32_575 : BitVec 32 := 8#32
  let v1000 : BitVec 32 := Scalar.minsi v675 c8_i32_575
  let v1001 : Index := Scalar.indexCast v1000
  let c0_577 : Index := 0#32
  let c0_578 : Index := 0#32
  ![0, v1001.toNat, 0, 0]
def k0_off158 (i : grid0.Coords) (k0_t19 : Fin (k0_t19_loop i).trips) : Fin 5 → Nat :=
  let c0_761 : Index := 0#32
  let c2_i32_667 : BitVec 32 := 2#32
  let c0_i32_340 : BitVec 32 := 0#32
  let c1_i32_342 : BitVec 32 := 1#32
  let arg20 : BitVec 32 := Scf.iv c0_i32_340 c1_i32_342 k0_t19
  let v1076 : BitVec 32 := Scalar.muli c2_i32_667 arg20
  let c8_i32_668 : BitVec 32 := 8#32
  let v1077 : BitVec 32 := Scalar.minsi v1076 c8_i32_668
  let v1196 : Index := Scalar.indexCast v1077
  let c0_762 : Index := 0#32
  let c0_763 : Index := 0#32
  let c0_764 : Index := 0#32
  ![0, v1196.toNat, 0, 0, 0]
def k0_off159 (i : grid0.Coords) (k0_t19 : Fin (k0_t19_loop i).trips) : Fin 5 → Nat :=
  let c0_870 : Index := 0#32
  let c2_i32_667 : BitVec 32 := 2#32
  let c0_i32_340 : BitVec 32 := 0#32
  let c1_i32_342 : BitVec 32 := 1#32
  let arg20 : BitVec 32 := Scf.iv c0_i32_340 c1_i32_342 k0_t19
  let v1076 : BitVec 32 := Scalar.muli c2_i32_667 arg20
  let c8_i32_668 : BitVec 32 := 8#32
  let v1077 : BitVec 32 := Scalar.minsi v1076 c8_i32_668
  let v1332 : Index := Scalar.indexCast v1077
  let c1_871 : Index := 1#32
  let c0_872 : Index := 0#32
  let c0_873 : Index := 0#32
  ![0, v1332.toNat, 1, 0, 0]
def k0_off160 (i : grid0.Coords) (k0_t19 : Fin (k0_t19_loop i).trips) : Fin 5 → Nat :=
  let c0_979 : Index := 0#32
  let c2_i32_667 : BitVec 32 := 2#32
  let c0_i32_340 : BitVec 32 := 0#32
  let c1_i32_342 : BitVec 32 := 1#32
  let arg20 : BitVec 32 := Scf.iv c0_i32_340 c1_i32_342 k0_t19
  let v1076 : BitVec 32 := Scalar.muli c2_i32_667 arg20
  let c8_i32_668 : BitVec 32 := 8#32
  let v1077 : BitVec 32 := Scalar.minsi v1076 c8_i32_668
  let v1468 : Index := Scalar.indexCast v1077
  let c2_980 : Index := 2#32
  let c0_981 : Index := 0#32
  let c0_982 : Index := 0#32
  ![0, v1468.toNat, 2, 0, 0]
def k0_off161 (i : grid0.Coords) (k0_t19 : Fin (k0_t19_loop i).trips) : Fin 5 → Nat :=
  let c0_1088 : Index := 0#32
  let c2_i32_667 : BitVec 32 := 2#32
  let c0_i32_340 : BitVec 32 := 0#32
  let c1_i32_342 : BitVec 32 := 1#32
  let arg20 : BitVec 32 := Scf.iv c0_i32_340 c1_i32_342 k0_t19
  let v1076 : BitVec 32 := Scalar.muli c2_i32_667 arg20
  let c8_i32_668 : BitVec 32 := 8#32
  let v1077 : BitVec 32 := Scalar.minsi v1076 c8_i32_668
  let v1604 : Index := Scalar.indexCast v1077
  let c3_1089 : Index := 3#32
  let c0_1090 : Index := 0#32
  let c0_1091 : Index := 0#32
  ![0, v1604.toNat, 3, 0, 0]
def k0_off162 (i : grid0.Coords) (k0_t19 : Fin (k0_t19_loop i).trips) : Fin 5 → Nat :=
  let c0_1197 : Index := 0#32
  let c2_i32_667 : BitVec 32 := 2#32
  let c0_i32_340 : BitVec 32 := 0#32
  let c1_i32_342 : BitVec 32 := 1#32
  let arg20 : BitVec 32 := Scf.iv c0_i32_340 c1_i32_342 k0_t19
  let v1076 : BitVec 32 := Scalar.muli c2_i32_667 arg20
  let c8_i32_668 : BitVec 32 := 8#32
  let v1077 : BitVec 32 := Scalar.minsi v1076 c8_i32_668
  let v1740 : Index := Scalar.indexCast v1077
  let c4_1198 : Index := 4#32
  let c0_1199 : Index := 0#32
  let c0_1200 : Index := 0#32
  ![0, v1740.toNat, 4, 0, 0]
def k0_off163 (i : grid0.Coords) (k0_t19 : Fin (k0_t19_loop i).trips) : Fin 5 → Nat :=
  let c0_1306 : Index := 0#32
  let c2_i32_667 : BitVec 32 := 2#32
  let c0_i32_340 : BitVec 32 := 0#32
  let c1_i32_342 : BitVec 32 := 1#32
  let arg20 : BitVec 32 := Scf.iv c0_i32_340 c1_i32_342 k0_t19
  let v1076 : BitVec 32 := Scalar.muli c2_i32_667 arg20
  let c8_i32_668 : BitVec 32 := 8#32
  let v1077 : BitVec 32 := Scalar.minsi v1076 c8_i32_668
  let v1876 : Index := Scalar.indexCast v1077
  let c5_1307 : Index := 5#32
  let c0_1308 : Index := 0#32
  let c0_1309 : Index := 0#32
  ![0, v1876.toNat, 5, 0, 0]
def k0_off164 (i : grid0.Coords) (k0_t19 : Fin (k0_t19_loop i).trips) : Fin 5 → Nat :=
  let c0_1415 : Index := 0#32
  let c2_i32_667 : BitVec 32 := 2#32
  let c0_i32_340 : BitVec 32 := 0#32
  let c1_i32_342 : BitVec 32 := 1#32
  let arg20 : BitVec 32 := Scf.iv c0_i32_340 c1_i32_342 k0_t19
  let v1076 : BitVec 32 := Scalar.muli c2_i32_667 arg20
  let c8_i32_668 : BitVec 32 := 8#32
  let v1077 : BitVec 32 := Scalar.minsi v1076 c8_i32_668
  let v2012 : Index := Scalar.indexCast v1077
  let c6_1416 : Index := 6#32
  let c0_1417 : Index := 0#32
  let c0_1418 : Index := 0#32
  ![0, v2012.toNat, 6, 0, 0]
def k0_off165 (i : grid0.Coords) (k0_t19 : Fin (k0_t19_loop i).trips) : Fin 5 → Nat :=
  let c0_1524 : Index := 0#32
  let c2_i32_667 : BitVec 32 := 2#32
  let c0_i32_340 : BitVec 32 := 0#32
  let c1_i32_342 : BitVec 32 := 1#32
  let arg20 : BitVec 32 := Scf.iv c0_i32_340 c1_i32_342 k0_t19
  let v1076 : BitVec 32 := Scalar.muli c2_i32_667 arg20
  let c8_i32_668 : BitVec 32 := 8#32
  let v1077 : BitVec 32 := Scalar.minsi v1076 c8_i32_668
  let v2148 : Index := Scalar.indexCast v1077
  let c7_1525 : Index := 7#32
  let c0_1526 : Index := 0#32
  let c0_1527 : Index := 0#32
  ![0, v2148.toNat, 7, 0, 0]
def k0_off166 (i : grid0.Coords) (k0_t19 : Fin (k0_t19_loop i).trips) : Fin 5 → Nat :=
  let c0_1925 : Index := 0#32
  let c2_i32_1830 : BitVec 32 := 2#32
  let c0_i32_340 : BitVec 32 := 0#32
  let c1_i32_342 : BitVec 32 := 1#32
  let arg20 : BitVec 32 := Scf.iv c0_i32_340 c1_i32_342 k0_t19
  let v2568 : BitVec 32 := Scalar.muli c2_i32_1830 arg20
  let c1_i32_1831 : BitVec 32 := 1#32
  let v2569 : BitVec 32 := Scalar.addi v2568 c1_i32_1831
  let c8_i32_1832 : BitVec 32 := 8#32
  let v2570 : BitVec 32 := Scalar.minsi v2569 c8_i32_1832
  let v2689 : Index := Scalar.indexCast v2570
  let c0_1926 : Index := 0#32
  let c0_1927 : Index := 0#32
  let c0_1928 : Index := 0#32
  ![0, v2689.toNat, 0, 0, 0]
def k0_off167 (i : grid0.Coords) (k0_t19 : Fin (k0_t19_loop i).trips) : Fin 5 → Nat :=
  let c0_2034 : Index := 0#32
  let c2_i32_1830 : BitVec 32 := 2#32
  let c0_i32_340 : BitVec 32 := 0#32
  let c1_i32_342 : BitVec 32 := 1#32
  let arg20 : BitVec 32 := Scf.iv c0_i32_340 c1_i32_342 k0_t19
  let v2568 : BitVec 32 := Scalar.muli c2_i32_1830 arg20
  let c1_i32_1831 : BitVec 32 := 1#32
  let v2569 : BitVec 32 := Scalar.addi v2568 c1_i32_1831
  let c8_i32_1832 : BitVec 32 := 8#32
  let v2570 : BitVec 32 := Scalar.minsi v2569 c8_i32_1832
  let v2825 : Index := Scalar.indexCast v2570
  let c1_2035 : Index := 1#32
  let c0_2036 : Index := 0#32
  let c0_2037 : Index := 0#32
  ![0, v2825.toNat, 1, 0, 0]
def k0_off168 (i : grid0.Coords) (k0_t19 : Fin (k0_t19_loop i).trips) : Fin 5 → Nat :=
  let c0_2143 : Index := 0#32
  let c2_i32_1830 : BitVec 32 := 2#32
  let c0_i32_340 : BitVec 32 := 0#32
  let c1_i32_342 : BitVec 32 := 1#32
  let arg20 : BitVec 32 := Scf.iv c0_i32_340 c1_i32_342 k0_t19
  let v2568 : BitVec 32 := Scalar.muli c2_i32_1830 arg20
  let c1_i32_1831 : BitVec 32 := 1#32
  let v2569 : BitVec 32 := Scalar.addi v2568 c1_i32_1831
  let c8_i32_1832 : BitVec 32 := 8#32
  let v2570 : BitVec 32 := Scalar.minsi v2569 c8_i32_1832
  let v2961 : Index := Scalar.indexCast v2570
  let c2_2144 : Index := 2#32
  let c0_2145 : Index := 0#32
  let c0_2146 : Index := 0#32
  ![0, v2961.toNat, 2, 0, 0]
def k0_off169 (i : grid0.Coords) (k0_t19 : Fin (k0_t19_loop i).trips) : Fin 5 → Nat :=
  let c0_2252 : Index := 0#32
  let c2_i32_1830 : BitVec 32 := 2#32
  let c0_i32_340 : BitVec 32 := 0#32
  let c1_i32_342 : BitVec 32 := 1#32
  let arg20 : BitVec 32 := Scf.iv c0_i32_340 c1_i32_342 k0_t19
  let v2568 : BitVec 32 := Scalar.muli c2_i32_1830 arg20
  let c1_i32_1831 : BitVec 32 := 1#32
  let v2569 : BitVec 32 := Scalar.addi v2568 c1_i32_1831
  let c8_i32_1832 : BitVec 32 := 8#32
  let v2570 : BitVec 32 := Scalar.minsi v2569 c8_i32_1832
  let v3097 : Index := Scalar.indexCast v2570
  let c3_2253 : Index := 3#32
  let c0_2254 : Index := 0#32
  let c0_2255 : Index := 0#32
  ![0, v3097.toNat, 3, 0, 0]
def k0_off170 (i : grid0.Coords) (k0_t19 : Fin (k0_t19_loop i).trips) : Fin 5 → Nat :=
  let c0_2361 : Index := 0#32
  let c2_i32_1830 : BitVec 32 := 2#32
  let c0_i32_340 : BitVec 32 := 0#32
  let c1_i32_342 : BitVec 32 := 1#32
  let arg20 : BitVec 32 := Scf.iv c0_i32_340 c1_i32_342 k0_t19
  let v2568 : BitVec 32 := Scalar.muli c2_i32_1830 arg20
  let c1_i32_1831 : BitVec 32 := 1#32
  let v2569 : BitVec 32 := Scalar.addi v2568 c1_i32_1831
  let c8_i32_1832 : BitVec 32 := 8#32
  let v2570 : BitVec 32 := Scalar.minsi v2569 c8_i32_1832
  let v3233 : Index := Scalar.indexCast v2570
  let c4_2362 : Index := 4#32
  let c0_2363 : Index := 0#32
  let c0_2364 : Index := 0#32
  ![0, v3233.toNat, 4, 0, 0]
def k0_off171 (i : grid0.Coords) (k0_t19 : Fin (k0_t19_loop i).trips) : Fin 5 → Nat :=
  let c0_2470 : Index := 0#32
  let c2_i32_1830 : BitVec 32 := 2#32
  let c0_i32_340 : BitVec 32 := 0#32
  let c1_i32_342 : BitVec 32 := 1#32
  let arg20 : BitVec 32 := Scf.iv c0_i32_340 c1_i32_342 k0_t19
  let v2568 : BitVec 32 := Scalar.muli c2_i32_1830 arg20
  let c1_i32_1831 : BitVec 32 := 1#32
  let v2569 : BitVec 32 := Scalar.addi v2568 c1_i32_1831
  let c8_i32_1832 : BitVec 32 := 8#32
  let v2570 : BitVec 32 := Scalar.minsi v2569 c8_i32_1832
  let v3369 : Index := Scalar.indexCast v2570
  let c5_2471 : Index := 5#32
  let c0_2472 : Index := 0#32
  let c0_2473 : Index := 0#32
  ![0, v3369.toNat, 5, 0, 0]
def k0_off172 (i : grid0.Coords) (k0_t19 : Fin (k0_t19_loop i).trips) : Fin 5 → Nat :=
  let c0_2579 : Index := 0#32
  let c2_i32_1830 : BitVec 32 := 2#32
  let c0_i32_340 : BitVec 32 := 0#32
  let c1_i32_342 : BitVec 32 := 1#32
  let arg20 : BitVec 32 := Scf.iv c0_i32_340 c1_i32_342 k0_t19
  let v2568 : BitVec 32 := Scalar.muli c2_i32_1830 arg20
  let c1_i32_1831 : BitVec 32 := 1#32
  let v2569 : BitVec 32 := Scalar.addi v2568 c1_i32_1831
  let c8_i32_1832 : BitVec 32 := 8#32
  let v2570 : BitVec 32 := Scalar.minsi v2569 c8_i32_1832
  let v3505 : Index := Scalar.indexCast v2570
  let c6_2580 : Index := 6#32
  let c0_2581 : Index := 0#32
  let c0_2582 : Index := 0#32
  ![0, v3505.toNat, 6, 0, 0]
def k0_off173 (i : grid0.Coords) (k0_t19 : Fin (k0_t19_loop i).trips) : Fin 5 → Nat :=
  let c0_2688 : Index := 0#32
  let c2_i32_1830 : BitVec 32 := 2#32
  let c0_i32_340 : BitVec 32 := 0#32
  let c1_i32_342 : BitVec 32 := 1#32
  let arg20 : BitVec 32 := Scf.iv c0_i32_340 c1_i32_342 k0_t19
  let v2568 : BitVec 32 := Scalar.muli c2_i32_1830 arg20
  let c1_i32_1831 : BitVec 32 := 1#32
  let v2569 : BitVec 32 := Scalar.addi v2568 c1_i32_1831
  let c8_i32_1832 : BitVec 32 := 8#32
  let v2570 : BitVec 32 := Scalar.minsi v2569 c8_i32_1832
  let v3641 : Index := Scalar.indexCast v2570
  let c7_2689 : Index := 7#32
  let c0_2690 : Index := 0#32
  let c0_2691 : Index := 0#32
  ![0, v3641.toNat, 7, 0, 0]
@[reducible] def k0_t20_loop (i : grid0.Coords) : Scf.Loop 32 :=
  let c0_i32_340 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v601 : BitVec 32 := Scalar.subi v44 c0_i32_340
  let c1_i32_341 : BitVec 32 := 1#32
  let v603 : BitVec 32 := Scalar.divsi v601 c1_i32_341
  let v604 : BitVec 32 := Scalar.muli v603 c1_i32_341
  let v605 : BitVec 32 := Scalar.addi c0_i32_340 v604
  let v602 : BitVec 32 := Scalar.addi c0_i32_340 v601
  let c1_i32_343 : BitVec 32 := 1#32
  ⟨v605, v602, c1_i32_343⟩
def k0_off174 (i : grid0.Coords) (k0_t20 : Fin (k0_t20_loop i).trips) (c1_i32_379 : BitVec 32) : Fin 3 → Nat :=
  let c2_i32_378 : BitVec 32 := 2#32
  let c0_i32_340 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v601 : BitVec 32 := Scalar.subi v44 c0_i32_340
  let c1_i32_341 : BitVec 32 := 1#32
  let v603 : BitVec 32 := Scalar.divsi v601 c1_i32_341
  let v604 : BitVec 32 := Scalar.muli v603 c1_i32_341
  let v605 : BitVec 32 := Scalar.addi c0_i32_340 v604
  let c1_i32_343 : BitVec 32 := 1#32
  let arg20 : BitVec 32 := Scf.iv v605 c1_i32_343 k0_t20
  let v674 : BitVec 32 := Scalar.muli c2_i32_378 arg20
  let v675 : BitVec 32 := Scalar.addi v674 c1_i32_379
  let c15_i32_380 : BitVec 32 := 15#32
  let v676 : BitVec 32 := Scalar.minsi v675 c15_i32_380
  let v677 : Index := Scalar.indexCast v676
  let c0_381 : Index := 0#32
  let c0_382 : Index := 0#32
  ![v677.toNat, 0, 0]
def k0_off175 (i : grid0.Coords) (k0_t20 : Fin (k0_t20_loop i).trips) (c1_i32_379 : BitVec 32) : Fin 4 → Nat :=
  let c0_576 : Index := 0#32
  let c2_i32_378 : BitVec 32 := 2#32
  let c0_i32_340 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v601 : BitVec 32 := Scalar.subi v44 c0_i32_340
  let c1_i32_341 : BitVec 32 := 1#32
  let v603 : BitVec 32 := Scalar.divsi v601 c1_i32_341
  let v604 : BitVec 32 := Scalar.muli v603 c1_i32_341
  let v605 : BitVec 32 := Scalar.addi c0_i32_340 v604
  let c1_i32_343 : BitVec 32 := 1#32
  let arg20 : BitVec 32 := Scf.iv v605 c1_i32_343 k0_t20
  let v674 : BitVec 32 := Scalar.muli c2_i32_378 arg20
  let v675 : BitVec 32 := Scalar.addi v674 c1_i32_379
  let c8_i32_575 : BitVec 32 := 8#32
  let v1000 : BitVec 32 := Scalar.minsi v675 c8_i32_575
  let v1001 : Index := Scalar.indexCast v1000
  let c0_577 : Index := 0#32
  let c0_578 : Index := 0#32
  ![0, v1001.toNat, 0, 0]
def k0_off176 (i : grid0.Coords) (k0_t20 : Fin (k0_t20_loop i).trips) : Fin 5 → Nat :=
  let c0_761 : Index := 0#32
  let c2_i32_667 : BitVec 32 := 2#32
  let c0_i32_340 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v601 : BitVec 32 := Scalar.subi v44 c0_i32_340
  let c1_i32_341 : BitVec 32 := 1#32
  let v603 : BitVec 32 := Scalar.divsi v601 c1_i32_341
  let v604 : BitVec 32 := Scalar.muli v603 c1_i32_341
  let v605 : BitVec 32 := Scalar.addi c0_i32_340 v604
  let c1_i32_343 : BitVec 32 := 1#32
  let arg20 : BitVec 32 := Scf.iv v605 c1_i32_343 k0_t20
  let v1076 : BitVec 32 := Scalar.muli c2_i32_667 arg20
  let c8_i32_668 : BitVec 32 := 8#32
  let v1077 : BitVec 32 := Scalar.minsi v1076 c8_i32_668
  let v1196 : Index := Scalar.indexCast v1077
  let c0_762 : Index := 0#32
  let c0_763 : Index := 0#32
  let c0_764 : Index := 0#32
  ![0, v1196.toNat, 0, 0, 0]
def k0_off177 (i : grid0.Coords) (k0_t20 : Fin (k0_t20_loop i).trips) : Fin 5 → Nat :=
  let c0_870 : Index := 0#32
  let c2_i32_667 : BitVec 32 := 2#32
  let c0_i32_340 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v601 : BitVec 32 := Scalar.subi v44 c0_i32_340
  let c1_i32_341 : BitVec 32 := 1#32
  let v603 : BitVec 32 := Scalar.divsi v601 c1_i32_341
  let v604 : BitVec 32 := Scalar.muli v603 c1_i32_341
  let v605 : BitVec 32 := Scalar.addi c0_i32_340 v604
  let c1_i32_343 : BitVec 32 := 1#32
  let arg20 : BitVec 32 := Scf.iv v605 c1_i32_343 k0_t20
  let v1076 : BitVec 32 := Scalar.muli c2_i32_667 arg20
  let c8_i32_668 : BitVec 32 := 8#32
  let v1077 : BitVec 32 := Scalar.minsi v1076 c8_i32_668
  let v1332 : Index := Scalar.indexCast v1077
  let c1_871 : Index := 1#32
  let c0_872 : Index := 0#32
  let c0_873 : Index := 0#32
  ![0, v1332.toNat, 1, 0, 0]
def k0_off178 (i : grid0.Coords) (k0_t20 : Fin (k0_t20_loop i).trips) : Fin 5 → Nat :=
  let c0_979 : Index := 0#32
  let c2_i32_667 : BitVec 32 := 2#32
  let c0_i32_340 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v601 : BitVec 32 := Scalar.subi v44 c0_i32_340
  let c1_i32_341 : BitVec 32 := 1#32
  let v603 : BitVec 32 := Scalar.divsi v601 c1_i32_341
  let v604 : BitVec 32 := Scalar.muli v603 c1_i32_341
  let v605 : BitVec 32 := Scalar.addi c0_i32_340 v604
  let c1_i32_343 : BitVec 32 := 1#32
  let arg20 : BitVec 32 := Scf.iv v605 c1_i32_343 k0_t20
  let v1076 : BitVec 32 := Scalar.muli c2_i32_667 arg20
  let c8_i32_668 : BitVec 32 := 8#32
  let v1077 : BitVec 32 := Scalar.minsi v1076 c8_i32_668
  let v1468 : Index := Scalar.indexCast v1077
  let c2_980 : Index := 2#32
  let c0_981 : Index := 0#32
  let c0_982 : Index := 0#32
  ![0, v1468.toNat, 2, 0, 0]
def k0_off179 (i : grid0.Coords) (k0_t20 : Fin (k0_t20_loop i).trips) : Fin 5 → Nat :=
  let c0_1088 : Index := 0#32
  let c2_i32_667 : BitVec 32 := 2#32
  let c0_i32_340 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v601 : BitVec 32 := Scalar.subi v44 c0_i32_340
  let c1_i32_341 : BitVec 32 := 1#32
  let v603 : BitVec 32 := Scalar.divsi v601 c1_i32_341
  let v604 : BitVec 32 := Scalar.muli v603 c1_i32_341
  let v605 : BitVec 32 := Scalar.addi c0_i32_340 v604
  let c1_i32_343 : BitVec 32 := 1#32
  let arg20 : BitVec 32 := Scf.iv v605 c1_i32_343 k0_t20
  let v1076 : BitVec 32 := Scalar.muli c2_i32_667 arg20
  let c8_i32_668 : BitVec 32 := 8#32
  let v1077 : BitVec 32 := Scalar.minsi v1076 c8_i32_668
  let v1604 : Index := Scalar.indexCast v1077
  let c3_1089 : Index := 3#32
  let c0_1090 : Index := 0#32
  let c0_1091 : Index := 0#32
  ![0, v1604.toNat, 3, 0, 0]
def k0_off180 (i : grid0.Coords) (k0_t20 : Fin (k0_t20_loop i).trips) : Fin 5 → Nat :=
  let c0_1197 : Index := 0#32
  let c2_i32_667 : BitVec 32 := 2#32
  let c0_i32_340 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v601 : BitVec 32 := Scalar.subi v44 c0_i32_340
  let c1_i32_341 : BitVec 32 := 1#32
  let v603 : BitVec 32 := Scalar.divsi v601 c1_i32_341
  let v604 : BitVec 32 := Scalar.muli v603 c1_i32_341
  let v605 : BitVec 32 := Scalar.addi c0_i32_340 v604
  let c1_i32_343 : BitVec 32 := 1#32
  let arg20 : BitVec 32 := Scf.iv v605 c1_i32_343 k0_t20
  let v1076 : BitVec 32 := Scalar.muli c2_i32_667 arg20
  let c8_i32_668 : BitVec 32 := 8#32
  let v1077 : BitVec 32 := Scalar.minsi v1076 c8_i32_668
  let v1740 : Index := Scalar.indexCast v1077
  let c4_1198 : Index := 4#32
  let c0_1199 : Index := 0#32
  let c0_1200 : Index := 0#32
  ![0, v1740.toNat, 4, 0, 0]
def k0_off181 (i : grid0.Coords) (k0_t20 : Fin (k0_t20_loop i).trips) : Fin 5 → Nat :=
  let c0_1306 : Index := 0#32
  let c2_i32_667 : BitVec 32 := 2#32
  let c0_i32_340 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v601 : BitVec 32 := Scalar.subi v44 c0_i32_340
  let c1_i32_341 : BitVec 32 := 1#32
  let v603 : BitVec 32 := Scalar.divsi v601 c1_i32_341
  let v604 : BitVec 32 := Scalar.muli v603 c1_i32_341
  let v605 : BitVec 32 := Scalar.addi c0_i32_340 v604
  let c1_i32_343 : BitVec 32 := 1#32
  let arg20 : BitVec 32 := Scf.iv v605 c1_i32_343 k0_t20
  let v1076 : BitVec 32 := Scalar.muli c2_i32_667 arg20
  let c8_i32_668 : BitVec 32 := 8#32
  let v1077 : BitVec 32 := Scalar.minsi v1076 c8_i32_668
  let v1876 : Index := Scalar.indexCast v1077
  let c5_1307 : Index := 5#32
  let c0_1308 : Index := 0#32
  let c0_1309 : Index := 0#32
  ![0, v1876.toNat, 5, 0, 0]
def k0_off182 (i : grid0.Coords) (k0_t20 : Fin (k0_t20_loop i).trips) : Fin 5 → Nat :=
  let c0_1415 : Index := 0#32
  let c2_i32_667 : BitVec 32 := 2#32
  let c0_i32_340 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v601 : BitVec 32 := Scalar.subi v44 c0_i32_340
  let c1_i32_341 : BitVec 32 := 1#32
  let v603 : BitVec 32 := Scalar.divsi v601 c1_i32_341
  let v604 : BitVec 32 := Scalar.muli v603 c1_i32_341
  let v605 : BitVec 32 := Scalar.addi c0_i32_340 v604
  let c1_i32_343 : BitVec 32 := 1#32
  let arg20 : BitVec 32 := Scf.iv v605 c1_i32_343 k0_t20
  let v1076 : BitVec 32 := Scalar.muli c2_i32_667 arg20
  let c8_i32_668 : BitVec 32 := 8#32
  let v1077 : BitVec 32 := Scalar.minsi v1076 c8_i32_668
  let v2012 : Index := Scalar.indexCast v1077
  let c6_1416 : Index := 6#32
  let c0_1417 : Index := 0#32
  let c0_1418 : Index := 0#32
  ![0, v2012.toNat, 6, 0, 0]
def k0_off183 (i : grid0.Coords) (k0_t20 : Fin (k0_t20_loop i).trips) : Fin 5 → Nat :=
  let c0_1524 : Index := 0#32
  let c2_i32_667 : BitVec 32 := 2#32
  let c0_i32_340 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v601 : BitVec 32 := Scalar.subi v44 c0_i32_340
  let c1_i32_341 : BitVec 32 := 1#32
  let v603 : BitVec 32 := Scalar.divsi v601 c1_i32_341
  let v604 : BitVec 32 := Scalar.muli v603 c1_i32_341
  let v605 : BitVec 32 := Scalar.addi c0_i32_340 v604
  let c1_i32_343 : BitVec 32 := 1#32
  let arg20 : BitVec 32 := Scf.iv v605 c1_i32_343 k0_t20
  let v1076 : BitVec 32 := Scalar.muli c2_i32_667 arg20
  let c8_i32_668 : BitVec 32 := 8#32
  let v1077 : BitVec 32 := Scalar.minsi v1076 c8_i32_668
  let v2148 : Index := Scalar.indexCast v1077
  let c7_1525 : Index := 7#32
  let c0_1526 : Index := 0#32
  let c0_1527 : Index := 0#32
  ![0, v2148.toNat, 7, 0, 0]
def k0_off184 (i : grid0.Coords) (k0_t20 : Fin (k0_t20_loop i).trips) : Fin 5 → Nat :=
  let c0_1925 : Index := 0#32
  let c2_i32_1830 : BitVec 32 := 2#32
  let c0_i32_340 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v601 : BitVec 32 := Scalar.subi v44 c0_i32_340
  let c1_i32_341 : BitVec 32 := 1#32
  let v603 : BitVec 32 := Scalar.divsi v601 c1_i32_341
  let v604 : BitVec 32 := Scalar.muli v603 c1_i32_341
  let v605 : BitVec 32 := Scalar.addi c0_i32_340 v604
  let c1_i32_343 : BitVec 32 := 1#32
  let arg20 : BitVec 32 := Scf.iv v605 c1_i32_343 k0_t20
  let v2568 : BitVec 32 := Scalar.muli c2_i32_1830 arg20
  let c1_i32_1831 : BitVec 32 := 1#32
  let v2569 : BitVec 32 := Scalar.addi v2568 c1_i32_1831
  let c8_i32_1832 : BitVec 32 := 8#32
  let v2570 : BitVec 32 := Scalar.minsi v2569 c8_i32_1832
  let v2689 : Index := Scalar.indexCast v2570
  let c0_1926 : Index := 0#32
  let c0_1927 : Index := 0#32
  let c0_1928 : Index := 0#32
  ![0, v2689.toNat, 0, 0, 0]
def k0_off185 (i : grid0.Coords) (k0_t20 : Fin (k0_t20_loop i).trips) : Fin 5 → Nat :=
  let c0_2034 : Index := 0#32
  let c2_i32_1830 : BitVec 32 := 2#32
  let c0_i32_340 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v601 : BitVec 32 := Scalar.subi v44 c0_i32_340
  let c1_i32_341 : BitVec 32 := 1#32
  let v603 : BitVec 32 := Scalar.divsi v601 c1_i32_341
  let v604 : BitVec 32 := Scalar.muli v603 c1_i32_341
  let v605 : BitVec 32 := Scalar.addi c0_i32_340 v604
  let c1_i32_343 : BitVec 32 := 1#32
  let arg20 : BitVec 32 := Scf.iv v605 c1_i32_343 k0_t20
  let v2568 : BitVec 32 := Scalar.muli c2_i32_1830 arg20
  let c1_i32_1831 : BitVec 32 := 1#32
  let v2569 : BitVec 32 := Scalar.addi v2568 c1_i32_1831
  let c8_i32_1832 : BitVec 32 := 8#32
  let v2570 : BitVec 32 := Scalar.minsi v2569 c8_i32_1832
  let v2825 : Index := Scalar.indexCast v2570
  let c1_2035 : Index := 1#32
  let c0_2036 : Index := 0#32
  let c0_2037 : Index := 0#32
  ![0, v2825.toNat, 1, 0, 0]
def k0_off186 (i : grid0.Coords) (k0_t20 : Fin (k0_t20_loop i).trips) : Fin 5 → Nat :=
  let c0_2143 : Index := 0#32
  let c2_i32_1830 : BitVec 32 := 2#32
  let c0_i32_340 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v601 : BitVec 32 := Scalar.subi v44 c0_i32_340
  let c1_i32_341 : BitVec 32 := 1#32
  let v603 : BitVec 32 := Scalar.divsi v601 c1_i32_341
  let v604 : BitVec 32 := Scalar.muli v603 c1_i32_341
  let v605 : BitVec 32 := Scalar.addi c0_i32_340 v604
  let c1_i32_343 : BitVec 32 := 1#32
  let arg20 : BitVec 32 := Scf.iv v605 c1_i32_343 k0_t20
  let v2568 : BitVec 32 := Scalar.muli c2_i32_1830 arg20
  let c1_i32_1831 : BitVec 32 := 1#32
  let v2569 : BitVec 32 := Scalar.addi v2568 c1_i32_1831
  let c8_i32_1832 : BitVec 32 := 8#32
  let v2570 : BitVec 32 := Scalar.minsi v2569 c8_i32_1832
  let v2961 : Index := Scalar.indexCast v2570
  let c2_2144 : Index := 2#32
  let c0_2145 : Index := 0#32
  let c0_2146 : Index := 0#32
  ![0, v2961.toNat, 2, 0, 0]
def k0_off187 (i : grid0.Coords) (k0_t20 : Fin (k0_t20_loop i).trips) : Fin 5 → Nat :=
  let c0_2252 : Index := 0#32
  let c2_i32_1830 : BitVec 32 := 2#32
  let c0_i32_340 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v601 : BitVec 32 := Scalar.subi v44 c0_i32_340
  let c1_i32_341 : BitVec 32 := 1#32
  let v603 : BitVec 32 := Scalar.divsi v601 c1_i32_341
  let v604 : BitVec 32 := Scalar.muli v603 c1_i32_341
  let v605 : BitVec 32 := Scalar.addi c0_i32_340 v604
  let c1_i32_343 : BitVec 32 := 1#32
  let arg20 : BitVec 32 := Scf.iv v605 c1_i32_343 k0_t20
  let v2568 : BitVec 32 := Scalar.muli c2_i32_1830 arg20
  let c1_i32_1831 : BitVec 32 := 1#32
  let v2569 : BitVec 32 := Scalar.addi v2568 c1_i32_1831
  let c8_i32_1832 : BitVec 32 := 8#32
  let v2570 : BitVec 32 := Scalar.minsi v2569 c8_i32_1832
  let v3097 : Index := Scalar.indexCast v2570
  let c3_2253 : Index := 3#32
  let c0_2254 : Index := 0#32
  let c0_2255 : Index := 0#32
  ![0, v3097.toNat, 3, 0, 0]
def k0_off188 (i : grid0.Coords) (k0_t20 : Fin (k0_t20_loop i).trips) : Fin 5 → Nat :=
  let c0_2361 : Index := 0#32
  let c2_i32_1830 : BitVec 32 := 2#32
  let c0_i32_340 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v601 : BitVec 32 := Scalar.subi v44 c0_i32_340
  let c1_i32_341 : BitVec 32 := 1#32
  let v603 : BitVec 32 := Scalar.divsi v601 c1_i32_341
  let v604 : BitVec 32 := Scalar.muli v603 c1_i32_341
  let v605 : BitVec 32 := Scalar.addi c0_i32_340 v604
  let c1_i32_343 : BitVec 32 := 1#32
  let arg20 : BitVec 32 := Scf.iv v605 c1_i32_343 k0_t20
  let v2568 : BitVec 32 := Scalar.muli c2_i32_1830 arg20
  let c1_i32_1831 : BitVec 32 := 1#32
  let v2569 : BitVec 32 := Scalar.addi v2568 c1_i32_1831
  let c8_i32_1832 : BitVec 32 := 8#32
  let v2570 : BitVec 32 := Scalar.minsi v2569 c8_i32_1832
  let v3233 : Index := Scalar.indexCast v2570
  let c4_2362 : Index := 4#32
  let c0_2363 : Index := 0#32
  let c0_2364 : Index := 0#32
  ![0, v3233.toNat, 4, 0, 0]
def k0_off189 (i : grid0.Coords) (k0_t20 : Fin (k0_t20_loop i).trips) : Fin 5 → Nat :=
  let c0_2470 : Index := 0#32
  let c2_i32_1830 : BitVec 32 := 2#32
  let c0_i32_340 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v601 : BitVec 32 := Scalar.subi v44 c0_i32_340
  let c1_i32_341 : BitVec 32 := 1#32
  let v603 : BitVec 32 := Scalar.divsi v601 c1_i32_341
  let v604 : BitVec 32 := Scalar.muli v603 c1_i32_341
  let v605 : BitVec 32 := Scalar.addi c0_i32_340 v604
  let c1_i32_343 : BitVec 32 := 1#32
  let arg20 : BitVec 32 := Scf.iv v605 c1_i32_343 k0_t20
  let v2568 : BitVec 32 := Scalar.muli c2_i32_1830 arg20
  let c1_i32_1831 : BitVec 32 := 1#32
  let v2569 : BitVec 32 := Scalar.addi v2568 c1_i32_1831
  let c8_i32_1832 : BitVec 32 := 8#32
  let v2570 : BitVec 32 := Scalar.minsi v2569 c8_i32_1832
  let v3369 : Index := Scalar.indexCast v2570
  let c5_2471 : Index := 5#32
  let c0_2472 : Index := 0#32
  let c0_2473 : Index := 0#32
  ![0, v3369.toNat, 5, 0, 0]
def k0_off190 (i : grid0.Coords) (k0_t20 : Fin (k0_t20_loop i).trips) : Fin 5 → Nat :=
  let c0_2579 : Index := 0#32
  let c2_i32_1830 : BitVec 32 := 2#32
  let c0_i32_340 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v601 : BitVec 32 := Scalar.subi v44 c0_i32_340
  let c1_i32_341 : BitVec 32 := 1#32
  let v603 : BitVec 32 := Scalar.divsi v601 c1_i32_341
  let v604 : BitVec 32 := Scalar.muli v603 c1_i32_341
  let v605 : BitVec 32 := Scalar.addi c0_i32_340 v604
  let c1_i32_343 : BitVec 32 := 1#32
  let arg20 : BitVec 32 := Scf.iv v605 c1_i32_343 k0_t20
  let v2568 : BitVec 32 := Scalar.muli c2_i32_1830 arg20
  let c1_i32_1831 : BitVec 32 := 1#32
  let v2569 : BitVec 32 := Scalar.addi v2568 c1_i32_1831
  let c8_i32_1832 : BitVec 32 := 8#32
  let v2570 : BitVec 32 := Scalar.minsi v2569 c8_i32_1832
  let v3505 : Index := Scalar.indexCast v2570
  let c6_2580 : Index := 6#32
  let c0_2581 : Index := 0#32
  let c0_2582 : Index := 0#32
  ![0, v3505.toNat, 6, 0, 0]
def k0_off191 (i : grid0.Coords) (k0_t20 : Fin (k0_t20_loop i).trips) : Fin 5 → Nat :=
  let c0_2688 : Index := 0#32
  let c2_i32_1830 : BitVec 32 := 2#32
  let c0_i32_340 : BitVec 32 := 0#32
  let c2048_i32 : BitVec 32 := 2048#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let v2 : BitVec 32 := Scalar.addi c2048_i32 v1
  let c1_i32_0 : BitVec 32 := 1#32
  let v3 : BitVec 32 := Scalar.subi v2 c1_i32_0
  let c6_i32 : BitVec 32 := 6#32
  let v4 : BitVec 32 := Scalar.shrsi v3 c6_i32
  let c1_i32_1 : BitVec 32 := 1#32
  let v5 : BitVec 32 := Scalar.addi v4 c1_i32_1
  let c6_i32_2 : BitVec 32 := 6#32
  let v6 : BitVec 32 := Scalar.shli v5 c6_i32_2
  let c2112_i32 : BitVec 32 := 2112#32
  let v7 : BitVec 32 := Scalar.minsi v6 c2112_i32
  let c256_i32 : BitVec 32 := 256#32
  let v8 : BitVec 32 := Scalar.addi v7 c256_i32
  let c1_i32_3 : BitVec 32 := 1#32
  let v9 : BitVec 32 := Scalar.subi v8 c1_i32_3
  let c0_i32 : BitVec 32 := 0#32
  let v11 : BitVec 1 := Scalar.cmpi .sgt v9 c0_i32
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c256_i32_4 : BitVec 32 := 256#32
  let c0_i32_6 : BitVec 32 := 0#32
  let v16 : BitVec 1 := Scalar.cmpi .sgt c256_i32_4 c0_i32_6
  let v17 : BitVec 32 := Scalar.extui v16
  let c0_i32_7 : BitVec 32 := 0#32
  let v18 : BitVec 1 := Scalar.cmpi .slt c256_i32_4 c0_i32_7
  let v19 : BitVec 32 := Scalar.extui v18
  let v20 : BitVec 32 := Scalar.subi v17 v19
  let v21 : BitVec 1 := Scalar.cmpi .ne v15 v20
  let v22 : BitVec 32 := Scalar.remsi v9 c256_i32_4
  let c0_i32_8 : BitVec 32 := 0#32
  let v23 : BitVec 1 := Scalar.cmpi .ne v22 c0_i32_8
  let v24 : BitVec 1 := Scalar.andi v21 v23
  let v10 : BitVec 32 := Scalar.divsi v9 c256_i32_4
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c2_i32 : BitVec 32 := 2#32
  let c0_i32_13 : BitVec 32 := 0#32
  let v34 : BitVec 1 := Scalar.cmpi .sgt c2_i32 c0_i32_13
  let v35 : BitVec 32 := Scalar.extui v34
  let c0_i32_14 : BitVec 32 := 0#32
  let v36 : BitVec 1 := Scalar.cmpi .slt c2_i32 c0_i32_14
  let v37 : BitVec 32 := Scalar.extui v36
  let v38 : BitVec 32 := Scalar.subi v35 v37
  let v39 : BitVec 1 := Scalar.cmpi .ne v33 v38
  let v40 : BitVec 32 := Scalar.remsi v27 c2_i32
  let c0_i32_15 : BitVec 32 := 0#32
  let v41 : BitVec 1 := Scalar.cmpi .ne v40 c0_i32_15
  let v42 : BitVec 1 := Scalar.andi v39 v41
  let v28 : BitVec 32 := Scalar.divsi v27 c2_i32
  let c1_i32_16 : BitVec 32 := 1#32
  let v43 : BitVec 32 := Scalar.subi v28 c1_i32_16
  let v44 : BitVec 32 := Scalar.select v42 v43 v28
  let v601 : BitVec 32 := Scalar.subi v44 c0_i32_340
  let c1_i32_341 : BitVec 32 := 1#32
  let v603 : BitVec 32 := Scalar.divsi v601 c1_i32_341
  let v604 : BitVec 32 := Scalar.muli v603 c1_i32_341
  let v605 : BitVec 32 := Scalar.addi c0_i32_340 v604
  let c1_i32_343 : BitVec 32 := 1#32
  let arg20 : BitVec 32 := Scf.iv v605 c1_i32_343 k0_t20
  let v2568 : BitVec 32 := Scalar.muli c2_i32_1830 arg20
  let c1_i32_1831 : BitVec 32 := 1#32
  let v2569 : BitVec 32 := Scalar.addi v2568 c1_i32_1831
  let c8_i32_1832 : BitVec 32 := 8#32
  let v2570 : BitVec 32 := Scalar.minsi v2569 c8_i32_1832
  let v3641 : Index := Scalar.indexCast v2570
  let c7_2689 : Index := 7#32
  let c0_2690 : Index := 0#32
  let c0_2691 : Index := 0#32
  ![0, v3641.toNat, 7, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x1x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x9x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x9x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x9x8x64x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel2.lean ====
abbrev S8x64x1024 : Shape := ⟨3, ![8, 64, 1024]⟩
abbrev S8x64x4x128 : Shape := ⟨4, ![8, 64, 4, 128]⟩
abbrev S8x64x512 : Shape := ⟨3, ![8, 64, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S4x128x128 : Shape := ⟨3, ![4, 128, 128]⟩
abbrev S512 : Shape := ⟨1, ![512]⟩
abbrev S1024x1024 : Shape := ⟨2, ![1024, 1024]⟩
abbrev S1024x4096 : Shape := ⟨2, ![1024, 4096]⟩
abbrev S4096x1024 : Shape := ⟨2, ![4096, 1024]⟩
abbrev S512x1024 : Shape := ⟨2, ![512, 1024]⟩
abbrev S512x512 : Shape := ⟨2, ![512, 512]⟩
abbrev S256x1024 : Shape := ⟨2, ![256, 1024]⟩
abbrev S256x512 : Shape := ⟨2, ![256, 512]⟩
abbrev S256x128 : Shape := ⟨2, ![256, 128]⟩
abbrev S1x128x128 : Shape := ⟨3, ![1, 128, 128]⟩
abbrev S128x128 : Shape := ⟨2, ![128, 128]⟩
abbrev S256 : Shape := ⟨1, ![256]⟩
abbrev S256x1 : Shape := ⟨2, ![256, 1]⟩
abbrev S256x4096 : Shape := ⟨2, ![256, 4096]⟩

abbrev nBuf : Space → Nat
  | .hbm => 27
  | .vmem => 15
  | .smem => 0
  | _ => 0

abbrev bufTy : (tb : Table) → Fin (tcTables nBuf tb) → BufTy
  | .hbm, ⟨0, _⟩ => ⟨S8x64x1024, .f32⟩
  | .hbm, ⟨1, _⟩ => ⟨S8x64x4x128, .f32⟩
  | .hbm, ⟨2, _⟩ => ⟨S8x64x512, .f32⟩
  | .hbm, ⟨3, _⟩ => ⟨S1x4x128x128, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S1x1024x4096, .f32⟩
  | .hbm, ⟨8, _⟩ => ⟨S1x4096x1024, .f32⟩
  | .hbm, ⟨9, _⟩ => ⟨S1024, .f32⟩
  | .hbm, ⟨10, _⟩ => ⟨S4x128x128, .f32⟩
  | .hbm, ⟨11, _⟩ => ⟨S4x128x128, .bf16⟩
  | .hbm, ⟨12, _⟩ => ⟨S512, .f32⟩
  | .hbm, ⟨13, _⟩ => ⟨S1x512, .f32⟩
  | .hbm, ⟨14, _⟩ => ⟨S1024x1024, .f32⟩
  | .hbm, ⟨15, _⟩ => ⟨S1024x1024, .bf16⟩
  | .hbm, ⟨16, _⟩ => ⟨S1024, .f32⟩
  | .hbm, ⟨17, _⟩ => ⟨S1x1024, .f32⟩
  | .hbm, ⟨18, _⟩ => ⟨S1024x4096, .f32⟩
  | .hbm, ⟨19, _⟩ => ⟨S1024x4096, .bf16⟩
  | .hbm, ⟨20, _⟩ => ⟨S4096x1024, .f32⟩
  | .hbm, ⟨21, _⟩ => ⟨S4096x1024, .bf16⟩
  | .hbm, ⟨22, _⟩ => ⟨S1x1024, .f32⟩
  | .hbm, ⟨23, _⟩ => ⟨S512x1024, .f32⟩
  | .hbm, ⟨24, _⟩ => ⟨S512x512, .f32⟩
  | .hbm, ⟨25, _⟩ => ⟨S512x512, .f32⟩
  | .hbm, ⟨26, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S4x128x128, .bf16⟩
  | .local _ .vmem, ⟨7, _⟩ => ⟨S1x512, .f32⟩
  | .local _ .vmem, ⟨8, _⟩ => ⟨S1024x1024, .bf16⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | _, _ => ⟨S8x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S8x64x1024 : Shape := ⟨3, ![8, 64, 1024]⟩
abbrev S8x64x4x128 : Shape := ⟨4, ![8, 64, 4, 128]⟩
abbrev S8x64x512 : Shape := ⟨3, ![8, 64, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S4x128x128 : Shape := ⟨3, ![4, 128, 128]⟩
abbrev S4x128x8x64 : Shape := ⟨4, ![4, 128, 8, 64]⟩
abbrev S512 : Shape := ⟨1, ![512]⟩
abbrev S1x1x512 : Shape := ⟨3, ![1, 1, 512]⟩
abbrev S1024x1024 : Shape := ⟨2, ![1024, 1024]⟩
abbrev S_ : Shape := ⟨0, ![]⟩
abbrev S8x64 : Shape := ⟨2, ![8, 64]⟩
abbrev S8x64x1 : Shape := ⟨3, ![8, 64, 1]⟩
abbrev S1x1x1024 : Shape := ⟨3, ![1, 1, 1024]⟩
abbrev S1024x4096 : Shape := ⟨2, ![1024, 4096]⟩
abbrev S8x64x4096 : Shape := ⟨3, ![8, 64, 4096]⟩
abbrev S4096x1024 : Shape := ⟨2, ![4096, 1024]⟩
abbrev S512x1024 : Shape := ⟨2, ![512, 1024]⟩

abbrev nBuf : Space → Nat
  | .hbm => 65
  | .vmem => 0
  | .smem => 0
  | _ => 0

abbrev bufTy : (tb : Table) → Fin (tcTables nBuf tb) → BufTy
  | .hbm, ⟨0, _⟩ => ⟨S8x64x1024, .f32⟩
  | .hbm, ⟨1, _⟩ => ⟨S8x64x4x128, .f32⟩
  | .hbm, ⟨2, _⟩ => ⟨S8x64x512, .f32⟩
  | .hbm, ⟨3, _⟩ => ⟨S1x4x128x128, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S1x1024x4096, .f32⟩
  | .hbm, ⟨8, _⟩ => ⟨S1x4096x1024, .f32⟩
  | .hbm, ⟨9, _⟩ => ⟨S1024, .f32⟩
  | .hbm, ⟨10, _⟩ => ⟨S4x128x128, .f32⟩
  | .hbm, ⟨11, _⟩ => ⟨S4x128x8x64, .f32⟩
  | .hbm, ⟨12, _⟩ => ⟨S8x64x4x128, .f32⟩
  | .hbm, ⟨13, _⟩ => ⟨S8x64x512, .f32⟩
  | .hbm, ⟨14, _⟩ => ⟨S512, .f32⟩
  | .hbm, ⟨15, _⟩ => ⟨S1x1x512, .f32⟩
  | .hbm, ⟨16, _⟩ => ⟨S8x64x512, .f32⟩
  | .hbm, ⟨17, _⟩ => ⟨S8x64x512, .f32⟩
  | .hbm, ⟨18, _⟩ => ⟨S8x64x1024, .f32⟩
  | .hbm, ⟨19, _⟩ => ⟨S1024x1024, .f32⟩
  | .hbm, ⟨20, _⟩ => ⟨S8x64x1024, .f32⟩
  | .hbm, ⟨21, _⟩ => ⟨S8x64x1024, .f32⟩
  | .hbm, ⟨22, _⟩ => ⟨S1024, .f32⟩
  | .hbm, ⟨23, _⟩ => ⟨S8x64x1024, .f32⟩
  | .hbm, ⟨24, _⟩ => ⟨S_, .f32⟩
  | .hbm, ⟨25, _⟩ => ⟨S8x64, .f32⟩
  | .hbm, ⟨26, _⟩ => ⟨S8x64x1, .f32⟩
  | .hbm, ⟨27, _⟩ => ⟨S_, .f32⟩
  | .hbm, ⟨28, _⟩ => ⟨S8x64x1, .f32⟩
  | .hbm, ⟨29, _⟩ => ⟨S8x64x1, .f32⟩
  | .hbm, ⟨30, _⟩ => ⟨S_, .f32⟩
  | .hbm, ⟨31, _⟩ => ⟨S8x64x1, .f32⟩
  | .hbm, ⟨32, _⟩ => ⟨S8x64x1, .f32⟩
  | .hbm, ⟨33, _⟩ => ⟨S8x64x1, .f32⟩
  | .hbm, ⟨34, _⟩ => ⟨S8x64x1024, .f32⟩
  | .hbm, ⟨35, _⟩ => ⟨S8x64x1024, .f32⟩
  | .hbm, ⟨36, _⟩ => ⟨S1x1x1024, .f32⟩
  | .hbm, ⟨37, _⟩ => ⟨S8x64x1024, .f32⟩
  | .hbm, ⟨38, _⟩ => ⟨S8x64x1024, .f32⟩
  | .hbm, ⟨39, _⟩ => ⟨S1024x4096, .f32⟩
  | .hbm, ⟨40, _⟩ => ⟨S8x64x4096, .f32⟩
  | .hbm, ⟨41, _⟩ => ⟨S_, .f32⟩
  | .hbm, ⟨42, _⟩ => ⟨S8x64x4096, .f32⟩
  | .hbm, ⟨43, _⟩ => ⟨S8x64x4096, .f32⟩
  | .hbm, ⟨44, _⟩ => ⟨S8x64x4096, .f32⟩
  | .hbm, ⟨45, _⟩ => ⟨S4096x1024, .f32⟩
  | .hbm, ⟨46, _⟩ => ⟨S8x64x1024, .f32⟩
  | .hbm, ⟨47, _⟩ => ⟨S8x64x1024, .f32⟩
  | .hbm, ⟨48, _⟩ => ⟨S8x64x1024, .f32⟩
  | .hbm, ⟨49, _⟩ => ⟨S_, .f32⟩
  | .hbm, ⟨50, _⟩ => ⟨S8x64, .f32⟩
  | .hbm, ⟨51, _⟩ => ⟨S8x64x1, .f32⟩
  | .hbm, ⟨52, _⟩ => ⟨S_, .f32⟩
  | .hbm, ⟨53, _⟩ => ⟨S8x64x1, .f32⟩
  | .hbm, ⟨54, _⟩ => ⟨S8x64x1, .f32⟩
  | .hbm, ⟨55, _⟩ => ⟨S_, .f32⟩
  | .hbm, ⟨56, _⟩ => ⟨S8x64x1, .f32⟩
  | .hbm, ⟨57, _⟩ => ⟨S8x64x1, .f32⟩
  | .hbm, ⟨58, _⟩ => ⟨S8x64x1, .f32⟩
  | .hbm, ⟨59, _⟩ => ⟨S8x64x1024, .f32⟩
  | .hbm, ⟨60, _⟩ => ⟨S8x64x1024, .f32⟩
  | .hbm, ⟨61, _⟩ => ⟨S1x1x1024, .f32⟩
  | .hbm, ⟨62, _⟩ => ⟨S8x64x1024, .f32⟩
  | .hbm, ⟨63, _⟩ => ⟨S8x64x1024, .f32⟩
  | .hbm, ⟨64, _⟩ => ⟨S512x1024, .f32⟩
  | _, _ => ⟨S8x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== Kernel3.lean ====
abbrev S1x16384x1024 : Shape := ⟨3, ![1, 16384, 1024]⟩
abbrev S1x16384x4x128 : Shape := ⟨4, ![1, 16384, 4, 128]⟩
abbrev S1x16384x512 : Shape := ⟨3, ![1, 16384, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S4x128x128 : Shape := ⟨3, ![4, 128, 128]⟩
abbrev S512 : Shape := ⟨1, ![512]⟩
abbrev S1024x1024 : Shape := ⟨2, ![1024, 1024]⟩
abbrev S1024x4096 : Shape := ⟨2, ![1024, 4096]⟩
abbrev S4096x1024 : Shape := ⟨2, ![4096, 1024]⟩
abbrev S16384x1024 : Shape := ⟨2, ![16384, 1024]⟩
abbrev S16384x512 : Shape := ⟨2, ![16384, 512]⟩
abbrev S512x1024 : Shape := ⟨2, ![512, 1024]⟩
abbrev S512x512 : Shape := ⟨2, ![512, 512]⟩
abbrev S512x128 : Shape := ⟨2, ![512, 128]⟩
abbrev S1x128x128 : Shape := ⟨3, ![1, 128, 128]⟩
abbrev S128x128 : Shape := ⟨2, ![128, 128]⟩
abbrev S512x1 : Shape := ⟨2, ![512, 1]⟩
abbrev S512x4096 : Shape := ⟨2, ![512, 4096]⟩

abbrev nBuf : Space → Nat
  | .hbm => 27
  | .vmem => 15
  | .smem => 0
  | _ => 0

abbrev bufTy : (tb : Table) → Fin (tcTables nBuf tb) → BufTy
  | .hbm, ⟨0, _⟩ => ⟨S1x16384x1024, .f32⟩
  | .hbm, ⟨1, _⟩ => ⟨S1x16384x4x128, .bf16⟩
  | .hbm, ⟨2, _⟩ => ⟨S1x16384x512, .f32⟩
  | .hbm, ⟨3, _⟩ => ⟨S1x4x128x128, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S1x1024x4096, .f32⟩
  | .hbm, ⟨8, _⟩ => ⟨S1x4096x1024, .f32⟩
  | .hbm, ⟨9, _⟩ => ⟨S1024, .f32⟩
  | .hbm, ⟨10, _⟩ => ⟨S4x128x128, .f32⟩
  | .hbm, ⟨11, _⟩ => ⟨S4x128x128, .bf16⟩
  | .hbm, ⟨12, _⟩ => ⟨S512, .f32⟩
  | .hbm, ⟨13, _⟩ => ⟨S1x512, .f32⟩
  | .hbm, ⟨14, _⟩ => ⟨S1024x1024, .f32⟩
  | .hbm, ⟨15, _⟩ => ⟨S1024x1024, .bf16⟩
  | .hbm, ⟨16, _⟩ => ⟨S1024, .f32⟩
  | .hbm, ⟨17, _⟩ => ⟨S1x1024, .f32⟩
  | .hbm, ⟨18, _⟩ => ⟨S1024x4096, .f32⟩
  | .hbm, ⟨19, _⟩ => ⟨S1024x4096, .bf16⟩
  | .hbm, ⟨20, _⟩ => ⟨S4096x1024, .f32⟩
  | .hbm, ⟨21, _⟩ => ⟨S4096x1024, .bf16⟩
  | .hbm, ⟨22, _⟩ => ⟨S1x1024, .f32⟩
  | .hbm, ⟨23, _⟩ => ⟨S16384x1024, .f32⟩
  | .hbm, ⟨24, _⟩ => ⟨S16384x512, .bf16⟩
  | .hbm, ⟨25, _⟩ => ⟨S16384x512, .f32⟩
  | .hbm, ⟨26, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S4x128x128, .bf16⟩
  | .local _ .vmem, ⟨7, _⟩ => ⟨S1x512, .f32⟩
  | .local _ .vmem, ⟨8, _⟩ => ⟨S1024x1024, .bf16⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S1x16384x1024 : Shape := ⟨3, ![1, 16384, 1024]⟩
abbrev S1x16384x4x128 : Shape := ⟨4, ![1, 16384, 4, 128]⟩
abbrev S1x16384x512 : Shape := ⟨3, ![1, 16384, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S4x128x128 : Shape := ⟨3, ![4, 128, 128]⟩
abbrev S4x128x1x16384 : Shape := ⟨4, ![4, 128, 1, 16384]⟩
abbrev S512 : Shape := ⟨1, ![512]⟩
abbrev S1x1x512 : Shape := ⟨3, ![1, 1, 512]⟩
abbrev S1024x1024 : Shape := ⟨2, ![1024, 1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1024x4096 : Shape := ⟨2, ![1024, 4096]⟩
abbrev S1x16384x4096 : Shape := ⟨3, ![1, 16384, 4096]⟩
abbrev S4096x1024 : Shape := ⟨2, ![4096, 1024]⟩
abbrev S16384x1024 : Shape := ⟨2, ![16384, 1024]⟩

abbrev nBuf : Space → Nat
  | .hbm => 66
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x16384x4x128, .bf16⟩
  | .hbm, ⟨2, _⟩ => ⟨S1x16384x512, .f32⟩
  | .hbm, ⟨3, _⟩ => ⟨S1x4x128x128, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S1x1024x4096, .f32⟩
  | .hbm, ⟨8, _⟩ => ⟨S1x4096x1024, .f32⟩
  | .hbm, ⟨9, _⟩ => ⟨S1024, .f32⟩
  | .hbm, ⟨10, _⟩ => ⟨S1x16384x4x128, .f32⟩
  | .hbm, ⟨11, _⟩ => ⟨S4x128x128, .f32⟩
  | .hbm, ⟨12, _⟩ => ⟨S4x128x1x16384, .f32⟩
  | .hbm, ⟨13, _⟩ => ⟨S1x16384x4x128, .f32⟩
  | .hbm, ⟨14, _⟩ => ⟨S1x16384x512, .f32⟩
  | .hbm, ⟨15, _⟩ => ⟨S512, .f32⟩
  | .hbm, ⟨16, _⟩ => ⟨S1x1x512, .f32⟩
  | .hbm, ⟨17, _⟩ => ⟨S1x16384x512, .f32⟩
  | .hbm, ⟨18, _⟩ => ⟨S1x16384x512, .f32⟩
  | .hbm, ⟨19, _⟩ => ⟨S1x16384x1024, .f32⟩
  | .hbm, ⟨20, _⟩ => ⟨S1024x1024, .f32⟩
  | .hbm, ⟨21, _⟩ => ⟨S1x16384x1024, .f32⟩
  | .hbm, ⟨22, _⟩ => ⟨S1x16384x1024, .f32⟩
  | .hbm, ⟨23, _⟩ => ⟨S1024, .f32⟩
  | .hbm, ⟨24, _⟩ => ⟨S1x16384x1024, .f32⟩
  | .hbm, ⟨25, _⟩ => ⟨S_, .f32⟩
  | .hbm, ⟨26, _⟩ => ⟨S1x16384, .f32⟩
  | .hbm, ⟨27, _⟩ => ⟨S1x16384x1, .f32⟩
  | .hbm, ⟨28, _⟩ => ⟨S_, .f32⟩
  | .hbm, ⟨29, _⟩ => ⟨S1x16384x1, .f32⟩
  | .hbm, ⟨30, _⟩ => ⟨S1x16384x1, .f32⟩
  | .hbm, ⟨31, _⟩ => ⟨S_, .f32⟩
  | .hbm, ⟨32, _⟩ => ⟨S1x16384x1, .f32⟩
  | .hbm, ⟨33, _⟩ => ⟨S1x16384x1, .f32⟩
  | .hbm, ⟨34, _⟩ => ⟨S1x16384x1, .f32⟩
  | .hbm, ⟨35, _⟩ => ⟨S1x16384x1024, .f32⟩
  | .hbm, ⟨36, _⟩ => ⟨S1x16384x1024, .f32⟩
  | .hbm, ⟨37, _⟩ => ⟨S1x1x1024, .f32⟩
  | .hbm, ⟨38, _⟩ => ⟨S1x16384x1024, .f32⟩
  | .hbm, ⟨39, _⟩ => ⟨S1x16384x1024, .f32⟩
  | .hbm, ⟨40, _⟩ => ⟨S1024x4096, .f32⟩
  | .hbm, ⟨41, _⟩ => ⟨S1x16384x4096, .f32⟩
  | .hbm, ⟨42, _⟩ => ⟨S_, .f32⟩
  | .hbm, ⟨43, _⟩ => ⟨S1x16384x4096, .f32⟩
  | .hbm, ⟨44, _⟩ => ⟨S1x16384x4096, .f32⟩
  | .hbm, ⟨45, _⟩ => ⟨S1x16384x4096, .f32⟩
  | .hbm, ⟨46, _⟩ => ⟨S4096x1024, .f32⟩
  | .hbm, ⟨47, _⟩ => ⟨S1x16384x1024, .f32⟩
  | .hbm, ⟨48, _⟩ => ⟨S1x16384x1024, .f32⟩
  | .hbm, ⟨49, _⟩ => ⟨S1x16384x1024, .f32⟩
  | .hbm, ⟨50, _⟩ => ⟨S_, .f32⟩
  | .hbm, ⟨51, _⟩ => ⟨S1x16384, .f32⟩
  | .hbm, ⟨52, _⟩ => ⟨S1x16384x1, .f32⟩
  | .hbm, ⟨53, _⟩ => ⟨S_, .f32⟩
  | .hbm, ⟨54, _⟩ => ⟨S1x16384x1, .f32⟩
  | .hbm, ⟨55, _⟩ => ⟨S1x16384x1, .f32⟩
  | .hbm, ⟨56, _⟩ => ⟨S_, .f32⟩
  | .hbm, ⟨57, _⟩ => ⟨S1x16384x1, .f32⟩
  | .hbm, ⟨58, _⟩ => ⟨S1x16384x1, .f32⟩
  | .hbm, ⟨59, _⟩ => ⟨S1x16384x1, .f32⟩
  | .hbm, ⟨60, _⟩ => ⟨S1x16384x1024, .f32⟩
  | .hbm, ⟨61, _⟩ => ⟨S1x16384x1024, .f32⟩
  | .hbm, ⟨62, _⟩ => ⟨S1x1x1024, .f32⟩
  | .hbm, ⟨63, _⟩ => ⟨S1x16384x1024, .f32⟩
  | .hbm, ⟨64, _⟩ => ⟨S1x16384x1024, .f32⟩
  | .hbm, ⟨65, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Kernel4.lean ====
abbrev S8x64x1024 : Shape := ⟨3, ![8, 64, 1024]⟩
abbrev S1x1024 : Shape := ⟨2, ![1, 1024]⟩
abbrev S1x1024x2344 : Shape := ⟨3, ![1, 1024, 2344]⟩
abbrev S1024x2344 : Shape := ⟨2, ![1024, 2344]⟩
abbrev S1024x2048 : Shape := ⟨2, ![1024, 2048]⟩
abbrev S1024x296 : Shape := ⟨2, ![1024, 296]⟩
abbrev S_ : Shape := ⟨0, ![]⟩
abbrev S1024x384 : Shape := ⟨2, ![1024, 384]⟩
abbrev S1024 : Shape := ⟨1, ![1024]⟩
abbrev S512x1024 : Shape := ⟨2, ![512, 1024]⟩
abbrev S512x512 : Shape := ⟨2, ![512, 512]⟩
abbrev S512x384 : Shape := ⟨2, ![512, 384]⟩
abbrev S512 : Shape := ⟨1, ![512]⟩
abbrev S512x1 : Shape := ⟨2, ![512, 1]⟩
abbrev S512x2048 : Shape := ⟨2, ![512, 2048]⟩

abbrev nBuf : Space → Nat
  | .hbm => 23
  | .vmem => 11
  | .smem => 0
  | _ => 0

abbrev bufTy : (tb : Table) → Fin (tcTables nBuf tb) → BufTy
  | .hbm, ⟨0, _⟩ => ⟨S8x64x1024, .f32⟩
  | .hbm, ⟨1, _⟩ => ⟨S1x1024, .f32⟩
  | .hbm, ⟨2, _⟩ => ⟨S1x1024x2344, .f32⟩
  | .hbm, ⟨3, _⟩ => ⟨S1024x2344, .f32⟩
  | .hbm, ⟨4, _⟩ => ⟨S1024x2048, .f32⟩
  | .hbm, ⟨5, _⟩ => ⟨S1024x2048, .bf16⟩
  | .hbm, ⟨6, _⟩ => ⟨S1024x296, .f32⟩
  | .hbm, ⟨7, _⟩ => ⟨S_, .i32⟩
  | .hbm, ⟨8, _⟩ => ⟨S_, .f32⟩
  | .hbm, ⟨9, _⟩ => ⟨S1024x384, .f32⟩
  | .hbm, ⟨10, _⟩ => ⟨S1024x384, .bf16⟩
  | .hbm, ⟨11, _⟩ => ⟨S1024x384, .f32⟩
  | .hbm, ⟨12, _⟩ => ⟨S1024x384, .f32⟩
  | .hbm, ⟨13, _⟩ => ⟨S1024x384, .bf16⟩
  | .hbm, ⟨14, _⟩ => ⟨S1024, .f32⟩
  | .hbm, ⟨15, _⟩ => ⟨S1x1024, .f32⟩
  | .hbm, ⟨16, _⟩ => ⟨S512x1024, .f32⟩
  | .hbm, ⟨17, _⟩ => ⟨S512x512, .f32⟩
  | .hbm, ⟨18, _⟩ => ⟨S512x512, .bf16⟩
  | .hbm, ⟨19, _⟩ => ⟨S512x512, .f32⟩
  | .hbm, ⟨20, _⟩ => ⟨S512x512, .bf16⟩
  | .hbm, ⟨21, _⟩ => ⟨S512x512, .f32⟩
  | .hbm, ⟨22, _⟩ => ⟨S512x384, .f32⟩
  | .local _ .vmem, ⟨0, _⟩ => ⟨S512x1024, .f32⟩
  | .local _ .vmem, ⟨1, _⟩ => ⟨S1x1024, .f32⟩
  | .local _ .vmem, ⟨2, _⟩ => ⟨S1024x2048, .bf16⟩
  | .local _ .vmem, ⟨3, _⟩ => ⟨S1024x384, .bf16⟩
  | .local _ .vmem, ⟨4, _⟩ => ⟨S1024x384, .bf16⟩
  | .local _ .vmem, ⟨5, _⟩ => ⟨S512x512, .f32⟩
  | .local _ .vmem, ⟨6, _⟩ => ⟨S512x512, .bf16⟩
  | .local _ .vmem, ⟨7, _⟩ => ⟨S512x512, .f32⟩
  | .local _ .vmem, ⟨8, _⟩ => ⟨S512x512, .bf16⟩
  | .local _ .vmem, ⟨9, _⟩ => ⟨S512x512, .f32⟩
  | .local _ .vmem, ⟨10, _⟩ => ⟨S512x384, .f32⟩
  | _, _ => ⟨S8x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev main_v12_4 : Ref sig .tc := ⟨.hbm, 21, rfl⟩
abbrev main_v12_5 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference4Ideal.lean ====
abbrev S8x64x1024 : Shape := ⟨3, ![8, 64, 1024]⟩
abbrev S1x1024 : Shape := ⟨2, ![1, 1024]⟩
abbrev S1x1024x2344 : Shape := ⟨3, ![1, 1024, 2344]⟩
abbrev S1024 : Shape := ⟨1, ![1024]⟩
abbrev S_ : Shape := ⟨0, ![]⟩
abbrev S8x64 : Shape := ⟨2, ![8, 64]⟩
abbrev S8x64x1 : Shape := ⟨3, ![8, 64, 1]⟩
abbrev S1x1x1024 : Shape := ⟨3, ![1, 1, 1024]⟩
abbrev S1024x2344 : Shape := ⟨2, ![1024, 2344]⟩
abbrev S8x64x2344 : Shape := ⟨3, ![8, 64, 2344]⟩
abbrev S512x2344 : Shape := ⟨2, ![512, 2344]⟩
abbrev S512x512 : Shape := ⟨2, ![512, 512]⟩
abbrev S512x256 : Shape := ⟨2, ![512, 256]⟩
abbrev S512x32 : Shape := ⟨2, ![512, 32]⟩
abbrev S512x8 : Shape := ⟨2, ![512, 8]⟩

abbrev nBuf : Space → Nat
  | .hbm => 35
  | .vmem => 0
  | .smem => 0
  | _ => 0

abbrev bufTy : (tb : Table) → Fin (tcTables nBuf tb) → BufTy
  | .hbm, ⟨0, _⟩ => ⟨S8x64x1024, .f32⟩
  | .hbm, ⟨1, _⟩ => ⟨S1x1024, .f32⟩
  | .hbm, ⟨2, _⟩ => ⟨S1x1024x2344, .f32⟩
  | .hbm, ⟨3, _⟩ => ⟨S1024, .f32⟩
  | .hbm, ⟨4, _⟩ => ⟨S8x64x1024, .f32⟩
  | .hbm, ⟨5, _⟩ => ⟨S_, .f32⟩
  | .hbm, ⟨6, _⟩ => ⟨S8x64, .f32⟩
  | .hbm, ⟨7, _⟩ => ⟨S8x64x1, .f32⟩
  | .hbm, ⟨8, _⟩ => ⟨S_, .f32⟩
  | .hbm, ⟨9, _⟩ => ⟨S8x64x1, .f32⟩
  | .hbm, ⟨10, _⟩ => ⟨S8x64x1, .f32⟩
  | .hbm, ⟨11, _⟩ => ⟨S_, .f32⟩
  | .hbm, ⟨12, _⟩ => ⟨S8x64x1, .f32⟩
  | .hbm, ⟨13, _⟩ => ⟨S8x64x1, .f32⟩
  | .hbm, ⟨14, _⟩ => ⟨S8x64x1, .f32⟩
  | .hbm, ⟨15, _⟩ => ⟨S8x64x1024, .f32⟩
  | .hbm, ⟨16, _⟩ => ⟨S8x64x1024, .f32⟩
  | .hbm, ⟨17, _⟩ => ⟨S1x1x1024, .f32⟩
  | .hbm, ⟨18, _⟩ => ⟨S8x64x1024, .f32⟩
  | .hbm, ⟨19, _⟩ => ⟨S8x64x1024, .f32⟩
  | .hbm, ⟨20, _⟩ => ⟨S1024x2344, .f32⟩
  | .hbm, ⟨21, _⟩ => ⟨S8x64x2344, .f32⟩
  | .hbm, ⟨22, _⟩ => ⟨S512x2344, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S512x256, .f32⟩
  | .hbm, ⟨28, _⟩ => ⟨S512x32, .f32⟩
  | .hbm, ⟨29, _⟩ => ⟨S512x8, .f32⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S512x512, .bf16⟩
  | .hbm, ⟨34, _⟩ => ⟨S512x512, .bf16⟩
  | _, _ => ⟨S8x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Kernel5.lean ====
abbrev S8x64x1024 : Shape := ⟨3, ![8, 64, 1024]⟩
abbrev S1x1024 : Shape := ⟨2, ![1, 1024]⟩
abbrev S1x1024x2344 : Shape := ⟨3, ![1, 1024, 2344]⟩
abbrev S1024x2344 : Shape := ⟨2, ![1024, 2344]⟩
abbrev S1024x2048 : Shape := ⟨2, ![1024, 2048]⟩
abbrev S1024x296 : Shape := ⟨2, ![1024, 296]⟩
abbrev S_ : Shape := ⟨0, ![]⟩
abbrev S1024x384 : Shape := ⟨2, ![1024, 384]⟩
abbrev S1024 : Shape := ⟨1, ![1024]⟩
abbrev S512x1024 : Shape := ⟨2, ![512, 1024]⟩
abbrev S512x512 : Shape := ⟨2, ![512, 512]⟩
abbrev S512x384 : Shape := ⟨2, ![512, 384]⟩
abbrev S512 : Shape := ⟨1, ![512]⟩
abbrev S512x1 : Shape := ⟨2, ![512, 1]⟩
abbrev S512x2048 : Shape := ⟨2, ![512, 2048]⟩

abbrev nBuf : Space → Nat
  | .hbm => 23
  | .vmem => 11
  | .smem => 0
  | _ => 0

abbrev bufTy : (tb : Table) → Fin (tcTables nBuf tb) → BufTy
  | .hbm, ⟨0, _⟩ => ⟨S8x64x1024, .f32⟩
  | .hbm, ⟨1, _⟩ => ⟨S1x1024, .f32⟩
  | .hbm, ⟨2, _⟩ => ⟨S1x1024x2344, .f32⟩
  | .hbm, ⟨3, _⟩ => ⟨S1024x2344, .f32⟩
  | .hbm, ⟨4, _⟩ => ⟨S1024x2048, .f32⟩
  | .hbm, ⟨5, _⟩ => ⟨S1024x2048, .bf16⟩
  | .hbm, ⟨6, _⟩ => ⟨S1024x296, .f32⟩
  | .hbm, ⟨7, _⟩ => ⟨S_, .i32⟩
  | .hbm, ⟨8, _⟩ => ⟨S_, .f32⟩
  | .hbm, ⟨9, _⟩ => ⟨S1024x384, .f32⟩
  | .hbm, ⟨10, _⟩ => ⟨S1024x384, .bf16⟩
  | .hbm, ⟨11, _⟩ => ⟨S1024x384, .f32⟩
  | .hbm, ⟨12, _⟩ => ⟨S1024x384, .f32⟩
  | .hbm, ⟨13, _⟩ => ⟨S1024x384, .bf16⟩
  | .hbm, ⟨14, _⟩ => ⟨S1024, .f32⟩
  | .hbm, ⟨15, _⟩ => ⟨S1x1024, .f32⟩
  | .hbm, ⟨16, _⟩ => ⟨S512x1024, .f32⟩
  | .hbm, ⟨17, _⟩ => ⟨S512x512, .f32⟩
  | .hbm, ⟨18, _⟩ => ⟨S512x512, .bf16⟩
  | .hbm, ⟨19, _⟩ => ⟨S512x512, .f32⟩
  | .hbm, ⟨20, _⟩ => ⟨S512x512, .bf16⟩
  | .hbm, ⟨21, _⟩ => ⟨S512x512, .f32⟩
  | .hbm, ⟨22, _⟩ => ⟨S512x384, .f32⟩
  | .local _ .vmem, ⟨0, _⟩ => ⟨S512x1024, .f32⟩
  | .local _ .vmem, ⟨1, _⟩ => ⟨S1x1024, .f32⟩
  | .local _ .vmem, ⟨2, _⟩ => ⟨S1024x2048, .bf16⟩
  | .local _ .vmem, ⟨3, _⟩ => ⟨S1024x384, .bf16⟩
  | .local _ .vmem, ⟨4, _⟩ => ⟨S1024x384, .bf16⟩
  | .local _ .vmem, ⟨5, _⟩ => ⟨S512x512, .f32⟩
  | .local _ .vmem, ⟨6, _⟩ => ⟨S512x512, .bf16⟩
  | .local _ .vmem, ⟨7, _⟩ => ⟨S512x512, .f32⟩
  | .local _ .vmem, ⟨8, _⟩ => ⟨S512x512, .bf16⟩
  | .local _ .vmem, ⟨9, _⟩ => ⟨S512x512, .f32⟩
  | .local _ .vmem, ⟨10, _⟩ => ⟨S512x384, .f32⟩
  | _, _ => ⟨S8x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev main_v12_4 : Ref sig .tc := ⟨.hbm, 21, rfl⟩
abbrev main_v12_5 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference5Ideal.lean ====
abbrev S8x64x1024 : Shape := ⟨3, ![8, 64, 1024]⟩
abbrev S1x1024 : Shape := ⟨2, ![1, 1024]⟩
abbrev S1x1024x2344 : Shape := ⟨3, ![1, 1024, 2344]⟩
abbrev S1024 : Shape := ⟨1, ![1024]⟩
abbrev S_ : Shape := ⟨0, ![]⟩
abbrev S8x64 : Shape := ⟨2, ![8, 64]⟩
abbrev S8x64x1 : Shape := ⟨3, ![8, 64, 1]⟩
abbrev S1x1x1024 : Shape := ⟨3, ![1, 1, 1024]⟩
abbrev S1024x2344 : Shape := ⟨2, ![1024, 2344]⟩
abbrev S8x64x2344 : Shape := ⟨3, ![8, 64, 2344]⟩
abbrev S512x2344 : Shape := ⟨2, ![512, 2344]⟩
abbrev S512x512 : Shape := ⟨2, ![512, 512]⟩
abbrev S512x256 : Shape := ⟨2, ![512, 256]⟩
abbrev S512x32 : Shape := ⟨2, ![512, 32]⟩
abbrev S512x8 : Shape := ⟨2, ![512, 8]⟩
abbrev S512x88 : Shape := ⟨2, ![512, 88]⟩
abbrev S512x384 : Shape := ⟨2, ![512, 384]⟩

abbrev nBuf : Space → Nat
  | .hbm => 33
  | .vmem => 0
  | .smem => 0
  | _ => 0

abbrev bufTy : (tb : Table) → Fin (tcTables nBuf tb) → BufTy
  | .hbm, ⟨0, _⟩ => ⟨S8x64x1024, .f32⟩
  | .hbm, ⟨1, _⟩ => ⟨S1x1024, .f32⟩
  | .hbm, ⟨2, _⟩ => ⟨S1x1024x2344, .f32⟩
  | .hbm, ⟨3, _⟩ => ⟨S1024, .f32⟩
  | .hbm, ⟨4, _⟩ => ⟨S8x64x1024, .f32⟩
  | .hbm, ⟨5, _⟩ => ⟨S_, .f32⟩
  | .hbm, ⟨6, _⟩ => ⟨S8x64, .f32⟩
  | .hbm, ⟨7, _⟩ => ⟨S8x64x1, .f32⟩
  | .hbm, ⟨8, _⟩ => ⟨S_, .f32⟩
  | .hbm, ⟨9, _⟩ => ⟨S8x64x1, .f32⟩
  | .hbm, ⟨10, _⟩ => ⟨S8x64x1, .f32⟩
  | .hbm, ⟨11, _⟩ => ⟨S_, .f32⟩
  | .hbm, ⟨12, _⟩ => ⟨S8x64x1, .f32⟩
  | .hbm, ⟨13, _⟩ => ⟨S8x64x1, .f32⟩
  | .hbm, ⟨14, _⟩ => ⟨S8x64x1, .f32⟩
  | .hbm, ⟨15, _⟩ => ⟨S8x64x1024, .f32⟩
  | .hbm, ⟨16, _⟩ => ⟨S8x64x1024, .f32⟩
  | .hbm, ⟨17, _⟩ => ⟨S1x1x1024, .f32⟩
  | .hbm, ⟨18, _⟩ => ⟨S8x64x1024, .f32⟩
  | .hbm, ⟨19, _⟩ => ⟨S8x64x1024, .f32⟩
  | .hbm, ⟨20, _⟩ => ⟨S1024x2344, .f32⟩
  | .hbm, ⟨21, _⟩ => ⟨S8x64x2344, .f32⟩
  | .hbm, ⟨22, _⟩ => ⟨S512x2344, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S512x256, .f32⟩
  | .hbm, ⟨28, _⟩ => ⟨S512x32, .f32⟩
  | .hbm, ⟨29, _⟩ => ⟨S512x8, .f32⟩
  | .hbm, ⟨30, _⟩ => ⟨S_, .f32⟩
  | .hbm, ⟨31, _⟩ => ⟨S512x88, .f32⟩
  | .hbm, ⟨32, _⟩ => ⟨S512x384, .f32⟩
  | _, _ => ⟨S8x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel6.lean ====
abbrev S1x16384x1024 : Shape := ⟨3, ![1, 16384, 1024]⟩
abbrev S1x1024 : Shape := ⟨2, ![1, 1024]⟩
abbrev S1x1024x2344 : Shape := ⟨3, ![1, 1024, 2344]⟩
abbrev S1024x2344 : Shape := ⟨2, ![1024, 2344]⟩
abbrev S1024x2048 : Shape := ⟨2, ![1024, 2048]⟩
abbrev S1024x296 : Shape := ⟨2, ![1024, 296]⟩
abbrev S_ : Shape := ⟨0, ![]⟩
abbrev S1024x384 : Shape := ⟨2, ![1024, 384]⟩
abbrev S1024 : Shape := ⟨1, ![1024]⟩
abbrev S1x16x512 : Shape := ⟨3, ![1, 16, 512]⟩
abbrev S16384x1024 : Shape := ⟨2, ![16384, 1024]⟩
abbrev S16384x512 : Shape := ⟨2, ![16384, 512]⟩
abbrev S16x512 : Shape := ⟨2, ![16, 512]⟩
abbrev S16384x32 : Shape := ⟨2, ![16384, 32]⟩
abbrev S64x8x128x256 : Shape := ⟨4, ![64, 8, 128, 256]⟩
abbrev S64x2x128x1024 : Shape := ⟨4, ![64, 2, 128, 1024]⟩
abbrev S64x2x1x1024 : Shape := ⟨4, ![64, 2, 1, 1024]⟩
abbrev S64x8x64x256 : Shape := ⟨4, ![64, 8, 64, 256]⟩
abbrev S64x256x128 : Shape := ⟨3, ![64, 256, 128]⟩
abbrev S512x1024 : Shape := ⟨2, ![512, 1024]⟩
abbrev S512x512 : Shape := ⟨2, ![512, 512]⟩
abbrev S512x32 : Shape := ⟨2, ![512, 32]⟩
abbrev S2x8x128x256 : Shape := ⟨4, ![2, 8, 128, 256]⟩
abbrev S2x2x128x1024 : Shape := ⟨4, ![2, 2, 128, 1024]⟩
abbrev S2x2x1x1024 : Shape := ⟨4, ![2, 2, 1, 1024]⟩
abbrev S2x8x64x256 : Shape := ⟨4, ![2, 8, 64, 256]⟩
abbrev S2x256x128 : Shape := ⟨3, ![2, 256, 128]⟩
abbrev S528x512 : Shape := ⟨2, ![528, 512]⟩
abbrev S512 : Shape := ⟨1, ![512]⟩
abbrev S512x1 : Shape := ⟨2, ![512, 1]⟩
abbrev S512x2048 : Shape := ⟨2, ![512, 2048]⟩
abbrev S512x128 : Shape := ⟨2, ![512, 128]⟩
abbrev S64x256 : Shape := ⟨2, ![64, 256]⟩
abbrev S128x256 : Shape := ⟨2, ![128, 256]⟩
abbrev S1x1x128x256 : Shape := ⟨4, ![1, 1, 128, 256]⟩
abbrev S1x1x64x256 : Shape := ⟨4, ![1, 1, 64, 256]⟩
abbrev S512x384 : Shape := ⟨2, ![512, 384]⟩
abbrev S384x512 : Shape := ⟨2, ![384, 512]⟩
abbrev S256x512 : Shape := ⟨2, ![256, 512]⟩
abbrev S8x512 : Shape := ⟨2, ![8, 512]⟩
abbrev S32x128 : Shape := ⟨2, ![32, 128]⟩
abbrev S128x128 : Shape := ⟨2, ![128, 128]⟩
abbrev S1x1x128x128 : Shape := ⟨4, ![1, 1, 128, 128]⟩
abbrev S1x128 : Shape := ⟨2, ![1, 128]⟩
abbrev S1x1x1x128 : Shape := ⟨4, ![1, 1, 1, 128]⟩
abbrev S32x512 : Shape := ⟨2, ![32, 512]⟩
abbrev S128x512 : Shape := ⟨2, ![128, 512]⟩
abbrev S256x128 : Shape := ⟨2, ![256, 128]⟩
abbrev S1x256x128 : Shape := ⟨3, ![1, 256, 128]⟩

abbrev nBuf : Space → Nat
  | .hbm => 30
  | .vmem => 29
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x2344, .f32⟩
  | .hbm, ⟨3, _⟩ => ⟨S1024x2344, .f32⟩
  | .hbm, ⟨4, _⟩ => ⟨S1024x2048, .f32⟩
  | .hbm, ⟨5, _⟩ => ⟨S1024x2048, .bf16⟩
  | .hbm, ⟨6, _⟩ => ⟨S1024x296, .f32⟩
  | .hbm, ⟨7, _⟩ => ⟨S_, .i32⟩
  | .hbm, ⟨8, _⟩ => ⟨S_, .f32⟩
  | .hbm, ⟨9, _⟩ => ⟨S1024x384, .f32⟩
  | .hbm, ⟨10, _⟩ => ⟨S1024x384, .bf16⟩
  | .hbm, ⟨11, _⟩ => ⟨S1024x384, .f32⟩
  | .hbm, ⟨12, _⟩ => ⟨S1024x384, .f32⟩
  | .hbm, ⟨13, _⟩ => ⟨S1024x384, .bf16⟩
  | .hbm, ⟨14, _⟩ => ⟨S1024, .f32⟩
  | .hbm, ⟨15, _⟩ => ⟨S1x1024, .f32⟩
  | .hbm, ⟨16, _⟩ => ⟨S_, .f32⟩
  | .hbm, ⟨17, _⟩ => ⟨S1x16x512, .f32⟩
  | .hbm, ⟨18, _⟩ => ⟨S16384x1024, .f32⟩
  | .hbm, ⟨19, _⟩ => ⟨S16384x512, .bf16⟩
  | .hbm, ⟨20, _⟩ => ⟨S16x512, .f32⟩
  | .hbm, ⟨21, _⟩ => ⟨S16384x512, .f32⟩
  | .hbm, ⟨22, _⟩ => ⟨S16384x512, .bf16⟩
  | .hbm, ⟨23, _⟩ => ⟨S16384x512, .f32⟩
  | .hbm, ⟨24, _⟩ => ⟨S16384x32, .f32⟩
  | .hbm, ⟨25, _⟩ => ⟨S64x8x128x256, .bf16⟩
  | .hbm, ⟨26, _⟩ => ⟨S64x2x128x1024, .bf16⟩
  | .hbm, ⟨27, _⟩ => ⟨S64x2x1x1024, .f32⟩
  | .hbm, ⟨28, _⟩ => ⟨S64x8x64x256, .bf16⟩
  | .hbm, ⟨29, _⟩ => ⟨S64x256x128, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1024x384, .bf16⟩
  | .local _ .vmem, ⟨5, _⟩ => ⟨S1024x384, .bf16⟩
  | .local _ .vmem, ⟨6, _⟩ => ⟨S1x16x512, .f32⟩
  | .local _ .vmem, ⟨7, _⟩ => ⟨S512x512, .bf16⟩
  | .local _ .vmem, ⟨8, _⟩ => ⟨S512x512, .bf16⟩
  | .local _ .vmem, ⟨9, _⟩ => ⟨S16x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .f32⟩
  | .local _ .vmem, ⟨15, _⟩ => ⟨S512x512, .f32⟩
  | .local _ .vmem, ⟨16, _⟩ => ⟨S512x32, .f32⟩
  | .local _ .vmem, ⟨17, _⟩ => ⟨S512x32, .f32⟩
  | .local _ .vmem, ⟨18, _⟩ => ⟨S2x8x128x256, .bf16⟩
  | .local _ .vmem, ⟨19, _⟩ => ⟨S2x8x128x256, .bf16⟩
  | .local _ .vmem, ⟨20, _⟩ => ⟨S2x2x128x1024, .bf16⟩
  | .local _ .vmem, ⟨21, _⟩ => ⟨S2x2x128x1024, .bf16⟩
  | .local _ .vmem, ⟨22, _⟩ => ⟨S2x2x1x1024, .f32⟩
  | .local _ .vmem, ⟨23, _⟩ => ⟨S2x2x1x1024, .f32⟩
  | .local _ .vmem, ⟨24, _⟩ => ⟨S2x8x64x256, .bf16⟩
  | .local _ .vmem, ⟨25, _⟩ => ⟨S2x8x64x256, .bf16⟩
  | .local _ .vmem, ⟨26, _⟩ => ⟨S2x256x128, .bf16⟩
  | .local _ .vmem, ⟨27, _⟩ => ⟨S2x256x128, .bf16⟩
  | .local _ .vmem, ⟨28, _⟩ => ⟨S528x512, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev main_v13_3 : Ref sig .tc := ⟨.hbm, 22, rfl⟩
abbrev main_v13_4 : Ref sig .tc := ⟨.hbm, 23, rfl⟩
abbrev main_v13_5 : Ref sig .tc := ⟨.hbm, 24, rfl⟩
abbrev main_v13_6 : Ref sig .tc := ⟨.hbm, 25, rfl⟩
abbrev main_v13_7 : Ref sig .tc := ⟨.hbm, 26, rfl⟩
abbrev main_v13_8 : Ref sig .tc := ⟨.hbm, 27, rfl⟩
abbrev main_v13_9 : Ref sig .tc := ⟨.hbm, 28, rfl⟩
abbrev main_v13_10 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x8x128x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x2x128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x2x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x8x64x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x256x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference6Ideal.lean ====
abbrev S1x16384x1024 : Shape := ⟨3, ![1, 16384, 1024]⟩
abbrev S1x1024 : Shape := ⟨2, ![1, 1024]⟩
abbrev S1x1024x2344 : Shape := ⟨3, ![1, 1024, 2344]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1024x2344 : Shape := ⟨2, ![1024, 2344]⟩
abbrev S1x16384x2344 : Shape := ⟨3, ![1, 16384, 2344]⟩
abbrev S16384x2344 : Shape := ⟨2, ![16384, 2344]⟩
abbrev S16384x512 : Shape := ⟨2, ![16384, 512]⟩
abbrev S16384x256 : Shape := ⟨2, ![16384, 256]⟩
abbrev S16384x32 : Shape := ⟨2, ![16384, 32]⟩
abbrev S16384x8 : Shape := ⟨2, ![16384, 8]⟩
abbrev S15x512 : Shape := ⟨2, ![15, 512]⟩
abbrev S16399x512 : Shape := ⟨2, ![16399, 512]⟩
abbrev S16384x128 : Shape := ⟨2, ![16384, 128]⟩
abbrev S16384 : Shape := ⟨1, ![16384]⟩
abbrev S16384x1 : Shape := ⟨2, ![16384, 1]⟩
abbrev S64x256x8x64 : Shape := ⟨4, ![64, 256, 8, 64]⟩
abbrev S64x8x64x256 : Shape := ⟨4, ![64, 8, 64, 256]⟩
abbrev S8 : Shape := ⟨1, ![8]⟩
abbrev S1x8x1x1 : Shape := ⟨4, ![1, 8, 1, 1]⟩
abbrev S64x8x128x256 : Shape := ⟨4, ![64, 8, 128, 256]⟩
abbrev S16x512 : Shape := ⟨2, ![16, 512]⟩

abbrev nBuf : Space → Nat
  | .hbm => 185
  | .vmem => 0
  | .smem => 0
  | _ => 0

abbrev hbmTy0_0 (i : Nat) : BufTy := match i % 128 with
  | 0 => ⟨S1x16384x1024, .f32⟩
  | 1 => ⟨S1x1024, .f32⟩
  | 2 => ⟨S1x1024x2344, .f32⟩
  | 3 => ⟨S1024, .f32⟩
  | 4 => ⟨S1x16384x1024, .f32⟩
  | 5 => ⟨S_, .f32⟩
  | 6 => ⟨S1x16384, .f32⟩
  | 7 => ⟨S1x16384x1, .f32⟩
  | 8 => ⟨S_, .f32⟩
  | 9 => ⟨S1x16384x1, .f32⟩
  | 10 => ⟨S1x16384x1, .f32⟩
  | 11 => ⟨S_, .f32⟩
  | 12 => ⟨S1x16384x1, .f32⟩
  | 13 => ⟨S1x16384x1, .f32⟩
  | 14 => ⟨S1x16384x1, .f32⟩
  | 15 => ⟨S1x16384x1024, .f32⟩
  | 16 => ⟨S1x16384x1024, .f32⟩
  | 17 => ⟨S1x1x1024, .f32⟩
  | 18 => ⟨S1x16384x1024, .f32⟩
  | 19 => ⟨S1x16384x1024, .f32⟩
  | 20 => ⟨S1024x2344, .f32⟩
  | 21 => ⟨S1x16384x2344, .f32⟩
  | 22 => ⟨S16384x2344, .f32⟩
  | 23 => ⟨S16384x512, .f32⟩
  | 24 => ⟨S16384x512, .f32⟩
  | 25 => ⟨S16384x512, .f32⟩
  | 26 => ⟨S16384x512, .f32⟩
  | 27 => ⟨S16384x256, .f32⟩
  | 28 => ⟨S16384x32, .f32⟩
  | 29 => ⟨S16384x8, .f32⟩
  | 30 => ⟨S_, .f32⟩
  | 31 => ⟨S15x512, .f32⟩
  | 32 => ⟨S16399x512, .f32⟩
  | 33 => ⟨S16384x128, .f32⟩
  | 34 => ⟨S_, .f32⟩
  | 35 => ⟨S16384x128, .f32⟩
  | 36 => ⟨S16384x128, .f32⟩
  | 37 => ⟨S16384x128, .f32⟩
  | 38 => ⟨S16384x128, .f32⟩
  | 39 => ⟨S16384, .i32⟩
  | 40 => ⟨S_, .i32⟩
  | 41 => ⟨S16384, .i32⟩
  | 42 => ⟨S16384, .i32⟩
  | 43 => ⟨S_, .i32⟩
  | 44 => ⟨S16384, .i32⟩
  | 45 => ⟨S16384, .i32⟩
  | 46 => ⟨S16384, .f32⟩
  | 47 => ⟨S16384x1, .f32⟩
  | 48 => ⟨S16384x128, .f32⟩
  | 49 => ⟨S16384x128, .f32⟩
  | 50 => ⟨S16384x128, .f32⟩
  | 51 => ⟨S16384x128, .f32⟩
  | 52 => ⟨S16384x128, .f32⟩
  | 53 => ⟨S_, .f32⟩
  | 54 => ⟨S16384x128, .f32⟩
  | 55 => ⟨S16384x128, .f32⟩
  | 56 => ⟨S16384x128, .f32⟩
  | 57 => ⟨S16384x128, .f32⟩
  | 58 => ⟨S16384x128, .f32⟩
  | 59 => ⟨S16384x128, .f32⟩
  | 60 => ⟨S16384x128, .f32⟩
  | 61 => ⟨S16384x128, .f32⟩
  | 62 => ⟨S16384, .i32⟩
  | 63 => ⟨S_, .i32⟩
  | 64 => ⟨S16384, .i32⟩
  | 65 => ⟨S16384, .i32⟩
  | 66 => ⟨S_, .i32⟩
  | 67 => ⟨S16384, .i32⟩
  | 68 => ⟨S16384, .i32⟩
  | 69 => ⟨S16384, .f32⟩
  | 70 => ⟨S16384x1, .f32⟩
  | 71 => ⟨S16384x128, .f32⟩
  | 72 => ⟨S16384x128, .f32⟩
  | 73 => ⟨S16384x128, .f32⟩
  | 74 => ⟨S16384x128, .f32⟩
  | 75 => ⟨S16384x128, .f32⟩
  | 76 => ⟨S_, .f32⟩
  | 77 => ⟨S16384x128, .f32⟩
  | 78 => ⟨S16384x128, .f32⟩
  | 79 => ⟨S16384x128, .f32⟩
  | 80 => ⟨S16384x128, .f32⟩
  | 81 => ⟨S16384x128, .f32⟩
  | 82 => ⟨S16384x128, .f32⟩
  | 83 => ⟨S16384x128, .f32⟩
  | 84 => ⟨S16384x128, .f32⟩
  | 85 => ⟨S16384x128, .f32⟩
  | 86 => ⟨S16384x128, .f32⟩
  | 87 => ⟨S16384x128, .f32⟩
  | 88 => ⟨S16384x128, .f32⟩
  | 89 => ⟨S16384x128, .f32⟩
  | 90 => ⟨S16384x128, .f32⟩
  | 91 => ⟨S16384x128, .f32⟩
  | 92 => ⟨S16384x128, .f32⟩
  | 93 => ⟨S16384, .i32⟩
  | 94 => ⟨S_, .i32⟩
  | 95 => ⟨S16384, .i32⟩
  | 96 => ⟨S16384, .i32⟩
  | 97 => ⟨S_, .i32⟩
  | 98 => ⟨S16384, .i32⟩
  | 99 => ⟨S16384, .i32⟩
  | 100 => ⟨S16384, .f32⟩
  | 101 => ⟨S16384x1, .f32⟩
  | 102 => ⟨S16384x128, .f32⟩
  | 103 => ⟨S16384x128, .f32⟩
  | 104 => ⟨S16384x128, .f32⟩
  | 105 => ⟨S16384x128, .f32⟩
  | 106 => ⟨S16384x128, .f32⟩
  | 107 => ⟨S_, .f32⟩
  | 108 => ⟨S16384x128, .f32⟩
  | 109 => ⟨S16384x128, .f32⟩
  | 110 => ⟨S16384x128, .f32⟩
  | 111 => ⟨S16384x128, .f32⟩
  | 112 => ⟨S16384x128, .f32⟩
  | 113 => ⟨S16384x128, .f32⟩
  | 114 => ⟨S16384x128, .f32⟩
  | 115 => ⟨S16384x128, .f32⟩
  | 116 => ⟨S16384x128, .f32⟩
  | 117 => ⟨S16384x128, .f32⟩
  | 118 => ⟨S16384x128, .f32⟩
  | 119 => ⟨S16384x128, .f32⟩
  | 120 => ⟨S16384x128, .f32⟩
  | 121 => ⟨S16384x128, .f32⟩
  | 122 => ⟨S16384x128, .f32⟩
  | 123 => ⟨S16384x128, .f32⟩
  | 124 => ⟨S16384x128, .f32⟩
  | 125 => ⟨S16384x128, .f32⟩
  | 126 => ⟨S16384x128, .f32⟩
  | 127 => ⟨S16384x128, .f32⟩
  | _ => ⟨S1x16384x1024, .f32⟩

abbrev hbmTy0_1 (i : Nat) : BufTy := match i % 128 with
  | 0 => ⟨S16384x128, .f32⟩
  | 1 => ⟨S16384x128, .f32⟩
  | 2 => ⟨S16384x128, .f32⟩
  | 3 => ⟨S16384x128, .f32⟩
  | 4 => ⟨S16384x128, .f32⟩
  | 5 => ⟨S16384x128, .f32⟩
  | 6 => ⟨S16384x128, .f32⟩
  | 7 => ⟨S16384x128, .f32⟩
  | 8 => ⟨S16384x128, .f32⟩
  | 9 => ⟨S16384x128, .f32⟩
  | 10 => ⟨S16384x128, .f32⟩
  | 11 => ⟨S16384x128, .f32⟩
  | 12 => ⟨S16384, .i32⟩
  | 13 => ⟨S_, .i32⟩
  | 14 => ⟨S16384, .i32⟩
  | 15 => ⟨S16384, .i32⟩
  | 16 => ⟨S_, .i32⟩
  | 17 => ⟨S16384, .i32⟩
  | 18 => ⟨S16384, .i32⟩
  | 19 => ⟨S16384, .f32⟩
  | 20 => ⟨S16384x1, .f32⟩
  | 21 => ⟨S16384x128, .f32⟩
  | 22 => ⟨S16384x128, .f32⟩
  | 23 => ⟨S16384x128, .f32⟩
  | 24 => ⟨S16384x128, .f32⟩
  | 25 => ⟨S_, .f32⟩
  | 26 => ⟨S16384x512, .f32⟩
  | 27 => ⟨S16384x512, .f32⟩
  | 28 => ⟨S16384x512, .bf16⟩
  | 29 => ⟨S64x256x8x64, .bf16⟩
  | 30 => ⟨S64x8x64x256, .bf16⟩
  | 31 => ⟨S8, .i32⟩
  | 32 => ⟨S_, .i32⟩
  | 33 => ⟨S8, .i32⟩
  | 34 => ⟨S8, .i32⟩
  | 35 => ⟨S_, .i32⟩
  | 36 => ⟨S8, .i32⟩
  | 37 => ⟨S8, .i1⟩
  | 38 => ⟨S1x8x1x1, .i1⟩
  | 39 => ⟨S_, .i32⟩
  | 40 => ⟨S_, .bf16⟩
  | 41 => ⟨S64x8x64x256, .i1⟩
  | 42 => ⟨S64x8x64x256, .bf16⟩
  | 43 => ⟨S64x8x64x256, .bf16⟩
  | 44 => ⟨S_, .i32⟩
  | 45 => ⟨S_, .bf16⟩
  | 46 => ⟨S64x8x64x256, .i1⟩
  | 47 => ⟨S64x8x64x256, .bf16⟩
  | 48 => ⟨S64x8x64x256, .bf16⟩
  | 49 => ⟨S64x8x128x256, .bf16⟩
  | 50 => ⟨S16384x512, .f32⟩
  | 51 => ⟨S16384x512, .bf16⟩
  | 52 => ⟨S16x512, .f32⟩
  | 53 => ⟨S16384x512, .bf16⟩
  | 54 => ⟨S16384x512, .bf16⟩
  | 55 => ⟨S64x256x8x64, .bf16⟩
  | 56 => ⟨S64x8x64x256, .bf16⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c : Ref sig .tc := ⟨.hbm, 40, rfl⟩
abbrev main_v32 : Ref sig .tc := ⟨.hbm, 41, rfl⟩
abbrev main_v33 : Ref sig .tc := ⟨.hbm, 42, rfl⟩
abbrev main_c_4 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_c_6 : Ref sig .tc := ⟨.hbm, 63, rfl⟩
abbrev main_v52 : Ref sig .tc := ⟨.hbm, 64, rfl⟩
abbrev main_v53 : Ref sig .tc := ⟨.hbm, 65, rfl⟩
abbrev main_c_7 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_8 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_c_9 : Ref sig .tc := ⟨.hbm, 94, rfl⟩
abbrev main_v80 : Ref sig .tc := ⟨.hbm, 95, rfl⟩
abbrev main_v81 : Ref sig .tc := ⟨.hbm, 96, rfl⟩
abbrev main_c_10 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_cst_11 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_c_12 : Ref sig .tc := ⟨.hbm, 141, rfl⟩
abbrev main_v124 : Ref sig .tc := ⟨.hbm, 142, rfl⟩
abbrev main_v125 : Ref sig .tc := ⟨.hbm, 143, rfl⟩
abbrev main_c_13 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_cst_14 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_c_15 : Ref sig .tc := ⟨.hbm, 160, rfl⟩
abbrev main_v140 : Ref sig .tc := ⟨.hbm, 161, rfl⟩
abbrev main_v141 : Ref sig .tc := ⟨.hbm, 162, rfl⟩
abbrev main_c_16 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_c_17 : Ref sig .tc := ⟨.hbm, 167, rfl⟩
abbrev main_call0_v0 : Ref sig .tc := ⟨.hbm, 168, rfl⟩
abbrev main_call0_v1 : Ref sig .tc := ⟨.hbm, 169, rfl⟩
abbrev main_call0_v2 : Ref sig .tc := ⟨.hbm, 170, rfl⟩
abbrev main_v145 : Ref sig .tc := ⟨.hbm, 171, rfl⟩
abbrev main_c_18 : Ref sig .tc := ⟨.hbm, 172, rfl⟩
abbrev main_call1_v0 : Ref sig .tc := ⟨.hbm, 173, rfl⟩
abbrev main_call1_v1 : Ref sig .tc := ⟨.hbm, 174, rfl⟩
abbrev main_call1_v2 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩

abbrev nD : Nat := 1
abbrev τ : Topo := Topo.v7x

variable {F : FTy → Type} [FloatOps F]
-- ==== Kernel7.lean ====
abbrev S1x16384x1024 : Shape := ⟨3, ![1, 16384, 1024]⟩
abbrev S1x1024 : Shape := ⟨2, ![1, 1024]⟩
abbrev S1x1024x2344 : Shape := ⟨3, ![1, 1024, 2344]⟩
abbrev S1024x2344 : Shape := ⟨2, ![1024, 2344]⟩
abbrev S1024x2048 : Shape := ⟨2, ![1024, 2048]⟩
abbrev S1024x296 : Shape := ⟨2, ![1024, 296]⟩
abbrev S_ : Shape := ⟨0, ![]⟩
abbrev S1024x384 : Shape := ⟨2, ![1024, 384]⟩
abbrev S1024 : Shape := ⟨1, ![1024]⟩
abbrev S1x16x512 : Shape := ⟨3, ![1, 16, 512]⟩
abbrev S16384x1024 : Shape := ⟨2, ![16384, 1024]⟩
abbrev S16384x512 : Shape := ⟨2, ![16384, 512]⟩
abbrev S16x512 : Shape := ⟨2, ![16, 512]⟩
abbrev S16384x32 : Shape := ⟨2, ![16384, 32]⟩
abbrev S64x8x128x256 : Shape := ⟨4, ![64, 8, 128, 256]⟩
abbrev S64x2x128x1024 : Shape := ⟨4, ![64, 2, 128, 1024]⟩
abbrev S64x2x1x1024 : Shape := ⟨4, ![64, 2, 1, 1024]⟩
abbrev S64x8x64x256 : Shape := ⟨4, ![64, 8, 64, 256]⟩
abbrev S64x256x128 : Shape := ⟨3, ![64, 256, 128]⟩
abbrev S512x1024 : Shape := ⟨2, ![512, 1024]⟩
abbrev S512x512 : Shape := ⟨2, ![512, 512]⟩
abbrev S512x32 : Shape := ⟨2, ![512, 32]⟩
abbrev S2x8x128x256 : Shape := ⟨4, ![2, 8, 128, 256]⟩
abbrev S2x2x128x1024 : Shape := ⟨4, ![2, 2, 128, 1024]⟩
abbrev S2x2x1x1024 : Shape := ⟨4, ![2, 2, 1, 1024]⟩
abbrev S2x8x64x256 : Shape := ⟨4, ![2, 8, 64, 256]⟩
abbrev S2x256x128 : Shape := ⟨3, ![2, 256, 128]⟩
abbrev S528x512 : Shape := ⟨2, ![528, 512]⟩
abbrev S512 : Shape := ⟨1, ![512]⟩
abbrev S512x1 : Shape := ⟨2, ![512, 1]⟩
abbrev S512x2048 : Shape := ⟨2, ![512, 2048]⟩
abbrev S512x128 : Shape := ⟨2, ![512, 128]⟩
abbrev S64x256 : Shape := ⟨2, ![64, 256]⟩
abbrev S128x256 : Shape := ⟨2, ![128, 256]⟩
abbrev S1x1x128x256 : Shape := ⟨4, ![1, 1, 128, 256]⟩
abbrev S1x1x64x256 : Shape := ⟨4, ![1, 1, 64, 256]⟩
abbrev S512x384 : Shape := ⟨2, ![512, 384]⟩
abbrev S384x512 : Shape := ⟨2, ![384, 512]⟩
abbrev S256x512 : Shape := ⟨2, ![256, 512]⟩
abbrev S8x512 : Shape := ⟨2, ![8, 512]⟩
abbrev S32x128 : Shape := ⟨2, ![32, 128]⟩
abbrev S128x128 : Shape := ⟨2, ![128, 128]⟩
abbrev S1x1x128x128 : Shape := ⟨4, ![1, 1, 128, 128]⟩
abbrev S1x128 : Shape := ⟨2, ![1, 128]⟩
abbrev S1x1x1x128 : Shape := ⟨4, ![1, 1, 1, 128]⟩
abbrev S32x512 : Shape := ⟨2, ![32, 512]⟩
abbrev S128x512 : Shape := ⟨2, ![128, 512]⟩
abbrev S256x128 : Shape := ⟨2, ![256, 128]⟩
abbrev S1x256x128 : Shape := ⟨3, ![1, 256, 128]⟩

abbrev nBuf : Space → Nat
  | .hbm => 30
  | .vmem => 29
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x2344, .f32⟩
  | .hbm, ⟨3, _⟩ => ⟨S1024x2344, .f32⟩
  | .hbm, ⟨4, _⟩ => ⟨S1024x2048, .f32⟩
  | .hbm, ⟨5, _⟩ => ⟨S1024x2048, .bf16⟩
  | .hbm, ⟨6, _⟩ => ⟨S1024x296, .f32⟩
  | .hbm, ⟨7, _⟩ => ⟨S_, .i32⟩
  | .hbm, ⟨8, _⟩ => ⟨S_, .f32⟩
  | .hbm, ⟨9, _⟩ => ⟨S1024x384, .f32⟩
  | .hbm, ⟨10, _⟩ => ⟨S1024x384, .bf16⟩
  | .hbm, ⟨11, _⟩ => ⟨S1024x384, .f32⟩
  | .hbm, ⟨12, _⟩ => ⟨S1024x384, .f32⟩
  | .hbm, ⟨13, _⟩ => ⟨S1024x384, .bf16⟩
  | .hbm, ⟨14, _⟩ => ⟨S1024, .f32⟩
  | .hbm, ⟨15, _⟩ => ⟨S1x1024, .f32⟩
  | .hbm, ⟨16, _⟩ => ⟨S_, .f32⟩
  | .hbm, ⟨17, _⟩ => ⟨S1x16x512, .f32⟩
  | .hbm, ⟨18, _⟩ => ⟨S16384x1024, .f32⟩
  | .hbm, ⟨19, _⟩ => ⟨S16384x512, .bf16⟩
  | .hbm, ⟨20, _⟩ => ⟨S16x512, .f32⟩
  | .hbm, ⟨21, _⟩ => ⟨S16384x512, .f32⟩
  | .hbm, ⟨22, _⟩ => ⟨S16384x512, .bf16⟩
  | .hbm, ⟨23, _⟩ => ⟨S16384x512, .f32⟩
  | .hbm, ⟨24, _⟩ => ⟨S16384x32, .f32⟩
  | .hbm, ⟨25, _⟩ => ⟨S64x8x128x256, .bf16⟩
  | .hbm, ⟨26, _⟩ => ⟨S64x2x128x1024, .bf16⟩
  | .hbm, ⟨27, _⟩ => ⟨S64x2x1x1024, .f32⟩
  | .hbm, ⟨28, _⟩ => ⟨S64x8x64x256, .bf16⟩
  | .hbm, ⟨29, _⟩ => ⟨S64x256x128, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1024x384, .bf16⟩
  | .local _ .vmem, ⟨5, _⟩ => ⟨S1024x384, .bf16⟩
  | .local _ .vmem, ⟨6, _⟩ => ⟨S1x16x512, .f32⟩
  | .local _ .vmem, ⟨7, _⟩ => ⟨S512x512, .bf16⟩
  | .local _ .vmem, ⟨8, _⟩ => ⟨S512x512, .bf16⟩
  | .local _ .vmem, ⟨9, _⟩ => ⟨S16x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .f32⟩
  | .local _ .vmem, ⟨15, _⟩ => ⟨S512x512, .f32⟩
  | .local _ .vmem, ⟨16, _⟩ => ⟨S512x32, .f32⟩
  | .local _ .vmem, ⟨17, _⟩ => ⟨S512x32, .f32⟩
  | .local _ .vmem, ⟨18, _⟩ => ⟨S2x8x128x256, .bf16⟩
  | .local _ .vmem, ⟨19, _⟩ => ⟨S2x8x128x256, .bf16⟩
  | .local _ .vmem, ⟨20, _⟩ => ⟨S2x2x128x1024, .bf16⟩
  | .local _ .vmem, ⟨21, _⟩ => ⟨S2x2x128x1024, .bf16⟩
  | .local _ .vmem, ⟨22, _⟩ => ⟨S2x2x1x1024, .f32⟩
  | .local _ .vmem, ⟨23, _⟩ => ⟨S2x2x1x1024, .f32⟩
  | .local _ .vmem, ⟨24, _⟩ => ⟨S2x8x64x256, .bf16⟩
  | .local _ .vmem, ⟨25, _⟩ => ⟨S2x8x64x256, .bf16⟩
  | .local _ .vmem, ⟨26, _⟩ => ⟨S2x256x128, .bf16⟩
  | .local _ .vmem, ⟨27, _⟩ => ⟨S2x256x128, .bf16⟩
  | .local _ .vmem, ⟨28, _⟩ => ⟨S528x512, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev main_v13_3 : Ref sig .tc := ⟨.hbm, 22, rfl⟩
abbrev main_v13_4 : Ref sig .tc := ⟨.hbm, 23, rfl⟩
abbrev main_v13_5 : Ref sig .tc := ⟨.hbm, 24, rfl⟩
abbrev main_v13_6 : Ref sig .tc := ⟨.hbm, 25, rfl⟩
abbrev main_v13_7 : Ref sig .tc := ⟨.hbm, 26, rfl⟩
abbrev main_v13_8 : Ref sig .tc := ⟨.hbm, 27, rfl⟩
abbrev main_v13_9 : Ref sig .tc := ⟨.hbm, 28, rfl⟩
abbrev main_v13_10 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x8x128x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x2x128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x2x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x8x64x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x256x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference7Ideal.lean ====
abbrev S1x16384x1024 : Shape := ⟨3, ![1, 16384, 1024]⟩
abbrev S1x1024 : Shape := ⟨2, ![1, 1024]⟩
abbrev S1x1024x2344 : Shape := ⟨3, ![1, 1024, 2344]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1024x2344 : Shape := ⟨2, ![1024, 2344]⟩
abbrev S1x16384x2344 : Shape := ⟨3, ![1, 16384, 2344]⟩
abbrev S16384x2344 : Shape := ⟨2, ![16384, 2344]⟩
abbrev S16384x512 : Shape := ⟨2, ![16384, 512]⟩
abbrev S16384x256 : Shape := ⟨2, ![16384, 256]⟩
abbrev S16384x32 : Shape := ⟨2, ![16384, 32]⟩
abbrev S16384x8 : Shape := ⟨2, ![16384, 8]⟩
abbrev S64x2x128x8x32 : Shape := ⟨5, ![64, 2, 128, 8, 32]⟩
abbrev S64x2x32x8x128 : Shape := ⟨5, ![64, 2, 32, 8, 128]⟩
abbrev S64x2x32x1024 : Shape := ⟨4, ![64, 2, 32, 1024]⟩
abbrev S64x2x128x8 : Shape := ⟨4, ![64, 2, 128, 8]⟩
abbrev S64x2x8x128 : Shape := ⟨4, ![64, 2, 8, 128]⟩
abbrev S64x2x1x1024 : Shape := ⟨4, ![64, 2, 1, 1024]⟩
abbrev S64x256x32 : Shape := ⟨3, ![64, 256, 32]⟩
abbrev S64x2x128x1024 : Shape := ⟨4, ![64, 2, 128, 1024]⟩
abbrev S64x256x128 : Shape := ⟨3, ![64, 256, 128]⟩

abbrev nBuf : Space → Nat
  | .hbm => 48
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x2344, .f32⟩
  | .hbm, ⟨3, _⟩ => ⟨S1024, .f32⟩
  | .hbm, ⟨4, _⟩ => ⟨S1x16384x1024, .f32⟩
  | .hbm, ⟨5, _⟩ => ⟨S_, .f32⟩
  | .hbm, ⟨6, _⟩ => ⟨S1x16384, .f32⟩
  | .hbm, ⟨7, _⟩ => ⟨S1x16384x1, .f32⟩
  | .hbm, ⟨8, _⟩ => ⟨S_, .f32⟩
  | .hbm, ⟨9, _⟩ => ⟨S1x16384x1, .f32⟩
  | .hbm, ⟨10, _⟩ => ⟨S1x16384x1, .f32⟩
  | .hbm, ⟨11, _⟩ => ⟨S_, .f32⟩
  | .hbm, ⟨12, _⟩ => ⟨S1x16384x1, .f32⟩
  | .hbm, ⟨13, _⟩ => ⟨S1x16384x1, .f32⟩
  | .hbm, ⟨14, _⟩ => ⟨S1x16384x1, .f32⟩
  | .hbm, ⟨15, _⟩ => ⟨S1x16384x1024, .f32⟩
  | .hbm, ⟨16, _⟩ => ⟨S1x16384x1024, .f32⟩
  | .hbm, ⟨17, _⟩ => ⟨S1x1x1024, .f32⟩
  | .hbm, ⟨18, _⟩ => ⟨S1x16384x1024, .f32⟩
  | .hbm, ⟨19, _⟩ => ⟨S1x16384x1024, .f32⟩
  | .hbm, ⟨20, _⟩ => ⟨S1024x2344, .f32⟩
  | .hbm, ⟨21, _⟩ => ⟨S1x16384x2344, .f32⟩
  | .hbm, ⟨22, _⟩ => ⟨S16384x2344, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x256, .f32⟩
  | .hbm, ⟨28, _⟩ => ⟨S16384x32, .f32⟩
  | .hbm, ⟨29, _⟩ => ⟨S16384x8, .f32⟩
  | .hbm, ⟨30, _⟩ => ⟨S16384x256, .bf16⟩
  | .hbm, ⟨31, _⟩ => ⟨S64x2x128x8x32, .bf16⟩
  | .hbm, ⟨32, _⟩ => ⟨S64x2x32x8x128, .bf16⟩
  | .hbm, ⟨33, _⟩ => ⟨S64x2x32x1024, .bf16⟩
  | .hbm, ⟨34, _⟩ => ⟨S_, .f32⟩
  | .hbm, ⟨35, _⟩ => ⟨S16384x8, .f32⟩
  | .hbm, ⟨36, _⟩ => ⟨S16384x8, .f32⟩
  | .hbm, ⟨37, _⟩ => ⟨S64x2x128x8, .f32⟩
  | .hbm, ⟨38, _⟩ => ⟨S64x2x8x128, .f32⟩
  | .hbm, ⟨39, _⟩ => ⟨S64x2x1x1024, .f32⟩
  | .hbm, ⟨40, _⟩ => ⟨S16384x32, .bf16⟩
  | .hbm, ⟨41, _⟩ => ⟨S64x256x32, .bf16⟩
  | .hbm, ⟨42, _⟩ => ⟨S_, .bf16⟩
  | .hbm, ⟨43, _⟩ => ⟨S64x2x32x1024, .bf16⟩
  | .hbm, ⟨44, _⟩ => ⟨S_, .bf16⟩
  | .hbm, ⟨45, _⟩ => ⟨S64x256x32, .bf16⟩
  | .hbm, ⟨46, _⟩ => ⟨S64x2x128x1024, .bf16⟩
  | .hbm, ⟨47, _⟩ => ⟨S64x256x128, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_3 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩

abbrev nD : Nat := 1
abbrev τ : Topo := Topo.v7x

variable {F : FTy → Type} [FloatOps F]
-- ==== Proof.Keeps.lean ====
/-
  Running a region's body for what it KEEPS: `Keeps I p` says that from `I` the program `p` runs and gives `I` back,
  whatever values pass. Where `I` holds every buffer the program touches at some contents, this is the whole of what
  the frame of a kernel needs, and it composes along the text of the program: a load of a buffer `I` holds keeps `I`,
  a store into a buffer `I` holds at some contents keeps `I`, a sequence keeps what its members keep, and a counted
  loop keeps what its region keeps, with nothing further to say of the trips.
-/
module

public import Idealize.ShloMosaic.Lib.Tactic
public import Idealize.ShloMosaic.Lib.Pipeline.FrameBody

@[expose] public section

noncomputable section

namespace Cert.Proof.Keep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds

variable {nD : ℕ} {τ : Topo} {sig : RefSig} {Val : EltTy → Type} {Λ : Labels}

/-- The resources of a run, the pipeline's staging cells among them. -/
abbrev Res (nD : ℕ) (τ : Topo) (sig : RefSig) (Val : EltTy → Type) : Type := MT nD τ sig Unit Val ℕ (UR sig nD τ) ℕ

/-- From `I` the program runs and gives `I` back. -/
@[irreducible] def Keeps (defs : Defs nD τ sig Val Λ) (𝒱 : Variants) (c : Thread nD τ) (bd : Option 𝒱.V) (E : Set ℕ) (I : sProp (Res nD τ sig Val))
    {α : Type} (p : Prog (TpuEff nD τ sig Val Λ c.2) α) : Prop :=
  I ⊢ wp frame (wpE defs 𝒱 c bd) E p (fun _ => I)

/-- `I` lends the buffer of `m`: held whole at some contents, and given back as it was. -/
class Lends (c : Thread nD τ) (I : sProp (Res nD τ sig Val)) {sp : Space} {s : Shape} {e : EltTy} (m : Memref sig c.2.kind sp s e) : Prop where
  out : I ⊢ iprop(∃ f : Buf Val (m.view.loc c), (m.view.loc c ↦[m.view.set]{fullShare} f)
    ∗ ((m.view.loc c ↦[m.view.set]{fullShare} f) -∗ I))

/-- `I` holds the buffer of `m` at some contents, and takes it back at any. -/
class Holds (c : Thread nD τ) (I : sProp (Res nD τ sig Val)) {sp : Space} {s : Shape} {e : EltTy} (m : Memref sig c.2.kind sp s e) : Prop where
  out : I ⊢ iprop(∃ f : Buf Val (m.view.loc c), (m.view.loc c ↦[m.view.set]{fullShare} f)
    ∗ (∀ g : Buf Val (m.view.loc c), (m.view.loc c ↦[m.view.set]{fullShare} g) -∗ I))

section Rules

variable {defs : Defs nD τ sig Val Λ} {𝒱 : Variants} {c : Thread nD τ} {bd : Option 𝒱.V} {E : Set ℕ} {I : sProp (Res nD τ sig Val)}

/-- What is held is lent. -/
instance (priority := low) Holds.lends {sp : Space} {s : Shape} {e : EltTy} {m : Memref sig c.2.kind sp s e} [h : Holds c I m] :
    Lends c I m where
  out := by
    refine h.out.trans ?_
    iintro ⟨%f, H, HI⟩
    iexists f
    isplitl [H]; · iexact H
    iintro H
    iapply HI; iexact H

variable {α β : Type}

theorem Keeps.pure (a : α) : Keeps defs 𝒱 c bd E I (Pure.pure a : Prog (TpuEff nD τ sig Val Λ c.2) α) := by
  unfold Keeps
  iintro H
  sl_step
  iexact H

theorem Keeps.bind {p : Prog (TpuEff nD τ sig Val Λ c.2) α} {k : α → Prog (TpuEff nD τ sig Val Λ c.2) β}
    (hp : Keeps defs 𝒱 c bd E I p) (hk : ∀ a, Keeps defs 𝒱 c bd E I (k a)) : Keeps defs 𝒱 c bd E I (p >>= k) := by
  unfold Keeps at *
  rw [wp_bind]
  exact hp.trans (wp_mono _ _ _ fun a => hk a)

theorem Keeps.load {cs : CoreSpace} {s : Shape} {e : EltTy} {m : Memref sig c.2.kind cs s e} [h : Lends c I m] {r : LoadRect s}
    {hl : m.view.LoadsAt r} :
    Keeps defs 𝒱 c bd E I (Prog.lift (.load m r hl) : Prog (TpuEff nD τ sig Val Λ c.2) _) := by
  unfold Keeps
  refine h.out.trans ?_
  iintro ⟨%f, H, HI⟩
  iapply (wp_load 𝒱 c bd E (hl := hl) (S := m.view.set) (q := fullShare) (f := f) (m.view.setOn_subset_set _)) $$ H
  iintro H
  sl_step
  iapply HI; iexact H

/-- A load through a row block of a lent buffer, its unit axes dropped. -/
theorem Keeps.load_row {cs : CoreSpace} {s s' : Shape} {e : EltTy} {m : Memref sig c.2.kind cs s e} [h : Lends c I m] {r₀ : Rect s}
    {hr : ∀ a, r₀.stride a = 1} {hs : r₀.shape.Squeezes s'} {r : LoadRect s'} {hl : ((m.slice r₀ hr).squeeze s' hs).view.LoadsAt r} :
    Keeps defs 𝒱 c bd E I (Prog.lift (.load ((m.slice r₀ hr).squeeze s' hs) r hl) : Prog (TpuEff nD τ sig Val Λ c.2) _) := by
  unfold Keeps
  refine h.out.trans ?_
  iintro ⟨%f, H, HI⟩
  iapply (wp_load 𝒱 c bd E (hl := hl) (S := m.view.set) (q := fullShare) (f := f)
    (((m.slice r₀ hr).squeeze s' hs).view.setOn_subset_set _ |>.trans
      ((m.slice r₀ hr).view.set_reshape_subset hs.numel_eq (m.view.set_slice_subset r₀)))) $$ H
  iintro H
  sl_step
  iapply HI; iexact H

theorem Keeps.store {cs : CoreSpace} {s : Shape} {e : EltTy} {m : Memref sig c.2.kind cs s e} [h : Holds c I m] {r : Rect s}
    {w : r.shape.Idx → Val e} {Mk : Finset r.shape.Idx} {hx : (m.access r).Stores Mk} {hm : Mk = Finset.univ ∨ ∀ a, r.stride a = 1} :
    Keeps defs 𝒱 c bd E I (Prog.lift (.store m r w Mk hx hm) : Prog (TpuEff nD τ sig Val Λ c.2) _) := by
  unfold Keeps
  refine h.out.trans ?_
  iintro ⟨%f, H, HI⟩
  iapply (wp_store 𝒱 c bd E (hx := hx) (hm := hm) (S := m.view.set) (f := f) (m.setOn_access_subset r Mk)) $$ H
  iintro H
  sl_step
  iapply HI; iexact H

theorem Keeps.loop {w : ℕ} {σ : Type} {l : Scf.Loop w} {hok : l.OK} {init : σ}
    {body : Fin l.trips → σ → Prog (TpuEff nD τ sig Val Λ c.2) σ}
    (hb : ∀ k acc, Keeps defs 𝒱 c bd E I (body k acc)) :
    Keeps defs 𝒱 c bd E I (Scf.Loop.for l hok init body) := by
  unfold Keeps at *
  refine BIBase.Entails.trans ?_ (Scf.wp_for frame (wpE defs 𝒱 c bd) E l.lb l.ub l.st hok init body (fun _ _ => I) hb)
  iintro H
  isplitl [H]; · iexact H
  iintro %a H
  iexact H

theorem Keeps.ite {C : Prop} [Decidable C] {p q : Prog (TpuEff nD τ sig Val Λ c.2) α}
    (hp : Keeps defs 𝒱 c bd E I p) (hq : Keeps defs 𝒱 c bd E I q) : Keeps defs 𝒱 c bd E I (if C then p else q) := by
  by_cases h : C
  · rwa [if_pos h]
  · rwa [if_neg h]

/-- For every tuple, by its members. -/
theorem forall_psigma {α : Sort*} {β : α → Sort*} {P : PSigma β → Prop} (h : ∀ a b, P ⟨a, b⟩) : ∀ x, P x := fun x => h x.1 x.2

theorem forall_prod {α β : Type} {P : α × β → Prop} (h : ∀ a b, P (a, b)) : ∀ x, P x := fun x => h x.1 x.2

end Rules

end Cert.Proof.Keep
-- ==== Proof.BodyC.lean ====
/-
  The attention sum over whole tiles: one trip keeps what the body holds.
-/
module

public import proofs.«01_k».proof.Proof.Gen.Kernel
public import proofs.«01_k».proof.Proof.Keeps

@[expose] public section

noncomputable section

namespace Cert.Proof.Keep

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

variable (𝒱 : Variants) (c : Dev nD) (bd : Option 𝒱.V) (E : Set ℕ) (I : sProp (Res nD τ sig (Elt F))) (i : grid0.Coords)
variable
  (arg2 : Memref sig .tc .vmem S1x1x1x128 .i32) (harg2 : arg2.IsWhole)
  (arg3 : Memref sig .tc .vmem S1x1x1x128x1024 .bf16) (harg3 : arg3.IsWhole)
  (arg4 : Memref sig .tc .vmem S1x1x1x1x1024 .f32) (harg4 : arg4.IsWhole)
  (arg5 : Memref sig .tc .vmem S1x1x8x128x128 .bf16) (harg5 : arg5.IsWhole)
  (arg6 : Memref sig .tc .vmem S1x9x256x128 .bf16) (harg6 : arg6.IsWhole)
  (arg7 : Memref sig .tc .vmem S1x9x256x512 .bf16) (harg7 : arg7.IsWhole)
  (arg8 : Memref sig .tc .vmem S1x9x8x64x256 .bf16) (harg8 : arg8.IsWhole)
  (arg9 : Memref sig .tc .vmem S1x128x512 .f32) (harg9 : arg9.IsWhole)
  (arg10 : Memref sig .tc .vmem S16x32x8x128 .i32) (harg10 : arg10.IsWhole)
  (arg11 : Memref sig .tc .vmem S16x8x128 .i32) (harg11 : arg11.IsWhole)
  (arg12 : Memref sig .tc .vmem S16x8x128 .i32) (harg12 : arg12.IsWhole)
  (arg13 : Memref sig .tc .vmem S8x256x128 .f32) (harg13 : arg13.IsWhole)
  (arg14 : Memref sig .tc .vmem S8x256x128 .f32) (harg14 : arg14.IsWhole)
  (arg15 : Memref sig .tc .vmem S256x128 .f32) (harg15 : arg15.IsWhole)
  (arg16 : Memref sig .tc .vmem S256x128 .f32) (harg16 : arg16.IsWhole)
  (arg17 : Memref sig .tc .vmem S2x256x128 .bf16) (harg17 : arg17.IsWhole)
  (arg18 : Memref sig .tc .vmem S8x1x128 .f32) (harg18 : arg18.IsWhole)
  (arg19 : Memref sig .tc .vmem S8x80x128 .f32) (harg19 : arg19.IsWhole)
variable
  [Lends (c : Thread nD τ) I arg2]
  [Lends (c : Thread nD τ) I arg3]
  [Lends (c : Thread nD τ) I arg4]
  [Lends (c : Thread nD τ) I arg5]
  [Lends (c : Thread nD τ) I arg6]
  [Lends (c : Thread nD τ) I arg7]
  [Lends (c : Thread nD τ) I arg8]
  [Holds (c : Thread nD τ) I arg9]
  [Holds (c : Thread nD τ) I arg10]
  [Holds (c : Thread nD τ) I arg11]
  [Holds (c : Thread nD τ) I arg12]
  [Holds (c : Thread nD τ) I arg13]
  [Holds (c : Thread nD τ) I arg14]
  [Holds (c : Thread nD τ) I arg15]
  [Holds (c : Thread nD τ) I arg16]
  [Holds (c : Thread nD τ) I arg17]
  [Holds (c : Thread nD τ) I arg18]
  [Holds (c : Thread nD τ) I arg19]

set_option maxRecDepth 100000 in
set_option maxHeartbeats 0 in
theorem part463 (v200 : FVec F S16x256 .bf16) (c0_i32_340 : BitVec 32) (c1_i32_342 : BitVec 32) (k0_t19 : Fin (k0_t19_loop i).trips) : Keeps (defs₀ (F := F)) 𝒱 (c : Thread nD τ) bd E I (k0_part463 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v200 c0_i32_340 c1_i32_342 k0_t19) := by
  unfold k0_part463
  repeat' (first
    | with_reducible exact Keeps.load
    | with_reducible exact Keeps.store
    | with_reducible exact Keeps.load_row
    | with_reducible exact Keeps.pure _
    | with_reducible refine Keeps.loop fun _ => ?_
    | with_reducible refine Keeps.ite ?_ ?_
    | with_reducible refine Keeps.bind ?_ ?_
    | with_reducible refine forall_psigma fun _ => ?_
    | with_reducible refine forall_prod fun _ => ?_
    | intro _
    | as_aux_lemma =>
        first | exact Keeps.pure _ | exact Keeps.store | exact Keeps.load | refine Keeps.bind ?_ ?_
        all_goals repeat' (first
        | with_reducible exact Keeps.load
        | with_reducible exact Keeps.store
        | with_reducible exact Keeps.load_row
        | with_reducible exact Keeps.pure _
        | with_reducible refine Keeps.loop fun _ => ?_
        | with_reducible refine Keeps.ite ?_ ?_
        | with_reducible refine Keeps.bind ?_ ?_
        | with_reducible refine forall_psigma fun _ => ?_
        | with_reducible refine forall_prod fun _ => ?_
        | intro _))

set_option maxRecDepth 100000 in
set_option maxHeartbeats 0 in
theorem part464 (v200 : FVec F S16x256 .bf16) (k0_t19 : Fin (k0_t19_loop i).trips) (v2570 : BitVec 32) (v2581 : FVec F S32x128 .f32) : Keeps (defs₀ (F := F)) 𝒱 (c : Thread nD τ) bd E I (k0_part464 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v200 k0_t19 v2570 v2581) := by
  unfold k0_part464
  repeat' (first
    | with_reducible exact Keeps.load
    | with_reducible exact Keeps.store
    | with_reducible exact Keeps.load_row
    | with_reducible exact Keeps.pure _
    | with_reducible refine Keeps.loop fun _ => ?_
    | with_reducible refine Keeps.ite ?_ ?_
    | with_reducible refine Keeps.bind ?_ ?_
    | with_reducible refine forall_psigma fun _ => ?_
    | with_reducible refine forall_prod fun _ => ?_
    | intro _
    | as_aux_lemma =>
        first | exact Keeps.pure _ | exact Keeps.store | exact Keeps.load | refine Keeps.bind ?_ ?_
        all_goals repeat' (first
        | with_reducible exact Keeps.load
        | with_reducible exact Keeps.store
        | with_reducible exact Keeps.load_row
        | with_reducible exact Keeps.pure _
        | with_reducible refine Keeps.loop fun _ => ?_
        | with_reducible refine Keeps.ite ?_ ?_
        | with_reducible refine Keeps.bind ?_ ?_
        | with_reducible refine forall_psigma fun _ => ?_
        | with_reducible refine forall_prod fun _ => ?_
        | intro _))

end Cert.Proof.Keep
-- ==== Proof.BodyD.lean ====
/-
  The attention sum over the last tiles: one trip keeps what the body holds.
-/
module

public import proofs.«01_k».proof.Proof.Gen.Kernel
public import proofs.«01_k».proof.Proof.Keeps

@[expose] public section

noncomputable section

namespace Cert.Proof.Keep

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

variable (𝒱 : Variants) (c : Dev nD) (bd : Option 𝒱.V) (E : Set ℕ) (I : sProp (Res nD τ sig (Elt F))) (i : grid0.Coords)
variable
  (arg2 : Memref sig .tc .vmem S1x1x1x128 .i32) (harg2 : arg2.IsWhole)
  (arg3 : Memref sig .tc .vmem S1x1x1x128x1024 .bf16) (harg3 : arg3.IsWhole)
  (arg4 : Memref sig .tc .vmem S1x1x1x1x1024 .f32) (harg4 : arg4.IsWhole)
  (arg5 : Memref sig .tc .vmem S1x1x8x128x128 .bf16) (harg5 : arg5.IsWhole)
  (arg6 : Memref sig .tc .vmem S1x9x256x128 .bf16) (harg6 : arg6.IsWhole)
  (arg7 : Memref sig .tc .vmem S1x9x256x512 .bf16) (harg7 : arg7.IsWhole)
  (arg8 : Memref sig .tc .vmem S1x9x8x64x256 .bf16) (harg8 : arg8.IsWhole)
  (arg9 : Memref sig .tc .vmem S1x128x512 .f32) (harg9 : arg9.IsWhole)
  (arg10 : Memref sig .tc .vmem S16x32x8x128 .i32) (harg10 : arg10.IsWhole)
  (arg11 : Memref sig .tc .vmem S16x8x128 .i32) (harg11 : arg11.IsWhole)
  (arg12 : Memref sig .tc .vmem S16x8x128 .i32) (harg12 : arg12.IsWhole)
  (arg13 : Memref sig .tc .vmem S8x256x128 .f32) (harg13 : arg13.IsWhole)
  (arg14 : Memref sig .tc .vmem S8x256x128 .f32) (harg14 : arg14.IsWhole)
  (arg15 : Memref sig .tc .vmem S256x128 .f32) (harg15 : arg15.IsWhole)
  (arg16 : Memref sig .tc .vmem S256x128 .f32) (harg16 : arg16.IsWhole)
  (arg17 : Memref sig .tc .vmem S2x256x128 .bf16) (harg17 : arg17.IsWhole)
  (arg18 : Memref sig .tc .vmem S8x1x128 .f32) (harg18 : arg18.IsWhole)
  (arg19 : Memref sig .tc .vmem S8x80x128 .f32) (harg19 : arg19.IsWhole)
variable
  [Lends (c : Thread nD τ) I arg2]
  [Lends (c : Thread nD τ) I arg3]
  [Lends (c : Thread nD τ) I arg4]
  [Lends (c : Thread nD τ) I arg5]
  [Lends (c : Thread nD τ) I arg6]
  [Lends (c : Thread nD τ) I arg7]
  [Lends (c : Thread nD τ) I arg8]
  [Holds (c : Thread nD τ) I arg9]
  [Holds (c : Thread nD τ) I arg10]
  [Holds (c : Thread nD τ) I arg11]
  [Holds (c : Thread nD τ) I arg12]
  [Holds (c : Thread nD τ) I arg13]
  [Holds (c : Thread nD τ) I arg14]
  [Holds (c : Thread nD τ) I arg15]
  [Holds (c : Thread nD τ) I arg16]
  [Holds (c : Thread nD τ) I arg17]
  [Holds (c : Thread nD τ) I arg18]
  [Holds (c : Thread nD τ) I arg19]

set_option maxRecDepth 100000 in
set_option maxHeartbeats 0 in
theorem part559 (v200 : FVec F S16x256 .bf16) (v605 : BitVec 32) (c1_i32_343 : BitVec 32) (k0_t20 : Fin (k0_t20_loop i).trips) : Keeps (defs₀ (F := F)) 𝒱 (c : Thread nD τ) bd E I (k0_part559 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v200 v605 c1_i32_343 k0_t20) := by
  unfold k0_part559
  repeat' (first
    | with_reducible exact Keeps.load
    | with_reducible exact Keeps.store
    | with_reducible exact Keeps.load_row
    | with_reducible exact Keeps.pure _
    | with_reducible refine Keeps.loop fun _ => ?_
    | with_reducible refine Keeps.ite ?_ ?_
    | with_reducible refine Keeps.bind ?_ ?_
    | with_reducible refine forall_psigma fun _ => ?_
    | with_reducible refine forall_prod fun _ => ?_
    | intro _
    | as_aux_lemma =>
        first | exact Keeps.pure _ | exact Keeps.store | exact Keeps.load | refine Keeps.bind ?_ ?_
        all_goals repeat' (first
        | with_reducible exact Keeps.load
        | with_reducible exact Keeps.store
        | with_reducible exact Keeps.load_row
        | with_reducible exact Keeps.pure _
        | with_reducible refine Keeps.loop fun _ => ?_
        | with_reducible refine Keeps.ite ?_ ?_
        | with_reducible refine Keeps.bind ?_ ?_
        | with_reducible refine forall_psigma fun _ => ?_
        | with_reducible refine forall_prod fun _ => ?_
        | intro _))

set_option maxRecDepth 100000 in
set_option maxHeartbeats 0 in
theorem part560 (v200 : FVec F S16x256 .bf16) (k0_t20 : Fin (k0_t20_loop i).trips) (v2570 : BitVec 32) (v2581 : FVec F S32x128 .f32) : Keeps (defs₀ (F := F)) 𝒱 (c : Thread nD τ) bd E I (k0_part560 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v200 k0_t20 v2570 v2581) := by
  unfold k0_part560
  repeat' (first
    | with_reducible exact Keeps.load
    | with_reducible exact Keeps.store
    | with_reducible exact Keeps.load_row
    | with_reducible exact Keeps.pure _
    | with_reducible refine Keeps.loop fun _ => ?_
    | with_reducible refine Keeps.ite ?_ ?_
    | with_reducible refine Keeps.bind ?_ ?_
    | with_reducible refine forall_psigma fun _ => ?_
    | with_reducible refine forall_prod fun _ => ?_
    | intro _
    | as_aux_lemma =>
        first | exact Keeps.pure _ | exact Keeps.store | exact Keeps.load | refine Keeps.bind ?_ ?_
        all_goals repeat' (first
        | with_reducible exact Keeps.load
        | with_reducible exact Keeps.store
        | with_reducible exact Keeps.load_row
        | with_reducible exact Keeps.pure _
        | with_reducible refine Keeps.loop fun _ => ?_
        | with_reducible refine Keeps.ite ?_ ?_
        | with_reducible refine Keeps.bind ?_ ?_
        | with_reducible refine forall_psigma fun _ => ?_
        | with_reducible refine forall_prod fun _ => ?_
        | intro _))

end Cert.Proof.Keep
-- ==== Proof.BodyE.lean ====
/-
  The search for the threshold word: it keeps what the body holds.
-/
module

public import proofs.«01_k».proof.Proof.Gen.Kernel
public import proofs.«01_k».proof.Proof.Keeps

@[expose] public section

noncomputable section

namespace Cert.Proof.Keep

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

variable (𝒱 : Variants) (c : Dev nD) (bd : Option 𝒱.V) (E : Set ℕ) (I : sProp (Res nD τ sig (Elt F))) (i : grid0.Coords)
variable
  (arg2 : Memref sig .tc .vmem S1x1x1x128 .i32) (harg2 : arg2.IsWhole)
  (arg3 : Memref sig .tc .vmem S1x1x1x128x1024 .bf16) (harg3 : arg3.IsWhole)
  (arg4 : Memref sig .tc .vmem S1x1x1x1x1024 .f32) (harg4 : arg4.IsWhole)
  (arg5 : Memref sig .tc .vmem S1x1x8x128x128 .bf16) (harg5 : arg5.IsWhole)
  (arg6 : Memref sig .tc .vmem S1x9x256x128 .bf16) (harg6 : arg6.IsWhole)
  (arg7 : Memref sig .tc .vmem S1x9x256x512 .bf16) (harg7 : arg7.IsWhole)
  (arg8 : Memref sig .tc .vmem S1x9x8x64x256 .bf16) (harg8 : arg8.IsWhole)
  (arg9 : Memref sig .tc .vmem S1x128x512 .f32) (harg9 : arg9.IsWhole)
  (arg10 : Memref sig .tc .vmem S16x32x8x128 .i32) (harg10 : arg10.IsWhole)
  (arg11 : Memref sig .tc .vmem S16x8x128 .i32) (harg11 : arg11.IsWhole)
  (arg12 : Memref sig .tc .vmem S16x8x128 .i32) (harg12 : arg12.IsWhole)
  (arg13 : Memref sig .tc .vmem S8x256x128 .f32) (harg13 : arg13.IsWhole)
  (arg14 : Memref sig .tc .vmem S8x256x128 .f32) (harg14 : arg14.IsWhole)
  (arg15 : Memref sig .tc .vmem S256x128 .f32) (harg15 : arg15.IsWhole)
  (arg16 : Memref sig .tc .vmem S256x128 .f32) (harg16 : arg16.IsWhole)
  (arg17 : Memref sig .tc .vmem S2x256x128 .bf16) (harg17 : arg17.IsWhole)
  (arg18 : Memref sig .tc .vmem S8x1x128 .f32) (harg18 : arg18.IsWhole)
  (arg19 : Memref sig .tc .vmem S8x80x128 .f32) (harg19 : arg19.IsWhole)
variable
  [Lends (c : Thread nD τ) I arg2]
  [Lends (c : Thread nD τ) I arg3]
  [Lends (c : Thread nD τ) I arg4]
  [Lends (c : Thread nD τ) I arg5]
  [Lends (c : Thread nD τ) I arg6]
  [Lends (c : Thread nD τ) I arg7]
  [Lends (c : Thread nD τ) I arg8]
  [Holds (c : Thread nD τ) I arg9]
  [Holds (c : Thread nD τ) I arg10]
  [Holds (c : Thread nD τ) I arg11]
  [Holds (c : Thread nD τ) I arg12]
  [Holds (c : Thread nD τ) I arg13]
  [Holds (c : Thread nD τ) I arg14]
  [Holds (c : Thread nD τ) I arg15]
  [Holds (c : Thread nD τ) I arg16]
  [Holds (c : Thread nD τ) I arg17]
  [Holds (c : Thread nD τ) I arg18]
  [Holds (c : Thread nD τ) I arg19]

set_option maxRecDepth 100000 in
set_option maxHeartbeats 0 in
theorem part330 (v169 : IVec S1x128 1) (c0_i32_85 : BitVec 32) (c1_i32_87 : BitVec 32) (k0_t10 : Fin (k0_t10_loop i).trips) (arg21 : IVec S8x128 32) : Keeps (defs₀ (F := F)) 𝒱 (c : Thread nD τ) bd E I (k0_part330 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v169 c0_i32_85 c1_i32_87 k0_t10 arg21) := by
  unfold k0_part330
  repeat' (first
    | with_reducible exact Keeps.load
    | with_reducible exact Keeps.store
    | with_reducible exact Keeps.load_row
    | with_reducible exact Keeps.pure _
    | with_reducible refine Keeps.loop fun _ => ?_
    | with_reducible refine Keeps.ite ?_ ?_
    | with_reducible refine Keeps.bind ?_ ?_
    | with_reducible refine forall_psigma fun _ => ?_
    | with_reducible refine forall_prod fun _ => ?_
    | intro _
    | as_aux_lemma =>
        first | exact Keeps.pure _ | exact Keeps.store | exact Keeps.load | refine Keeps.bind ?_ ?_
        all_goals repeat' (first
        | with_reducible exact Keeps.load
        | with_reducible exact Keeps.store
        | with_reducible exact Keeps.load_row
        | with_reducible exact Keeps.pure _
        | with_reducible refine Keeps.loop fun _ => ?_
        | with_reducible refine Keeps.ite ?_ ?_
        | with_reducible refine Keeps.bind ?_ ?_
        | with_reducible refine forall_psigma fun _ => ?_
        | with_reducible refine forall_prod fun _ => ?_
        | intro _))

set_option maxRecDepth 100000 in
set_option maxHeartbeats 0 in
theorem part344 (v169 : IVec S1x128 1) (v174 : BitVec 32) (c1_i32_88 : BitVec 32) (k0_t11 : Fin (k0_t11_loop i).trips) (arg21 : IVec S8x128 32) : Keeps (defs₀ (F := F)) 𝒱 (c : Thread nD τ) bd E I (k0_part344 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v169 v174 c1_i32_88 k0_t11 arg21) := by
  unfold k0_part344
  repeat' (first
    | with_reducible exact Keeps.load
    | with_reducible exact Keeps.store
    | with_reducible exact Keeps.load_row
    | with_reducible exact Keeps.pure _
    | with_reducible refine Keeps.loop fun _ => ?_
    | with_reducible refine Keeps.ite ?_ ?_
    | with_reducible refine Keeps.bind ?_ ?_
    | with_reducible refine forall_psigma fun _ => ?_
    | with_reducible refine forall_prod fun _ => ?_
    | intro _
    | as_aux_lemma =>
        first | exact Keeps.pure _ | exact Keeps.store | exact Keeps.load | refine Keeps.bind ?_ ?_
        all_goals repeat' (first
        | with_reducible exact Keeps.load
        | with_reducible exact Keeps.store
        | with_reducible exact Keeps.load_row
        | with_reducible exact Keeps.pure _
        | with_reducible refine Keeps.loop fun _ => ?_
        | with_reducible refine Keeps.ite ?_ ?_
        | with_reducible refine Keeps.bind ?_ ?_
        | with_reducible refine forall_psigma fun _ => ?_
        | with_reducible refine forall_prod fun _ => ?_
        | intro _))

set_option maxRecDepth 100000 in
set_option maxHeartbeats 0 in
theorem part566 (v26 : BitVec 32) (v63 : BitVec 32) (v64 : IVec S8x128 32) (v65 : IVec S8x128 32) (v167_0 : IVec S1x128 32) (v176 : IVec S8x128 32) : Keeps (defs₀ (F := F)) 𝒱 (c : Thread nD τ) bd E I (k0_part566 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v26 v63 v64 v65 v167_0 v176) := by
  unfold k0_part566
  repeat' (first
    | with_reducible exact Keeps.load
    | with_reducible exact Keeps.store
    | with_reducible exact Keeps.load_row
    | with_reducible exact Keeps.pure _
    | with_reducible exact part330 𝒱 c bd E I i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _
    | with_reducible exact part344 𝒱 c bd E I i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _
    | with_reducible refine Keeps.loop fun _ => ?_
    | with_reducible refine Keeps.ite ?_ ?_
    | with_reducible refine Keeps.bind ?_ ?_
    | with_reducible refine forall_psigma fun _ => ?_
    | with_reducible refine forall_prod fun _ => ?_
    | intro _
    | as_aux_lemma =>
        first | exact Keeps.pure _ | exact Keeps.store | exact Keeps.load | refine Keeps.bind ?_ ?_
        all_goals repeat' (first
        | with_reducible exact Keeps.load
        | with_reducible exact Keeps.store
        | with_reducible exact Keeps.load_row
        | with_reducible exact Keeps.pure _
        | with_reducible refine Keeps.loop fun _ => ?_
        | with_reducible refine Keeps.ite ?_ ?_
        | with_reducible refine Keeps.bind ?_ ?_
        | with_reducible refine forall_psigma fun _ => ?_
        | with_reducible refine forall_prod fun _ => ?_
        | intro _))

end Cert.Proof.Keep
-- ==== Proof.BodyA.lean ====
/-
  The keys' first pass over a band: one trip keeps what the body holds.
-/
module

public import proofs.«01_k».proof.Proof.Gen.Kernel
public import proofs.«01_k».proof.Proof.Keeps

@[expose] public section

noncomputable section

namespace Cert.Proof.Keep

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

variable (𝒱 : Variants) (c : Dev nD) (bd : Option 𝒱.V) (E : Set ℕ) (I : sProp (Res nD τ sig (Elt F))) (i : grid0.Coords)
variable
  (arg2 : Memref sig .tc .vmem S1x1x1x128 .i32) (harg2 : arg2.IsWhole)
  (arg3 : Memref sig .tc .vmem S1x1x1x128x1024 .bf16) (harg3 : arg3.IsWhole)
  (arg4 : Memref sig .tc .vmem S1x1x1x1x1024 .f32) (harg4 : arg4.IsWhole)
  (arg5 : Memref sig .tc .vmem S1x1x8x128x128 .bf16) (harg5 : arg5.IsWhole)
  (arg6 : Memref sig .tc .vmem S1x9x256x128 .bf16) (harg6 : arg6.IsWhole)
  (arg7 : Memref sig .tc .vmem S1x9x256x512 .bf16) (harg7 : arg7.IsWhole)
  (arg8 : Memref sig .tc .vmem S1x9x8x64x256 .bf16) (harg8 : arg8.IsWhole)
  (arg9 : Memref sig .tc .vmem S1x128x512 .f32) (harg9 : arg9.IsWhole)
  (arg10 : Memref sig .tc .vmem S16x32x8x128 .i32) (harg10 : arg10.IsWhole)
  (arg11 : Memref sig .tc .vmem S16x8x128 .i32) (harg11 : arg11.IsWhole)
  (arg12 : Memref sig .tc .vmem S16x8x128 .i32) (harg12 : arg12.IsWhole)
  (arg13 : Memref sig .tc .vmem S8x256x128 .f32) (harg13 : arg13.IsWhole)
  (arg14 : Memref sig .tc .vmem S8x256x128 .f32) (harg14 : arg14.IsWhole)
  (arg15 : Memref sig .tc .vmem S256x128 .f32) (harg15 : arg15.IsWhole)
  (arg16 : Memref sig .tc .vmem S256x128 .f32) (harg16 : arg16.IsWhole)
  (arg17 : Memref sig .tc .vmem S2x256x128 .bf16) (harg17 : arg17.IsWhole)
  (arg18 : Memref sig .tc .vmem S8x1x128 .f32) (harg18 : arg18.IsWhole)
  (arg19 : Memref sig .tc .vmem S8x80x128 .f32) (harg19 : arg19.IsWhole)
variable
  [Lends (c : Thread nD τ) I arg2]
  [Lends (c : Thread nD τ) I arg3]
  [Lends (c : Thread nD τ) I arg4]
  [Lends (c : Thread nD τ) I arg5]
  [Lends (c : Thread nD τ) I arg6]
  [Lends (c : Thread nD τ) I arg7]
  [Lends (c : Thread nD τ) I arg8]
  [Holds (c : Thread nD τ) I arg9]
  [Holds (c : Thread nD τ) I arg10]
  [Holds (c : Thread nD τ) I arg11]
  [Holds (c : Thread nD τ) I arg12]
  [Holds (c : Thread nD τ) I arg13]
  [Holds (c : Thread nD τ) I arg14]
  [Holds (c : Thread nD τ) I arg15]
  [Holds (c : Thread nD τ) I arg16]
  [Holds (c : Thread nD τ) I arg17]
  [Holds (c : Thread nD τ) I arg18]
  [Holds (c : Thread nD τ) I arg19]

set_option maxRecDepth 100000 in
set_option maxHeartbeats 0 in
theorem part137 (v80 : FVec F S8x128 .f32) (v83 : FVec F S8x128 .f32) (v86 : FVec F S8x128 .f32) (v89 : FVec F S8x128 .f32) (v92 : FVec F S8x128 .f32) (v95 : FVec F S8x128 .f32) (v98 : FVec F S8x128 .f32) (v101 : FVec F S8x128 .f32) (c0_i32_65 : BitVec 32) (c1_i32_67 : BitVec 32) (k0_t1 : Fin (k0_t1_loop i).trips) : Keeps (defs₀ (F := F)) 𝒱 (c : Thread nD τ) bd E I (k0_part137 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v80 v83 v86 v89 v92 v95 v98 v101 c0_i32_65 c1_i32_67 k0_t1) := by
  unfold k0_part137
  repeat' (first
    | with_reducible exact Keeps.load
    | with_reducible exact Keeps.store
    | with_reducible exact Keeps.load_row
    | with_reducible exact Keeps.pure _
    | with_reducible refine Keeps.loop fun _ => ?_
    | with_reducible refine Keeps.ite ?_ ?_
    | with_reducible refine Keeps.bind ?_ ?_
    | with_reducible refine forall_psigma fun _ => ?_
    | with_reducible refine forall_prod fun _ => ?_
    | intro _
    | as_aux_lemma =>
        first | exact Keeps.pure _ | exact Keeps.store | exact Keeps.load | refine Keeps.bind ?_ ?_
        all_goals repeat' (first
        | with_reducible exact Keeps.load
        | with_reducible exact Keeps.store
        | with_reducible exact Keeps.load_row
        | with_reducible exact Keeps.pure _
        | with_reducible refine Keeps.loop fun _ => ?_
        | with_reducible refine Keeps.ite ?_ ?_
        | with_reducible refine Keeps.bind ?_ ?_
        | with_reducible refine forall_psigma fun _ => ?_
        | with_reducible refine forall_prod fun _ => ?_
        | intro _))

set_option maxRecDepth 100000 in
set_option maxHeartbeats 0 in
theorem part138 (v80 : FVec F S8x128 .f32) (v83 : FVec F S8x128 .f32) (v86 : FVec F S8x128 .f32) (v89 : FVec F S8x128 .f32) (v92 : FVec F S8x128 .f32) (v95 : FVec F S8x128 .f32) (v98 : FVec F S8x128 .f32) (v101 : FVec F S8x128 .f32) (k0_t1 : Fin (k0_t1_loop i).trips) (arg20 : BitVec 32) (v715 : BitVec 32) (v2816 : IVec S8x128 32) (v2822 : IVec S8x128 32) (v2825 : IVec S8x128 32) (v2831 : IVec S8x128 32) (v2834 : IVec S8x128 32) (v2840 : IVec S8x128 32) (v2843 : IVec S8x128 32) (v2849 : IVec S8x128 32) (v2852 : IVec S8x128 32) (v2858 : IVec S8x128 32) (v2861 : IVec S8x128 32) (v2867 : IVec S8x128 32) (v2870 : IVec S8x128 32) (v2876 : IVec S8x128 32) (v2879 : IVec S8x128 32) (v2885 : IVec S8x128 32) (v2888 : IVec S8x128 32) (v2894 : IVec S8x128 32) (v2897 : IVec S8x128 32) (v2903 : IVec S8x128 32) (v2906 : IVec S8x128 32) (v2912 : IVec S8x128 32) (v2915 : IVec S8x128 32) (v2921 : IVec S8x128 32) (v2924 : IVec S8x128 32) (v2930 : IVec S8x128 32) (v2933 : IVec S8x128 32) (v2939 : IVec S8x128 32) (v2942 : IVec S8x128 32) (v2948 : IVec S8x128 32) (v2951 : IVec S8x128 32) (v2956 : IVec S8x128 32) (v2957 : IVec S8x128 32) : Keeps (defs₀ (F := F)) 𝒱 (c : Thread nD τ) bd E I (k0_part138 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v80 v83 v86 v89 v92 v95 v98 v101 k0_t1 arg20 v715 v2816 v2822 v2825 v2831 v2834 v2840 v2843 v2849 v2852 v2858 v2861 v2867 v2870 v2876 v2879 v2885 v2888 v2894 v2897 v2903 v2906 v2912 v2915 v2921 v2924 v2930 v2933 v2939 v2942 v2948 v2951 v2956 v2957) := by
  unfold k0_part138
  repeat' (first
    | with_reducible exact Keeps.load
    | with_reducible exact Keeps.store
    | with_reducible exact Keeps.load_row
    | with_reducible exact Keeps.pure _
    | with_reducible refine Keeps.loop fun _ => ?_
    | with_reducible refine Keeps.ite ?_ ?_
    | with_reducible refine Keeps.bind ?_ ?_
    | with_reducible refine forall_psigma fun _ => ?_
    | with_reducible refine forall_prod fun _ => ?_
    | intro _
    | as_aux_lemma =>
        first | exact Keeps.pure _ | exact Keeps.store | exact Keeps.load | refine Keeps.bind ?_ ?_
        all_goals repeat' (first
        | with_reducible exact Keeps.load
        | with_reducible exact Keeps.store
        | with_reducible exact Keeps.load_row
        | with_reducible exact Keeps.pure _
        | with_reducible refine Keeps.loop fun _ => ?_
        | with_reducible refine Keeps.ite ?_ ?_
        | with_reducible refine Keeps.bind ?_ ?_
        | with_reducible refine forall_psigma fun _ => ?_
        | with_reducible refine forall_prod fun _ => ?_
        | intro _))

end Cert.Proof.Keep
-- ==== Proof.BodyB.lean ====
/-
  The keys' second pass over a band: one trip keeps what the body holds.
-/
module

public import proofs.«01_k».proof.Proof.Gen.Kernel
public import proofs.«01_k».proof.Proof.Keeps

@[expose] public section

noncomputable section

namespace Cert.Proof.Keep

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

variable (𝒱 : Variants) (c : Dev nD) (bd : Option 𝒱.V) (E : Set ℕ) (I : sProp (Res nD τ sig (Elt F))) (i : grid0.Coords)
variable
  (arg2 : Memref sig .tc .vmem S1x1x1x128 .i32) (harg2 : arg2.IsWhole)
  (arg3 : Memref sig .tc .vmem S1x1x1x128x1024 .bf16) (harg3 : arg3.IsWhole)
  (arg4 : Memref sig .tc .vmem S1x1x1x1x1024 .f32) (harg4 : arg4.IsWhole)
  (arg5 : Memref sig .tc .vmem S1x1x8x128x128 .bf16) (harg5 : arg5.IsWhole)
  (arg6 : Memref sig .tc .vmem S1x9x256x128 .bf16) (harg6 : arg6.IsWhole)
  (arg7 : Memref sig .tc .vmem S1x9x256x512 .bf16) (harg7 : arg7.IsWhole)
  (arg8 : Memref sig .tc .vmem S1x9x8x64x256 .bf16) (harg8 : arg8.IsWhole)
  (arg9 : Memref sig .tc .vmem S1x128x512 .f32) (harg9 : arg9.IsWhole)
  (arg10 : Memref sig .tc .vmem S16x32x8x128 .i32) (harg10 : arg10.IsWhole)
  (arg11 : Memref sig .tc .vmem S16x8x128 .i32) (harg11 : arg11.IsWhole)
  (arg12 : Memref sig .tc .vmem S16x8x128 .i32) (harg12 : arg12.IsWhole)
  (arg13 : Memref sig .tc .vmem S8x256x128 .f32) (harg13 : arg13.IsWhole)
  (arg14 : Memref sig .tc .vmem S8x256x128 .f32) (harg14 : arg14.IsWhole)
  (arg15 : Memref sig .tc .vmem S256x128 .f32) (harg15 : arg15.IsWhole)
  (arg16 : Memref sig .tc .vmem S256x128 .f32) (harg16 : arg16.IsWhole)
  (arg17 : Memref sig .tc .vmem S2x256x128 .bf16) (harg17 : arg17.IsWhole)
  (arg18 : Memref sig .tc .vmem S8x1x128 .f32) (harg18 : arg18.IsWhole)
  (arg19 : Memref sig .tc .vmem S8x80x128 .f32) (harg19 : arg19.IsWhole)
variable
  [Lends (c : Thread nD τ) I arg2]
  [Lends (c : Thread nD τ) I arg3]
  [Lends (c : Thread nD τ) I arg4]
  [Lends (c : Thread nD τ) I arg5]
  [Lends (c : Thread nD τ) I arg6]
  [Lends (c : Thread nD τ) I arg7]
  [Lends (c : Thread nD τ) I arg8]
  [Holds (c : Thread nD τ) I arg9]
  [Holds (c : Thread nD τ) I arg10]
  [Holds (c : Thread nD τ) I arg11]
  [Holds (c : Thread nD τ) I arg12]
  [Holds (c : Thread nD τ) I arg13]
  [Holds (c : Thread nD τ) I arg14]
  [Holds (c : Thread nD τ) I arg15]
  [Holds (c : Thread nD τ) I arg16]
  [Holds (c : Thread nD τ) I arg17]
  [Holds (c : Thread nD τ) I arg18]
  [Holds (c : Thread nD τ) I arg19]

set_option maxRecDepth 100000 in
set_option maxHeartbeats 0 in
theorem part275 (v80 : FVec F S8x128 .f32) (v83 : FVec F S8x128 .f32) (v86 : FVec F S8x128 .f32) (v89 : FVec F S8x128 .f32) (v92 : FVec F S8x128 .f32) (v95 : FVec F S8x128 .f32) (v98 : FVec F S8x128 .f32) (v101 : FVec F S8x128 .f32) (v145 : BitVec 32) (c1_i32_68 : BitVec 32) (k0_t2 : Fin (k0_t2_loop i).trips) : Keeps (defs₀ (F := F)) 𝒱 (c : Thread nD τ) bd E I (k0_part275 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v80 v83 v86 v89 v92 v95 v98 v101 v145 c1_i32_68 k0_t2) := by
  unfold k0_part275
  repeat' (first
    | with_reducible exact Keeps.load
    | with_reducible exact Keeps.store
    | with_reducible exact Keeps.load_row
    | with_reducible exact Keeps.pure _
    | with_reducible refine Keeps.loop fun _ => ?_
    | with_reducible refine Keeps.ite ?_ ?_
    | with_reducible refine Keeps.bind ?_ ?_
    | with_reducible refine forall_psigma fun _ => ?_
    | with_reducible refine forall_prod fun _ => ?_
    | intro _
    | as_aux_lemma =>
        first | exact Keeps.pure _ | exact Keeps.store | exact Keeps.load | refine Keeps.bind ?_ ?_
        all_goals repeat' (first
        | with_reducible exact Keeps.load
        | with_reducible exact Keeps.store
        | with_reducible exact Keeps.load_row
        | with_reducible exact Keeps.pure _
        | with_reducible refine Keeps.loop fun _ => ?_
        | with_reducible refine Keeps.ite ?_ ?_
        | with_reducible refine Keeps.bind ?_ ?_
        | with_reducible refine forall_psigma fun _ => ?_
        | with_reducible refine forall_prod fun _ => ?_
        | intro _))

set_option maxRecDepth 100000 in
set_option maxHeartbeats 0 in
theorem part276 (v80 : FVec F S8x128 .f32) (v83 : FVec F S8x128 .f32) (v86 : FVec F S8x128 .f32) (v89 : FVec F S8x128 .f32) (v92 : FVec F S8x128 .f32) (v95 : FVec F S8x128 .f32) (v98 : FVec F S8x128 .f32) (v101 : FVec F S8x128 .f32) (k0_t2 : Fin (k0_t2_loop i).trips) (arg20 : BitVec 32) (v715 : BitVec 32) (v2816 : IVec S8x128 32) (v2822 : IVec S8x128 32) (v2825 : IVec S8x128 32) (v2831 : IVec S8x128 32) (v2834 : IVec S8x128 32) (v2840 : IVec S8x128 32) (v2843 : IVec S8x128 32) (v2849 : IVec S8x128 32) (v2852 : IVec S8x128 32) (v2858 : IVec S8x128 32) (v2861 : IVec S8x128 32) (v2867 : IVec S8x128 32) (v2870 : IVec S8x128 32) (v2876 : IVec S8x128 32) (v2879 : IVec S8x128 32) (v2885 : IVec S8x128 32) (v2888 : IVec S8x128 32) (v2894 : IVec S8x128 32) (v2897 : IVec S8x128 32) (v2903 : IVec S8x128 32) (v2906 : IVec S8x128 32) (v2912 : IVec S8x128 32) (v2915 : IVec S8x128 32) (v2921 : IVec S8x128 32) (v2924 : IVec S8x128 32) (v2930 : IVec S8x128 32) (v2933 : IVec S8x128 32) (v2939 : IVec S8x128 32) (v2942 : IVec S8x128 32) (v2948 : IVec S8x128 32) (v2951 : IVec S8x128 32) (v2956 : IVec S8x128 32) (v2957 : IVec S8x128 32) : Keeps (defs₀ (F := F)) 𝒱 (c : Thread nD τ) bd E I (k0_part276 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v80 v83 v86 v89 v92 v95 v98 v101 k0_t2 arg20 v715 v2816 v2822 v2825 v2831 v2834 v2840 v2843 v2849 v2852 v2858 v2861 v2867 v2870 v2876 v2879 v2885 v2888 v2894 v2897 v2903 v2906 v2912 v2915 v2921 v2924 v2930 v2933 v2939 v2942 v2948 v2951 v2956 v2957) := by
  unfold k0_part276
  repeat' (first
    | with_reducible exact Keeps.load
    | with_reducible exact Keeps.store
    | with_reducible exact Keeps.load_row
    | with_reducible exact Keeps.pure _
    | with_reducible refine Keeps.loop fun _ => ?_
    | with_reducible refine Keeps.ite ?_ ?_
    | with_reducible refine Keeps.bind ?_ ?_
    | with_reducible refine forall_psigma fun _ => ?_
    | with_reducible refine forall_prod fun _ => ?_
    | intro _
    | as_aux_lemma =>
        first | exact Keeps.pure _ | exact Keeps.store | exact Keeps.load | refine Keeps.bind ?_ ?_
        all_goals repeat' (first
        | with_reducible exact Keeps.load
        | with_reducible exact Keeps.store
        | with_reducible exact Keeps.load_row
        | with_reducible exact Keeps.pure _
        | with_reducible refine Keeps.loop fun _ => ?_
        | with_reducible refine Keeps.ite ?_ ?_
        | with_reducible refine Keeps.bind ?_ ?_
        | with_reducible refine forall_psigma fun _ => ?_
        | with_reducible refine forall_prod fun _ => ?_
        | intro _))

end Cert.Proof.Keep
-- ==== Proof.BodyF.lean ====
/-
  The scores' words and the counts over them keep what the body holds.
-/
module

public import proofs.«01_k».proof.Proof.Gen.Kernel
public import proofs.«01_k».proof.Proof.Keeps
public import proofs.«01_k».proof.Proof.BodyA
public import proofs.«01_k».proof.Proof.BodyB
public import proofs.«01_k».proof.Proof.BodyE

@[expose] public section

noncomputable section

namespace Cert.Proof.Keep

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

variable (𝒱 : Variants) (c : Dev nD) (bd : Option 𝒱.V) (E : Set ℕ) (I : sProp (Res nD τ sig (Elt F))) (i : grid0.Coords)
variable
  (arg2 : Memref sig .tc .vmem S1x1x1x128 .i32) (harg2 : arg2.IsWhole)
  (arg3 : Memref sig .tc .vmem S1x1x1x128x1024 .bf16) (harg3 : arg3.IsWhole)
  (arg4 : Memref sig .tc .vmem S1x1x1x1x1024 .f32) (harg4 : arg4.IsWhole)
  (arg5 : Memref sig .tc .vmem S1x1x8x128x128 .bf16) (harg5 : arg5.IsWhole)
  (arg6 : Memref sig .tc .vmem S1x9x256x128 .bf16) (harg6 : arg6.IsWhole)
  (arg7 : Memref sig .tc .vmem S1x9x256x512 .bf16) (harg7 : arg7.IsWhole)
  (arg8 : Memref sig .tc .vmem S1x9x8x64x256 .bf16) (harg8 : arg8.IsWhole)
  (arg9 : Memref sig .tc .vmem S1x128x512 .f32) (harg9 : arg9.IsWhole)
  (arg10 : Memref sig .tc .vmem S16x32x8x128 .i32) (harg10 : arg10.IsWhole)
  (arg11 : Memref sig .tc .vmem S16x8x128 .i32) (harg11 : arg11.IsWhole)
  (arg12 : Memref sig .tc .vmem S16x8x128 .i32) (harg12 : arg12.IsWhole)
  (arg13 : Memref sig .tc .vmem S8x256x128 .f32) (harg13 : arg13.IsWhole)
  (arg14 : Memref sig .tc .vmem S8x256x128 .f32) (harg14 : arg14.IsWhole)
  (arg15 : Memref sig .tc .vmem S256x128 .f32) (harg15 : arg15.IsWhole)
  (arg16 : Memref sig .tc .vmem S256x128 .f32) (harg16 : arg16.IsWhole)
  (arg17 : Memref sig .tc .vmem S2x256x128 .bf16) (harg17 : arg17.IsWhole)
  (arg18 : Memref sig .tc .vmem S8x1x128 .f32) (harg18 : arg18.IsWhole)
  (arg19 : Memref sig .tc .vmem S8x80x128 .f32) (harg19 : arg19.IsWhole)
variable
  [Lends (c : Thread nD τ) I arg2]
  [Lends (c : Thread nD τ) I arg3]
  [Lends (c : Thread nD τ) I arg4]
  [Lends (c : Thread nD τ) I arg5]
  [Lends (c : Thread nD τ) I arg6]
  [Lends (c : Thread nD τ) I arg7]
  [Lends (c : Thread nD τ) I arg8]
  [Holds (c : Thread nD τ) I arg9]
  [Holds (c : Thread nD τ) I arg10]
  [Holds (c : Thread nD τ) I arg11]
  [Holds (c : Thread nD τ) I arg12]
  [Holds (c : Thread nD τ) I arg13]
  [Holds (c : Thread nD τ) I arg14]
  [Holds (c : Thread nD τ) I arg15]
  [Holds (c : Thread nD τ) I arg16]
  [Holds (c : Thread nD τ) I arg17]
  [Holds (c : Thread nD τ) I arg18]
  [Holds (c : Thread nD τ) I arg19]

set_option maxRecDepth 100000 in
set_option maxHeartbeats 0 in
theorem part565 (v63 : BitVec 32) (v64 : IVec S8x128 32) (v65 : IVec S8x128 32) (v75 : IVec S1x128 32) (v80 : FVec F S8x128 .f32) (v83 : FVec F S8x128 .f32) (v86 : FVec F S8x128 .f32) (v89 : FVec F S8x128 .f32) (v92 : FVec F S8x128 .f32) (v95 : FVec F S8x128 .f32) (v98 : FVec F S8x128 .f32) (v101 : FVec F S8x128 .f32) (c0_i32_65 : BitVec 32) (c1_i32_66 : BitVec 32) (v143 : BitVec 32) : Keeps (defs₀ (F := F)) 𝒱 (c : Thread nD τ) bd E I (k0_part565 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v63 v64 v65 v75 v80 v83 v86 v89 v92 v95 v98 v101 c0_i32_65 c1_i32_66 v143) := by
  unfold k0_part565
  repeat' (first
    | with_reducible exact Keeps.load
    | with_reducible exact Keeps.store
    | with_reducible exact Keeps.load_row
    | with_reducible exact Keeps.pure _
    | with_reducible exact part137 𝒱 c bd E I i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _ _ _ _ _ _
    | with_reducible exact part138 𝒱 c bd E I i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _ _ _ _ _ _ _ _ _ _ _ _ _ _ _ _ _ _ _ _ _ _ _ _ _ _ _ _ _ _ _ _ _ _ _ _ _ _ _
    | with_reducible exact part275 𝒱 c bd E I i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _ _ _ _ _ _
    | with_reducible exact part276 𝒱 c bd E I i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _ _ _ _ _ _ _ _ _ _ _ _ _ _ _ _ _ _ _ _ _ _ _ _ _ _ _ _ _ _ _ _ _ _ _ _ _ _ _
    | with_reducible exact part330 𝒱 c bd E I i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _
    | with_reducible exact part344 𝒱 c bd E I i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _
    | with_reducible refine Keeps.loop fun _ => ?_
    | with_reducible refine Keeps.ite ?_ ?_
    | with_reducible refine Keeps.bind ?_ ?_
    | with_reducible refine forall_psigma fun _ => ?_
    | with_reducible refine forall_prod fun _ => ?_
    | intro _
    | as_aux_lemma =>
        first | exact Keeps.pure _ | exact Keeps.store | exact Keeps.load | refine Keeps.bind ?_ ?_
        all_goals repeat' (first
        | with_reducible exact Keeps.load
        | with_reducible exact Keeps.store
        | with_reducible exact Keeps.load_row
        | with_reducible exact Keeps.pure _
        | with_reducible refine Keeps.loop fun _ => ?_
        | with_reducible refine Keeps.ite ?_ ?_
        | with_reducible refine Keeps.bind ?_ ?_
        | with_reducible refine forall_psigma fun _ => ?_
        | with_reducible refine forall_prod fun _ => ?_
        | intro _))

end Cert.Proof.Keep
-- ==== Proof.KernelBody.lean ====
/-
  The attention kernel's body keeps what it holds: from its eight windows' staging buffers and its ten scratch buffers,
  each at any contents, it runs and gives all of them back.
-/
module

public import proofs.«01_k».proof.Proof.Gen.Kernel
public import proofs.«01_k».proof.Proof.Keeps
public import proofs.«01_k».proof.Proof.BodyC
public import proofs.«01_k».proof.Proof.BodyD
public import proofs.«01_k».proof.Proof.BodyE
public import proofs.«01_k».proof.Proof.BodyF

@[expose] public section

noncomputable section

namespace Cert.Proof.Keep

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

variable (𝒱 : Variants) (c : Dev nD) (bd : Option 𝒱.V) (E : Set ℕ) (I : sProp (Res nD τ sig (Elt F))) (i : grid0.Coords)
variable
  (arg2 : Memref sig .tc .vmem S1x1x1x128 .i32) (harg2 : arg2.IsWhole)
  (arg3 : Memref sig .tc .vmem S1x1x1x128x1024 .bf16) (harg3 : arg3.IsWhole)
  (arg4 : Memref sig .tc .vmem S1x1x1x1x1024 .f32) (harg4 : arg4.IsWhole)
  (arg5 : Memref sig .tc .vmem S1x1x8x128x128 .bf16) (harg5 : arg5.IsWhole)
  (arg6 : Memref sig .tc .vmem S1x9x256x128 .bf16) (harg6 : arg6.IsWhole)
  (arg7 : Memref sig .tc .vmem S1x9x256x512 .bf16) (harg7 : arg7.IsWhole)
  (arg8 : Memref sig .tc .vmem S1x9x8x64x256 .bf16) (harg8 : arg8.IsWhole)
  (arg9 : Memref sig .tc .vmem S1x128x512 .f32) (harg9 : arg9.IsWhole)
  (arg10 : Memref sig .tc .vmem S16x32x8x128 .i32) (harg10 : arg10.IsWhole)
  (arg11 : Memref sig .tc .vmem S16x8x128 .i32) (harg11 : arg11.IsWhole)
  (arg12 : Memref sig .tc .vmem S16x8x128 .i32) (harg12 : arg12.IsWhole)
  (arg13 : Memref sig .tc .vmem S8x256x128 .f32) (harg13 : arg13.IsWhole)
  (arg14 : Memref sig .tc .vmem S8x256x128 .f32) (harg14 : arg14.IsWhole)
  (arg15 : Memref sig .tc .vmem S256x128 .f32) (harg15 : arg15.IsWhole)
  (arg16 : Memref sig .tc .vmem S256x128 .f32) (harg16 : arg16.IsWhole)
  (arg17 : Memref sig .tc .vmem S2x256x128 .bf16) (harg17 : arg17.IsWhole)
  (arg18 : Memref sig .tc .vmem S8x1x128 .f32) (harg18 : arg18.IsWhole)
  (arg19 : Memref sig .tc .vmem S8x80x128 .f32) (harg19 : arg19.IsWhole)
variable
  [Lends (c : Thread nD τ) I arg2]
  [Lends (c : Thread nD τ) I arg3]
  [Lends (c : Thread nD τ) I arg4]
  [Lends (c : Thread nD τ) I arg5]
  [Lends (c : Thread nD τ) I arg6]
  [Lends (c : Thread nD τ) I arg7]
  [Lends (c : Thread nD τ) I arg8]
  [Holds (c : Thread nD τ) I arg9]
  [Holds (c : Thread nD τ) I arg10]
  [Holds (c : Thread nD τ) I arg11]
  [Holds (c : Thread nD τ) I arg12]
  [Holds (c : Thread nD τ) I arg13]
  [Holds (c : Thread nD τ) I arg14]
  [Holds (c : Thread nD τ) I arg15]
  [Holds (c : Thread nD τ) I arg16]
  [Holds (c : Thread nD τ) I arg17]
  [Holds (c : Thread nD τ) I arg18]
  [Holds (c : Thread nD τ) I arg19]

set_option maxRecDepth 100000 in
set_option maxHeartbeats 0 in
theorem part579 (v200 : FVec F S16x256 .bf16) (c0_i32_340 : BitVec 32) (v601 : BitVec 32) : Keeps (defs₀ (F := F)) 𝒱 (c : Thread nD τ) bd E I (k0_part579 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v200 c0_i32_340 v601) := by
  unfold k0_part579
  repeat' (first
    | with_reducible exact Keeps.load
    | with_reducible exact Keeps.store
    | with_reducible exact Keeps.load_row
    | with_reducible exact Keeps.pure _
    | with_reducible exact part463 𝒱 c bd E I i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _
    | with_reducible exact part464 𝒱 c bd E I i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _
    | with_reducible exact part559 𝒱 c bd E I i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _
    | with_reducible exact part560 𝒱 c bd E I i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _
    | with_reducible refine Keeps.loop fun _ => ?_
    | with_reducible refine Keeps.ite ?_ ?_
    | with_reducible refine Keeps.bind ?_ ?_
    | with_reducible refine forall_psigma fun _ => ?_
    | with_reducible refine forall_prod fun _ => ?_
    | intro _
    | as_aux_lemma =>
        first | exact Keeps.pure _ | exact Keeps.store | exact Keeps.load | refine Keeps.bind ?_ ?_
        all_goals repeat' (first
        | with_reducible exact Keeps.load
        | with_reducible exact Keeps.store
        | with_reducible exact Keeps.load_row
        | with_reducible exact Keeps.pure _
        | with_reducible refine Keeps.loop fun _ => ?_
        | with_reducible refine Keeps.ite ?_ ?_
        | with_reducible refine Keeps.bind ?_ ?_
        | with_reducible refine forall_psigma fun _ => ?_
        | with_reducible refine forall_prod fun _ => ?_
        | intro _))

set_option maxRecDepth 100000 in
set_option maxHeartbeats 0 in
theorem part580  : Keeps (defs₀ (F := F)) 𝒱 (c : Thread nD τ) bd E I (k0_part580 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ) := by
  unfold k0_part580
  repeat' (first
    | with_reducible exact Keeps.load
    | with_reducible exact Keeps.store
    | with_reducible exact Keeps.load_row
    | with_reducible exact Keeps.pure _
    | with_reducible exact part565 𝒱 c bd E I i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _ _ _ _ _ _ _ _ _ _
    | with_reducible exact part566 𝒱 c bd E I i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _
    | with_reducible exact part579 𝒱 c bd E I i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _
    | with_reducible exact part330 𝒱 c bd E I i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _
    | with_reducible exact part344 𝒱 c bd E I i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _
    | with_reducible refine Keeps.loop fun _ => ?_
    | with_reducible refine Keeps.ite ?_ ?_
    | with_reducible refine Keeps.bind ?_ ?_
    | with_reducible refine forall_psigma fun _ => ?_
    | with_reducible refine forall_prod fun _ => ?_
    | intro _
    | as_aux_lemma =>
        first | exact Keeps.pure _ | exact Keeps.store | exact Keeps.load | refine Keeps.bind ?_ ?_
        all_goals repeat' (first
        | with_reducible exact Keeps.load
        | with_reducible exact Keeps.store
        | with_reducible exact Keeps.load_row
        | with_reducible exact Keeps.pure _
        | with_reducible refine Keeps.loop fun _ => ?_
        | with_reducible refine Keeps.ite ?_ ?_
        | with_reducible refine Keeps.bind ?_ ?_
        | with_reducible refine forall_psigma fun _ => ?_
        | with_reducible refine forall_prod fun _ => ?_
        | intro _))

set_option maxRecDepth 100000 in
set_option maxHeartbeats 0 in
theorem body : Keeps (defs₀ (F := F)) 𝒱 (c : Thread nD τ) bd E I (cc0_dsa i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) := by
  repeat' (first
    | with_reducible exact Keeps.load
    | with_reducible exact Keeps.store
    | with_reducible exact Keeps.pure _
    | with_reducible exact part580 𝒱 c bd E I i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    | with_reducible refine Keeps.loop fun _ => ?_
    | with_reducible refine Keeps.ite ?_ ?_
    | with_reducible refine Keeps.bind ?_ ?_
    | with_reducible refine forall_psigma fun _ => ?_
    | with_reducible refine forall_prod fun _ => ?_
    | intro _
    | refine Keeps.bind ?_ ?_)

end Cert.Proof.Keep
-- ==== Proof.KernelFrame.lean ====
/-
  The attention kernel runs from any memory: every fair execution of it ends, its seven argument arrays end as they were
  and every counter ends at zero. Each of the eight windows' staging buffers is handed to the body at any contents and taken
  back at any contents, and so are the ten scratch buffers, which is what `KernelBody` says the body keeps.
-/
module

public import proofs.«01_k».proof.Defs
public import proofs.«01_k».proof.Proof.Gen.Kernel
public import proofs.«01_k».proof.Proof.Gen.Kernel.Launch
public import proofs.«01_k».proof.Proof.Gen.Kernel.Points
public import proofs.«01_k».proof.Proof.Gen.Kernel.Frame
public import proofs.«01_k».proof.Proof.KernelBody
public import Idealize.ShloMosaic.Adequacy
public import Idealize.ShloMosaic.Init

@[expose] public section

noncomputable section

namespace Cert.Proof.Keep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

section Parts

variable {nD : ℕ} {τ : Topo} {sig : RefSig} {Val : EltTy → Type} {c : Thread nD τ}

/-- The buffer of `m`, whole, at some contents. -/
def Cell (c : Thread nD τ) {sp : Space} {s : Shape} {e : EltTy} (m : Memref sig c.2.kind sp s e) : sProp (Res nD τ sig Val) :=
  iprop(∃ f : Buf Val (m.view.loc c), (m.view.loc c ↦[m.view.set]{fullShare} f))

variable {sp : Space} {s : Shape} {e : EltTy} {m : Memref sig c.2.kind sp s e} {A B : sProp (Res nD τ sig Val)}

theorem Cell.of_owns : iprop(∃ X, owns c m fullShare X) ⊢ (Cell c m : sProp (Res nD τ sig Val)) := by
  unfold Cell owns
  iintro ⟨%X, %f, %h, H⟩
  iexists f; iexact H

theorem Cell.owns : (Cell c m : sProp (Res nD τ sig Val)) ⊢ iprop(∃ X, owns c m fullShare X) := by
  unfold Cell Idealize.ShloMosaic.owns
  iintro ⟨%f, H⟩
  iexists m.view.read Val f, f
  isplitr; · ipureintro; rfl
  iexact H

instance Holds.cell : Holds c (Cell c m : sProp (Res nD τ sig Val)) m where
  out := by
    unfold Cell
    iintro ⟨%f, H⟩
    iexists f
    isplitl [H]; · iexact H
    iintro %g H
    iexists g; iexact H

/-- What a part holds, the whole holds: the first part. -/
theorem Holds.left (h : Holds c A m) : Holds c iprop(A ∗ B) m where
  out := by
    have h := h.out
    refine (sep_mono h .rfl).trans ?_
    iintro ⟨⟨%f, H, HI⟩, HB⟩
    iexists f
    isplitl [H]; · iexact H
    iintro %g H
    isplitl [H HI]
    · iapply HI; iexact H
    · iexact HB

/-- What a part holds, the whole holds: the second part. -/
theorem Holds.right (h : Holds c B m) : Holds c iprop(A ∗ B) m where
  out := by
    have h := h.out
    refine (sep_mono .rfl h).trans ?_
    iintro ⟨HA, ⟨%f, H, HI⟩⟩
    iexists f
    isplitl [H]; · iexact H
    iintro %g H
    isplitl [HA]; · iexact HA
    iapply HI; iexact H

end Parts

open Cert.Kernel Cert.Kernel.Gen

variable {F : FTy → Type} [BitOps F] [∀ e, Nonempty (Elt F e)]
variable (m : (ℓ : Loc nD τ sig) → Buf (Elt F) ℓ)

/-- What the body runs on at point `t`, beside the rest `R` it never touches: the windows' staging buffers and the scratch
    buffers, each at some contents. -/
abbrev Held (c : Dev nD) (t : Fin cfg0.N) (R : sProp (Res nD τ sig (Elt F))) : sProp (Res nD τ sig (Elt F)) :=
  iprop(Cell (c : Thread nD τ) (win0_0.stage (cfg0.slots t 0)) ∗ Cell (c : Thread nD τ) (win0_1.stage (cfg0.slots t 1)) ∗ Cell (c : Thread nD τ) (win0_2.stage (cfg0.slots t 2)) ∗ Cell (c : Thread nD τ) (win0_3.stage (cfg0.slots t 3)) ∗ Cell (c : Thread nD τ) (win0_4.stage (cfg0.slots t 4)) ∗ Cell (c : Thread nD τ) (win0_5.stage (cfg0.slots t 5)) ∗ Cell (c : Thread nD τ) (win0_6.stage (cfg0.slots t 6)) ∗ Cell (c : Thread nD τ) (win0_7.stage (cfg0.slots t 7)) ∗ Cell (c : Thread nD τ) (Memref.whole cc0_scratch0) ∗ Cell (c : Thread nD τ) (Memref.whole cc0_scratch1) ∗ Cell (c : Thread nD τ) (Memref.whole cc0_scratch2) ∗ Cell (c : Thread nD τ) (Memref.whole cc0_scratch3) ∗ Cell (c : Thread nD τ) (Memref.whole cc0_scratch4) ∗ Cell (c : Thread nD τ) (Memref.whole cc0_scratch5) ∗ Cell (c : Thread nD τ) (Memref.whole cc0_scratch6) ∗ Cell (c : Thread nD τ) (Memref.whole cc0_scratch7) ∗ Cell (c : Thread nD τ) (Memref.whole cc0_scratch8) ∗ Cell (c : Thread nD τ) (Memref.whole cc0_scratch9) ∗ R)

theorem body_held (c : Dev nD) (t : Fin cfg0.N) (R : sProp (Res nD τ sig (Elt F))) :
    Keeps (defs₀ (F := F)) Variants.none (c : Thread nD τ) none Set.univ (Held c t R) (bodyAt0 t) := by
  unfold bodyAt0
  have h0 : Holds (c : Thread nD τ) (Held (F := F) c t R) (win0_0.stage (cfg0.slots t 0)) := Holds.left Holds.cell
  have h1 : Holds (c : Thread nD τ) (Held (F := F) c t R) (win0_1.stage (cfg0.slots t 1)) := Holds.right (Holds.left Holds.cell)
  have h2 : Holds (c : Thread nD τ) (Held (F := F) c t R) (win0_2.stage (cfg0.slots t 2)) := Holds.right (Holds.right (Holds.left Holds.cell))
  have h3 : Holds (c : Thread nD τ) (Held (F := F) c t R) (win0_3.stage (cfg0.slots t 3)) := Holds.right (Holds.right (Holds.right (Holds.left Holds.cell)))
  have h4 : Holds (c : Thread nD τ) (Held (F := F) c t R) (win0_4.stage (cfg0.slots t 4)) := Holds.right (Holds.right (Holds.right (Holds.right (Holds.left Holds.cell))))
  have h5 : Holds (c : Thread nD τ) (Held (F := F) c t R) (win0_5.stage (cfg0.slots t 5)) := Holds.right (Holds.right (Holds.right (Holds.right (Holds.right (Holds.left Holds.cell)))))
  have h6 : Holds (c : Thread nD τ) (Held (F := F) c t R) (win0_6.stage (cfg0.slots t 6)) := Holds.right (Holds.right (Holds.right (Holds.right (Holds.right (Holds.right (Holds.left Holds.cell))))))
  have h7 : Holds (c : Thread nD τ) (Held (F := F) c t R) (win0_7.stage (cfg0.slots t 7)) := Holds.right (Holds.right (Holds.right (Holds.right (Holds.right (Holds.right (Holds.right (Holds.left Holds.cell)))))))
  have h8 : Holds (c : Thread nD τ) (Held (F := F) c t R) (Memref.whole cc0_scratch0) := Holds.right (Holds.right (Holds.right (Holds.right (Holds.right (Holds.right (Holds.right (Holds.right (Holds.left Holds.cell))))))))
  have h9 : Holds (c : Thread nD τ) (Held (F := F) c t R) (Memref.whole cc0_scratch1) := Holds.right (Holds.right (Holds.right (Holds.right (Holds.right (Holds.right (Holds.right (Holds.right (Holds.right (Holds.left Holds.cell)))))))))
  have h10 : Holds (c : Thread nD τ) (Held (F := F) c t R) (Memref.whole cc0_scratch2) := Holds.right (Holds.right (Holds.right (Holds.right (Holds.right (Holds.right (Holds.right (Holds.right (Holds.right (Holds.right (Holds.left Holds.cell))))))))))
  have h11 : Holds (c : Thread nD τ) (Held (F := F) c t R) (Memref.whole cc0_scratch3) := Holds.right (Holds.right (Holds.right (Holds.right (Holds.right (Holds.right (Holds.right (Holds.right (Holds.right (Holds.right (Holds.right (Holds.left Holds.cell)))))))))))
  have h12 : Holds (c : Thread nD τ) (Held (F := F) c t R) (Memref.whole cc0_scratch4) := Holds.right (Holds.right (Holds.right (Holds.right (Holds.right (Holds.right (Holds.right (Holds.right (Holds.right (Holds.right (Holds.right (Holds.right (Holds.left Holds.cell))))))))))))
  have h13 : Holds (c : Thread nD τ) (Held (F := F) c t R) (Memref.whole cc0_scratch5) := Holds.right (Holds.right (Holds.right (Holds.right (Holds.right (Holds.right (Holds.right (Holds.right (Holds.right (Holds.right (Holds.right (Holds.right (Holds.right (Holds.left Holds.cell)))))))))))))
  have h14 : Holds (c : Thread nD τ) (Held (F := F) c t R) (Memref.whole cc0_scratch6) := Holds.right (Holds.right (Holds.right (Holds.right (Holds.right (Holds.right (Holds.right (Holds.right (Holds.right (Holds.right (Holds.right (Holds.right (Holds.right (Holds.right (Holds.left Holds.cell))))))))))))))
  have h15 : Holds (c : Thread nD τ) (Held (F := F) c t R) (Memref.whole cc0_scratch7) := Holds.right (Holds.right (Holds.right (Holds.right (Holds.right (Holds.right (Holds.right (Holds.right (Holds.right (Holds.right (Holds.right (Holds.right (Holds.right (Holds.right (Holds.right (Holds.left Holds.cell)))))))))))))))
  have h16 : Holds (c : Thread nD τ) (Held (F := F) c t R) (Memref.whole cc0_scratch8) := Holds.right (Holds.right (Holds.right (Holds.right (Holds.right (Holds.right (Holds.right (Holds.right (Holds.right (Holds.right (Holds.right (Holds.right (Holds.right (Holds.right (Holds.right (Holds.right (Holds.left Holds.cell))))))))))))))))
  have h17 : Holds (c : Thread nD τ) (Held (F := F) c t R) (Memref.whole cc0_scratch9) := Holds.right (Holds.right (Holds.right (Holds.right (Holds.right (Holds.right (Holds.right (Holds.right (Holds.right (Holds.right (Holds.right (Holds.right (Holds.right (Holds.right (Holds.right (Holds.right (Holds.right (Holds.left Holds.cell)))))))))))))))))
  exact body Variants.none c none Set.univ (Held c t R) (grid0.coords t) _ _ _ _ _ _ _ _ _ _ _ _ _ _ _ _ _ _ _ _ _ _ _ _ _ _ _ _ _ _ _ _ _ _ _ _

/-- The proof data: the arrays as launched, the scratch buffers at any contents throughout, nothing said of what the body
    leaves in a window. -/
def dats (p : Fin 1) (c : Dev nD) : Pipeline.Dat τ (Elt F) Unit ℕ (UR sig nD τ) ℕ (cfgs p) c :=
  Fin.cases (motive := fun p => Pipeline.Dat τ (Elt F) Unit ℕ (UR sig nD τ) ℕ (cfgs p) c)
    { A := fun w => V m c (Pipeline.arrRef spec0 w)
      after := fun _ _ _ => Classical.arbitrary _
      Φ := fun _ => Pipeline.ΦA spec0 c
      q := fun _ => fullShare
      owed := fun _ => 0 } (fun p => p.elim0) p

theorem defs₀_row (t : Fin cfg0.N) : defs₀ (F := F) .tc cfg0.body (cfg0.bodyArgs t (cfg0.slots t)) = bodyAt0 t := rfl

theorem whole_cell (c : Dev nD) (b : Ref sig .tc) :
    (Cell (c : Thread nD τ) (Memref.whole b) : sProp (Res nD τ sig (Elt F)))
      = iprop(∃ f : Buf (Elt F) ((c : Thread nD τ).loc b), ((c : Thread nD τ).loc b) ↦{fullShare} f) := by
  unfold Cell
  simp only [Memref.view_whole, View.set_whole]

set_option maxHeartbeats 1600000 in
theorem obligation (c : Dev nD) : Pipeline.BodyObligationLoose (dats m 0 c) (defs₀ (F := F)) Variants.none () Set.univ (fun _ => true) := by
  intro t
  rw [bigSep_W0, defs₀_row]
  have hk := body_held (F := F) c t iprop((∃ r, prngReg c r) ∗ (dats m 0 c).owesAt () t.castSucc)
  unfold Keeps at hk
  refine BIBase.Entails.trans ?_ (hk.trans (wp_mono _ _ _ fun _ => ?_))
  · show iprop(Pipeline.ΦA spec0 c ∗ _) ⊢ _
    unfold Pipeline.ΦA
    rw [scopedRest0_eq]
    simp only [← whole_cell]
    iintro ⟨⟨⟨S0, S1, S2, S3, S4, S5, S6, S7, S8, S9⟩, HP⟩, HO, W0, W1, W2, W3, W4, W5, W6, W7⟩
    ihave W0 := Cell.of_owns $$ W0
    ihave W1 := Cell.of_owns $$ W1
    ihave W2 := Cell.of_owns $$ W2
    ihave W3 := Cell.of_owns $$ W3
    ihave W4 := Cell.of_owns $$ W4
    ihave W5 := Cell.of_owns $$ W5
    ihave W6 := Cell.of_owns $$ W6
    ihave W7 := Cell.of_owns $$ W7
    unfold Held
    iframe
  · show _ ⊢ iprop(Pipeline.ΦA spec0 c ∗ (dats m 0 c).owesAt () t.castSucc ∗ _)
    unfold Pipeline.ΦA Held
    rw [scopedRest0_eq]
    simp only [← whole_cell]
    iintro ⟨W0, W1, W2, W3, W4, W5, W6, W7, S0, S1, S2, S3, S4, S5, S6, S7, S8, S9, HP, HO⟩
    ihave W0 := Cell.owns $$ W0
    ihave W1 := Cell.owns $$ W1
    ihave W2 := Cell.owns $$ W2
    ihave W3 := Cell.owns $$ W3
    ihave W4 := Cell.owns $$ W4
    ihave W5 := Cell.owns $$ W5
    ihave W6 := Cell.owns $$ W6
    ihave W7 := Cell.owns $$ W7
    iframe

end Cert.Proof.Keep

namespace Cert.Proof

open Idealize.ShloMosaic Idealize.ShloMosaic.TcCoe Idealize.SL.Sem Cert.Kernel Cert.Kernel.Gen

/-- The host line after the call writes its own result only. -/
theorem sfx_writes : ∀ ops ∈ ([hostOps1] : List (List (HloOp τ sig (Elt Bits)))), ∀ op ∈ ops,
    ∀ b : Ref sig .tc, Proc.devRef .tc b ∈ op.writes → b ∈ ({main_v55} : Finset (Ref sig .tc)) := by
  intro ops hops op hop b hb
  simp only [List.mem_cons, List.mem_nil_iff, or_false] at hops
  subst hops
  simp only [hostOps1, List.mem_cons, List.mem_nil_iff, or_false] at hop
  subst hop
  simp only [StableHlo.unary_writes, Finset.mem_singleton] at hb ⊢
  by_contra hne
  exact StableHlo.devRef_ne_of_ne hne hb

theorem quiescent : Cert.quiescent_Kernel (hKernel := Cert.Kernel.Gen.facts) := by
  intro m g _
  have hne : ∀ e, Nonempty (Elt Bits e) := fun e => inferInstance
  refine Pipeline.θ_run_frame_around_T_forget cfgs (Keep.dats m) 0 launch0 defs₀ Variants.none (fun _ => true) {main_v55} m g main
    (fun c => Keep.obligation m c) (fun c w => by unfold Pipeline.Dat.share; split <;> rfl) (fun _ _ => rfl) (V0 m) [hostOps1]
    sfx_sub sfx_fresh sfx_keeps sfx_writes (hmain m Variants.none) (fun _ _ => rfl) (fun _ _ => rfl) _ ?_
  rintro r ⟨h, hs⟩
  refine ⟨fun c => ⟨?_, ?_, ?_, ?_, ?_, ?_, ?_, ?_, ?_⟩, hs⟩
  · exact ((h c).2 main_arg0 (Finset.mem_sdiff.mpr ⟨Pipeline.mem_restRefs_of main_arg0 (by decide) (by decide), by decide⟩)).trans (V_main_arg0 m c)
  · exact ((h c).2 main_arg1 (Finset.mem_sdiff.mpr ⟨Pipeline.mem_restRefs_of main_arg1 (by decide) (by decide), by decide⟩)).trans (V_main_arg1 m c)
  · exact ((h c).2 main_arg2 (Finset.mem_sdiff.mpr ⟨Pipeline.mem_restRefs_of main_arg2 (by decide) (by decide), by decide⟩)).trans (V_main_arg2 m c)
  · exact ((h c).2 main_arg3 (Finset.mem_sdiff.mpr ⟨Pipeline.mem_restRefs_of main_arg3 (by decide) (by decide), by decide⟩)).trans (V_main_arg3 m c)
  · exact ((h c).2 main_arg4 (Finset.mem_sdiff.mpr ⟨Pipeline.mem_restRefs_of main_arg4 (by decide) (by decide), by decide⟩)).trans (V_main_arg4 m c)
  · exact ((h c).2 main_arg5 (Finset.mem_sdiff.mpr ⟨Pipeline.mem_restRefs_of main_arg5 (by decide) (by decide), by decide⟩)).trans (V_main_arg5 m c)
  · exact ((h c).2 main_arg6 (Finset.mem_sdiff.mpr ⟨Pipeline.mem_restRefs_of main_arg6 (by decide) (by decide), by decide⟩)).trans (V_main_arg6 m c)
  · exact ((h c).2 main_arg7 (Finset.mem_sdiff.mpr ⟨Pipeline.mem_restRefs_of main_arg7 (by decide) (by decide), by decide⟩)).trans (V_main_arg7 m c)
  · exact ((h c).2 main_arg8 (Finset.mem_sdiff.mpr ⟨Pipeline.mem_restRefs_of main_arg8 (by decide) (by decide), by decide⟩)).trans (V_main_arg8 m c)

end Cert.Proof

end
-- ==== Proof.Rows.lean ====
/-
  The output call's mathematics on one row: the mixers' channels through the output matrix and added to the layer's
  input, a normalisation, the squared-relu feed-forward layer added to its input, and the closing normalisation.
-/
module

public import Idealize.ShloMosaic.Lib.Pointwise

@[expose] public section

noncomputable section

namespace Cert.Proof.Rows

open Idealize.ShloMosaic

/-- A row over the root of its mean square, at channel `d`. The two words are the row's length and the small constant. -/
def nrm (x g : Fin 1024 → EReal) (d : Fin 1024) : EReal :=
  x d * Ideal.rsqrt (Ideal.div (∑ k, x k * x k) (Ideal.ofBits FTy.f32 1149239296#32) + Ideal.ofBits FTy.f32 897988541#32) * g d

/-- A row added to a product of a row and a matrix. -/
def plus {K N : ℕ} (x : Fin N → EReal) (p : Fin K → EReal) (w : Fin K → Fin N → EReal) (d : Fin N) : EReal :=
  x d + ∑ k, p k * w k d

/-- The feed-forward layer's first product, cut at zero. -/
def up (h : Fin 1024 → EReal) (w : Fin 1024 → Fin 4096 → EReal) (j : Fin 4096) : EReal :=
  max (∑ k, h k * w k j) 0

/-- The mixers' channels: below 512 a group of pooled channels through the group's matrix and scaled, then the attention's. -/
def mix (p : Fin 4 → Fin 128 → EReal) (a : Fin 512 → EReal) (wp : Fin 4 → Fin 128 → Fin 128 → EReal) (ps : Fin 512 → EReal)
    (d : Fin 1024) : EReal :=
  if h : (d : ℕ) < 512 then
    (∑ k, p ⟨d / 128, by omega⟩ k * wp ⟨d / 128, by omega⟩ k ⟨d % 128, by omega⟩) * ps ⟨d, h⟩
  else a ⟨d - 512, by omega⟩

/-- The output call on one row. -/
def out (x mx : Fin 1024 → EReal) (wo : Fin 1024 → Fin 1024 → EReal) (n2 : Fin 1024 → EReal) (wu : Fin 1024 → Fin 4096 → EReal)
    (wd : Fin 4096 → Fin 1024 → EReal) (fg : Fin 1024 → EReal) : Fin 1024 → EReal :=
  nrm (plus (plus x mx wo) (fun j => up (nrm (plus x mx wo) n2) wu j * up (nrm (plus x mx wo) n2) wu j) wd) fg

/-- A row's normalisation through the input matrix. -/
def proj {N : ℕ} (x g : Fin 1024 → EReal) (w : Fin 1024 → Fin N → EReal) (j : Fin N) : EReal :=
  ∑ k, nrm x g k * w k j

end Cert.Proof.Rows
-- ==== Proof.OutRef.lean ====
/-
  The reference of the output call, row by row.
-/
module

public import proofs.«01_k».proof.Proof.Gen.Reference2Ideal.Run
public import proofs.«01_k».proof.Proof.Rows

@[expose] public section

set_option maxRecDepth 16384

noncomputable section

namespace Cert.Proof.OutRef

open Cert.Reference2Ideal Cert.Reference2Ideal.Gen Idealize.ShloMosaic Idealize.ShloMosaic.TcCoe

/-- The pooled rows by their groups' matrices and scales, beside the attention rows. -/
def rMix (mr : FVec Ideal S8x64x4x128 .f32) (ar : FVec Ideal S8x64x512 .f32) (wp : FVec Ideal S1x4x128x128 .f32) (ps : FVec Ideal S1x512 .f32) :
    FVec Ideal S8x64x1024 .f32 :=
  concatenate S8x64x1024 2 [⟨S8x64x512, mulf (shapeCast _ (transpose S8x64x4x128 [2,3,0,1] (Host.dotGeneral dot_S4x128x128_S8x64x4x128_S4x128x8x64_1_3_2_01_0_2 none (shapeCast _ wp shapeCasts_S1x4x128x128_S4x128x128) mr) transposes_S4x128x8x64_S8x64x4x128_2_3_0_1) shapeCasts_S8x64x4x128_S8x64x512) (broadcastInDim S8x64x512 ![0,1,2] bcast_S1x1x512_S8x64x512_0_1_2 (broadcastInDim S1x1x512 ![2] bcast_S512_S1x1x512_2 (shapeCast _ ps shapeCasts_S1x512_S512)))⟩, ⟨S8x64x512, ar⟩] concatenates_S8x64x512_S8x64x512_S8x64x1024_d2

/-- The layer's input with the mixers' rows through the output matrix. -/
def rX1 (x mix : FVec Ideal S8x64x1024 .f32) (wo : FVec Ideal S1x1024x1024 .f32) : FVec Ideal S8x64x1024 .f32 :=
  addf x (Host.dotGeneral dot_S8x64x1024_S1024x1024_S8x64x1024_2_0_01_1_n_n none mix (shapeCast _ wo shapeCasts_S1x1024x1024_S1024x1024))

/-- The normalisation of rows. -/
def rNrm (x : FVec Ideal S8x64x1024 .f32) (g : FVec Ideal S1024 .f32) : FVec Ideal S8x64x1024 .f32 :=
  mulf (mulf x (broadcastInDim S8x64x1024 ![0,1,2] bcast_S8x64x1_S8x64x1024_0_1_2 (Host.rsqrt (addf (Host.divf (broadcastInDim S8x64x1 ![0,1] bcast_S8x64_S8x64x1_0_1 (Host.reduceAdd (mulf x x) (constant S_ .f32 0x00000000#32) reducesTo_S8x64x1024_S8x64_d2 h_S_)) (broadcastInDim S8x64x1 ![] bcast_S_S8x64x1 (constant S_ .f32 0x44800000#32))) (broadcastInDim S8x64x1 ![] bcast_S_S8x64x1 (constant S_ .f32 0x358637BD#32)))))) (broadcastInDim S8x64x1024 ![0,1,2] bcast_S1x1x1024_S8x64x1024_0_1_2 (broadcastInDim S1x1x1024 ![2] bcast_S1024_S1x1x1024_2 g))

/-- The first half of the feed-forward layer. -/
def rUp (h : FVec Ideal S8x64x1024 .f32) (wu : FVec Ideal S1x1024x4096 .f32) : FVec Ideal S8x64x4096 .f32 :=
  maximumf (Host.dotGeneral dot_S8x64x1024_S1024x4096_S8x64x4096_2_0_01_1_n_n none h (shapeCast _ wu shapeCasts_S1x1024x4096_S1024x4096)) (broadcastInDim S8x64x4096 ![] bcast_S_S8x64x4096 (constant S_ .f32 0x00000000#32))

/-- The second half of the feed-forward layer, added to its input. -/
def rX2 (x1 : FVec Ideal S8x64x1024 .f32) (f : FVec Ideal S8x64x4096 .f32) (wd : FVec Ideal S1x4096x1024 .f32) : FVec Ideal S8x64x1024 .f32 :=
  addf x1 (Host.dotGeneral dot_S8x64x4096_S4096x1024_S8x64x1024_2_0_01_1_n_n none (mulf f f) (shapeCast _ wd shapeCasts_S1x4096x1024_S4096x1024))

open Cert.Reference2Ideal.Value in
theorem res_eq (m : (ℓ : Loc nD τ sig) → Buf (Elt Ideal) ℓ) (c : Dev nD) : res_main_v47 m c =
    shapeCast _ (rNrm (rX2 (rX1 (m ((c : Thread nD τ).loc main_arg0)) (rMix (m ((c : Thread nD τ).loc main_arg1)) (m ((c : Thread nD τ).loc main_arg2)) (m ((c : Thread nD τ).loc main_arg3)) (m ((c : Thread nD τ).loc main_arg4))) (m ((c : Thread nD τ).loc main_arg5)))
      (rUp (rNrm (rX1 (m ((c : Thread nD τ).loc main_arg0)) (rMix (m ((c : Thread nD τ).loc main_arg1)) (m ((c : Thread nD τ).loc main_arg2)) (m ((c : Thread nD τ).loc main_arg3)) (m ((c : Thread nD τ).loc main_arg4))) (m ((c : Thread nD τ).loc main_arg5)))
        (shapeCast _ (m ((c : Thread nD τ).loc main_arg6)) shapeCasts_S1x1024_S1024)) (m ((c : Thread nD τ).loc main_arg7))) (m ((c : Thread nD τ).loc main_arg8))) (m ((c : Thread nD τ).loc main_arg9))) shapeCasts_S8x64x1024_S512x1024 := by
  unfold res_main_v47; rfl

theorem rMix_apply (mr : FVec Ideal S8x64x4x128 .f32) (ar : FVec Ideal S8x64x512 .f32) (wp : FVec Ideal S1x4x128x128 .f32) (ps : FVec Ideal S1x512 .f32)
    (b : Fin 8) (t : Fin 64) (d : Fin 1024) : rMix mr ar wp ps (ix3 b t d) =
      Rows.mix (fun g k => mr (ix4 b t g k)) (fun d => ar (ix3 b t d)) (fun g k d => wp (ix4 0 g k d)) (fun d => ps (ix2 0 d)) d := by
  pointwise [rMix]
  unfold Rows.mix
  simp only [mul_comm (wp _)]

theorem rX1_apply (x mix : FVec Ideal S8x64x1024 .f32) (wo : FVec Ideal S1x1024x1024 .f32)
    (b : Fin 8) (t : Fin 64) (d : Fin 1024) : rX1 x mix wo (ix3 b t d) =
      Rows.plus (fun d => x (ix3 b t d)) (fun k => mix (ix3 b t k)) (fun k d => wo (ix3 0 k d)) d := by
  pointwise [rX1]
  rfl

theorem rNrm_apply (x : FVec Ideal S8x64x1024 .f32) (g : FVec Ideal S1024 .f32)
    (b : Fin 8) (t : Fin 64) (d : Fin 1024) : rNrm x g (ix3 b t d) = Rows.nrm (fun d => x (ix3 b t d)) (fun d => g (ix1 d)) d := by
  pointwise [rNrm]
  rfl

theorem rUp_apply (x : FVec Ideal S8x64x1024 .f32) (g : FVec Ideal S1x1024x4096 .f32)
    (b : Fin 8) (t : Fin 64) (d : Fin 4096) : rUp x g (ix3 b t d) = Rows.up (fun k => x (ix3 b t k)) (fun k j => g (ix3 0 k j)) d := by
  pointwise [rUp]
  rfl

theorem rX2_apply (x : FVec Ideal S8x64x1024 .f32) (f : FVec Ideal S8x64x4096 .f32) (g : FVec Ideal S1x4096x1024 .f32)
    (b : Fin 8) (t : Fin 64) (d : Fin 1024) : rX2 x f g (ix3 b t d) =
      Rows.plus (fun d => x (ix3 b t d)) (fun j => f (ix3 b t j) * f (ix3 b t j)) (fun j d => g (ix3 0 j d)) d := by
  pointwise [rX2]
  rfl

/-- The output call's value at row `n` and channel `d`, of its ten arguments. -/
def value (x : FVec Ideal S8x64x1024 .f32) (mr : FVec Ideal S8x64x4x128 .f32) (ar : FVec Ideal S8x64x512 .f32) (wp : FVec Ideal S1x4x128x128 .f32)
    (ps : FVec Ideal S1x512 .f32) (wo : FVec Ideal S1x1024x1024 .f32) (n2 : FVec Ideal S1x1024 .f32) (wu : FVec Ideal S1x1024x4096 .f32)
    (wd : FVec Ideal S1x4096x1024 .f32) (fg : FVec Ideal S1024 .f32) (n : Fin 512) (d : Fin 1024) : EReal :=
  Rows.out (fun d => x (ix3 ⟨n / 64, by omega⟩ ⟨n % 64, by omega⟩ d))
    (Rows.mix (fun g k => mr (ix4 ⟨n / 64, by omega⟩ ⟨n % 64, by omega⟩ g k)) (fun d => ar (ix3 ⟨n / 64, by omega⟩ ⟨n % 64, by omega⟩ d))
      (fun g k d => wp (ix4 0 g k d)) (fun d => ps (ix2 0 d)))
    (fun k d => wo (ix3 0 k d)) (fun d => n2 (ix2 0 d)) (fun k j => wu (ix3 0 k j)) (fun j d => wd (ix3 0 j d)) (fun d => fg (ix1 d)) d

open Cert.Reference2Ideal.Value in
/-- The reference's result, index by index. -/
theorem res_apply (m : (ℓ : Loc nD τ sig) → Buf (Elt Ideal) ℓ) (c : Dev nD) (n : Fin 512) (d : Fin 1024) :
    (res_main_v47 m c : FVec Ideal S512x1024 .f32) (ix2 n d) =
      value (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) n d := by
  rw [res_eq]
  have hg : ∀ (g : FVec Ideal S1x1024 .f32) (d : Fin 1024), shapeCast S1024 g shapeCasts_S1x1024_S1024 (ix1 d) = g (ix2 0 d) := by
    intro g d; pointwise
  have hr : ∀ x : FVec Ideal S8x64x1024 .f32, shapeCast S512x1024 x shapeCasts_S8x64x1024_S512x1024 (ix2 n d)
      = x (ix3 ⟨n / 64, by omega⟩ ⟨n % 64, by omega⟩ d) := by
    intro x; pointwise
  rw [hr]
  simp only [rNrm_apply, rX2_apply, rX1_apply, rUp_apply, rMix_apply, hg]
  rfl

end Cert.Proof.OutRef
-- ==== Proof.Out.lean ====
/-
  The output call of the layer, row by row.
-/
module

public import proofs.«01_k».proof.Proof.Gen.Kernel2Ideal.Value
public import proofs.«01_k».proof.Proof.OutRef
public import Idealize.ShloMosaic.Lib.Pipeline.ValueKit

@[expose] public section

set_option maxRecDepth 16384

noncomputable section

namespace Cert.Proof.Out

open Cert.Kernel2Ideal Cert.Kernel2Ideal.Gen Idealize.ShloMosaic Idealize.ShloMosaic.TcCoe

def kX1 (x : FVec Ideal S256x1024 .f32) (mix : FVec Ideal S256x1024 .bf16) (wo : FVec Ideal S1024x1024 .bf16) : FVec Ideal S256x1024 .f32 :=
  addf x (matmul dot_S256x1024_S1024x1024_S256x1024_1_0_0_1_n_n none mix wo (constant S256x1024 .f32 0x00000000#32))

def kNrm (x : FVec Ideal S256x1024 .f32) (g : FVec Ideal S1x1024 .f32) : FVec Ideal S256x1024 .f32 :=
  mulf (mulf x (broadcastTo S256x1024 (rsqrt (addf (divf (shapeCast S256x1 (multiReduction .add [1] S256 (mulf x x) 0x00000000#32 reduces_S256x1024_S256 (.inl rfl) rfl) shapeCasts_S256_S256x1)
    (broadcast S256x1 (Scalar.ofBits .f32 0x44800000#32))) (broadcast S256x1 (Scalar.ofBits .f32 0x358637BD#32)))) broadcasts_S256x1_S256x1024))
    (broadcastTo S256x1024 (shapeCast S1x1024 g shapeCasts_S1x1024_S1x1024) broadcasts_S1x1024_S256x1024)

def kUp (h : FVec Ideal S256x1024 .f32) (wu : FVec Ideal S1024x4096 .bf16) : FVec Ideal S256x4096 .f32 :=
  maximumf (matmul dot_S256x1024_S1024x4096_S256x4096_1_0_0_1_n_n none (truncf .bf16 h bitsLt_bf16_f32) (shapeCast S1024x4096 wu shapeCasts_S1024x4096_S1024x4096) (constant S256x4096 .f32 0x00000000#32))
    (broadcast S256x4096 (Scalar.ofBits .f32 0x00000000#32))

def kX2 (x : FVec Ideal S256x1024 .f32) (f : FVec Ideal S256x4096 .f32) (wd : FVec Ideal S4096x1024 .bf16) : FVec Ideal S256x1024 .f32 :=
  addf x (matmul dot_S256x4096_S4096x1024_S256x1024_1_0_0_1_n_n none (truncf .bf16 (mulf f f) bitsLt_bf16_f32) (shapeCast S4096x1024 wd shapeCasts_S4096x1024_S4096x1024) (constant S256x1024 .f32 0x00000000#32))

theorem pay4_eq (mix x wo n2 wu wd fg) :
    k0_pay4 (F := Ideal) mix x wo (constant S256x1024 .f32 0x00000000#32) n2 wu wd fg
      = kNrm (kX2 (kX1 x mix wo) (kUp (kNrm (kX1 x mix wo) n2) wu) wd) fg := rfl

theorem kX1_apply (x : FVec Ideal S256x1024 .f32) (mx : FVec Ideal S256x1024 .bf16) (wo : FVec Ideal S1024x1024 .bf16) (r : Fin 256) (d : Fin 1024) :
    kX1 x mx wo (ix2 r d) = Rows.plus (fun d => x (ix2 r d)) (fun k => mx (ix2 r k)) (fun k d => wo (ix2 k d)) d := by
  pointwise [kX1]
  rfl

theorem kNrm_apply (x : FVec Ideal S256x1024 .f32) (g : FVec Ideal S1x1024 .f32) (r : Fin 256) (d : Fin 1024) :
    kNrm x g (ix2 r d) = Rows.nrm (fun d => x (ix2 r d)) (fun d => g (ix2 0 d)) d := by
  pointwise [kNrm]
  rfl

theorem kUp_apply (h : FVec Ideal S256x1024 .f32) (wu : FVec Ideal S1024x4096 .bf16) (r : Fin 256) (j : Fin 4096) :
    kUp h wu (ix2 r j) = Rows.up (fun k => h (ix2 r k)) (fun k j => wu (ix2 k j)) j := by
  pointwise [kUp]
  rfl

theorem kX2_apply (x : FVec Ideal S256x1024 .f32) (f : FVec Ideal S256x4096 .f32) (wd : FVec Ideal S4096x1024 .bf16) (r : Fin 256) (d : Fin 1024) :
    kX2 x f wd (ix2 r d) = Rows.plus (fun d => x (ix2 r d)) (fun j => f (ix2 r j) * f (ix2 r j)) (fun j d => wd (ix2 j d)) d := by
  pointwise [kX2]
  rfl

/-- The mixers' channels of a block's row: the four groups are read at their own columns. -/
theorem mix_apply (m : FVec Ideal S256x512 .f32) (a : FVec Ideal S256x512 .f32) (wp : FVec Ideal S4x128x128 .bf16) (ps : FVec Ideal S1x512 .f32)
    (r : Fin 256) (d : Fin 1024) :
    k0_pay1 (F := Ideal) (View.ld m r0_0) (View.ld wp r0_1) (View.ld wp r0_2) (View.ld wp r0_3) (View.ld wp r0_4) (View.ld ps r0_5) (View.ld a r0_0) (ix2 r d) =
      Rows.mix (fun g k => m (ix2 r ⟨128 * g + k, by omega⟩)) (fun d => a (ix2 r d)) (fun g k d => wp (ix3 g k d)) (fun d => ps (ix2 0 d)) d := by
  pointwise [k0_pay1]
  unfold Rows.mix
  by_cases h : (d : ℕ) < 512
  · rw [dif_pos h, dif_pos h]
    congr 1
    split_ifs <;> (refine Finset.sum_congr rfl fun k _ => ?_; dsimp only; congr 1 <;> blk_ext [])
  · rw [dif_neg h, dif_neg h]

/-- What one grid point writes, at a row and a channel of its block. -/
theorem out_apply (x0 : FVec Ideal S256x1024 .f32) (x1 x2 : FVec Ideal S256x512 .f32) (x3 : FVec Ideal S4x128x128 .bf16) (x4 : FVec Ideal S1x512 .f32)
    (x5 : FVec Ideal S1024x1024 .bf16) (x6 : FVec Ideal S1x1024 .f32) (x7 : FVec Ideal S1024x4096 .bf16) (x8 : FVec Ideal S4096x1024 .bf16)
    (x9 : FVec Ideal S1x1024 .f32) (r : Fin 256) (d : Fin 1024) :
    (out0_10 (F := Ideal) x0 x1 x2 x3 x4 x5 x6 x7 x8 x9 : FVec Ideal S256x1024 .f32) (ix2 r d) =
      Rows.out (fun d => x0 (ix2 r d))
        (Rows.mix (fun g k => x1 (ix2 r ⟨128 * g + k, by omega⟩)) (fun d => x2 (ix2 r d)) (fun g k d => x3 (ix3 g k d)) (fun d => x4 (ix2 0 d)))
        (fun k d => x5 (ix2 k d)) (fun d => x6 (ix2 0 d)) (fun k j => x7 (ix2 k j)) (fun j d => x8 (ix2 j d)) (fun d => x9 (ix2 0 d)) d := by
  unfold out0_10
  rw [View.canon_cons_unit_lit', pay4_eq]
  have h0 : ∀ r d, k0_pay2 (F := Ideal) (View.ld x0 r0_6) (ix2 r d) = x0 (ix2 r d) := by intro r d; pointwise [k0_pay2]
  have h5 : ∀ r d, k0_pay3 (F := Ideal) (View.ld x5 r0_7) (ix2 r d) = x5 (ix2 r d) := by intro r d; pointwise [k0_pay3]
  have h6 : ∀ d : Fin 1024, View.ld (Val := Elt Ideal) (e' := .f32) x6 r0_8 (ix2 0 d) = x6 (ix2 0 d) := by intro d; pointwise
  have h7 : ∀ (r : Fin 1024) (d : Fin 4096), View.ld (Val := Elt Ideal) (e' := .bf16) x7 r0_9 (ix2 r d) = x7 (ix2 r d) := by intro r d; pointwise
  have h8 : ∀ (r : Fin 4096) (d : Fin 1024), View.ld (Val := Elt Ideal) (e' := .bf16) x8 r0_10 (ix2 r d) = x8 (ix2 r d) := by intro r d; pointwise
  have h9 : ∀ d : Fin 1024, View.ld (Val := Elt Ideal) (e' := .f32) x9 r0_8 (ix2 0 d) = x9 (ix2 0 d) := by intro d; pointwise
  simp only [kNrm_apply, kX2_apply, kX1_apply, kUp_apply, mix_apply, h0, h5, h6, h7, h8, h9]
  · rfl
  · decide

end Cert.Proof.Out
-- ==== Proof.OutValue.lean ====
/-
  The output call's result array after its run: at every row and channel the value that the reference has there.
-/
module

public import proofs.«01_k».proof.Proof.Out
public import Idealize.ShloMosaic.Lib.Claim

@[expose] public section

set_option maxRecDepth 16384

noncomputable section

namespace Cert.Proof.OutValue

open Cert.Kernel2Ideal Cert.Kernel2Ideal.Gen Idealize.ShloMosaic Idealize.ShloMosaic.TcCoe Idealize.SL.Sem

/-- Where each window stands at each point: the row blocks move with the point, the weights stay. -/
theorem idx : ∀ t : Fin cfg0.N, win0_0.index t = ![t.val, 0] ∧ win0_1.index t = ![t.val, 0] ∧ win0_2.index t = ![t.val, 0]
    ∧ win0_3.index t = ![0, 0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0] :=
  (by decide +kernel)

variable (m : (ℓ : Loc nD τ sig) → Buf (Elt Ideal) ℓ) (c : Dev nD)

/-- The value at row `n` and channel `d`, of the kernel's arguments. -/
def val (n : Fin 512) (d : Fin 1024) : EReal :=
  OutRef.value (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) n d

theorem read0 (t : Fin cfg0.N) (n : Fin 512) (r : Fin 256) (h : (n : ℕ) = t.val * 256 + r) (d : Fin 1024) :
    (iblk m c 0 t : FVec Ideal S256x1024 .f32) (ix2 r d)
      = (m ((c : Thread nD τ).loc main_arg0) : FVec Ideal S8x64x1024 .f32) (ix3 ⟨n / 64, by omega⟩ ⟨n % 64, by omega⟩ d) := by
  blk_ext! [iblk, V, idx t]

theorem read1 (t : Fin cfg0.N) (n : Fin 512) (r : Fin 256) (h : (n : ℕ) = t.val * 256 + r) (g : Fin 4) (k : Fin 128) :
    (iblk m c 1 t : FVec Ideal S256x512 .f32) (ix2 r ⟨128 * g + k, by omega⟩)
      = (m ((c : Thread nD τ).loc main_arg1) : FVec Ideal S8x64x4x128 .f32) (ix4 ⟨n / 64, by omega⟩ ⟨n % 64, by omega⟩ g k) := by
  blk_ext! [iblk, V, idx t]

theorem read2 (t : Fin cfg0.N) (n : Fin 512) (r : Fin 256) (h : (n : ℕ) = t.val * 256 + r) (d : Fin 512) :
    (iblk m c 2 t : FVec Ideal S256x512 .f32) (ix2 r d)
      = (m ((c : Thread nD τ).loc main_arg2) : FVec Ideal S8x64x512 .f32) (ix3 ⟨n / 64, by omega⟩ ⟨n % 64, by omega⟩ d) := by
  blk_ext! [iblk, V, idx t]

theorem read3 (t : Fin cfg0.N) (g : Fin 4) (k d : Fin 128) :
    (iblk m c 3 t : FVec Ideal S4x128x128 .bf16) (ix3 g k d)
      = (m ((c : Thread nD τ).loc main_arg3) : FVec Ideal S1x4x128x128 .f32) (ix4 0 g k d) := by
  blk_ext! [iblk, V, idx t]

theorem read4 (t : Fin cfg0.N) (d : Fin 512) :
    (iblk m c 4 t : FVec Ideal S1x512 .f32) (ix2 0 d) = (m ((c : Thread nD τ).loc main_arg4) : FVec Ideal S1x512 .f32) (ix2 0 d) := by
  blk_ext! [iblk, V, idx t]

theorem read5 (t : Fin cfg0.N) (k d : Fin 1024) :
    (iblk m c 5 t : FVec Ideal S1024x1024 .bf16) (ix2 k d)
      = (m ((c : Thread nD τ).loc main_arg5) : FVec Ideal S1x1024x1024 .f32) (ix3 0 k d) := by
  blk_ext! [iblk, V, idx t]

theorem read6 (t : Fin cfg0.N) (d : Fin 1024) :
    (iblk m c 6 t : FVec Ideal S1x1024 .f32) (ix2 0 d) = (m ((c : Thread nD τ).loc main_arg6) : FVec Ideal S1x1024 .f32) (ix2 0 d) := by
  blk_ext! [iblk, V, idx t]

theorem read7 (t : Fin cfg0.N) (k : Fin 1024) (j : Fin 4096) :
    (iblk m c 7 t : FVec Ideal S1024x4096 .bf16) (ix2 k j)
      = (m ((c : Thread nD τ).loc main_arg7) : FVec Ideal S1x1024x4096 .f32) (ix3 0 k j) := by
  blk_ext! [iblk, V, idx t]

theorem read8 (t : Fin cfg0.N) (j : Fin 4096) (d : Fin 1024) :
    (iblk m c 8 t : FVec Ideal S4096x1024 .bf16) (ix2 j d)
      = (m ((c : Thread nD τ).loc main_arg8) : FVec Ideal S1x4096x1024 .f32) (ix3 0 j d) := by
  blk_ext! [iblk, V, idx t]

theorem read9 (t : Fin cfg0.N) (d : Fin 1024) :
    (iblk m c 9 t : FVec Ideal S1x1024 .f32) (ix2 0 d) = (m ((c : Thread nD τ).loc main_arg9) : FVec Ideal S1024 .f32) (ix1 d) := by
  blk_ext! [iblk, V, idx t]

/-- The result array after the run. -/
theorem final : (dats m 0 c).arrAt 10 cfg0.N = fun i : S512x1024.Idx => val m c (i 0) (i 1) := by
  refine (dats m 0 c).arrAt_eq_of_covers 10 _ (by decide +kernel) fun t hf y => ?_
  blk_simp
  rw [after0_10]
  idx_vars y
  have e0 : ((((View.whole main_v16).slice (win0_10.rect t)).emb (ix2 y0 y1) 0 : Fin 512) : ℕ) = t.val * 256 + y0 := by
    blk_simp [idx t]
  have e1 : (((View.whole main_v16).slice (win0_10.rect t)).emb (ix2 y0 y1) 1 : Fin 1024) = y1 := Fin.ext (by blk_simp [idx t])
  rw [e1]
  generalize (((View.whole main_v16).slice (win0_10.rect t)).emb (ix2 y0 y1) 0 : Fin 512) = n at e0 ⊢
  refine (Out.out_apply _ _ _ _ _ _ _ _ _ _ y0 y1).trans ?_
  simp only [read0 m c t n y0 e0, read1 m c t n y0 e0, read2 m c t n y0 e0, read3, read4, read5, read6, read7, read8, read9]
  rfl

end Cert.Proof.OutValue
-- ==== Proof.OutClaims.lean ====
/-
  The claims about the output call (`Kernel2`) and its reference (`Reference2`): the frames, and that at the ideal
  instance the two end with the same result.
-/
module

public import proofs.«01_k».proof.Defs
public import proofs.«01_k».proof.Proof.Gen.Kernel2
public import proofs.«01_k».proof.Proof.Gen.Kernel2.Frame
public import proofs.«01_k».proof.Proof.OutValue
public import Idealize.ShloMosaic.Lib.Quiescent

@[expose] public section

noncomputable section

namespace Cert.Proof.OutClaims

open Idealize.ShloMosaic Idealize.SL.Sem

theorem frame : Cert.quiescent_Kernel2 := fun m ρ _ => Cert.Kernel2.Gen.frame m ρ

theorem frame_ideal : Cert.quiescent_Kernel2Ideal := fun m ρ _ => Cert.Kernel2Ideal.Gen.frame m ρ

/-- The reference's frame, from its run. -/
theorem frame_reference : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run m ρ)

/-- Both end with `OutValue.val` of the kernel's arguments at every row and channel. -/
theorem algebraic : Cert.algebraic_Kernel2Ideal_Reference2Ideal := by
  intro m g m' g' _ hargs
  refine ⟨fun c => fun i : Cert.Kernel2Ideal.S512x1024.Idx => OutValue.val m c (i 0) (i 1), ?_, ?_⟩
  · exact (θ_run Cert.Kernel2Ideal.defs _ _).mono (fun r h c => ⟨(h c).1.trans (OutValue.final m c), (h c).2⟩)
      (Cert.Kernel2Ideal.Value.run_blocks m g)
  · refine (θ_run Cert.Reference2Ideal.defs _ _).mono (fun r h c => ⟨(h c).1.trans ?_, (h c).2⟩)
      (Cert.Reference2Ideal.Value.run m' g')
    obtain ⟨h0, h1, h2, h3, h4, h5, h6, h7, h8, h9⟩ := hargs c
    funext i
    idx_vars i
    refine (OutRef.res_apply m' c i0 i1).trans ?_
    rw [h0, h1, h2, h3, h4, h5, h6, h7, h8, h9]
    rfl

end Cert.Proof.OutClaims

end
-- ==== Proof.ProjRef.lean ====
/-
  The references of the projection call on the sample batch's rows, row by row.
-/
module

public import proofs.«01_k».proof.Proof.Gen.Reference4Ideal.Run
public import proofs.«01_k».proof.Proof.Gen.Reference5Ideal.Run
public import proofs.«01_k».proof.Proof.Rows

@[expose] public section

set_option maxRecDepth 16384

noncomputable section

namespace Cert.Proof.ProjRef

open Cert.Reference4Ideal Cert.Reference4Ideal.Gen Idealize.ShloMosaic Idealize.ShloMosaic.TcCoe

/-- The normalisation of rows. -/
def rNrm (x : FVec Ideal S8x64x1024 .f32) (g : FVec Ideal S1x1024 .f32) : FVec Ideal S8x64x1024 .f32 :=
  mulf (mulf x (broadcastInDim S8x64x1024 ![0,1,2] bcast_S8x64x1_S8x64x1024_0_1_2 (Host.rsqrt (addf (Host.divf (broadcastInDim S8x64x1 ![0,1] bcast_S8x64_S8x64x1_0_1 (Host.reduceAdd (mulf x x) (constant S_ .f32 0x00000000#32) reducesTo_S8x64x1024_S8x64_d2 h_S_)) (broadcastInDim S8x64x1 ![] bcast_S_S8x64x1 (constant S_ .f32 0x44800000#32))) (broadcastInDim S8x64x1 ![] bcast_S_S8x64x1 (constant S_ .f32 0x358637BD#32)))))) (broadcastInDim S8x64x1024 ![0,1,2] bcast_S1x1x1024_S8x64x1024_0_1_2 (broadcastInDim S1x1x1024 ![2] bcast_S1024_S1x1x1024_2 (shapeCast _ g shapeCasts_S1x1024_S1024)))

/-- All the projected columns. -/
def rZ (h : FVec Ideal S8x64x1024 .f32) (w : FVec Ideal S1x1024x2344 .f32) : FVec Ideal S512x2344 .f32 :=
  shapeCast _ (Host.dotGeneral dot_S8x64x1024_S1024x2344_S8x64x2344_2_0_01_1_n_n none h (shapeCast _ w shapeCasts_S1x1024x2344_S1024x2344)) shapeCasts_S8x64x2344_S512x2344

theorem rNrm_apply (x : FVec Ideal S8x64x1024 .f32) (g : FVec Ideal S1x1024 .f32)
    (b : Fin 8) (t : Fin 64) (d : Fin 1024) : rNrm x g (ix3 b t d) = Rows.nrm (fun d => x (ix3 b t d)) (fun d => g (ix2 0 d)) d := by
  pointwise [rNrm]
  rfl

/-- Row `n`, column `j` of the projection, of the arguments. -/
def z (x : FVec Ideal S8x64x1024 .f32) (g : FVec Ideal S1x1024 .f32) (w : FVec Ideal S1x1024x2344 .f32) (n : Fin 512) (j : Fin 2344) : EReal :=
  Rows.proj (fun d => x (ix3 ⟨n / 64, by omega⟩ ⟨n % 64, by omega⟩ d)) (fun d => g (ix2 0 d)) (fun k j => w (ix3 0 k j)) j

theorem rZ_apply (x : FVec Ideal S8x64x1024 .f32) (g : FVec Ideal S1x1024 .f32) (w : FVec Ideal S1x1024x2344 .f32) (n : Fin 512) (j : Fin 2344) :
    rZ (rNrm x g) w (ix2 n j) = z x g w n j := by
  pointwise [rZ]
  simp only [rNrm_apply]
  rfl

variable (x : FVec Ideal S8x64x1024 .f32) (g : FVec Ideal S1x1024 .f32) (w : FVec Ideal S1x1024x2344 .f32) (n : Fin 512) (d : Fin 512)

theorem u_apply : extractStridedSlice S512x512 ![0, 0] (rZ (rNrm x g) w) slices_S512x2344_S512x512_0_0 (ix2 n d)
    = z x g w n ⟨d, by omega⟩ := by
  pointwise
  exact rZ_apply ..

theorem q_apply : (truncf .bf16 (mulf (extractStridedSlice S512x512 ![0, 512] (rZ (rNrm x g) w) slices_S512x2344_S512x512_0_512)
      (broadcastInDim S512x512 ![] bcast_S_S512x512 (constant S_ .f32 0x3E38AA3B#32))) bitsLt_bf16_f32 : FVec Ideal S512x512 .bf16) (ix2 n d)
    = z x g w n ⟨512 + d, by omega⟩ * Ideal.ofBits .f32 0x3E38AA3B#32 := by
  pointwise
  rw [rZ_apply]

theorem k_apply : extractStridedSlice S512x512 ![0, 1024] (rZ (rNrm x g) w) slices_S512x2344_S512x512_0_1024 (ix2 n d)
    = z x g w n ⟨1024 + d, by omega⟩ := by
  pointwise
  exact rZ_apply ..

theorem kb_apply : (truncf .bf16 (extractStridedSlice S512x512 ![0, 1024] (rZ (rNrm x g) w) slices_S512x2344_S512x512_0_1024) bitsLt_bf16_f32 : FVec Ideal S512x512 .bf16) (ix2 n d)
    = z x g w n ⟨1024 + d, by omega⟩ := by
  pointwise
  exact rZ_apply ..

theorem v_apply : extractStridedSlice S512x512 ![0, 1536] (rZ (rNrm x g) w) slices_S512x2344_S512x512_0_1536 (ix2 n d)
    = z x g w n ⟨1536 + d, by omega⟩ := by
  pointwise
  exact rZ_apply ..

/-- The index columns, then zeros. -/
theorem idx_apply (j : Fin 384) :
    (concatenate Cert.Reference5Ideal.S512x384 1 [⟨Cert.Reference5Ideal.S512x256, extractStridedSlice Cert.Reference5Ideal.S512x256 ![0, 2048] (rZ (rNrm x g) w) Cert.Reference5Ideal.Gen.slices_S512x2344_S512x256_0_2048⟩,
      ⟨Cert.Reference5Ideal.S512x32, extractStridedSlice Cert.Reference5Ideal.S512x32 ![0, 2304] (rZ (rNrm x g) w) Cert.Reference5Ideal.Gen.slices_S512x2344_S512x32_0_2304⟩,
      ⟨Cert.Reference5Ideal.S512x8, extractStridedSlice Cert.Reference5Ideal.S512x8 ![0, 2336] (rZ (rNrm x g) w) Cert.Reference5Ideal.Gen.slices_S512x2344_S512x8_0_2336⟩,
      ⟨Cert.Reference5Ideal.S512x88, broadcastInDim Cert.Reference5Ideal.S512x88 ![] Cert.Reference5Ideal.Gen.bcast_S_S512x88 (constant S_ .f32 0x00000000#32)⟩]
      Cert.Reference5Ideal.Gen.concatenates_S512x256_S512x32_S512x8_S512x88_S512x384_d1 : FVec Ideal Cert.Reference5Ideal.S512x384 .f32) (ix2 n j)
    = if h : (j : ℕ) < 296 then z x g w n ⟨2048 + j, by omega⟩ else 0 := by
  pointwise
  simp only [rZ_apply]
  by_cases h3 : (j : ℕ) < 296
  · refine Eq.trans ?_ (dif_pos h3).symm
    split_ifs
    all_goals first | rfl | omega | skip
    all_goals
      refine congrArg (z x g w n) (Fin.ext ?_)
      simp only [Fin.val_mk]
      omega
  · refine Eq.trans ?_ (dif_neg h3).symm
    split_ifs
    all_goals first | rfl | omega

end Cert.Proof.ProjRef
-- ==== Proof.Finite.lean ====
/-
  Finite reals: a normalised row is finite whenever its gains are, and the three products of split parts are one product.
-/
module

public import proofs.«01_k».proof.Proof.Rows
public import Idealize.ShloMosaic.PureOps.Ideal

@[expose] public section

noncomputable section

namespace Cert.Proof.Finite

open Idealize.ShloMosaic

/-- A real number: neither infinity. -/
def IsReal (x : EReal) : Prop := x ≠ ⊥ ∧ x ≠ ⊤

theorem IsReal.coe (r : ℝ) : IsReal (r : EReal) := ⟨EReal.coe_ne_bot _, EReal.coe_ne_top _⟩

theorem IsReal.lift {x : EReal} (h : IsReal x) : ∃ a : ℝ, (a : EReal) = x := ⟨x.toReal, EReal.coe_toReal h.2 h.1⟩

theorem IsReal.sub_self {x : EReal} (h : IsReal x) : x - x = 0 := EReal.sub_self h.2 h.1

theorem IsReal.mul {x y : EReal} (hx : IsReal x) (hy : IsReal y) : IsReal (x * y) := by
  obtain ⟨a, rfl⟩ := hx.lift
  obtain ⟨b, rfl⟩ := hy.lift
  rw [← EReal.coe_mul]
  exact .coe _

theorem isReal_zero : IsReal 0 := .coe 0

/-- Three products of the split parts are one product of the whole, where nothing is infinite. -/
theorem split_sum {N : ℕ} (h w : Fin N → EReal) (hh : ∀ k, IsReal (h k)) (hw : ∀ k, IsReal (w k)) :
    (∑ k, h k * w k) + (∑ k, (h k - h k) * w k) + (∑ k, h k * (w k - w k)) = ∑ k, h k * w k := by
  simp only [(hh _).sub_self, (hw _).sub_self, zero_mul, mul_zero, Finset.sum_const_zero, add_zero]

theorem ofBits_1024 : Ideal.ofBits .f32 1149239296#32 = ((1024 : ℝ) : EReal) := by
  simp [Ideal.ofBits, Ideal.ieee, -EReal.coe_mul]
  norm_num

theorem ofBits_eps : ∃ e : ℝ, 0 < e ∧ Ideal.ofBits .f32 897988541#32 = (e : EReal) := by
  refine ⟨(8388608 + 407485) * (2 : ℝ) ^ (-43 : Int), by positivity, ?_⟩
  simp [Ideal.ofBits, Ideal.ieee, -EReal.coe_mul]
  norm_num

theorem sq_nonneg (x : EReal) : 0 ≤ x * x := by
  induction x with
  | bot => simp
  | top => simp
  | coe r => rw [← EReal.coe_mul]; exact_mod_cast mul_self_nonneg r

theorem isReal_of_sq {x : EReal} (h : x * x ≠ ⊤) : IsReal x := by
  induction x with
  | bot => simp at h
  | top => simp at h
  | coe r => exact .coe r

theorem isReal_rsqrt {r : ℝ} (h : 0 < r) : IsReal (Ideal.rsqrt (r : EReal)) := by
  rw [Ideal.rsqrt_coe, if_neg (not_lt.mpr h.le), if_neg h.ne']
  exact .coe _

/-- A normalised row's channel is finite where its gain is, whatever the row: a row with an infinity has an infinite
    mean square, whose inverse root is zero. -/
theorem nrm {x g : Fin 1024 → EReal} {d : Fin 1024} (hg : IsReal (g d)) : IsReal (Rows.nrm x g d) := by
  refine IsReal.mul ?_ hg
  obtain ⟨e, he, hE⟩ := ofBits_eps
  rw [ofBits_1024, hE, Ideal.div_coe (by norm_num : (1024 : ℝ) ≠ 0)]
  by_cases hs : (∑ k, x k * x k) = ⊤
  · rw [hs, EReal.top_mul_coe_of_pos (by norm_num), EReal.top_add_coe, Ideal.rsqrt_top, mul_zero]
    exact isReal_zero
  · have hx : ∀ k, IsReal (x k) := fun k => isReal_of_sq fun hk =>
      hs (top_le_iff.mp (hk ▸ Finset.single_le_sum (f := fun k => x k * x k) (fun i _ => sq_nonneg (x i)) (Finset.mem_univ k)))
    have hb : (∑ k, x k * x k) ≠ ⊥ := fun h =>
      absurd (Finset.sum_nonneg fun i (_ : i ∈ Finset.univ) => sq_nonneg (x i)) (by rw [h]; simp)
    obtain ⟨s, hS⟩ := IsReal.lift ⟨hb, hs⟩
    have h0 : 0 ≤ s := by
      have := Finset.sum_nonneg fun i (_ : i ∈ Finset.univ) => sq_nonneg (x i)
      rw [← hS] at this
      exact_mod_cast this
    rw [← hS, ← EReal.coe_mul, ← EReal.coe_add]
    exact (hx d).mul (isReal_rsqrt (by positivity))

/-- A magnitude below the greatest word is a real number. -/
theorem isReal_of_abs {x : EReal} (h : max x (-x) < ⊤) : IsReal x := by
  induction x with
  | bot => simp at h
  | top => simp at h
  | coe r => exact .coe r

theorem ofBits_inf : Ideal.ofBits .f32 2139095040#32 = ⊤ := by
  simp [Ideal.ofBits, Ideal.ieee]

theorem isReal_of_cmp {x : EReal} (h : Ideal.cmp .olt (max x (-x)) (Ideal.ofBits .f32 2139095040#32) = 1#1) : IsReal x := by
  rw [ofBits_inf] at h
  refine isReal_of_abs ?_
  by_contra hn
  simp [Ideal.cmp, hn] at h

end Cert.Proof.Finite

end
-- ==== Proof.ProjIdx.lean ====
/-
  The projection call's index columns on the sample batch's rows, row by row. The call splits the normalised row and the
  weights into a rounded and a remaining part and adds three products; where the gains and the weights are finite, the
  remainders are zero over the reals.
-/
module

public import proofs.«01_k».proof.Proof.Gen.Kernel5Ideal.Value
public import proofs.«01_k».proof.Proof.ProjRef
public import proofs.«01_k».proof.Proof.Finite
public import Idealize.ShloMosaic.Lib.Pipeline.ValueKit
public import Idealize.ShloMosaic.Lib.Claim

@[expose] public section

set_option maxRecDepth 16384

noncomputable section

namespace Cert.Proof.ProjIdx

open Cert.Kernel5Ideal Cert.Kernel5Ideal.Gen Idealize.ShloMosaic Idealize.ShloMosaic.TcCoe Idealize.SL.Sem

theorem nrm_apply (x : FVec Ideal S512x1024 .f32) (g : FVec Ideal S1x1024 .f32) (r : Fin 512) (d : Fin 1024) :
    k0_pay2 (F := Ideal) (View.ld x r0_0) (View.ld g r0_1) (ix2 r d) = Rows.nrm (fun d => x (ix2 r d)) (fun d => g (ix2 0 d)) d := by
  pointwise [k0_pay2]
  rfl

/-- Where each window stands at each point: the row blocks move with the point, the weights stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0] :=
  (by decide +kernel)

variable (m : (ℓ : Loc nD τ sig) → Buf (Elt Ideal) ℓ) (c : Dev nD)

theorem V11 : V m c main_v11 = shapeCast S512x1024 (m ((c : Thread nD τ).loc main_arg0) : FVec Ideal S8x64x1024 .f32) shapeCasts_S8x64x1024_S512x1024 := rfl
theorem V10 : V m c main_v10 = broadcastInDim S1x1024 ![1] bcast_S1024_S1x1024_1 (shapeCast S1024 (m ((c : Thread nD τ).loc main_arg1) : FVec Ideal S1x1024 .f32) shapeCasts_S1x1024_S1024) := rfl
theorem cast0 (X : FVec Ideal S8x64x1024 .f32) (n : Fin 512) (d : Fin 1024) :
    shapeCast S512x1024 X shapeCasts_S8x64x1024_S512x1024 (ix2 n d) = X (ix3 ⟨n / 64, by omega⟩ ⟨n % 64, by omega⟩ d) := by
  pointwise

theorem cast1 (X : FVec Ideal S1x1024 .f32) (d : Fin 1024) :
    broadcastInDim S1x1024 ![1] bcast_S1024_S1x1024_1 (shapeCast S1024 X shapeCasts_S1x1024_S1024) (ix2 0 d) = X (ix2 0 d) := by
  pointwise

theorem sitofp0 : (FloatOps.sitofp (F := Ideal) FTy.f32 (0#32 : BitVec 32) : EReal) = 0 := by
  simp [FloatOps.sitofp]

/-- The index columns, padded. -/
def wPad (X : FVec Ideal S1x1024x2344 .f32) : FVec Ideal S1024x384 .f32 :=
  pad S1024x384 ![0, 0] ![0, 88] ![0, 0] (extractStridedSlice S1024x296 ![0, 2048] (shapeCast S1024x2344 X shapeCasts_S1x1024x2344_S1024x2344) slices_S1024x2344_S1024x296_0_2048) (sitofp .f32 (constantI S_ 32 0#32)) pads_S1024x296_S1024x384_000_0880 h_S_

theorem wPad_apply (X : FVec Ideal S1x1024x2344 .f32) (k : Fin 1024) (j : Fin 384) :
    wPad X (ix2 k j) = if h : (j : ℕ) < 296 then X (ix3 0 k ⟨2048 + j, by omega⟩) else 0 := by
  pointwise [wPad]
  rw [sitofp0]

theorem V5 : V m c main_v5 = (truncf .bf16 (wPad (m ((c : Thread nD τ).loc main_arg2))) bitsLt_bf16_f32 : FVec Ideal S1024x384 .bf16) := rfl
theorem V8 : V m c main_v8 = (truncf .bf16 (subf (wPad (m ((c : Thread nD τ).loc main_arg2))) (extf .f32 (truncf .bf16 (wPad (m ((c : Thread nD τ).loc main_arg2))) bitsLt_bf16_f32 : FVec Ideal S1024x384 .bf16) bitsLt_bf16_f32) : FVec Ideal S1024x384 .f32) bitsLt_bf16_f32 : FVec Ideal S1024x384 .bf16) := rfl

theorem read0 (t : Fin cfg0.N) (n : Fin 512) (r : Fin 512) (h : (n : ℕ) = t.val * 512 + r) (d : Fin 1024) :
    (iblk m c 0 t : FVec Ideal S512x1024 .f32) (ix2 r d)
      = (m ((c : Thread nD τ).loc main_arg0) : FVec Ideal S8x64x1024 .f32) (ix3 ⟨n / 64, by omega⟩ ⟨n % 64, by omega⟩ d) := by
  have e : ((cfg0.win 0).blk t).view.emb (ix2 r d) = (ix2 n d : S512x1024.Idx) := by
    blk_ext [idx t]
  exact (congrArg (V m c main_v11) e).trans ((congrFun (V11 m c) _).trans (cast0 _ n d))

theorem read1 (t : Fin cfg0.N) (d : Fin 1024) :
    (iblk m c 1 t : FVec Ideal S1x1024 .f32) (ix2 0 d) = (m ((c : Thread nD τ).loc main_arg1) : FVec Ideal S1x1024 .f32) (ix2 0 d) := by
  have e : ((cfg0.win 1).blk t).view.emb (ix2 0 d) = (ix2 0 d : S1x1024.Idx) := by
    blk_ext [idx t]
  exact (congrArg (V m c main_v10) e).trans ((congrFun (V10 m c) _).trans (cast1 _ d))

theorem read3 (t : Fin cfg0.N) (k : Fin 1024) (j : Fin 384) :
    (iblk m c 3 t : FVec Ideal S1024x384 .bf16) (ix2 k j) = wPad (m ((c : Thread nD τ).loc main_arg2)) (ix2 k j) := by
  have e : ((cfg0.win 3).blk t).view.emb (ix2 k j) = (ix2 k j : S1024x384.Idx) := by
    blk_ext [idx t]
  exact (congrArg (V m c main_v5) e).trans (congrFun (V5 m c) _)

theorem read4 (t : Fin cfg0.N) (k : Fin 1024) (j : Fin 384) :
    (iblk m c 4 t : FVec Ideal S1024x384 .bf16) (ix2 k j)
      = wPad (m ((c : Thread nD τ).loc main_arg2)) (ix2 k j) - wPad (m ((c : Thread nD τ).loc main_arg2)) (ix2 k j) := by
  have e : ((cfg0.win 4).blk t).view.emb (ix2 k j) = (ix2 k j : S1024x384.Idx) := by
    blk_ext [idx t]
  exact (congrArg (V m c main_v8) e).trans (congrFun (V8 m c) _)

/-- A block's index columns: the three products. -/
theorem out10_apply (x0 : FVec Ideal S512x1024 .f32) (x1 : FVec Ideal S1x1024 .f32) (x2 : FVec Ideal S1024x2048 .bf16) (x3 x4 : FVec Ideal S1024x384 .bf16)
    (r : Fin 512) (d : Fin 384) : (out0_10 (F := Ideal) x0 x1 x2 x3 x4 : FVec Ideal S512x384 .f32) (ix2 r d)
      = (∑ k, Rows.nrm (fun d => x0 (ix2 r d)) (fun d => x1 (ix2 0 d)) k * x3 (ix2 k d))
        + (∑ k, (Rows.nrm (fun d => x0 (ix2 r d)) (fun d => x1 (ix2 0 d)) k - Rows.nrm (fun d => x0 (ix2 r d)) (fun d => x1 (ix2 0 d)) k) * x3 (ix2 k d))
        + (∑ k, Rows.nrm (fun d => x0 (ix2 r d)) (fun d => x1 (ix2 0 d)) k * x4 (ix2 k d)) := by
  unfold out0_10
  rw [View.canon_cons_unit_lit']
  · pointwise [k0_pay1, k0_pay3, k0_pay4]
    simp only [nrm_apply]
  · decide

/-- The index columns of row `n`: the projection's last 296 columns, then zeros. -/
def iVal (n : Fin 512) (j : Fin 384) : EReal :=
  if h : (j : ℕ) < 296 then
    ProjRef.z (m ((c : Thread nD τ).loc main_arg0)) (m ((c : Thread nD τ).loc main_arg1)) (m ((c : Thread nD τ).loc main_arg2)) n ⟨2048 + j, by omega⟩
  else 0

theorem final10
    (hg : ∀ k : Fin 1024, Finite.IsReal ((m ((c : Thread nD τ).loc main_arg1) : FVec Ideal S1x1024 .f32) (ix2 0 k)))
    (hw : ∀ (k : Fin 1024) (j : Fin 296), Finite.IsReal ((m ((c : Thread nD τ).loc main_arg2) : FVec Ideal S1x1024x2344 .f32) (ix3 0 k ⟨2048 + j, by omega⟩))) :
    (dats m 0 c).arrAt 10 cfg0.N = fun i : S512x384.Idx => iVal m c (i 0) (i 1) := by
  refine (dats m 0 c).arrAt_eq_of_covers 10 _ (by decide +kernel) fun t hf y => ?_
  blk_simp
  rw [after0_10]
  idx_vars y
  have e0 : ((((View.whole main_v12_5).slice (win0_10.rect t)).emb (ix2 y0 y1) 0 : Fin 512) : ℕ) = t.val * 512 + y0 := by
    blk_simp [idx t]
  have e1 : (((View.whole main_v12_5).slice (win0_10.rect t)).emb (ix2 y0 y1) 1 : Fin 384) = y1 := Fin.ext (by blk_simp [idx t])
  rw [e1]
  generalize (((View.whole main_v12_5).slice (win0_10.rect t)).emb (ix2 y0 y1) 0 : Fin 512) = n at e0 ⊢
  refine (out10_apply _ _ _ _ _ y0 y1).trans ?_
  simp only [read0 m c t n y0 e0, read1, read3, read4]
  have hp : ∀ k : Fin 1024, Finite.IsReal (wPad (m ((c : Thread nD τ).loc main_arg2)) (ix2 k y1)) := fun k => by
    rw [wPad_apply]
    split
    · exact hw k ⟨y1, ‹_›⟩
    · exact Finite.isReal_zero
  refine (Finite.split_sum _ _ (fun k => Finite.nrm (hg k)) hp).trans ?_
  simp only [wPad_apply]
  unfold iVal
  split
  · rfl
  · simp only [mul_zero, Finset.sum_const_zero]

end Cert.Proof.ProjIdx

end
-- ==== Proof.ProjIdxClaims.lean ====
/-
  The claims about the index columns of the projection call on the sample batch's rows (`Kernel5`) and its reference (`Reference5`): the
  frames, and that at the ideal instance the two end with the same result.
-/
module

public import proofs.«01_k».proof.Defs
public import proofs.«01_k».proof.Proof.Gen.Kernel5
public import proofs.«01_k».proof.Proof.Gen.Kernel5.Frame
public import proofs.«01_k».proof.Proof.ProjIdx
public import proofs.«01_k».proof.Proof.Gen.Pre_weights_finite
public import Idealize.ShloMosaic.Lib.Pointwise
public import Idealize.ShloMosaic.Lib.Claim
public import Idealize.ShloMosaic.Lib.Quiescent

@[expose] public section

noncomputable section

namespace Cert.Proof.ProjIdxClaims

open Idealize.ShloMosaic Idealize.SL.Sem

theorem frame : Cert.quiescent_Kernel5 := fun m ρ _ => Cert.Kernel5.Gen.frame m ρ

theorem frame_ideal : Cert.quiescent_Kernel5Ideal := fun m ρ _ => Cert.Kernel5Ideal.Gen.frame m ρ

/-- The reference's frame, from its run. -/
theorem frame_reference : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run m ρ)

/-- The frames need no precondition. -/
theorem frame_ideal_pre : Cert.quiescent_Kernel5Ideal_pre_weights_finite := fun m ρ _ => Cert.Kernel5Ideal.Gen.frame m ρ

theorem frame_reference_pre : Cert.quiescent_Reference5Ideal_pre_weights_finite := fun m ρ _ => frame_reference m ρ trivial

/-- What the precondition says of an entry. -/
theorem entry {a : FVec Ideal Cert.Pre_weights_finite.S8x64x1024 .f32} {g : FVec Ideal Cert.Pre_weights_finite.S1x1024 .f32}
    {w : FVec Ideal Cert.Pre_weights_finite.S1x1024x2344 .f32} (h : Cert.Pre_weights_finite.fn (F := Ideal) a g w = fun _ => 1#1)
    (k : Fin 1024) (j : Fin 296) : Finite.IsReal (g (ix2 0 k)) ∧ Finite.IsReal (w (ix3 0 k ⟨2048 + j, by omega⟩)) := by
  have e := congrFun h (ix3 0 k j)
  unfold Cert.Pre_weights_finite.fn at e
  have e' : IntOp.andi (Ideal.cmp .olt (max (g (ix2 0 k)) (-g (ix2 0 k))) (Ideal.ofBits .f32 2139095040#32))
      (Ideal.cmp .olt (max (w (ix3 0 k ⟨2048 + j, by omega⟩)) (-w (ix3 0 k ⟨2048 + j, by omega⟩))) (Ideal.ofBits .f32 2139095040#32)) = 1#1 := by
    rw [← e]
    pointwise
    rfl
  have both : ∀ p q : BitVec 1, IntOp.andi p q = 1#1 → p = 1#1 ∧ q = 1#1 := by decide
  exact ⟨Finite.isReal_of_cmp (both _ _ e').1, Finite.isReal_of_cmp (both _ _ e').2⟩

/-- Both end with the index columns of the kernel's arguments. -/
theorem algebraic : Cert.algebraic_Kernel5Ideal_Reference5Ideal_pre_weights_finite := by
  intro m g m' g' hpre hargs
  refine ⟨fun c => fun i : Cert.Kernel5Ideal.S512x384.Idx => ProjIdx.iVal m c (i 0) (i 1), ?_, ?_⟩
  · exact (θ_run Cert.Kernel5Ideal.defs _ _).mono (fun r h c => ⟨(h c).2.2.2.2.2.1.trans (ProjIdx.final10 m c (fun k => (entry (hpre c) k 0).1)
      (fun k j => (entry (hpre c) k j).2)), (h c).2.2.2.2.2.2⟩)
      (Cert.Kernel5Ideal.Value.run_blocks m g)
  · refine (θ_run Cert.Reference5Ideal.defs _ _).mono (fun r h c => ⟨(h c).1.trans ?_, (h c).2⟩)
      (Cert.Reference5Ideal.Value.run m' g')
    obtain ⟨h0, h1, h2⟩ := hargs c
    rw [h0, h1, h2]
    funext i
    idx_vars i
    exact ProjRef.idx_apply _ _ _ i0 i1

end Cert.Proof.ProjIdxClaims

end
-- ==== Proof.Proj.lean ====
/-
  The projection call on the sample batch's rows, row by row.
-/
module

public import proofs.«01_k».proof.Proof.Gen.Kernel4Ideal.Value
public import proofs.«01_k».proof.Proof.ProjRef
public import Idealize.ShloMosaic.Lib.Pipeline.ValueKit
public import Idealize.ShloMosaic.Lib.Claim

@[expose] public section

set_option maxRecDepth 16384

noncomputable section

namespace Cert.Proof.Proj

open Cert.Kernel4Ideal Cert.Kernel4Ideal.Gen Idealize.ShloMosaic Idealize.ShloMosaic.TcCoe Idealize.SL.Sem

theorem nrm_apply (x : FVec Ideal S512x1024 .f32) (g : FVec Ideal S1x1024 .f32) (r : Fin 512) (d : Fin 1024) :
    k0_pay2 (F := Ideal) (View.ld x r0_0) (View.ld g r0_1) (ix2 r d) = Rows.nrm (fun d => x (ix2 r d)) (fun d => g (ix2 0 d)) d := by
  pointwise [k0_pay2]
  rfl

/-- The first 2048 projected columns of a block. -/
theorem z_apply (x : FVec Ideal S512x1024 .f32) (g : FVec Ideal S1x1024 .f32) (w : FVec Ideal S1024x2048 .bf16) (r : Fin 512) (j : Fin 2048) :
    k0_pay5 (F := Ideal) (View.ld x r0_0) (View.ld g r0_1) (View.ld w r0_2) (ix2 r j)
      = Rows.proj (fun d => x (ix2 r d)) (fun d => g (ix2 0 d)) (fun k j => w (ix2 k j)) j := by
  pointwise [k0_pay5, k0_pay3]
  simp only [nrm_apply]
  rfl

section Blocks

variable (x0 : FVec Ideal S512x1024 .f32) (x1 : FVec Ideal S1x1024 .f32) (x2 : FVec Ideal S1024x2048 .bf16) (x3 x4 : FVec Ideal S1024x384 .bf16)
  (r d : Fin 512)

theorem out5_apply : (out0_5 (F := Ideal) x0 x1 x2 x3 x4 : FVec Ideal S512x512 .f32) (ix2 r d)
    = Rows.proj (fun d => x0 (ix2 r d)) (fun d => x1 (ix2 0 d)) (fun k j => x2 (ix2 k j)) ⟨d, by omega⟩ := by
  unfold out0_5
  rw [View.canon_cons_unit_lit']
  · pointwise [k0_pay6]
    exact z_apply ..
  · decide

theorem out6_apply : (out0_6 (F := Ideal) x0 x1 x2 x3 x4 : FVec Ideal S512x512 .bf16) (ix2 r d)
    = Rows.proj (fun d => x0 (ix2 r d)) (fun d => x1 (ix2 0 d)) (fun k j => x2 (ix2 k j)) ⟨512 + d, by omega⟩ * Ideal.ofBits .f32 0x3E38AA3B#32 := by
  unfold out0_6
  rw [View.canon_cons_unit_lit']
  · pointwise [k0_pay7]
    rw [z_apply]
  · decide

theorem out7_apply : (out0_7 (F := Ideal) x0 x1 x2 x3 x4 : FVec Ideal S512x512 .f32) (ix2 r d)
    = Rows.proj (fun d => x0 (ix2 r d)) (fun d => x1 (ix2 0 d)) (fun k j => x2 (ix2 k j)) ⟨1024 + d, by omega⟩ := by
  unfold out0_7
  rw [View.canon_cons_unit_lit']
  · pointwise [k0_pay8]
    exact z_apply ..
  · decide

theorem out8_apply : (out0_8 (F := Ideal) x0 x1 x2 x3 x4 : FVec Ideal S512x512 .bf16) (ix2 r d)
    = Rows.proj (fun d => x0 (ix2 r d)) (fun d => x1 (ix2 0 d)) (fun k j => x2 (ix2 k j)) ⟨1024 + d, by omega⟩ := by
  unfold out0_8
  rw [View.canon_cons_unit_lit']
  · pointwise [k0_pay9, k0_pay8]
    exact z_apply ..
  · decide

theorem out9_apply : (out0_9 (F := Ideal) x0 x1 x2 x3 x4 : FVec Ideal S512x512 .f32) (ix2 r d)
    = Rows.proj (fun d => x0 (ix2 r d)) (fun d => x1 (ix2 0 d)) (fun k j => x2 (ix2 k j)) ⟨1536 + d, by omega⟩ := by
  unfold out0_9
  rw [View.canon_cons_unit_lit']
  · pointwise [k0_pay10]
    exact z_apply ..
  · decide

end Blocks

/-- Where each window stands at each point: the row blocks move with the point, the weights stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0] :=
  (by decide +kernel)

variable (m : (ℓ : Loc nD τ sig) → Buf (Elt Ideal) ℓ) (c : Dev nD)

/-- Row `n`, column `j` of the projection, of the kernel's arguments. -/
def val (n : Fin 512) (j : Fin 2344) : EReal :=
  ProjRef.z (m ((c : Thread nD τ).loc main_arg0)) (m ((c : Thread nD τ).loc main_arg1)) (m ((c : Thread nD τ).loc main_arg2)) n j

theorem V11 : V m c main_v11 = shapeCast S512x1024 (m ((c : Thread nD τ).loc main_arg0) : FVec Ideal S8x64x1024 .f32) shapeCasts_S8x64x1024_S512x1024 := rfl
theorem V10 : V m c main_v10 = broadcastInDim S1x1024 ![1] bcast_S1024_S1x1024_1 (shapeCast S1024 (m ((c : Thread nD τ).loc main_arg1) : FVec Ideal S1x1024 .f32) shapeCasts_S1x1024_S1024) := rfl
theorem V2 : V m c main_v2 = (truncf .bf16 (extractStridedSlice S1024x2048 ![0, 0] (shapeCast S1024x2344 (m ((c : Thread nD τ).loc main_arg2) : FVec Ideal S1x1024x2344 .f32) shapeCasts_S1x1024x2344_S1024x2344) slices_S1024x2344_S1024x2048_0_0) bitsLt_bf16_f32 : FVec Ideal S1024x2048 .bf16) := rfl

theorem cast0 (X : FVec Ideal S8x64x1024 .f32) (n : Fin 512) (d : Fin 1024) :
    shapeCast S512x1024 X shapeCasts_S8x64x1024_S512x1024 (ix2 n d) = X (ix3 ⟨n / 64, by omega⟩ ⟨n % 64, by omega⟩ d) := by
  pointwise

theorem cast1 (X : FVec Ideal S1x1024 .f32) (d : Fin 1024) :
    broadcastInDim S1x1024 ![1] bcast_S1024_S1x1024_1 (shapeCast S1024 X shapeCasts_S1x1024_S1024) (ix2 0 d) = X (ix2 0 d) := by
  pointwise

theorem cast2 (X : FVec Ideal S1x1024x2344 .f32) (k : Fin 1024) (j : Fin 2048) :
    (truncf .bf16 (extractStridedSlice S1024x2048 ![0, 0] (shapeCast S1024x2344 X shapeCasts_S1x1024x2344_S1024x2344) slices_S1024x2344_S1024x2048_0_0) bitsLt_bf16_f32 : FVec Ideal S1024x2048 .bf16) (ix2 k j) = X (ix3 0 k ⟨j, by omega⟩) := by
  pointwise

theorem read0 (t : Fin cfg0.N) (n : Fin 512) (r : Fin 512) (h : (n : ℕ) = t.val * 512 + r) (d : Fin 1024) :
    (iblk m c 0 t : FVec Ideal S512x1024 .f32) (ix2 r d)
      = (m ((c : Thread nD τ).loc main_arg0) : FVec Ideal S8x64x1024 .f32) (ix3 ⟨n / 64, by omega⟩ ⟨n % 64, by omega⟩ d) := by
  have e : ((cfg0.win 0).blk t).view.emb (ix2 r d) = (ix2 n d : S512x1024.Idx) := by
    blk_ext [idx t]
  exact (congrArg (V m c main_v11) e).trans ((congrFun (V11 m c) _).trans (cast0 _ n d))

theorem read1 (t : Fin cfg0.N) (d : Fin 1024) :
    (iblk m c 1 t : FVec Ideal S1x1024 .f32) (ix2 0 d) = (m ((c : Thread nD τ).loc main_arg1) : FVec Ideal S1x1024 .f32) (ix2 0 d) := by
  have e : ((cfg0.win 1).blk t).view.emb (ix2 0 d) = (ix2 0 d : S1x1024.Idx) := by
    blk_ext [idx t]
  exact (congrArg (V m c main_v10) e).trans ((congrFun (V10 m c) _).trans (cast1 _ d))

theorem read2 (t : Fin cfg0.N) (k : Fin 1024) (j : Fin 2048) :
    (iblk m c 2 t : FVec Ideal S1024x2048 .bf16) (ix2 k j)
      = (m ((c : Thread nD τ).loc main_arg2) : FVec Ideal S1x1024x2344 .f32) (ix3 0 k ⟨j, by omega⟩) := by
  have e : ((cfg0.win 2).blk t).view.emb (ix2 k j) = (ix2 k j : S1024x2048.Idx) := by
    blk_ext [idx t]
  exact (congrArg (V m c main_v2) e).trans ((congrFun (V2 m c) _).trans (cast2 _ k j))

/-- A block's row of the projection is the array's. -/
theorem proj_blk (t : Fin cfg0.N) (n : Fin 512) (r : Fin 512) (h : (n : ℕ) = t.val * 512 + r) (j : Fin 2048) :
    Rows.proj (fun d => (iblk m c 0 t : FVec Ideal S512x1024 .f32) (ix2 r d)) (fun d => (iblk m c 1 t : FVec Ideal S1x1024 .f32) (ix2 0 d))
      (fun k j => (iblk m c 2 t : FVec Ideal S1024x2048 .bf16) (ix2 k j)) j = val m c n ⟨j, by omega⟩ := by
  simp only [read0 m c t n r h, read1, read2]
  rfl

/-- The pooled values, scaled queries, keys and values of row `n`. -/
def uVal (n d : Fin 512) : EReal := val m c n ⟨d, by omega⟩
def qVal (n d : Fin 512) : EReal := val m c n ⟨512 + d, by omega⟩ * Ideal.ofBits .f32 0x3E38AA3B#32
def kVal (n d : Fin 512) : EReal := val m c n ⟨1024 + d, by omega⟩
def vVal (n d : Fin 512) : EReal := val m c n ⟨1536 + d, by omega⟩

theorem final5 : (dats m 0 c).arrAt 5 cfg0.N = fun i : S512x512.Idx => uVal m c (i 0) (i 1) := by
  refine (dats m 0 c).arrAt_eq_of_covers 5 _ (by decide +kernel) fun t hf y => ?_
  blk_simp
  rw [after0_5]
  idx_vars y
  have e0 : ((((View.whole main_v12_0).slice (win0_5.rect t)).emb (ix2 y0 y1) 0 : Fin 512) : ℕ) = t.val * 512 + y0 := by
    blk_simp [idx t]
  have e1 : (((View.whole main_v12_0).slice (win0_5.rect t)).emb (ix2 y0 y1) 1 : Fin 512) = y1 := Fin.ext (by blk_simp [idx t])
  rw [e1]
  generalize (((View.whole main_v12_0).slice (win0_5.rect t)).emb (ix2 y0 y1) 0 : Fin 512) = n at e0 ⊢
  exact (out5_apply _ _ _ _ _ y0 y1).trans (proj_blk m c t n y0 e0 _)

theorem final6 : (dats m 0 c).arrAt 6 cfg0.N = fun i : S512x512.Idx => qVal m c (i 0) (i 1) := by
  refine (dats m 0 c).arrAt_eq_of_covers 6 _ (by decide +kernel) fun t hf y => ?_
  blk_simp
  rw [after0_6]
  idx_vars y
  have e0 : ((((View.whole main_v12_1).slice (win0_6.rect t)).emb (ix2 y0 y1) 0 : Fin 512) : ℕ) = t.val * 512 + y0 := by
    blk_simp [idx t]
  have e1 : (((View.whole main_v12_1).slice (win0_6.rect t)).emb (ix2 y0 y1) 1 : Fin 512) = y1 := Fin.ext (by blk_simp [idx t])
  rw [e1]
  generalize (((View.whole main_v12_1).slice (win0_6.rect t)).emb (ix2 y0 y1) 0 : Fin 512) = n at e0 ⊢
  exact (out6_apply _ _ _ _ _ y0 y1).trans (congrArg (· * Ideal.ofBits .f32 0x3E38AA3B#32) (proj_blk m c t n y0 e0 _))

theorem final7 : (dats m 0 c).arrAt 7 cfg0.N = fun i : S512x512.Idx => kVal m c (i 0) (i 1) := by
  refine (dats m 0 c).arrAt_eq_of_covers 7 _ (by decide +kernel) fun t hf y => ?_
  blk_simp
  rw [after0_7]
  idx_vars y
  have e0 : ((((View.whole main_v12_2).slice (win0_7.rect t)).emb (ix2 y0 y1) 0 : Fin 512) : ℕ) = t.val * 512 + y0 := by
    blk_simp [idx t]
  have e1 : (((View.whole main_v12_2).slice (win0_7.rect t)).emb (ix2 y0 y1) 1 : Fin 512) = y1 := Fin.ext (by blk_simp [idx t])
  rw [e1]
  generalize (((View.whole main_v12_2).slice (win0_7.rect t)).emb (ix2 y0 y1) 0 : Fin 512) = n at e0 ⊢
  exact (out7_apply _ _ _ _ _ y0 y1).trans (proj_blk m c t n y0 e0 _)

theorem final8 : (dats m 0 c).arrAt 8 cfg0.N = fun i : S512x512.Idx => kVal m c (i 0) (i 1) := by
  refine (dats m 0 c).arrAt_eq_of_covers 8 _ (by decide +kernel) fun t hf y => ?_
  blk_simp
  rw [after0_8]
  idx_vars y
  have e0 : ((((View.whole main_v12_3).slice (win0_8.rect t)).emb (ix2 y0 y1) 0 : Fin 512) : ℕ) = t.val * 512 + y0 := by
    blk_simp [idx t]
  have e1 : (((View.whole main_v12_3).slice (win0_8.rect t)).emb (ix2 y0 y1) 1 : Fin 512) = y1 := Fin.ext (by blk_simp [idx t])
  rw [e1]
  generalize (((View.whole main_v12_3).slice (win0_8.rect t)).emb (ix2 y0 y1) 0 : Fin 512) = n at e0 ⊢
  exact (out8_apply _ _ _ _ _ y0 y1).trans (proj_blk m c t n y0 e0 _)

theorem final9 : (dats m 0 c).arrAt 9 cfg0.N = fun i : S512x512.Idx => vVal m c (i 0) (i 1) := by
  refine (dats m 0 c).arrAt_eq_of_covers 9 _ (by decide +kernel) fun t hf y => ?_
  blk_simp
  rw [after0_9]
  idx_vars y
  have e0 : ((((View.whole main_v12_4).slice (win0_9.rect t)).emb (ix2 y0 y1) 0 : Fin 512) : ℕ) = t.val * 512 + y0 := by
    blk_simp [idx t]
  have e1 : (((View.whole main_v12_4).slice (win0_9.rect t)).emb (ix2 y0 y1) 1 : Fin 512) = y1 := Fin.ext (by blk_simp [idx t])
  rw [e1]
  generalize (((View.whole main_v12_4).slice (win0_9.rect t)).emb (ix2 y0 y1) 0 : Fin 512) = n at e0 ⊢
  exact (out9_apply _ _ _ _ _ y0 y1).trans (proj_blk m c t n y0 e0 _)

end Cert.Proof.Proj

end
-- ==== Proof.ProjClaims.lean ====
/-
  The claims about the projection call on the sample batch's rows (`Kernel4`) and its reference (`Reference4`): the
  frames, and that at the ideal instance the two end with the same five results.
-/
module

public import proofs.«01_k».proof.Defs
public import proofs.«01_k».proof.Proof.Gen.Kernel4
public import proofs.«01_k».proof.Proof.Gen.Kernel4.Frame
public import proofs.«01_k».proof.Proof.Proj
public import Idealize.ShloMosaic.Lib.Quiescent

@[expose] public section

noncomputable section

namespace Cert.Proof.ProjClaims

open Idealize.ShloMosaic Idealize.SL.Sem

theorem frame : Cert.quiescent_Kernel4 := fun m ρ _ => Cert.Kernel4.Gen.frame m ρ

theorem frame_ideal : Cert.quiescent_Kernel4Ideal := fun m ρ _ => Cert.Kernel4Ideal.Gen.frame m ρ

/-- The reference's frame, from its run. -/
theorem frame_reference : Cert.quiescent_Reference4Ideal := fun m ρ _ =>
  (θ_run Cert.Reference4Ideal.defs _ _).mono
    (fun r h => ⟨fun c => (h c).2.2.2.2.2, sem_eq_zero_of_no_sems (by decide) r.2⟩)
    (Cert.Reference4Ideal.Value.run m ρ)

/-- Both end with the projection's columns of the kernel's arguments: pooled values, scaled queries, keys, keys again,
    values. -/
theorem algebraic : Cert.algebraic_Kernel4Ideal_Reference4Ideal := by
  intro m g m' g' _ hargs
  refine ⟨fun c => fun i : Cert.Kernel4Ideal.S512x512.Idx => Proj.uVal m c (i 0) (i 1),
    fun c => fun i : Cert.Kernel4Ideal.S512x512.Idx => Proj.qVal m c (i 0) (i 1),
    fun c => fun i : Cert.Kernel4Ideal.S512x512.Idx => Proj.kVal m c (i 0) (i 1),
    fun c => fun i : Cert.Kernel4Ideal.S512x512.Idx => Proj.kVal m c (i 0) (i 1),
    fun c => fun i : Cert.Kernel4Ideal.S512x512.Idx => Proj.vVal m c (i 0) (i 1), ?_, ?_⟩
  · exact (θ_run Cert.Kernel4Ideal.defs _ _).mono (fun r h c => ⟨(h c).1.trans (Proj.final5 m c), (h c).2.1.trans (Proj.final6 m c),
      (h c).2.2.1.trans (Proj.final7 m c), (h c).2.2.2.1.trans (Proj.final8 m c), (h c).2.2.2.2.1.trans (Proj.final9 m c), (h c).2.2.2.2.2.2⟩)
      (Cert.Kernel4Ideal.Value.run_blocks m g)
  · refine (θ_run Cert.Reference4Ideal.defs _ _).mono (fun r h c => ⟨(h c).1.trans ?_, (h c).2.1.trans ?_, (h c).2.2.1.trans ?_,
      (h c).2.2.2.1.trans ?_, (h c).2.2.2.2.1.trans ?_, (h c).2.2.2.2.2⟩)
      (Cert.Reference4Ideal.Value.run m' g')
    all_goals
      obtain ⟨h0, h1, h2⟩ := hargs c
      rw [h0, h1, h2]
      funext i
      idx_vars i
    · exact ProjRef.u_apply _ _ _ i0 i1
    · exact ProjRef.q_apply _ _ _ i0 i1
    · exact ProjRef.k_apply _ _ _ i0 i1
    · exact ProjRef.kb_apply _ _ _ i0 i1
    · exact ProjRef.v_apply _ _ _ i0 i1

end Cert.Proof.ProjClaims

end
-- ==== Proof.PromptRef.lean ====
/-
  The reference of the output call on the prompt's rows, row by row.
-/
module

public import proofs.«01_k».proof.Proof.Gen.Reference3Ideal.Run
public import proofs.«01_k».proof.Proof.Rows

@[expose] public section

set_option maxRecDepth 16384

noncomputable section

namespace Cert.Proof.PromptRef

open Cert.Reference3Ideal Cert.Reference3Ideal.Gen Idealize.ShloMosaic Idealize.ShloMosaic.TcCoe

/-- The pooled rows by their groups' matrices and scales, beside the attention rows. -/
def rMix (mr : FVec Ideal S1x16384x4x128 .bf16) (ar : FVec Ideal S1x16384x512 .f32) (wp : FVec Ideal S1x4x128x128 .f32) (ps : FVec Ideal S1x512 .f32) :
    FVec Ideal S1x16384x1024 .f32 :=
  concatenate S1x16384x1024 2 [⟨S1x16384x512, mulf (shapeCast _ (transpose S1x16384x4x128 [2,3,0,1] (Host.dotGeneral dot_S4x128x128_S1x16384x4x128_S4x128x1x16384_1_3_2_01_0_2 none (shapeCast _ wp shapeCasts_S1x4x128x128_S4x128x128) (extf .f32 mr bitsLt_bf16_f32)) transposes_S4x128x1x16384_S1x16384x4x128_2_3_0_1) shapeCasts_S1x16384x4x128_S1x16384x512) (broadcastInDim S1x16384x512 ![0,1,2] bcast_S1x1x512_S1x16384x512_0_1_2 (broadcastInDim S1x1x512 ![2] bcast_S512_S1x1x512_2 (shapeCast _ ps shapeCasts_S1x512_S512)))⟩, ⟨S1x16384x512, ar⟩] concatenates_S1x16384x512_S1x16384x512_S1x16384x1024_d2

/-- The layer's input with the mixers' rows through the output matrix. -/
def rX1 (x mix : FVec Ideal S1x16384x1024 .f32) (wo : FVec Ideal S1x1024x1024 .f32) : FVec Ideal S1x16384x1024 .f32 :=
  addf x (Host.dotGeneral dot_S1x16384x1024_S1024x1024_S1x16384x1024_2_0_01_1_n_n none mix (shapeCast _ wo shapeCasts_S1x1024x1024_S1024x1024))

/-- The normalisation of rows. -/
def rNrm (x : FVec Ideal S1x16384x1024 .f32) (g : FVec Ideal S1024 .f32) : FVec Ideal S1x16384x1024 .f32 :=
  mulf (mulf x (broadcastInDim S1x16384x1024 ![0,1,2] bcast_S1x16384x1_S1x16384x1024_0_1_2 (Host.rsqrt (addf (Host.divf (broadcastInDim S1x16384x1 ![0,1] bcast_S1x16384_S1x16384x1_0_1 (Host.reduceAdd (mulf x x) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32)))))) (broadcastInDim S1x16384x1024 ![0,1,2] bcast_S1x1x1024_S1x16384x1024_0_1_2 (broadcastInDim S1x1x1024 ![2] bcast_S1024_S1x1x1024_2 g))

/-- The first half of the feed-forward layer. -/
def rUp (h : FVec Ideal S1x16384x1024 .f32) (wu : FVec Ideal S1x1024x4096 .f32) : FVec Ideal S1x16384x4096 .f32 :=
  maximumf (Host.dotGeneral dot_S1x16384x1024_S1024x4096_S1x16384x4096_2_0_01_1_n_n none h (shapeCast _ wu shapeCasts_S1x1024x4096_S1024x4096)) (broadcastInDim S1x16384x4096 ![] bcast_S_S1x16384x4096 (constant S_ .f32 0x00000000#32))

/-- The second half of the feed-forward layer, added to its input. -/
def rX2 (x1 : FVec Ideal S1x16384x1024 .f32) (f : FVec Ideal S1x16384x4096 .f32) (wd : FVec Ideal S1x4096x1024 .f32) : FVec Ideal S1x16384x1024 .f32 :=
  addf x1 (Host.dotGeneral dot_S1x16384x4096_S4096x1024_S1x16384x1024_2_0_01_1_n_n none (mulf f f) (shapeCast _ wd shapeCasts_S1x4096x1024_S4096x1024))

open Cert.Reference3Ideal.Value in
theorem res_eq (m : (ℓ : Loc nD τ sig) → Buf (Elt Ideal) ℓ) (c : Dev nD) : res_main_v48 m c =
    shapeCast _ (rNrm (rX2 (rX1 (m ((c : Thread nD τ).loc main_arg0)) (rMix (m ((c : Thread nD τ).loc main_arg1)) (m ((c : Thread nD τ).loc main_arg2)) (m ((c : Thread nD τ).loc main_arg3)) (m ((c : Thread nD τ).loc main_arg4))) (m ((c : Thread nD τ).loc main_arg5)))
      (rUp (rNrm (rX1 (m ((c : Thread nD τ).loc main_arg0)) (rMix (m ((c : Thread nD τ).loc main_arg1)) (m ((c : Thread nD τ).loc main_arg2)) (m ((c : Thread nD τ).loc main_arg3)) (m ((c : Thread nD τ).loc main_arg4))) (m ((c : Thread nD τ).loc main_arg5)))
        (shapeCast _ (m ((c : Thread nD τ).loc main_arg6)) shapeCasts_S1x1024_S1024)) (m ((c : Thread nD τ).loc main_arg7))) (m ((c : Thread nD τ).loc main_arg8))) (m ((c : Thread nD τ).loc main_arg9))) shapeCasts_S1x16384x1024_S16384x1024 := by
  unfold res_main_v48; rfl

theorem rMix_apply (mr : FVec Ideal S1x16384x4x128 .bf16) (ar : FVec Ideal S1x16384x512 .f32) (wp : FVec Ideal S1x4x128x128 .f32) (ps : FVec Ideal S1x512 .f32)
    (b : Fin 1) (t : Fin 16384) (d : Fin 1024) : rMix mr ar wp ps (ix3 b t d) =
      Rows.mix (fun g k => mr (ix4 b t g k)) (fun d => ar (ix3 b t d)) (fun g k d => wp (ix4 0 g k d)) (fun d => ps (ix2 0 d)) d := by
  obtain rfl : b = 0 := Subsingleton.elim _ _
  pointwise [rMix]
  unfold Rows.mix
  simp only [mul_comm (wp _)]

theorem rX1_apply (x mix : FVec Ideal S1x16384x1024 .f32) (wo : FVec Ideal S1x1024x1024 .f32)
    (b : Fin 1) (t : Fin 16384) (d : Fin 1024) : rX1 x mix wo (ix3 b t d) =
      Rows.plus (fun d => x (ix3 b t d)) (fun k => mix (ix3 b t k)) (fun k d => wo (ix3 0 k d)) d := by
  pointwise [rX1]
  rfl

theorem rNrm_apply (x : FVec Ideal S1x16384x1024 .f32) (g : FVec Ideal S1024 .f32)
    (b : Fin 1) (t : Fin 16384) (d : Fin 1024) : rNrm x g (ix3 b t d) = Rows.nrm (fun d => x (ix3 b t d)) (fun d => g (ix1 d)) d := by
  obtain rfl : b = 0 := Subsingleton.elim _ _
  pointwise [rNrm]
  rfl

theorem rUp_apply (x : FVec Ideal S1x16384x1024 .f32) (g : FVec Ideal S1x1024x4096 .f32)
    (b : Fin 1) (t : Fin 16384) (d : Fin 4096) : rUp x g (ix3 b t d) = Rows.up (fun k => x (ix3 b t k)) (fun k j => g (ix3 0 k j)) d := by
  pointwise [rUp]
  rfl

theorem rX2_apply (x : FVec Ideal S1x16384x1024 .f32) (f : FVec Ideal S1x16384x4096 .f32) (g : FVec Ideal S1x4096x1024 .f32)
    (b : Fin 1) (t : Fin 16384) (d : Fin 1024) : rX2 x f g (ix3 b t d) =
      Rows.plus (fun d => x (ix3 b t d)) (fun j => f (ix3 b t j) * f (ix3 b t j)) (fun j d => g (ix3 0 j d)) d := by
  pointwise [rX2]
  rfl

/-- The output call's value at row `n` and channel `d`, of its ten arguments. -/
def value (x : FVec Ideal S1x16384x1024 .f32) (mr : FVec Ideal S1x16384x4x128 .bf16) (ar : FVec Ideal S1x16384x512 .f32) (wp : FVec Ideal S1x4x128x128 .f32)
    (ps : FVec Ideal S1x512 .f32) (wo : FVec Ideal S1x1024x1024 .f32) (n2 : FVec Ideal S1x1024 .f32) (wu : FVec Ideal S1x1024x4096 .f32)
    (wd : FVec Ideal S1x4096x1024 .f32) (fg : FVec Ideal S1024 .f32) (n : Fin 16384) (d : Fin 1024) : EReal :=
  Rows.out (fun d => x (ix3 0 n d))
    (Rows.mix (fun g k => mr (ix4 0 n g k)) (fun d => ar (ix3 0 n d))
      (fun g k d => wp (ix4 0 g k d)) (fun d => ps (ix2 0 d)))
    (fun k d => wo (ix3 0 k d)) (fun d => n2 (ix2 0 d)) (fun k j => wu (ix3 0 k j)) (fun j d => wd (ix3 0 j d)) (fun d => fg (ix1 d)) d

open Cert.Reference3Ideal.Value in
/-- The reference's result, index by index. -/
theorem res_apply (m : (ℓ : Loc nD τ sig) → Buf (Elt Ideal) ℓ) (c : Dev nD) (n : Fin 16384) (d : Fin 1024) :
    (res_main_v48 m c : FVec Ideal S16384x1024 .f32) (ix2 n d) =
      value (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) n d := by
  rw [res_eq]
  have hg : ∀ (g : FVec Ideal S1x1024 .f32) (d : Fin 1024), shapeCast S1024 g shapeCasts_S1x1024_S1024 (ix1 d) = g (ix2 0 d) := by
    intro g d; pointwise
  have hr : ∀ x : FVec Ideal S1x16384x1024 .f32, shapeCast S16384x1024 x shapeCasts_S1x16384x1024_S16384x1024 (ix2 n d)
      = x (ix3 0 n d) := by
    intro x; pointwise
  rw [hr]
  simp only [rNrm_apply, rX2_apply, rX1_apply, rUp_apply, rMix_apply, hg]
  rfl

end Cert.Proof.PromptRef
-- ==== Proof.PromptOut.lean ====
/-
  The output call on the prompt's rows, row by row.
-/
module

public import proofs.«01_k».proof.Proof.Gen.Kernel3Ideal.Value
public import proofs.«01_k».proof.Proof.PromptRef
public import Idealize.ShloMosaic.Lib.Pipeline.ValueKit

@[expose] public section

set_option maxRecDepth 16384

noncomputable section

namespace Cert.Proof.PromptOut

open Cert.Kernel3Ideal Cert.Kernel3Ideal.Gen Idealize.ShloMosaic Idealize.ShloMosaic.TcCoe

def kNrm (x : FVec Ideal S512x1024 .f32) (g : FVec Ideal S1x1024 .f32) : FVec Ideal S512x1024 .f32 :=
  mulf (mulf x (broadcastTo S512x1024 (rsqrt (addf (divf (shapeCast S512x1 (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024)

def kUp (h : FVec Ideal S512x1024 .f32) (wu : FVec Ideal S1024x4096 .bf16) : FVec Ideal S512x4096 .f32 :=
  maximumf (matmul dot_S512x1024_S1024x4096_S512x4096_1_0_0_1_n_n none (truncf .bf16 h bitsLt_bf16_f32) (shapeCast S1024x4096 wu shapeCasts_S1024x4096_S1024x4096) (constant S512x4096 .f32 0x00000000#32))
    (broadcast S512x4096 (Scalar.ofBits .f32 0x00000000#32))

def kX2 (x : FVec Ideal S512x1024 .f32) (f : FVec Ideal S512x4096 .f32) (wd : FVec Ideal S4096x1024 .bf16) : FVec Ideal S512x1024 .f32 :=
  addf x (matmul dot_S512x4096_S4096x1024_S512x1024_1_0_0_1_n_n none (truncf .bf16 (mulf f f) bitsLt_bf16_f32) (shapeCast S4096x1024 wd shapeCasts_S4096x1024_S4096x1024) (constant S512x1024 .f32 0x00000000#32))

theorem pay3_eq (x p n2 wu wd fg) :
    k0_pay3 (F := Ideal) x p n2 wu wd fg = kNrm (kX2 (addf x p) (kUp (kNrm (addf x p) n2) wu) wd) fg := rfl

theorem kNrm_apply (x : FVec Ideal S512x1024 .f32) (g : FVec Ideal S1x1024 .f32) (r : Fin 512) (d : Fin 1024) :
    kNrm x g (ix2 r d) = Rows.nrm (fun d => x (ix2 r d)) (fun d => g (ix2 0 d)) d := by
  pointwise [kNrm]
  rfl

theorem kUp_apply (h : FVec Ideal S512x1024 .f32) (wu : FVec Ideal S1024x4096 .bf16) (r : Fin 512) (j : Fin 4096) :
    kUp h wu (ix2 r j) = Rows.up (fun k => h (ix2 r k)) (fun k j => wu (ix2 k j)) j := by
  pointwise [kUp]
  rfl

theorem kX2_apply (x : FVec Ideal S512x1024 .f32) (f : FVec Ideal S512x4096 .f32) (wd : FVec Ideal S4096x1024 .bf16) (r : Fin 512) (d : Fin 1024) :
    kX2 x f wd (ix2 r d) = Rows.plus (fun d => x (ix2 r d)) (fun j => f (ix2 r j) * f (ix2 r j)) (fun j d => wd (ix2 j d)) d := by
  pointwise [kX2]
  rfl

/-- The mixers' channels of a block's row through the output matrix: the four groups are read at their own columns. -/
theorem mix_apply (m : FVec Ideal S512x512 .bf16) (a : FVec Ideal S512x512 .f32) (wp : FVec Ideal S4x128x128 .bf16) (ps : FVec Ideal S1x512 .f32)
    (wo : FVec Ideal S1024x1024 .bf16) (r : Fin 512) (d : Fin 1024) :
    k0_pay2 (F := Ideal) (View.ld m r0_0) (View.ld wp r0_1) (View.ld wp r0_2) (View.ld wp r0_3) (View.ld wp r0_4) (View.ld ps r0_5) (View.ld a r0_0)
        (View.ld wo r0_7) (ix2 r d) =
      ∑ c, Rows.mix (fun g k => m (ix2 r ⟨128 * g + k, by omega⟩)) (fun d => a (ix2 r d)) (fun g k d => wp (ix3 g k d)) (fun d => ps (ix2 0 d)) c
        * wo (ix2 c d) := by
  pointwise [k0_pay2]
  refine Finset.sum_congr rfl fun c _ => ?_
  congr 1
  unfold Rows.mix
  by_cases h : (c : ℕ) < 512
  · rw [dif_pos h, dif_pos h]
    congr 1
    split_ifs <;> (refine Finset.sum_congr rfl fun k _ => ?_; dsimp only; congr 1 <;> blk_ext [])
  · rw [dif_neg h, dif_neg h]

/-- What one grid point writes, at a row and a channel of its block. -/
theorem out_apply (x0 : FVec Ideal S512x1024 .f32) (x1 : FVec Ideal S512x512 .bf16) (x2 : FVec Ideal S512x512 .f32) (x3 : FVec Ideal S4x128x128 .bf16) (x4 : FVec Ideal S1x512 .f32)
    (x5 : FVec Ideal S1024x1024 .bf16) (x6 : FVec Ideal S1x1024 .f32) (x7 : FVec Ideal S1024x4096 .bf16) (x8 : FVec Ideal S4096x1024 .bf16)
    (x9 : FVec Ideal S1x1024 .f32) (r : Fin 512) (d : Fin 1024) :
    (out0_10 (F := Ideal) x0 x1 x2 x3 x4 x5 x6 x7 x8 x9 : FVec Ideal S512x1024 .f32) (ix2 r d) =
      Rows.out (fun d => x0 (ix2 r d))
        (Rows.mix (fun g k => x1 (ix2 r ⟨128 * g + k, by omega⟩)) (fun d => x2 (ix2 r d)) (fun g k d => x3 (ix3 g k d)) (fun d => x4 (ix2 0 d)))
        (fun k d => x5 (ix2 k d)) (fun d => x6 (ix2 0 d)) (fun k j => x7 (ix2 k j)) (fun j d => x8 (ix2 j d)) (fun d => x9 (ix2 0 d)) d := by
  unfold out0_10
  rw [View.canon_cons_unit_lit', pay3_eq]
  have h1 : ∀ r d, addf (F := Ideal) (k0_pay1 (View.ld x0 r0_6)) (k0_pay2 (View.ld x1 r0_0) (View.ld x3 r0_1) (View.ld x3 r0_2) (View.ld x3 r0_3)
      (View.ld x3 r0_4) (View.ld x4 r0_5) (View.ld x2 r0_0) (View.ld x5 r0_7)) (ix2 r d) =
      Rows.plus (fun d => x0 (ix2 r d)) (Rows.mix (fun g k => x1 (ix2 r ⟨128 * g + k, by omega⟩)) (fun d => x2 (ix2 r d)) (fun g k d => x3 (ix3 g k d))
        (fun d => x4 (ix2 0 d))) (fun k d => x5 (ix2 k d)) d := by
    intro r d
    show k0_pay1 (F := Ideal) (View.ld x0 r0_6) (ix2 r d) + k0_pay2 (F := Ideal) (View.ld x1 r0_0) (View.ld x3 r0_1) (View.ld x3 r0_2) (View.ld x3 r0_3)
      (View.ld x3 r0_4) (View.ld x4 r0_5) (View.ld x2 r0_0) (View.ld x5 r0_7) (ix2 r d) = _
    rw [mix_apply]
    pointwise [k0_pay1]
    rfl
  have h6 : ∀ d : Fin 1024, View.ld (Val := Elt Ideal) (e' := .f32) x6 r0_8 (ix2 0 d) = x6 (ix2 0 d) := by intro d; pointwise
  have h7 : ∀ (r : Fin 1024) (d : Fin 4096), View.ld (Val := Elt Ideal) (e' := .bf16) x7 r0_9 (ix2 r d) = x7 (ix2 r d) := by intro r d; pointwise
  have h8 : ∀ (r : Fin 4096) (d : Fin 1024), View.ld (Val := Elt Ideal) (e' := .bf16) x8 r0_10 (ix2 r d) = x8 (ix2 r d) := by intro r d; pointwise
  have h9 : ∀ d : Fin 1024, View.ld (Val := Elt Ideal) (e' := .f32) x9 r0_8 (ix2 0 d) = x9 (ix2 0 d) := by intro d; pointwise
  simp only [kNrm_apply, kX2_apply, kUp_apply, h1, h6, h7, h8, h9]
  · rfl
  · decide

end Cert.Proof.PromptOut
-- ==== Proof.PromptValue.lean ====
/-
  The output call's result on the prompt's rows array after its run: at every row and channel the value that the reference has there.
-/
module

public import proofs.«01_k».proof.Proof.PromptOut
public import Idealize.ShloMosaic.Lib.Claim

@[expose] public section

set_option maxRecDepth 16384

noncomputable section

namespace Cert.Proof.PromptValue

open Cert.Kernel3Ideal Cert.Kernel3Ideal.Gen Idealize.ShloMosaic Idealize.ShloMosaic.TcCoe Idealize.SL.Sem

/-- Where each window stands at each point: the row blocks move with the point, the weights stay. -/
theorem idx : ∀ t : Fin cfg0.N, win0_0.index t = ![t.val, 0] ∧ win0_1.index t = ![t.val, 0] ∧ win0_2.index t = ![t.val, 0]
    ∧ win0_3.index t = ![0, 0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0] :=
  (by decide +kernel)

variable (m : (ℓ : Loc nD τ sig) → Buf (Elt Ideal) ℓ) (c : Dev nD)

/-- The value at row `n` and channel `d`, of the kernel's arguments. -/
def val (n : Fin 16384) (d : Fin 1024) : EReal :=
  PromptRef.value (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) n d

theorem read0 (t : Fin cfg0.N) (n : Fin 16384) (r : Fin 512) (h : (n : ℕ) = t.val * 512 + r) (d : Fin 1024) :
    (iblk m c 0 t : FVec Ideal S512x1024 .f32) (ix2 r d)
      = (m ((c : Thread nD τ).loc main_arg0) : FVec Ideal S1x16384x1024 .f32) (ix3 0 n d) := by
  blk_ext! [iblk, V, idx t]

theorem read1 (t : Fin cfg0.N) (n : Fin 16384) (r : Fin 512) (h : (n : ℕ) = t.val * 512 + r) (g : Fin 4) (k : Fin 128) :
    (iblk m c 1 t : FVec Ideal S512x512 .bf16) (ix2 r ⟨128 * g + k, by omega⟩)
      = (m ((c : Thread nD τ).loc main_arg1) : FVec Ideal S1x16384x4x128 .bf16) (ix4 0 n g k) := by
  blk_ext! [iblk, V, idx t]

theorem read2 (t : Fin cfg0.N) (n : Fin 16384) (r : Fin 512) (h : (n : ℕ) = t.val * 512 + r) (d : Fin 512) :
    (iblk m c 2 t : FVec Ideal S512x512 .f32) (ix2 r d)
      = (m ((c : Thread nD τ).loc main_arg2) : FVec Ideal S1x16384x512 .f32) (ix3 0 n d) := by
  blk_ext! [iblk, V, idx t]

theorem read3 (t : Fin cfg0.N) (g : Fin 4) (k d : Fin 128) :
    (iblk m c 3 t : FVec Ideal S4x128x128 .bf16) (ix3 g k d)
      = (m ((c : Thread nD τ).loc main_arg3) : FVec Ideal S1x4x128x128 .f32) (ix4 0 g k d) := by
  blk_ext! [iblk, V, idx t]

theorem read4 (t : Fin cfg0.N) (d : Fin 512) :
    (iblk m c 4 t : FVec Ideal S1x512 .f32) (ix2 0 d) = (m ((c : Thread nD τ).loc main_arg4) : FVec Ideal S1x512 .f32) (ix2 0 d) := by
  blk_ext! [iblk, V, idx t]

theorem read5 (t : Fin cfg0.N) (k d : Fin 1024) :
    (iblk m c 5 t : FVec Ideal S1024x1024 .bf16) (ix2 k d)
      = (m ((c : Thread nD τ).loc main_arg5) : FVec Ideal S1x1024x1024 .f32) (ix3 0 k d) := by
  blk_ext! [iblk, V, idx t]

theorem read6 (t : Fin cfg0.N) (d : Fin 1024) :
    (iblk m c 6 t : FVec Ideal S1x1024 .f32) (ix2 0 d) = (m ((c : Thread nD τ).loc main_arg6) : FVec Ideal S1x1024 .f32) (ix2 0 d) := by
  blk_ext! [iblk, V, idx t]

theorem read7 (t : Fin cfg0.N) (k : Fin 1024) (j : Fin 4096) :
    (iblk m c 7 t : FVec Ideal S1024x4096 .bf16) (ix2 k j)
      = (m ((c : Thread nD τ).loc main_arg7) : FVec Ideal S1x1024x4096 .f32) (ix3 0 k j) := by
  blk_ext! [iblk, V, idx t]

theorem read8 (t : Fin cfg0.N) (j : Fin 4096) (d : Fin 1024) :
    (iblk m c 8 t : FVec Ideal S4096x1024 .bf16) (ix2 j d)
      = (m ((c : Thread nD τ).loc main_arg8) : FVec Ideal S1x4096x1024 .f32) (ix3 0 j d) := by
  blk_ext! [iblk, V, idx t]

theorem read9 (t : Fin cfg0.N) (d : Fin 1024) :
    (iblk m c 9 t : FVec Ideal S1x1024 .f32) (ix2 0 d) = (m ((c : Thread nD τ).loc main_arg9) : FVec Ideal S1024 .f32) (ix1 d) := by
  blk_ext! [iblk, V, idx t]

/-- The result array after the run. -/
theorem final : (dats m 0 c).arrAt 10 cfg0.N = fun i : S16384x1024.Idx => val m c (i 0) (i 1) := by
  refine (dats m 0 c).arrAt_eq_of_covers 10 _ (by decide +kernel) fun t hf y => ?_
  blk_simp
  rw [after0_10]
  idx_vars y
  have e0 : ((((View.whole main_v16).slice (win0_10.rect t)).emb (ix2 y0 y1) 0 : Fin 16384) : ℕ) = t.val * 512 + y0 := by
    blk_simp [idx t]
  have e1 : (((View.whole main_v16).slice (win0_10.rect t)).emb (ix2 y0 y1) 1 : Fin 1024) = y1 := Fin.ext (by blk_simp [idx t])
  rw [e1]
  generalize (((View.whole main_v16).slice (win0_10.rect t)).emb (ix2 y0 y1) 0 : Fin 16384) = n at e0 ⊢
  refine (PromptOut.out_apply _ _ _ _ _ _ _ _ _ _ y0 y1).trans ?_
  simp only [read0 m c t n y0 e0, read1 m c t n y0 e0, read2 m c t n y0 e0, read3, read4, read5, read6, read7, read8, read9]
  rfl

end Cert.Proof.PromptValue
-- ==== Proof.PromptClaims.lean ====
/-
  The claims about the output call on the prompt's rows (`Kernel3`) and its reference (`Reference3`): the frames, and that at the ideal
  instance the two end with the same result.
-/
module

public import proofs.«01_k».proof.Defs
public import proofs.«01_k».proof.Proof.Gen.Kernel3
public import proofs.«01_k».proof.Proof.Gen.Kernel3.Frame
public import proofs.«01_k».proof.Proof.PromptValue
public import Idealize.ShloMosaic.Lib.Quiescent

@[expose] public section

noncomputable section

namespace Cert.Proof.PromptClaims

open Idealize.ShloMosaic Idealize.SL.Sem

theorem frame : Cert.quiescent_Kernel3 := fun m ρ _ => Cert.Kernel3.Gen.frame m ρ

theorem frame_ideal : Cert.quiescent_Kernel3Ideal := fun m ρ _ => Cert.Kernel3Ideal.Gen.frame m ρ

/-- The reference's frame, from its run. -/
theorem frame_reference : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run m ρ)

/-- Both end with `PromptValue.val` of the kernel's arguments at every row and channel. -/
theorem algebraic : Cert.algebraic_Kernel3Ideal_Reference3Ideal := by
  intro m g m' g' _ hargs
  refine ⟨fun c => fun i : Cert.Kernel3Ideal.S16384x1024.Idx => PromptValue.val m c (i 0) (i 1), ?_, ?_⟩
  · exact (θ_run Cert.Kernel3Ideal.defs _ _).mono (fun r h c => ⟨(h c).1.trans (PromptValue.final m c), (h c).2⟩)
      (Cert.Kernel3Ideal.Value.run_blocks m g)
  · refine (θ_run Cert.Reference3Ideal.defs _ _).mono (fun r h c => ⟨(h c).1.trans ?_, (h c).2⟩)
      (Cert.Reference3Ideal.Value.run m' g')
    obtain ⟨h0, h1, h2, h3, h4, h5, h6, h7, h8, h9⟩ := hargs c
    funext i
    idx_vars i
    refine (PromptRef.res_apply m' c i0 i1).trans ?_
    rw [h0, h1, h2, h3, h4, h5, h6, h7, h8, h9]
    rfl

end Cert.Proof.PromptClaims

end
-- ==== Proof.SeqRef.lean ====
/-
  The reference of the projection call on the prompt's rows, row by row.
-/
module

public import proofs.«01_k».proof.Proof.Gen.Reference6Ideal.Run
public import proofs.«01_k».proof.Proof.Rows

@[expose] public section

set_option maxRecDepth 16384

noncomputable section

namespace Cert.Proof.SeqRef

open Cert.Reference6Ideal Cert.Reference6Ideal.Gen Idealize.ShloMosaic Idealize.ShloMosaic.TcCoe

/-- The normalisation of rows. -/
def rNrm (x : FVec Ideal S1x16384x1024 .f32) (g : FVec Ideal S1x1024 .f32) : FVec Ideal S1x16384x1024 .f32 :=
  mulf (mulf x (broadcastInDim S1x16384x1024 ![0,1,2] bcast_S1x16384x1_S1x16384x1024_0_1_2 (Host.rsqrt (addf (Host.divf (broadcastInDim S1x16384x1 ![0,1] bcast_S1x16384_S1x16384x1_0_1 (Host.reduceAdd (mulf x x) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32)))))) (broadcastInDim S1x16384x1024 ![0,1,2] bcast_S1x1x1024_S1x16384x1024_0_1_2 (broadcastInDim S1x1x1024 ![2] bcast_S1024_S1x1x1024_2 (shapeCast _ g shapeCasts_S1x1024_S1024)))

/-- All the projected columns. -/
def rZ (h : FVec Ideal S1x16384x1024 .f32) (w : FVec Ideal S1x1024x2344 .f32) : FVec Ideal S16384x2344 .f32 :=
  shapeCast _ (Host.dotGeneral dot_S1x16384x1024_S1024x2344_S1x16384x2344_2_0_01_1_n_n none h (shapeCast _ w shapeCasts_S1x1024x2344_S1024x2344)) shapeCasts_S1x16384x2344_S16384x2344

theorem rNrm_apply (x : FVec Ideal S1x16384x1024 .f32) (g : FVec Ideal S1x1024 .f32)
    (b : Fin 1) (t : Fin 16384) (d : Fin 1024) : rNrm x g (ix3 b t d) = Rows.nrm (fun d => x (ix3 0 t d)) (fun d => g (ix2 0 d)) d := by
  obtain rfl : b = 0 := Subsingleton.elim _ _
  pointwise [rNrm]
  rfl

/-- Row `n`, column `j` of the projection, of the arguments. -/
def z (x : FVec Ideal S1x16384x1024 .f32) (g : FVec Ideal S1x1024 .f32) (w : FVec Ideal S1x1024x2344 .f32) (n : Fin 16384) (j : Fin 2344) : EReal :=
  Rows.proj (fun d => x (ix3 0 n d)) (fun d => g (ix2 0 d)) (fun k j => w (ix3 0 k j)) j

theorem rZ_apply (x : FVec Ideal S1x16384x1024 .f32) (g : FVec Ideal S1x1024 .f32) (w : FVec Ideal S1x1024x2344 .f32) (n : Fin 16384) (j : Fin 2344) :
    rZ (rNrm x g) w (ix2 n j) = z x g w n j := by
  pointwise [rZ]
  simp only [rNrm_apply]
  rfl

/-- The pooled columns of the projection. -/
def rU (z : FVec Ideal S16384x2344 .f32) : FVec Ideal S16384x512 .f32 :=
  extractStridedSlice S16384x512 ![0, 0] z slices_S16384x2344_S16384x512_0_0

/-- Those, under fifteen rows of zeros. -/
def rExt (u : FVec Ideal S16384x512 .f32) : FVec Ideal S16399x512 .f32 :=
  concatenate S16399x512 0 [⟨S15x512, (broadcastInDim S15x512 ![] bcast_S_S15x512 (constant S_ .f32 0x00000000#32))⟩, ⟨S16384x512, u⟩] concatenates_S15x512_S16384x512_S16399x512_d0

/-- The first group of pooled rows: sums of 2 rows over their count, less the row itself. -/
def rTile0 (u : FVec Ideal S16384x512 .f32) : FVec Ideal S16384x128 .f32 :=
  (subf (Host.divf (addf (addf (broadcastInDim S16384x128 ![] bcast_S_S16384x128 (constant S_ .f32 0x00000000#32)) (extractStridedSlice S16384x128 ![15, 0] (rExt u) slices_S16399x512_S16384x128_15_0)) (extractStridedSlice S16384x128 ![14, 0] (rExt u) slices_S16399x512_S16384x128_14_0)) (broadcastInDim S16384x128 ![0, 1] bcast_S16384x1_S16384x128_0_1 (broadcastInDim S16384x1 ![0] bcast_S16384_S16384x1_0 (sitofp .f32 (minsi (broadcastInDim S16384 ![] bcast_S_S16384 (constantI S_ 32 2#32)) (addi (iotaInDim S16384 32 0) (broadcastInDim S16384 ![] bcast_S_S16384 (constantI S_ 32 1#32)))))))) (extractStridedSlice S16384x128 ![0, 0] u slices_S16384x512_S16384x128_0_0))

/-- The second group of pooled rows: sums of 4 rows over their count, less the row itself. -/
def rTile1 (u : FVec Ideal S16384x512 .f32) : FVec Ideal S16384x128 .f32 :=
  (subf (Host.divf (addf (addf (addf (addf (broadcastInDim S16384x128 ![] bcast_S_S16384x128 (constant S_ .f32 0x00000000#32)) (extractStridedSlice S16384x128 ![15, 128] (rExt u) slices_S16399x512_S16384x128_15_128)) (extractStridedSlice S16384x128 ![14, 128] (rExt u) slices_S16399x512_S16384x128_14_128)) (extractStridedSlice S16384x128 ![13, 128] (rExt u) slices_S16399x512_S16384x128_13_128)) (extractStridedSlice S16384x128 ![12, 128] (rExt u) slices_S16399x512_S16384x128_12_128)) (broadcastInDim S16384x128 ![0, 1] bcast_S16384x1_S16384x128_0_1 (broadcastInDim S16384x1 ![0] bcast_S16384_S16384x1_0 (sitofp .f32 (minsi (broadcastInDim S16384 ![] bcast_S_S16384 (constantI S_ 32 4#32)) (addi (iotaInDim S16384 32 0) (broadcastInDim S16384 ![] bcast_S_S16384 (constantI S_ 32 1#32)))))))) (extractStridedSlice S16384x128 ![0, 128] u slices_S16384x512_S16384x128_0_128))

/-- The third group of pooled rows: sums of 8 rows over their count, less the row itself. -/
def rTile2 (u : FVec Ideal S16384x512 .f32) : FVec Ideal S16384x128 .f32 :=
  (subf (Host.divf (addf (addf (addf (addf (addf (addf (addf (addf (broadcastInDim S16384x128 ![] bcast_S_S16384x128 (constant S_ .f32 0x00000000#32)) (extractStridedSlice S16384x128 ![15, 256] (rExt u) slices_S16399x512_S16384x128_15_256)) (extractStridedSlice S16384x128 ![14, 256] (rExt u) slices_S16399x512_S16384x128_14_256)) (extractStridedSlice S16384x128 ![13, 256] (rExt u) slices_S16399x512_S16384x128_13_256)) (extractStridedSlice S16384x128 ![12, 256] (rExt u) slices_S16399x512_S16384x128_12_256)) (extractStridedSlice S16384x128 ![11, 256] (rExt u) slices_S16399x512_S16384x128_11_256)) (extractStridedSlice S16384x128 ![10, 256] (rExt u) slices_S16399x512_S16384x128_10_256)) (extractStridedSlice S16384x128 ![9, 256] (rExt u) slices_S16399x512_S16384x128_9_256)) (extractStridedSlice S16384x128 ![8, 256] (rExt u) slices_S16399x512_S16384x128_8_256)) (broadcastInDim S16384x128 ![0, 1] bcast_S16384x1_S16384x128_0_1 (broadcastInDim S16384x1 ![0] bcast_S16384_S16384x1_0 (sitofp .f32 (minsi (broadcastInDim S16384 ![] bcast_S_S16384 (constantI S_ 32 8#32)) (addi (iotaInDim S16384 32 0) (broadcastInDim S16384 ![] bcast_S_S16384 (constantI S_ 32 1#32)))))))) (extractStridedSlice S16384x128 ![0, 256] u slices_S16384x512_S16384x128_0_256))

/-- The fourth group of pooled rows: sums of 16 rows over their count, less the row itself. -/
def rTile3 (u : FVec Ideal S16384x512 .f32) : FVec Ideal S16384x128 .f32 :=
  (subf (Host.divf (addf (addf (addf (addf (addf (addf (addf (addf (addf (addf (addf (addf (addf (addf (addf (addf (broadcastInDim S16384x128 ![] bcast_S_S16384x128 (constant S_ .f32 0x00000000#32)) (extractStridedSlice S16384x128 ![15, 384] (rExt u) slices_S16399x512_S16384x128_15_384)) (extractStridedSlice S16384x128 ![14, 384] (rExt u) slices_S16399x512_S16384x128_14_384)) (extractStridedSlice S16384x128 ![13, 384] (rExt u) slices_S16399x512_S16384x128_13_384)) (extractStridedSlice S16384x128 ![12, 384] (rExt u) slices_S16399x512_S16384x128_12_384)) (extractStridedSlice S16384x128 ![11, 384] (rExt u) slices_S16399x512_S16384x128_11_384)) (extractStridedSlice S16384x128 ![10, 384] (rExt u) slices_S16399x512_S16384x128_10_384)) (extractStridedSlice S16384x128 ![9, 384] (rExt u) slices_S16399x512_S16384x128_9_384)) (extractStridedSlice S16384x128 ![8, 384] (rExt u) slices_S16399x512_S16384x128_8_384)) (extractStridedSlice S16384x128 ![7, 384] (rExt u) slices_S16399x512_S16384x128_7_384)) (extractStridedSlice S16384x128 ![6, 384] (rExt u) slices_S16399x512_S16384x128_6_384)) (extractStridedSlice S16384x128 ![5, 384] (rExt u) slices_S16399x512_S16384x128_5_384)) (extractStridedSlice S16384x128 ![4, 384] (rExt u) slices_S16399x512_S16384x128_4_384)) (extractStridedSlice S16384x128 ![3, 384] (rExt u) slices_S16399x512_S16384x128_3_384)) (extractStridedSlice S16384x128 ![2, 384] (rExt u) slices_S16399x512_S16384x128_2_384)) (extractStridedSlice S16384x128 ![1, 384] (rExt u) slices_S16399x512_S16384x128_1_384)) (extractStridedSlice S16384x128 ![0, 384] (rExt u) slices_S16399x512_S16384x128_0_384)) (broadcastInDim S16384x128 ![0, 1] bcast_S16384x1_S16384x128_0_1 (broadcastInDim S16384x1 ![0] bcast_S16384_S16384x1_0 (sitofp .f32 (minsi (broadcastInDim S16384 ![] bcast_S_S16384 (constantI S_ 32 16#32)) (addi (iotaInDim S16384 32 0) (broadcastInDim S16384 ![] bcast_S_S16384 (constantI S_ 32 1#32)))))))) (extractStridedSlice S16384x128 ![0, 384] u slices_S16384x512_S16384x128_0_384))

/-- The pooled rows: the four groups beside each other. -/
def rM (u : FVec Ideal S16384x512 .f32) : FVec Ideal S16384x512 .bf16 :=
  truncf .bf16 ((concatenate S16384x512 1 [⟨S16384x128, rTile0 u⟩, ⟨S16384x128, rTile1 u⟩, ⟨S16384x128, rTile2 u⟩, ⟨S16384x128, rTile3 u⟩] concatenates_S16384x128_S16384x128_S16384x128_S16384x128_S16384x512_d1 : (⟨S16384x512, .f32⟩ : BufTy).Contents (Elt Ideal))) bitsLt_bf16_f32

/-- The projected columns, of the arguments. -/
theorem z_eq (m : (ℓ : Loc nD τ sig) → Buf (Elt Ideal) ℓ) (c : Dev nD) :
    Cert.Reference6Ideal.Value.res_main_v16 (StableHlo.launchContents m c) = rZ (rNrm (m ((c.tc : Thread nD τ).loc main_arg0)) (m ((c.tc : Thread nD τ).loc main_arg1))) (m ((c.tc : Thread nD τ).loc main_arg2)) := rfl

theorem u_eq (m : (ℓ : Loc nD τ sig) → Buf (Elt Ideal) ℓ) (c : Dev nD) :
    Cert.Reference6Ideal.Value.res_main_v17 (StableHlo.launchContents m c) = rU (rZ (rNrm (m ((c.tc : Thread nD τ).loc main_arg0)) (m ((c.tc : Thread nD τ).loc main_arg1))) (m ((c.tc : Thread nD τ).loc main_arg2))) := rfl

theorem res_eq (m : (ℓ : Loc nD τ sig) → Buf (Elt Ideal) ℓ) (c : Dev nD) :
    truncf .bf16 (Cert.Reference6Ideal.Value.res_main_v148 (StableHlo.launchContents m c)) bitsLt_bf16_f32 = rM (rU (rZ (rNrm (m ((c.tc : Thread nD τ).loc main_arg0)) (m ((c.tc : Thread nD τ).loc main_arg1))) (m ((c.tc : Thread nD τ).loc main_arg2)))) := rfl

section

variable (x : FVec Ideal S1x16384x1024 .f32) (g : FVec Ideal S1x1024 .f32) (w : FVec Ideal S1x1024x2344 .f32) (n : Fin 16384) (d : Fin 512)

theorem u_apply : rU (rZ (rNrm x g) w) (ix2 n d) = z x g w n ⟨d, by omega⟩ := by
  pointwise [rU]
  exact rZ_apply ..

theorem tail_apply (r : Fin 16) : extractStridedSlice S16x512 ![16368, 0] (rU (rZ (rNrm x g) w)) slices_S16384x512_S16x512_16368_0 (ix2 r d)
    = z x g w ⟨16368 + r, by omega⟩ ⟨d, by omega⟩ := by
  pointwise
  exact u_apply ..

theorem k_apply : extractStridedSlice S16384x512 ![0, 1024] (rZ (rNrm x g) w) slices_S16384x2344_S16384x512_0_1024 (ix2 n d)
    = z x g w n ⟨1024 + d, by omega⟩ := by
  pointwise
  exact rZ_apply ..

theorem v_apply : extractStridedSlice S16384x512 ![0, 1536] (rZ (rNrm x g) w) slices_S16384x2344_S16384x512_0_1536 (ix2 n d)
    = z x g w n ⟨1536 + d, by omega⟩ := by
  pointwise
  exact rZ_apply ..

end

section Pool

variable (u : FVec Ideal S16384x512 .f32)

/-- Row `k` of the pooled columns under sixteen rows of zeros. -/
def pad (u : Fin 16384 → Fin 512 → EReal) (k : ℕ) (j : Fin 512) : EReal :=
  if h : 16 ≤ k ∧ k < 16400 then u ⟨k - 16, by omega⟩ j else 0

theorem rExt_apply (k : Fin 16399) (j : Fin 512) : rExt u (ix2 k j) = pad (fun n j => u (ix2 n j)) (k + 1) j := by
  pointwise [rExt]
  unfold pad
  by_cases h : (k : ℕ) < 15
  · rw [dif_pos h, dif_neg (by omega)]
  · rw [dif_neg h, dif_pos (by omega)]
    exact congrArg (fun n => u (ix2 n j)) (Fin.ext (by simp only [Fin.val_mk]; omega))

/-- Under the zeros the rows are the rows. -/
theorem pad_row (u : Fin 16384 → Fin 512 → EReal) (n : Fin 16384) (j : Fin 512) : pad u (16 + n) j = u n j := by
  unfold pad
  rw [dif_pos (by omega)]
  exact congrArg (u · j) (Fin.ext (by simp only [Fin.val_mk]; omega))

/-- How many of `w` rows up to row `n` there are. -/
def cnt (w : BitVec 32) (n : ℕ) : EReal :=
  FloatOps.sitofp (F := Ideal) .f32 (IntOp.minsi w (IntOp.addi (BitVec.ofNat 32 n) 1#32))

/-- The mean of the `w` rows up to row `n`, less row `n`. -/
def pool (u : Fin 16384 → Fin 512 → EReal) (w : ℕ) (n : Fin 16384) (j : Fin 512) : EReal :=
  Ideal.div (∑ i ∈ Finset.range w, pad u (16 - i + n) j) (cnt (BitVec.ofNat 32 w) n) - u n j

theorem pool_eq (u : Fin 16384 → Fin 512 → EReal) (w : ℕ) (n : Fin 16384) (j : Fin 512) :
    pool u w n j = Ideal.div (∑ i ∈ Finset.range w, pad u (16 - i + n) j) (cnt (BitVec.ofNat 32 w) n) - pad u (16 + n) j := by
  rw [pad_row]
  rfl

theorem rTile0_apply (n : Fin 16384) (d : Fin 128) : rTile0 u (ix2 n d) = pool (fun n j => u (ix2 n j)) 2 n ⟨d, by omega⟩ := by
  pointwise [rTile0]
  simp only [rExt_apply]
  have e : ∀ i : ℕ, i + (n : ℕ) + 1 = (i + 1) + n := fun i => by omega
  simp only [e, Nat.reduceAdd, pool, cnt, Finset.sum_range_succ, Finset.sum_range_zero, zero_add, Nat.reduceSub, Nat.sub_zero, BitVec.ofNat_eq_ofNat]

theorem rTile1_apply (n : Fin 16384) (d : Fin 128) : rTile1 u (ix2 n d) = pool (fun n j => u (ix2 n j)) 4 n ⟨128 + d, by omega⟩ := by
  pointwise [rTile1]
  simp only [rExt_apply]
  have e : ∀ i : ℕ, i + (n : ℕ) + 1 = (i + 1) + n := fun i => by omega
  simp only [e, Nat.reduceAdd, pool, cnt, Finset.sum_range_succ, Finset.sum_range_zero, zero_add, Nat.reduceSub, Nat.sub_zero, BitVec.ofNat_eq_ofNat]

theorem rTile2_apply (n : Fin 16384) (d : Fin 128) : rTile2 u (ix2 n d) = pool (fun n j => u (ix2 n j)) 8 n ⟨256 + d, by omega⟩ := by
  pointwise [rTile2]
  simp only [rExt_apply]
  have e : ∀ i : ℕ, i + (n : ℕ) + 1 = (i + 1) + n := fun i => by omega
  simp only [e, Nat.reduceAdd, pool, cnt, Finset.sum_range_succ, Finset.sum_range_zero, zero_add, Nat.reduceSub, Nat.sub_zero, BitVec.ofNat_eq_ofNat]

theorem rTile3_apply (n : Fin 16384) (d : Fin 128) : rTile3 u (ix2 n d) = pool (fun n j => u (ix2 n j)) 16 n ⟨384 + d, by omega⟩ := by
  pointwise [rTile3]
  simp only [rExt_apply]
  have e : ∀ i : ℕ, i + (n : ℕ) + 1 = (i + 1) + n := fun i => by omega
  have e1 : (n : ℕ) + 1 = 1 + n := Nat.add_comm _ _
  simp only [e, e1, Nat.reduceAdd, pool, cnt, Finset.sum_range_succ, Finset.sum_range_zero, zero_add, Nat.reduceSub, Nat.sub_zero, BitVec.ofNat_eq_ofNat]

/-- The pooled rows of `u`: windows of 2, 4, 8 and 16 rows for the four groups of columns. -/
def pooled (u : Fin 16384 → Fin 512 → EReal) (n : Fin 16384) (j : Fin 512) : EReal :=
  if (j : ℕ) < 128 then pool u 2 n j else if (j : ℕ) < 256 then pool u 4 n j else if (j : ℕ) < 384 then pool u 8 n j else pool u 16 n j

theorem rM_apply (n : Fin 16384) (d : Fin 512) : rM u (ix2 n d) = pooled (fun n j => u (ix2 n j)) n d := by
  pointwise [rM]
  simp only [rTile0_apply, rTile1_apply, rTile2_apply, rTile3_apply]
  unfold pooled
  by_cases h1 : (d : ℕ) < 128
  · rw [dif_pos h1, if_pos h1]
  · rw [dif_neg h1, if_neg h1]
    by_cases h2 : (d : ℕ) < 256
    · rw [dif_pos (by omega), if_pos h2]
      exact congrArg (pool _ _ n) (Fin.ext (by simp only [Fin.val_mk]; omega))
    · rw [dif_neg (by omega), if_neg h2]
      by_cases h3 : (d : ℕ) < 384
      · rw [dif_pos (by omega), if_pos h3]
        exact congrArg (pool _ _ n) (Fin.ext (by simp only [Fin.val_mk]; omega))
      · rw [dif_neg (by omega), if_neg h3]
        exact congrArg (pool _ _ n) (Fin.ext (by simp only [Fin.val_mk]; omega))

end Pool

end Cert.Proof.SeqRef
-- ==== Proof.Seq.lean ====
/-
  The projection call on the prompt's rows, row by row: the projected columns, and the pooled rows, whose windows reach
  into the rows the call keeps from its last block.
-/
module

public import proofs.«01_k».proof.Proof.Gen.Kernel6Ideal.Value
public import proofs.«01_k».proof.Proof.SeqRef
public import Idealize.ShloMosaic.Lib.Pipeline.ValueKit
public import Idealize.ShloMosaic.Lib.Pipeline.ReadBack
public import Idealize.ShloMosaic.Lib.WritesUnit
public import Idealize.ShloMosaic.Lib.Claim

@[expose] public section

set_option maxRecDepth 16384

noncomputable section

namespace Cert.Proof.Seq

open Cert.Kernel6Ideal Cert.Kernel6Ideal.Gen Idealize.ShloMosaic Idealize.ShloMosaic.TcCoe Idealize.SL.Sem

/-! ## One block of rows -/

section Blocks

variable (x : FVec Ideal S512x1024 .f32) (g : FVec Ideal S1x1024 .f32) (w : FVec Ideal S1024x2048 .bf16) (r : Fin 512)

theorem nrm_apply (d : Fin 1024) : k0_pay5 (F := Ideal) x g (ix2 r d) = Rows.nrm (fun d => x (ix2 r d)) (fun d => g (ix2 0 d)) d := by
  pointwise [k0_pay5]
  rfl

/-- The first 2048 projected columns of a block. -/
theorem z_apply (j : Fin 2048) : k0_pay8 (F := Ideal) x g w (ix2 r j)
    = Rows.proj (fun d => x (ix2 r d)) (fun d => g (ix2 0 d)) (fun k j => w (ix2 k j)) j := by
  pointwise [k0_pay8, k0_pay6]
  simp only [nrm_apply]
  rfl

theorem u_apply (d : Fin 512) : k0_pay9 (F := Ideal) x g w (ix2 r d)
    = Rows.proj (fun d => x (ix2 r d)) (fun d => g (ix2 0 d)) (fun k j => w (ix2 k j)) ⟨d, by omega⟩ := by
  pointwise [k0_pay9]
  exact z_apply ..

theorem u_store_apply (d : Fin 512) : k0_pay11 (F := Ideal) x g w (ix2 r d)
    = Rows.proj (fun d => x (ix2 r d)) (fun d => g (ix2 0 d)) (fun k j => w (ix2 k j)) ⟨d, by omega⟩ := by
  pointwise [k0_pay11]
  exact u_apply ..

theorem k_apply (d : Fin 512) : k0_pay22 (F := Ideal) (k0_pay8 x g w) (ix2 r d)
    = Rows.proj (fun d => x (ix2 r d)) (fun d => g (ix2 0 d)) (fun k j => w (ix2 k j)) ⟨1024 + d, by omega⟩ := by
  pointwise [k0_pay22]
  exact z_apply ..

theorem v_apply (d : Fin 512) : k0_pay24 (F := Ideal) (k0_pay8 x g w) (ix2 r d)
    = Rows.proj (fun d => x (ix2 r d)) (fun d => g (ix2 0 d)) (fun k j => w (ix2 k j)) ⟨1536 + d, by omega⟩ := by
  pointwise [k0_pay24]
  exact z_apply ..

theorem tail_apply (i : Fin 16) (d : Fin 512) : k0_pay20 (F := Ideal) (k0_pay9 x g w) (ix2 i d)
    = Rows.proj (fun d => x (ix2 ⟨496 + i, by omega⟩ d)) (fun d => g (ix2 0 d)) (fun k j => w (ix2 k j)) ⟨d, by omega⟩ := by
  pointwise [k0_pay20]
  exact u_apply ..

theorem tail_store_apply (i : Fin 16) (d : Fin 512) : k0_pay21 (F := Ideal) (k0_pay9 x g w) (ix2 i d)
    = Rows.proj (fun d => x (ix2 ⟨496 + i, by omega⟩ d)) (fun d => g (ix2 0 d)) (fun k j => w (ix2 k j)) ⟨d, by omega⟩ := by
  pointwise [k0_pay21]
  exact tail_apply ..

theorem prev_apply (p : FVec Ideal S1x16x512 .f32) (i : Fin 16) (d : Fin 512) : k0_pay10 (F := Ideal) p (ix2 i d) = p (ix3 0 i d) := by
  pointwise [k0_pay10]

end Blocks

/-! ## The blocks of the arguments -/

/-- Where each window stands at each point: the row blocks move with the point, the weights stay. -/
theorem idx : ∀ t : Fin cfg0.N, win0_0.index t = ![t.val, 0] ∧ win0_1.index t = ![0, 0] ∧ win0_2.index t = ![0, 0]
    ∧ win0_5.index t = ![0, 0, 0] ∧ win0_6.index t = ![t.val, 0] ∧ win0_7.index t = ![0, 0]
    ∧ win0_8.index t = ![t.val, 0] ∧ win0_10.index t = ![t.val, 0] :=
  (by decide +kernel)

variable (m : (ℓ : Loc nD τ sig) → Buf (Elt Ideal) ℓ) (c : Dev nD)

/-- Row `n`, column `j` of the projection, of the kernel's arguments. -/
def val (n : Fin 16384) (j : Fin 2344) : EReal :=
  SeqRef.z (m ((c : Thread nD τ).loc main_arg0)) (m ((c : Thread nD τ).loc main_arg1)) (m ((c : Thread nD τ).loc main_arg2)) n j

theorem V12 : V m c main_v12 = shapeCast S16384x1024 (m ((c : Thread nD τ).loc main_arg0) : FVec Ideal S1x16384x1024 .f32) shapeCasts_S1x16384x1024_S16384x1024 := rfl
theorem V11 : V m c main_v11 = broadcastInDim S1x16x512 ![] bcast_S_S1x16x512 (constant (F := Ideal) S_ .f32 0x00000000#32) := rfl
theorem V10 : V m c main_v10 = broadcastInDim S1x1024 ![1] bcast_S1024_S1x1024_1 (shapeCast S1024 (m ((c : Thread nD τ).loc main_arg1) : FVec Ideal S1x1024 .f32) shapeCasts_S1x1024_S1024) := rfl
theorem V2 : V m c main_v2 = (truncf .bf16 (extractStridedSlice S1024x2048 ![0, 0] (shapeCast S1024x2344 (m ((c : Thread nD τ).loc main_arg2) : FVec Ideal S1x1024x2344 .f32) shapeCasts_S1x1024x2344_S1024x2344) slices_S1024x2344_S1024x2048_0_0) bitsLt_bf16_f32 : FVec Ideal S1024x2048 .bf16) := rfl

theorem cast0 (X : FVec Ideal S1x16384x1024 .f32) (n : Fin 16384) (d : Fin 1024) :
    shapeCast S16384x1024 X shapeCasts_S1x16384x1024_S16384x1024 (ix2 n d) = X (ix3 0 n d) := by
  pointwise

theorem cast1 (X : FVec Ideal S1x1024 .f32) (d : Fin 1024) :
    broadcastInDim S1x1024 ![1] bcast_S1024_S1x1024_1 (shapeCast S1024 X shapeCasts_S1x1024_S1024) (ix2 0 d) = X (ix2 0 d) := by
  pointwise

theorem cast2 (X : FVec Ideal S1x1024x2344 .f32) (k : Fin 1024) (j : Fin 2048) :
    (truncf .bf16 (extractStridedSlice S1024x2048 ![0, 0] (shapeCast S1024x2344 X shapeCasts_S1x1024x2344_S1024x2344) slices_S1024x2344_S1024x2048_0_0) bitsLt_bf16_f32 : FVec Ideal S1024x2048 .bf16) (ix2 k j) = X (ix3 0 k ⟨j, by omega⟩) := by
  pointwise

theorem cast5 (i : Fin 16) (d : Fin 512) :
    broadcastInDim S1x16x512 ![] bcast_S_S1x16x512 (constant (F := Ideal) S_ .f32 0x00000000#32) (ix3 0 i d) = (0 : EReal) := by
  pointwise

theorem read0 (t : Fin cfg0.N) (n : Fin 16384) (r : Fin 512) (h : (n : ℕ) = t.val * 512 + r) (d : Fin 1024) :
    (iblk m c 0 t : FVec Ideal S512x1024 .f32) (ix2 r d)
      = (m ((c : Thread nD τ).loc main_arg0) : FVec Ideal S1x16384x1024 .f32) (ix3 0 n d) := by
  have e : ((cfg0.win 0).blk t).view.emb (ix2 r d) = (ix2 n d : S16384x1024.Idx) := by
    blk_ext [idx t]
  exact (congrArg (V m c main_v12) e).trans ((congrFun (V12 m c) _).trans (cast0 _ n d))

theorem read1 (t : Fin cfg0.N) (d : Fin 1024) :
    (iblk m c 1 t : FVec Ideal S1x1024 .f32) (ix2 0 d) = (m ((c : Thread nD τ).loc main_arg1) : FVec Ideal S1x1024 .f32) (ix2 0 d) := by
  have e : ((cfg0.win 1).blk t).view.emb (ix2 0 d) = (ix2 0 d : S1x1024.Idx) := by
    blk_ext [idx t]
  exact (congrArg (V m c main_v10) e).trans ((congrFun (V10 m c) _).trans (cast1 _ d))

theorem read2 (t : Fin cfg0.N) (k : Fin 1024) (j : Fin 2048) :
    (iblk m c 2 t : FVec Ideal S1024x2048 .bf16) (ix2 k j)
      = (m ((c : Thread nD τ).loc main_arg2) : FVec Ideal S1x1024x2344 .f32) (ix3 0 k ⟨j, by omega⟩) := by
  have e : ((cfg0.win 2).blk t).view.emb (ix2 k j) = (ix2 k j : S1024x2048.Idx) := by
    blk_ext [idx t]
  exact (congrArg (V m c main_v2) e).trans ((congrFun (V2 m c) _).trans (cast2 _ k j))

theorem read5 (t : Fin cfg0.N) (i : Fin 16) (d : Fin 512) :
    (iblk m c 5 t : FVec Ideal S1x16x512 .f32) (ix3 0 i d) = (0 : EReal) := by
  have e : ((cfg0.win 5).blk t).view.emb (ix3 0 i d) = (ix3 0 i d : S1x16x512.Idx) := by
    blk_ext [idx t]
  exact (congrArg (V m c main_v11) e).trans ((congrFun (V11 m c) _).trans (cast5 i d))

/-- A block's row of the projection is the array's. -/
theorem proj_blk (t : Fin cfg0.N) (n : Fin 16384) (r : Fin 512) (h : (n : ℕ) = t.val * 512 + r) (j : Fin 2048) :
    Rows.proj (fun d => (iblk m c 0 t : FVec Ideal S512x1024 .f32) (ix2 r d)) (fun d => (iblk m c 1 t : FVec Ideal S1x1024 .f32) (ix2 0 d))
      (fun k j => (iblk m c 2 t : FVec Ideal S1024x2048 .bf16) (ix2 k j)) j = val m c n ⟨j, by omega⟩ := by
  simp only [read0 m c t n r h, read1, read2]
  rfl

/-- The pooled columns, keys and values of row `n`. -/
def uVal (n : Fin 16384) (d : Fin 512) : EReal := val m c n ⟨d, by omega⟩
def kVal (n : Fin 16384) (d : Fin 512) : EReal := val m c n ⟨1024 + d, by omega⟩
def tailVal (i : Fin 16) (d : Fin 512) : EReal := uVal m c ⟨16368 + i, by omega⟩ d
def vVal (n : Fin 16384) (d : Fin 512) : EReal := val m c n ⟨1536 + d, by omega⟩

/-! ## Keys and values -/

theorem outs8 (t : Fin cfg0.N) (n : Fin 16384) (r d : Fin 512) (h : (n : ℕ) = t.val * 512 + r) :
    ((outsAt0 m c t.val t.isLt).2.2.1 : FVec Ideal S512x512 .f32) (ix2 r d) = kVal m c n d := by
  by_cases h0 : t.val % 32 = 0
  · rw [outsAt0_A m c t h0]
    frame_out
    exact (k_apply _ _ _ r d).trans (proj_blk m c t n r h _)
  · rw [outsAt0_B m c t h0]
    frame_out
    exact (k_apply _ _ _ r d).trans (proj_blk m c t n r h _)

theorem outs10 (t : Fin cfg0.N) (n : Fin 16384) (r d : Fin 512) (h : (n : ℕ) = t.val * 512 + r) :
    ((outsAt0 m c t.val t.isLt).2.2.2.2.1 : FVec Ideal S512x512 .f32) (ix2 r d) = vVal m c n d := by
  by_cases h0 : t.val % 32 = 0
  · rw [outsAt0_A m c t h0]
    frame_out
    exact (v_apply _ _ _ r d).trans (proj_blk m c t n r h _)
  · rw [outsAt0_B m c t h0]
    frame_out
    exact (v_apply _ _ _ r d).trans (proj_blk m c t n r h _)

theorem outs7 (t : Fin cfg0.N) (n : Fin 16384) (i : Fin 16) (d : Fin 512) (h : (n : ℕ) = t.val * 512 + 496 + i) :
    ((outsAt0 m c t.val t.isLt).2.1 : FVec Ideal S16x512 .f32) (ix2 i d) = uVal m c n d := by
  by_cases h0 : t.val % 32 = 0
  · rw [outsAt0_A m c t h0]
    frame_out
    exact (tail_apply _ _ _ i d).trans (proj_blk m c t n _ (by simp only [Fin.val_mk]; omega) _)
  · rw [outsAt0_B m c t h0]
    frame_out
    exact (tail_apply _ _ _ i d).trans (proj_blk m c t n _ (by simp only [Fin.val_mk]; omega) _)

/-! ## The rows kept between points -/

/-- A store of whole rows at the top, read there. -/
theorem canon_top (w : FVec Ideal S16x512 .f32) (L : List (View.Piece (Elt Ideal) S528x512 .f32)) (i : Fin 528) (d : Fin 512) (h : (i : ℕ) < 16) :
    View.canon (⟨Rect.unit ![0, 0] ![16, 512] inb_S528x512_S16x512_0_0, w⟩ :: L) (ix2 i d) = w (ix2 ⟨i, h⟩ d) := by
  have e : (ix2 i d : S528x512.Idx) = (Rect.unit (s := S528x512) ![0, 0] ![16, 512] inb_S528x512_S16x512_0_0).emb (ix2 (⟨i, h⟩ : Fin 16) d) := by
    blk_ext
  rw [e]
  exact View.canon_cons_emb (Rect.unit (s := S528x512) ![0, 0] ![16, 512] inb_S528x512_S16x512_0_0) w L _

/-- A store of the block's rows, read there. -/
theorem canon_rows (w : FVec Ideal S512x512 .f32) (L : List (View.Piece (Elt Ideal) S528x512 .f32)) (i : Fin 528) (d : Fin 512) (h : 16 ≤ (i : ℕ)) :
    View.canon (⟨Rect.unit ![16, 0] ![512, 512] inb_S528x512_S512x512_16_0, w⟩ :: L) (ix2 i d) = w (ix2 ⟨i - 16, by omega⟩ d) := by
  have e : (ix2 i d : S528x512.Idx) = (Rect.unit (s := S528x512) ![16, 0] ![512, 512] inb_S528x512_S512x512_16_0).emb (ix2 (⟨i - 16, by omega⟩ : Fin 512) d) := by
    blk_ext
  rw [e]
  exact View.canon_cons_emb (Rect.unit (s := S528x512) ![16, 0] ![512, 512] inb_S528x512_S512x512_16_0) w L _

/-- Off the block's rows, what was there before. -/
theorem canon_above (w : FVec Ideal S512x512 .f32) (L : List (View.Piece (Elt Ideal) S528x512 .f32)) (i : Fin 528) (d : Fin 512) (h : (i : ℕ) < 16) :
    View.canon (⟨Rect.unit ![16, 0] ![512, 512] inb_S528x512_S512x512_16_0, w⟩ :: L) (ix2 i d) = View.canon L (ix2 i d) :=
  View.canon_cons_of_not_mem _ _ fun hm => by
    obtain ⟨j, -, hj⟩ := (LoadRect.mem_set _).mp hm 0
    have hj : (i : ℕ) = 16 + 1 * j := hj
    omega

theorem outsS (t : Fin cfg0.N) (n : Fin 16384) (i : Fin 528) (hi : (i : ℕ) < 16) (d : Fin 512) (h : (n : ℕ) = t.val * 512 + 496 + i) :
    ((outsAt0 m c t.val t.isLt).2.2.2.2.2.2.2.2.2.2.2 : FVec Ideal S528x512 .f32) (ix2 i d) = uVal m c n d := by
  by_cases h0 : t.val % 32 = 0
  · rw [outsAt0_A m c t h0]
    frame_out
    exact (canon_top _ _ i d hi).trans ((tail_store_apply _ _ _ _ d).trans (proj_blk m c t n _ (by simp only [Fin.val_mk]; omega) _))
  · rw [outsAt0_B m c t h0]
    frame_out
    exact (canon_top _ _ i d hi).trans ((tail_store_apply _ _ _ _ d).trans (proj_blk m c t n _ (by simp only [Fin.val_mk]; omega) _))

/-! ## The pooled rows -/

/-- The block's pooled columns are the array's, under its sixteen rows of zeros. -/
theorem u_pad (t : Fin cfg0.N) (i : Fin 528) (hi : 16 ≤ (i : ℕ)) (d : Fin 512) :
    k0_pay11 (F := Ideal) (iblk m c 0 t) (iblk m c 1 t) (iblk m c 2 t) (ix2 ⟨i - 16, by omega⟩ d) = SeqRef.pad (uVal m c) (t.val * 512 + i) d := by
  have ht : t.val < 32 := t.isLt
  unfold SeqRef.pad
  rw [dif_pos (by omega)]
  exact (u_store_apply _ _ _ _ d).trans (proj_blk m c t _ _ (by simp only [Fin.val_mk]; omega) _)

/-- What the pooling reads at the first point: zeros above the block's rows. -/
theorem rowsA (t : Fin cfg0.N) (h0 : t.val % 32 = 0) (i : Fin 528) (d : Fin 512) :
    (View.canon (Val := Elt Ideal) (s := S528x512) (e := .f32) [⟨Rect.unit ![16, 0] ![512, 512] inb_S528x512_S512x512_16_0, k0_pay11 (F := Ideal) (iblk m c 0 t) (iblk m c 1 t) (iblk m c 2 t)⟩,
      ⟨Rect.unit ![0, 0] ![16, 512] inb_S528x512_S16x512_0_0, k0_pay10 (F := Ideal) (iblk m c 5 t)⟩] (ix2 i d) : EReal) = SeqRef.pad (uVal m c) (t.val * 512 + i) d := by
  have ht : t.val < 32 := t.isLt
  by_cases hi : 16 ≤ (i : ℕ)
  · exact (canon_rows _ _ i d hi).trans (u_pad m c t i hi d)
  · refine (canon_above _ _ i d (by omega)).trans ((canon_top _ _ i d (by omega)).trans ((prev_apply _ _ d).trans ((read5 m c t _ d).trans ?_)))
    unfold SeqRef.pad
    rw [dif_neg (by omega)]

/-- What it reads at a later point: the rows kept above the block's. -/
theorem rowsB (t : Fin cfg0.N) (h0 : ¬t.val % 32 = 0) (hw : (Memref.whole cc0_scratch0).IsWhole) (i : Fin 528) (d : Fin 512) :
    View.read (Elt Ideal) (View.whole cc0_scratch0) ((View.whole cc0_scratch0).writes (Elt Ideal)
      (hw.unread (outsAt0 m c (t.val - 1) (by have := t.isLt; omega)).2.2.2.2.2.2.2.2.2.2.2)
      [⟨Rect.unit ![16, 0] ![512, 512] inb_S528x512_S512x512_16_0, k0_pay11 (F := Ideal) (iblk m c 0 t) (iblk m c 1 t) (iblk m c 2 t)⟩]) (ix2 i d)
      = SeqRef.pad (uVal m c) (t.val * 512 + i) d := by
  have ht : t.val < 32 := t.isLt
  by_cases hi : 16 ≤ (i : ℕ)
  · refine (View.read_writes_cons_rows_of_mem (o := 16) _ _ inb_S528x512_S512x512_16_0 _ _ _ (ix2 (⟨i - 16, by omega⟩ : Fin 512) d) rfl ?_ rfl).trans (u_pad m c t i hi d)
    show (i : ℕ) = 16 + (i - 16)
    omega
  · refine (View.read_writes_cons_rows_of_not_mem (o := 16) (W := 512) _ _ inb_S528x512_S512x512_16_0 _ _ _ rfl rfl (Or.inl ?_)).trans ?_
    · show (i : ℕ) < 16
      omega
    · refine (congrFun (read_unread_whole cc0_scratch0 hw _) (ix2 i d)).trans ?_
      unfold SeqRef.pad
      rw [dif_pos (by omega)]
      exact outsS m c ⟨t.val - 1, by omega⟩ _ i (by omega) d (by simp only [Fin.val_mk]; omega)

theorem col {a b : ℕ} (inb : ∀ x : Fin 2, (![a, b] : Fin 2 → ℕ) x + (![512, 128] : Fin 2 → ℕ) x ≤ S528x512.size x) (d : Fin 128) : b + d < 512 := by
  have : b + 128 ≤ 512 := inb 1
  omega

theorem row {a b : ℕ} (inb : ∀ x : Fin 2, (![a, b] : Fin 2 → ℕ) x + (![512, 128] : Fin 2 → ℕ) x ≤ S528x512.size x) (r : Fin 512) : a + r < 528 := by
  have : a + 512 ≤ 528 := inb 0
  omega

/-- A load of 128 columns, at an index. -/
theorem at_load {a b : ℕ} (inb : ∀ x : Fin 2, (![a, b] : Fin 2 → ℕ) x + (![512, 128] : Fin 2 → ℕ) x ≤ S528x512.size x) (r : Fin 512) (d : Fin 128) :
    (Rect.unit (s := S528x512) ![a, b] ![512, 128] inb).toLoadRect.idx (ix2 r d) = (ix2 ⟨a + r, row inb r⟩ ⟨b + d, col inb d⟩ : S528x512.Idx) := by
  blk_ext
  · show a + 1 * (r : ℕ) = a + r
    omega
  · show b + 1 * (d : ℕ) = b + d
    omega

section Loads

variable (t : Fin cfg0.N) (n : Fin 16384) (r : Fin 512) (d : Fin 128) (h : (n : ℕ) = t.val * 512 + r)
  {a b : ℕ} (inb : ∀ x : Fin 2, (![a, b] : Fin 2 → ℕ) x + (![512, 128] : Fin 2 → ℕ) x ≤ S528x512.size x)

include h

theorem loadA (h0 : t.val % 32 = 0) :
    (View.whole cc0_scratch0).readCov (Val := Elt Ideal) [⟨Rect.unit ![16, 0] ![512, 512] inb_S528x512_S512x512_16_0, k0_pay11 (F := Ideal) (iblk m c 0 t) (iblk m c 1 t) (iblk m c 2 t)⟩,
      ⟨Rect.unit ![0, 0] ![16, 512] inb_S528x512_S16x512_0_0, k0_pay10 (F := Ideal) (iblk m c 5 t)⟩] (Rect.unit (s := S528x512) ![a, b] ![512, 128] inb).toLoadRect (ix2 r d)
      = SeqRef.pad (uVal m c) (a + n) ⟨b + d, col inb d⟩ := by
  rw [View.readCov_eq_canon']
  refine (congrArg (View.canon _) (at_load inb r d)).trans ((rowsA m c t h0 _ _).trans (congrArg (SeqRef.pad (uVal m c) · _) ?_))
  simp only [Fin.val_mk]
  omega

theorem loadB16 {b : ℕ} (inb : ∀ x : Fin 2, (![16, b] : Fin 2 → ℕ) x + (![512, 128] : Fin 2 → ℕ) x ≤ S528x512.size x) :
    (View.whole cc0_scratch0).readCov (Val := Elt Ideal) [⟨Rect.unit ![16, 0] ![512, 512] inb_S528x512_S512x512_16_0, k0_pay11 (F := Ideal) (iblk m c 0 t) (iblk m c 1 t) (iblk m c 2 t)⟩]
      (Rect.unit (s := S528x512) ![16, b] ![512, 128] inb).toLoadRect (ix2 r d)
      = SeqRef.pad (uVal m c) (16 + n) ⟨b + d, col inb d⟩ := by
  rw [View.readCov_eq_canon']
  refine (congrArg (View.canon _) (at_load inb r d)).trans ((canon_rows _ _ _ _ (Nat.le_add_right 16 _)).trans ((u_pad m c t _ (Nat.le_add_right 16 _) _).trans
    (congrArg (SeqRef.pad (uVal m c) · _) ?_)))
  simp only [Fin.val_mk]
  omega

theorem loadB (h0 : ¬t.val % 32 = 0) (hw : (Memref.whole cc0_scratch0).IsWhole) :
    View.ld (View.read (Elt Ideal) (View.whole cc0_scratch0) ((View.whole cc0_scratch0).writes (Elt Ideal)
      (hw.unread (outsAt0 m c (t.val - 1) (by have := t.isLt; omega)).2.2.2.2.2.2.2.2.2.2.2)
      [⟨Rect.unit ![16, 0] ![512, 512] inb_S528x512_S512x512_16_0, k0_pay11 (F := Ideal) (iblk m c 0 t) (iblk m c 1 t) (iblk m c 2 t)⟩]))
      (Rect.unit (s := S528x512) ![a, b] ![512, 128] inb) (ix2 r d)
      = SeqRef.pad (uVal m c) (a + n) ⟨b + d, col inb d⟩ := by
  refine (congrArg (View.read (Elt Ideal) (View.whole cc0_scratch0) _) (at_load inb r d)).trans ((rowsB m c t h0 hw _ _).trans (congrArg (SeqRef.pad (uVal m c) · _) ?_))
  simp only [Fin.val_mk]
  omega

end Loads

/-- The row a point's row stands at. -/
theorem row_apply (t : Fin cfg0.N) (n : Fin 16384) (r : Fin 512) (d : Fin 128) (h : (n : ℕ) = t.val * 512 + r) :
    k0_pay12 (grid0.coords t) (ix2 r d) = BitVec.ofNat 32 n := by
  have e : ∀ t : Fin cfg0.N, ((grid0.coords t) 0).val = t.val := by decide +kernel
  pointwise [k0_pay12]
  rw [e t, h, BitVec.ofNat_add, BitVec.ofNat_mul]
  rfl

theorem tile0_apply (p : IVec S512x128 32) (l0 l1 : FVec Ideal S512x128 .f32) (n : Fin 16384) (r : Fin 512) (d : Fin 128)
    (hp : p (ix2 r d) = BitVec.ofNat 32 n) : k0_pay14 (F := Ideal) p l0 (k0_pay13 l0 l1) 1#32 (ix2 r d)
      = Ideal.div (l0 (ix2 r d) + l1 (ix2 r d)) (SeqRef.cnt (BitVec.ofNat 32 2) n) - l0 (ix2 r d) := by
  pointwise [k0_pay14, k0_pay13]
  rw [hp]
  rfl

theorem tile1_apply (p : IVec S512x128 32) (l0 l1 l2 l3 : FVec Ideal S512x128 .f32) (n : Fin 16384) (r : Fin 512) (d : Fin 128)
    (hp : p (ix2 r d) = BitVec.ofNat 32 n) : k0_pay15 (F := Ideal) p l0 l1 l2 l3 (ix2 r d)
      = Ideal.div (l0 (ix2 r d) + l1 (ix2 r d) + l2 (ix2 r d) + l3 (ix2 r d)) (SeqRef.cnt (BitVec.ofNat 32 4) n) - l0 (ix2 r d) := by
  pointwise [k0_pay15]
  rw [hp]
  rfl

theorem tile2_apply (p : IVec S512x128 32) (l0 l1 l2 l3 l4 l5 l6 l7 : FVec Ideal S512x128 .f32) (n : Fin 16384) (r : Fin 512) (d : Fin 128)
    (hp : p (ix2 r d) = BitVec.ofNat 32 n) : k0_pay17 (F := Ideal) p l0 (k0_pay16 l0 l1 l2 l3) l4 l5 l6 l7 (ix2 r d)
      = Ideal.div (l0 (ix2 r d) + l1 (ix2 r d) + l2 (ix2 r d) + l3 (ix2 r d) + l4 (ix2 r d) + l5 (ix2 r d) + l6 (ix2 r d) + l7 (ix2 r d)) (SeqRef.cnt (BitVec.ofNat 32 8) n) - l0 (ix2 r d) := by
  pointwise [k0_pay17, k0_pay16]
  rw [hp]
  rfl

theorem tile3_apply (p : IVec S512x128 32) (l0 l1 l2 l3 l4 l5 l6 l7 l8 l9 l10 l11 l12 l13 l14 l15 : FVec Ideal S512x128 .f32) (n : Fin 16384) (r : Fin 512) (d : Fin 128)
    (hp : p (ix2 r d) = BitVec.ofNat 32 n) : k0_pay19 (F := Ideal) p l0 (k0_pay18 l0 l1 l2 l3 l4 l5 l6 l7) l8 l9 l10 l11 l12 l13 l14 l15 (ix2 r d)
      = Ideal.div (l0 (ix2 r d) + l1 (ix2 r d) + l2 (ix2 r d) + l3 (ix2 r d) + l4 (ix2 r d) + l5 (ix2 r d) + l6 (ix2 r d) + l7 (ix2 r d) + l8 (ix2 r d) + l9 (ix2 r d) + l10 (ix2 r d) + l11 (ix2 r d) + l12 (ix2 r d) + l13 (ix2 r d) + l14 (ix2 r d) + l15 (ix2 r d)) (SeqRef.cnt (BitVec.ofNat 32 16) n) - l0 (ix2 r d) := by
  pointwise [k0_pay19, k0_pay18]
  rw [hp]
  rfl

/-- The four groups' windows. -/
theorem pooled_of (u : Fin 16384 → Fin 512 → EReal) (n : Fin 16384) (d : Fin 128) :
    SeqRef.pooled u n ⟨0 + d, by omega⟩ = SeqRef.pool u 2 n ⟨0 + d, by omega⟩
    ∧ SeqRef.pooled u n ⟨128 + d, by omega⟩ = SeqRef.pool u 4 n ⟨128 + d, by omega⟩
    ∧ SeqRef.pooled u n ⟨256 + d, by omega⟩ = SeqRef.pool u 8 n ⟨256 + d, by omega⟩
    ∧ SeqRef.pooled u n ⟨384 + d, by omega⟩ = SeqRef.pool u 16 n ⟨384 + d, by omega⟩ := by
  unfold SeqRef.pooled
  refine ⟨?_, ?_, ?_, ?_⟩
  · rw [if_pos (show 0 + (d : ℕ) < 128 by omega)]
  · rw [if_neg (show ¬128 + (d : ℕ) < 128 by omega), if_pos (show 128 + (d : ℕ) < 256 by omega)]
  · rw [if_neg (show ¬256 + (d : ℕ) < 128 by omega), if_neg (show ¬256 + (d : ℕ) < 256 by omega), if_pos (show 256 + (d : ℕ) < 384 by omega)]
  · rw [if_neg (show ¬384 + (d : ℕ) < 128 by omega), if_neg (show ¬384 + (d : ℕ) < 256 by omega), if_neg (show ¬384 + (d : ℕ) < 384 by omega)]

theorem outs6 (t : Fin cfg0.N) (n : Fin 16384) (r d : Fin 512) (h : (n : ℕ) = t.val * 512 + r) :
    ((outsAt0 m c t.val t.isLt).1 : FVec Ideal S512x512 .bf16) (ix2 r d) = SeqRef.pooled (uVal m c) n d := by
  by_cases h0 : t.val % 32 = 0
  · rw [outsAt0_A m c t h0]
    frame_out
    canon_tiles x e
    · idx_vars x
      obtain rfl : r = x0 := Fin.ext e0
      rw [show d = ⟨384 + x1, by omega⟩ from Fin.ext (e1)]
      rw [tile3_apply _ _ _ _ _ _ _ _ _ _ _ _ _ _ _ _ _  n r x1 (row_apply t n r x1 h), (pooled_of (uVal m c) n x1).2.2.2, SeqRef.pool_eq]
      simp only [loadA m c t n r x1 h _ h0, Finset.sum_range_succ, Finset.sum_range_zero, zero_add, Nat.reduceSub, Nat.sub_zero]
    · idx_vars x
      obtain rfl : r = x0 := Fin.ext e0
      rw [show d = ⟨256 + x1, by omega⟩ from Fin.ext (e1)]
      rw [tile2_apply _ _ _ _ _ _ _ _ _  n r x1 (row_apply t n r x1 h), (pooled_of (uVal m c) n x1).2.2.1, SeqRef.pool_eq]
      simp only [loadA m c t n r x1 h _ h0, Finset.sum_range_succ, Finset.sum_range_zero, zero_add, Nat.reduceSub, Nat.sub_zero]
    · idx_vars x
      obtain rfl : r = x0 := Fin.ext e0
      rw [show d = ⟨128 + x1, by omega⟩ from Fin.ext (e1)]
      rw [tile1_apply _ _ _ _ _  n r x1 (row_apply t n r x1 h), (pooled_of (uVal m c) n x1).2.1, SeqRef.pool_eq]
      simp only [loadA m c t n r x1 h _ h0, Finset.sum_range_succ, Finset.sum_range_zero, zero_add, Nat.reduceSub, Nat.sub_zero]
    · idx_vars x
      obtain rfl : r = x0 := Fin.ext e0
      rw [show d = ⟨0 + x1, by omega⟩ from Fin.ext (e1.trans (Nat.zero_add _).symm)]
      rw [tile0_apply _ _ _  n r x1 (row_apply t n r x1 h), (pooled_of (uVal m c) n x1).1, SeqRef.pool_eq]
      simp only [loadA m c t n r x1 h _ h0, Finset.sum_range_succ, Finset.sum_range_zero, zero_add, Nat.reduceSub, Nat.sub_zero]
  · rw [outsAt0_B m c t h0]
    frame_out
    canon_tiles x e
    · idx_vars x
      obtain rfl : r = x0 := Fin.ext e0
      rw [show d = ⟨384 + x1, by omega⟩ from Fin.ext (e1)]
      rw [tile3_apply _ _ _ _ _ _ _ _ _ _ _ _ _ _ _ _ _  n r x1 (row_apply t n r x1 h), (pooled_of (uVal m c) n x1).2.2.2, SeqRef.pool_eq]
      simp only [loadB16 m c t n r x1 h, loadB m c t n r x1 h _ h0, Finset.sum_range_succ, Finset.sum_range_zero, zero_add, Nat.reduceSub, Nat.sub_zero]
    · idx_vars x
      obtain rfl : r = x0 := Fin.ext e0
      rw [show d = ⟨256 + x1, by omega⟩ from Fin.ext (e1)]
      rw [tile2_apply _ _ _ _ _ _ _ _ _  n r x1 (row_apply t n r x1 h), (pooled_of (uVal m c) n x1).2.2.1, SeqRef.pool_eq]
      simp only [loadB16 m c t n r x1 h, loadB m c t n r x1 h _ h0, Finset.sum_range_succ, Finset.sum_range_zero, zero_add, Nat.reduceSub, Nat.sub_zero]
    · idx_vars x
      obtain rfl : r = x0 := Fin.ext e0
      rw [show d = ⟨128 + x1, by omega⟩ from Fin.ext (e1)]
      rw [tile1_apply _ _ _ _ _  n r x1 (row_apply t n r x1 h), (pooled_of (uVal m c) n x1).2.1, SeqRef.pool_eq]
      simp only [loadB16 m c t n r x1 h, loadB m c t n r x1 h _ h0, Finset.sum_range_succ, Finset.sum_range_zero, zero_add, Nat.reduceSub, Nat.sub_zero]
    · idx_vars x
      obtain rfl : r = x0 := Fin.ext e0
      rw [show d = ⟨0 + x1, by omega⟩ from Fin.ext (e1.trans (Nat.zero_add _).symm)]
      rw [tile0_apply _ _ _  n r x1 (row_apply t n r x1 h), (pooled_of (uVal m c) n x1).1, SeqRef.pool_eq]
      simp only [loadB16 m c t n r x1 h, loadB m c t n r x1 h _ h0, Finset.sum_range_succ, Finset.sum_range_zero, zero_add, Nat.reduceSub, Nat.sub_zero]

/-! ## The results' arrays -/

theorem flush7 : ∀ t : Fin cfg0.N, (cfg0.win 7).flush t = true → t.val = 31 := by decide +kernel

theorem final6 : (dats m 0 c).arrAt 6 cfg0.N = fun i : S16384x512.Idx => SeqRef.pooled (uVal m c) (i 0) (i 1) := by
  refine (dats m 0 c).arrAt_eq_of_covers 6 _ (by decide +kernel) fun t hf y => ?_
  blk_simp
  rw [after0_6]
  idx_vars y
  have e0 : ((((View.whole main_v13_0).slice (win0_6.rect t)).emb (ix2 y0 y1) 0 : Fin 16384) : ℕ) = t.val * 512 + y0 := by
    blk_simp [idx t]
  have e1 : (((View.whole main_v13_0).slice (win0_6.rect t)).emb (ix2 y0 y1) 1 : Fin 512) = y1 := Fin.ext (by blk_simp [idx t])
  rw [e1]
  generalize (((View.whole main_v13_0).slice (win0_6.rect t)).emb (ix2 y0 y1) 0 : Fin 16384) = n at e0 ⊢
  exact outs6 m c t n y0 y1 e0

theorem final7 : (dats m 0 c).arrAt 7 cfg0.N = fun i : S16x512.Idx => tailVal m c (i 0) (i 1) := by
  refine (dats m 0 c).arrAt_eq_of_covers 7 _ (by decide +kernel) fun t hf y => ?_
  blk_simp
  rw [after0_7]
  idx_vars y
  have e0 : ((((View.whole main_v13_1).slice (win0_7.rect t)).emb (ix2 y0 y1) 0 : Fin 16) : ℕ) = y0 := by
    blk_simp [idx t]
  have e1 : (((View.whole main_v13_1).slice (win0_7.rect t)).emb (ix2 y0 y1) 1 : Fin 512) = y1 := Fin.ext (by blk_simp [idx t])
  rw [e1]
  generalize (((View.whole main_v13_1).slice (win0_7.rect t)).emb (ix2 y0 y1) 0 : Fin 16) = n at e0 ⊢
  exact (outs7 m c t _ y0 y1 (by have := flush7 t hf; simp only [Fin.val_mk]; omega)).trans (congrArg (tailVal m c · y1) (Fin.ext e0.symm))

theorem final8 : (dats m 0 c).arrAt 8 cfg0.N = fun i : S16384x512.Idx => kVal m c (i 0) (i 1) := by
  refine (dats m 0 c).arrAt_eq_of_covers 8 _ (by decide +kernel) fun t hf y => ?_
  blk_simp
  rw [after0_8]
  idx_vars y
  have e0 : ((((View.whole main_v13_2).slice (win0_8.rect t)).emb (ix2 y0 y1) 0 : Fin 16384) : ℕ) = t.val * 512 + y0 := by
    blk_simp [idx t]
  have e1 : (((View.whole main_v13_2).slice (win0_8.rect t)).emb (ix2 y0 y1) 1 : Fin 512) = y1 := Fin.ext (by blk_simp [idx t])
  rw [e1]
  generalize (((View.whole main_v13_2).slice (win0_8.rect t)).emb (ix2 y0 y1) 0 : Fin 16384) = n at e0 ⊢
  exact outs8 m c t n y0 y1 e0

theorem final10 : (dats m 0 c).arrAt 10 cfg0.N = fun i : S16384x512.Idx => vVal m c (i 0) (i 1) := by
  refine (dats m 0 c).arrAt_eq_of_covers 10 _ (by decide +kernel) fun t hf y => ?_
  blk_simp
  rw [after0_10]
  idx_vars y
  have e0 : ((((View.whole main_v13_4).slice (win0_10.rect t)).emb (ix2 y0 y1) 0 : Fin 16384) : ℕ) = t.val * 512 + y0 := by
    blk_simp [idx t]
  have e1 : (((View.whole main_v13_4).slice (win0_10.rect t)).emb (ix2 y0 y1) 1 : Fin 512) = y1 := Fin.ext (by blk_simp [idx t])
  rw [e1]
  generalize (((View.whole main_v13_4).slice (win0_10.rect t)).emb (ix2 y0 y1) 0 : Fin 16384) = n at e0 ⊢
  exact outs10 m c t n y0 y1 e0

end Cert.Proof.Seq

end
-- ==== Proof.SeqHeadsRef.lean ====
/-
  The reference of the queries and the values that the projection call lays out for the attention call: tiles of 256
  rows, one head after another, each head transposed.
-/
module

public import proofs.«01_k».proof.Proof.SeqRef

@[expose] public section

set_option maxRecDepth 16384

noncomputable section

namespace Cert.Proof.SeqHeadsRef

open Cert.Reference6Ideal Cert.Reference6Ideal.Gen Idealize.ShloMosaic Idealize.ShloMosaic.TcCoe

/-- Channel `d` of head `h` at row `b` of tile `g`. -/
def heads (Q : Fin 16384 → Fin 512 → EReal) (g : Fin 64) (h : Fin 8) (d : Fin 64) (b : Fin 256) : EReal :=
  Q ⟨g * 256 + b, by omega⟩ ⟨h * 64 + d, by omega⟩

/-- The same over 128 rows: an even head's channels are the upper half, an odd head's the lower half, the rest zeros. -/
def halves (Q : Fin 16384 → Fin 512 → EReal) (g : Fin 64) (h : Fin 8) (a : Fin 128) (b : Fin 256) : EReal :=
  if ha : (a : ℕ) < 64 then (if (h : ℕ) % 2 = 0 then heads Q g h ⟨a, ha⟩ b else 0)
  else (if (h : ℕ) % 2 = 0 then 0 else heads Q g h ⟨a - 64, by omega⟩ b)

section

variable (Q : Fin 16384 → Fin 512 → EReal) (g : Fin 64) (h : Fin 8) (a : Fin 128) (b : Fin 256)

theorem halves_upper_even (ha : (a : ℕ) < 64) (hh : (h : ℕ) % 2 = 0) : halves Q g h a b = heads Q g h ⟨a, ha⟩ b :=
  (dif_pos ha).trans (if_pos hh)

theorem halves_upper_odd (ha : (a : ℕ) < 64) (hh : ¬(h : ℕ) % 2 = 0) : halves Q g h a b = 0 :=
  (dif_pos ha).trans (if_neg hh)

theorem halves_lower_even (ha : ¬(a : ℕ) < 64) (hh : (h : ℕ) % 2 = 0) : halves Q g h a b = 0 :=
  (dif_neg ha).trans (if_pos hh)

theorem halves_lower_odd (ha : ¬(a : ℕ) < 64) (hh : ¬(h : ℕ) % 2 = 0) : halves Q g h a b = heads Q g h ⟨a - 64, by omega⟩ b :=
  (dif_neg ha).trans (if_neg hh)

end

def rHeads (x : FVec Ideal S16384x512 .bf16) : FVec Ideal S64x8x64x256 .bf16 :=
  transpose S64x8x64x256 [0, 2, 3, 1] (shapeCast _ x shapeCasts_S16384x512_S64x256x8x64) transposes_S64x256x8x64_S64x8x64x256_0_2_3_1

theorem rHeads_apply (x : FVec Ideal S16384x512 .bf16) (g : Fin 64) (h : Fin 8) (d : Fin 64) (b : Fin 256) :
    rHeads x (ix4 g h d b) = heads (fun n j => x (ix2 n j)) g h d b := by
  pointwise [rHeads]
  rfl

/-- The queries, scaled. -/
def rQ (z : FVec Ideal S16384x2344 .f32) : FVec Ideal S16384x512 .bf16 :=
  truncf .bf16 (mulf (extractStridedSlice S16384x512 ![0, 512] z slices_S16384x2344_S16384x512_0_512) (broadcastInDim S16384x512 ![] bcast_S_S16384x512 (constant S_ .f32 0x3E38AA3B#32))) bitsLt_bf16_f32

/-- The mask of the even heads. -/
def rEven : IVec S1x8x1x1 1 :=
  broadcastInDim S1x8x1x1 ![1] bcast_S8_S1x8x1x1_1 (cmpi .eq (andi (iotaInDim S8 32 0) (broadcastInDim S8 ![] bcast_S_S8 (constantI S_ 32 1#32))) (broadcastInDim S8 ![] bcast_S_S8 (constantI S_ 32 0#32)))

def rZero : FVec Ideal S64x8x64x256 .bf16 :=
  broadcastInDim S64x8x64x256 ![] bcast_S_S64x8x64x256 (sitofp .bf16 (constantI S_ 32 0#32))

def rHalves (x : FVec Ideal S64x8x64x256 .bf16) : FVec Ideal S64x8x128x256 .bf16 :=
  concatenate S64x8x128x256 2 [⟨S64x8x64x256, (select (broadcastInDim S64x8x64x256 ![0, 1, 2, 3] bcast_S1x8x1x1_S64x8x64x256_0_1_2_3 rEven) x rZero)⟩, ⟨S64x8x64x256, (select (broadcastInDim S64x8x64x256 ![0, 1, 2, 3] bcast_S1x8x1x1_S64x8x64x256_0_1_2_3 rEven) rZero x)⟩] concatenates_S64x8x64x256_S64x8x64x256_S64x8x128x256_d2

theorem sitofp0 : (FloatOps.sitofp (F := Ideal) FTy.bf16 (0#32 : BitVec 32) : EReal) = 0 := by
  simp [FloatOps.sitofp]

theorem even : ∀ h : Fin 8, IntOp.cmpi .eq (IntOp.andi (BitVec.ofNat 32 h) 1#32) 0#32 = if (h : ℕ) % 2 = 0 then 1#1 else 0#1 := by
  decide

theorem rHalves_apply (x : FVec Ideal S64x8x64x256 .bf16) (g : Fin 64) (h : Fin 8) (a : Fin 128) (b : Fin 256) :
    rHalves x (ix4 g h a b) = if ha : (a : ℕ) < 64 then (if (h : ℕ) % 2 = 0 then x (ix4 g h ⟨a, ha⟩ b) else 0)
      else (if (h : ℕ) % 2 = 0 then 0 else x (ix4 g h ⟨a - 64, by omega⟩ b)) := by
  pointwise [rHalves, rEven, rZero]
  simp only [even, sitofp0]
  by_cases hh : (h : ℕ) % 2 = 0
  · simp only [if_pos hh]
    rfl
  · simp only [if_neg hh]
    rfl

section

variable (x : FVec Ideal S1x16384x1024 .f32) (g : FVec Ideal S1x1024 .f32) (w : FVec Ideal S1x1024x2344 .f32)

theorem kb_apply (n : Fin 16384) (d : Fin 512) :
    (truncf .bf16 (extractStridedSlice S16384x512 ![0, 1024] (SeqRef.rZ (SeqRef.rNrm x g) w) slices_S16384x2344_S16384x512_0_1024) bitsLt_bf16_f32 : FVec Ideal S16384x512 .bf16) (ix2 n d)
    = SeqRef.z x g w n ⟨1024 + d, by omega⟩ := by
  pointwise
  exact SeqRef.rZ_apply ..

theorem q_apply (n : Fin 16384) (d : Fin 512) :
    rQ (SeqRef.rZ (SeqRef.rNrm x g) w) (ix2 n d) = SeqRef.z x g w n ⟨512 + d, by omega⟩ * Ideal.ofBits .f32 0x3E38AA3B#32 := by
  pointwise [rQ]
  exact congrArg (· * Ideal.ofBits .f32 0x3E38AA3B#32) (SeqRef.rZ_apply ..)

theorem vb_apply (n : Fin 16384) (d : Fin 512) :
    (truncf .bf16 (extractStridedSlice S16384x512 ![0, 1536] (SeqRef.rZ (SeqRef.rNrm x g) w) slices_S16384x2344_S16384x512_0_1536) bitsLt_bf16_f32 : FVec Ideal S16384x512 .bf16) (ix2 n d)
    = SeqRef.z x g w n ⟨1536 + d, by omega⟩ := by
  pointwise
  exact SeqRef.rZ_apply ..

/-- The queries' tiles. -/
theorem qt_apply (t : Fin 64) (h : Fin 8) (a : Fin 128) (b : Fin 256) :
    rHalves (rHeads (rQ (SeqRef.rZ (SeqRef.rNrm x g) w))) (ix4 t h a b)
      = halves (fun n d => SeqRef.z x g w n ⟨512 + d, by omega⟩ * Ideal.ofBits .f32 0x3E38AA3B#32) t h a b := by
  rw [rHalves_apply]
  simp only [rHeads_apply, q_apply]
  rfl

/-- The values' tiles. -/
theorem vt_apply (t : Fin 64) (h : Fin 8) (d : Fin 64) (b : Fin 256) :
    rHeads (truncf .bf16 (extractStridedSlice S16384x512 ![0, 1536] (SeqRef.rZ (SeqRef.rNrm x g) w) slices_S16384x2344_S16384x512_0_1536) bitsLt_bf16_f32) (ix4 t h d b)
      = heads (fun n d => SeqRef.z x g w n ⟨1536 + d, by omega⟩) t h d b := by
  rw [rHeads_apply]
  simp only [vb_apply]

end

/-- The queries' tiles, of the reference's arguments. -/
def qTiles (m : (ℓ : Loc nD τ sig) → Buf (Elt Ideal) ℓ) (c : Dev nD) : FVec Ideal S64x8x128x256 .bf16 :=
  rHalves (rHeads (rQ (SeqRef.rZ (SeqRef.rNrm (m ((c.tc : Thread nD τ).loc main_arg0)) (m ((c.tc : Thread nD τ).loc main_arg1))) (m ((c.tc : Thread nD τ).loc main_arg2)))))

end Cert.Proof.SeqHeadsRef

end
-- ==== Proof.SeqTiles.lean ====
/-
  The projection call on the prompt's rows: the keys in bf16, and the queries and values in the tiles the attention call
  takes them in.
-/
module

public import proofs.«01_k».proof.Proof.Seq
public import proofs.«01_k».proof.Proof.SeqHeadsRef

@[expose] public section

set_option maxRecDepth 16384

noncomputable section

namespace Cert.Proof.SeqTiles

open Cert.Kernel6Ideal Cert.Kernel6Ideal.Gen Idealize.ShloMosaic Idealize.ShloMosaic.TcCoe Idealize.SL.Sem

open SeqHeadsRef (heads halves)

section Blocks

variable (x : FVec Ideal S512x1024 .f32) (g : FVec Ideal S1x1024 .f32) (w : FVec Ideal S1024x2048 .bf16) (r : Fin 512)

theorem kb_apply (d : Fin 512) : k0_pay23 (F := Ideal) (k0_pay22 (k0_pay8 x g w)) (ix2 r d)
    = Rows.proj (fun d => x (ix2 r d)) (fun d => g (ix2 0 d)) (fun k j => w (ix2 k j)) ⟨1024 + d, by omega⟩ := by
  pointwise [k0_pay23]
  exact Seq.k_apply ..

theorem q_apply (d : Fin 512) : k0_pay25 (F := Ideal) (k0_pay8 x g w) (ix2 d r)
    = Rows.proj (fun d => x (ix2 r d)) (fun d => g (ix2 0 d)) (fun k j => w (ix2 k j)) ⟨512 + d, by omega⟩ * Ideal.ofBits .f32 0x3E38AA3B#32 := by
  pointwise [k0_pay25]
  exact congrArg (· * Ideal.ofBits .f32 0x3E38AA3B#32) (Seq.z_apply ..)

theorem v_apply (d : Fin 512) : k0_pay26 (F := Ideal) (k0_pay8 x g w) (ix2 d r)
    = Rows.proj (fun d => x (ix2 r d)) (fun d => g (ix2 0 d)) (fun k j => w (ix2 k j)) ⟨1536 + d, by omega⟩ := by
  pointwise [k0_pay26]
  exact Seq.v_apply ..

end Blocks

/-- Where the windows of the tiles stand. -/
theorem idx : ∀ t : Fin cfg0.N, win0_9.index t = ![t.val, 0] ∧ win0_12.index t = ![t.val, 0, 0, 0] ∧ win0_15.index t = ![t.val, 0, 0, 0] :=
  (by decide +kernel)

variable (m : (ℓ : Loc nD τ sig) → Buf (Elt Ideal) ℓ) (c : Dev nD)

/-- The scaled queries of row `n`. -/
def qVal (n : Fin 16384) (d : Fin 512) : EReal := Seq.val m c n ⟨512 + d, by omega⟩ * Ideal.ofBits .f32 0x3E38AA3B#32

theorem q_blk (t : Fin cfg0.N) (d r : Fin 512) (n : Fin 16384) (e : Fin 512) (h : (n : ℕ) = t.val * 512 + r) (he : (e : ℕ) = d) :
    k0_pay25 (F := Ideal) (k0_pay8 (iblk m c 0 t) (iblk m c 1 t) (iblk m c 2 t)) (ix2 d r) = qVal m c n e := by
  obtain rfl : e = d := Fin.ext he
  exact (q_apply _ _ _ r e).trans (congrArg (· * Ideal.ofBits .f32 0x3E38AA3B#32) (Seq.proj_blk m c t n r h _))

theorem v_blk (t : Fin cfg0.N) (d r : Fin 512) (n : Fin 16384) (e : Fin 512) (h : (n : ℕ) = t.val * 512 + r) (he : (e : ℕ) = d) :
    k0_pay26 (F := Ideal) (k0_pay8 (iblk m c 0 t) (iblk m c 1 t) (iblk m c 2 t)) (ix2 d r) = Seq.vVal m c n e := by
  obtain rfl : e = d := Fin.ext he
  exact (v_apply _ _ _ r e).trans (Seq.proj_blk m c t n r h _)

theorem outs9 (t : Fin cfg0.N) (n : Fin 16384) (r d : Fin 512) (h : (n : ℕ) = t.val * 512 + r) :
    ((outsAt0 m c t.val t.isLt).2.2.2.1 : FVec Ideal S512x512 .bf16) (ix2 r d) = Seq.kVal m c n d := by
  by_cases h0 : t.val % 32 = 0
  · rw [outsAt0_A m c t h0]
    frame_out
    exact (kb_apply _ _ _ r d).trans (Seq.proj_blk m c t n r h _)
  · rw [outsAt0_B m c t h0]
    frame_out
    exact (kb_apply _ _ _ r d).trans (Seq.proj_blk m c t n r h _)

set_option maxHeartbeats 2000000 in
theorem outs15 (t : Fin cfg0.N) (g : Fin 64) (y0 : Fin 2) (y1 : Fin 8) (y2 : Fin 64) (y3 : Fin 256) (h : (g : ℕ) = t.val * 2 + y0) :
    ((outsAt0 m c t.val t.isLt).2.2.2.2.2.2.2.2.2.1 : FVec Ideal S2x8x64x256 .bf16) (ix4 y0 y1 y2 y3) = heads (Seq.vVal m c) g y1 y2 y3 := by
  by_cases h0 : t.val % 32 = 0
  · rw [outsAt0_A m c t h0]
    frame_out
    canon_tiles x e
    all_goals
      idx_vars x
      obtain rfl : x0 = 0 := Subsingleton.elim _ _
      obtain rfl : x1 = 0 := Subsingleton.elim _ _
      pointwise [k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
    all_goals exact v_blk m c t _ _ _ _ (by simp only [Fin.val_mk]; omega) (by simp only [Fin.val_mk]; omega)
  · rw [outsAt0_B m c t h0]
    frame_out
    canon_tiles x e
    all_goals
      idx_vars x
      obtain rfl : x0 = 0 := Subsingleton.elim _ _
      obtain rfl : x1 = 0 := Subsingleton.elim _ _
      pointwise [k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
    all_goals exact v_blk m c t _ _ _ _ (by simp only [Fin.val_mk]; omega) (by simp only [Fin.val_mk]; omega)

set_option maxHeartbeats 2000000 in
theorem outs12 (t : Fin cfg0.N) (g : Fin 64) (y0 : Fin 2) (y1 : Fin 8) (y2 : Fin 128) (y3 : Fin 256) (h : (g : ℕ) = t.val * 2 + y0) :
    ((outsAt0 m c t.val t.isLt).2.2.2.2.2.2.1 : FVec Ideal S2x8x128x256 .bf16) (ix4 y0 y1 y2 y3) = halves (qVal m c) g y1 y2 y3 := by
  by_cases h0 : t.val % 32 = 0
  · rw [outsAt0_A m c t h0]
    frame_out
    canon_tiles x e
    all_goals
      idx_vars x
      obtain rfl : x0 = 0 := Subsingleton.elim _ _
      obtain rfl : x1 = 0 := Subsingleton.elim _ _
      pointwise [k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
      by_cases hx : (x2 : ℕ) < 64
      · first
          | (have hp : (y1 : ℕ) % 2 = 0 := by omega
             refine (dif_pos hx).trans (Eq.trans ?_ (SeqHeadsRef.halves_upper_even _ _ _ _ _ (by omega) hp).symm)
             exact q_blk m c t _ _ _ _ (by simp only [Fin.val_mk]; omega) (by simp only [Fin.val_mk]; omega))
          | (have hp : ¬(y1 : ℕ) % 2 = 0 := by omega
             exact (dif_pos hx).trans (SeqHeadsRef.halves_upper_odd _ _ _ _ _ (by omega) hp).symm)
      · first
          | (have hp : (y1 : ℕ) % 2 = 0 := by omega
             exact (dif_neg hx).trans (SeqHeadsRef.halves_lower_even _ _ _ _ _ (by omega) hp).symm)
          | (have hp : ¬(y1 : ℕ) % 2 = 0 := by omega
             refine (dif_neg hx).trans (Eq.trans ?_ (SeqHeadsRef.halves_lower_odd _ _ _ _ _ (by omega) hp).symm)
             exact q_blk m c t _ _ _ _ (by simp only [Fin.val_mk]; omega) (by simp only [Fin.val_mk]; omega))
  · rw [outsAt0_B m c t h0]
    frame_out
    canon_tiles x e
    all_goals
      idx_vars x
      obtain rfl : x0 = 0 := Subsingleton.elim _ _
      obtain rfl : x1 = 0 := Subsingleton.elim _ _
      pointwise [k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
      by_cases hx : (x2 : ℕ) < 64
      · first
          | (have hp : (y1 : ℕ) % 2 = 0 := by omega
             refine (dif_pos hx).trans (Eq.trans ?_ (SeqHeadsRef.halves_upper_even _ _ _ _ _ (by omega) hp).symm)
             exact q_blk m c t _ _ _ _ (by simp only [Fin.val_mk]; omega) (by simp only [Fin.val_mk]; omega))
          | (have hp : ¬(y1 : ℕ) % 2 = 0 := by omega
             exact (dif_pos hx).trans (SeqHeadsRef.halves_upper_odd _ _ _ _ _ (by omega) hp).symm)
      · first
          | (have hp : (y1 : ℕ) % 2 = 0 := by omega
             exact (dif_neg hx).trans (SeqHeadsRef.halves_lower_even _ _ _ _ _ (by omega) hp).symm)
          | (have hp : ¬(y1 : ℕ) % 2 = 0 := by omega
             refine (dif_neg hx).trans (Eq.trans ?_ (SeqHeadsRef.halves_lower_odd _ _ _ _ _ (by omega) hp).symm)
             exact q_blk m c t _ _ _ _ (by simp only [Fin.val_mk]; omega) (by simp only [Fin.val_mk]; omega))

/-! ## The results' arrays -/

theorem final9 : (dats m 0 c).arrAt 9 cfg0.N = fun i : S16384x512.Idx => Seq.kVal m c (i 0) (i 1) := by
  refine (dats m 0 c).arrAt_eq_of_covers 9 _ (by decide +kernel) fun t hf y => ?_
  blk_simp
  rw [after0_9]
  idx_vars y
  have e0 : ((((View.whole main_v13_3).slice (win0_9.rect t)).emb (ix2 y0 y1) 0 : Fin 16384) : ℕ) = t.val * 512 + y0 := by
    blk_simp [idx t]
  have e1 : (((View.whole main_v13_3).slice (win0_9.rect t)).emb (ix2 y0 y1) 1 : Fin 512) = y1 := Fin.ext (by blk_simp [idx t])
  rw [e1]
  generalize (((View.whole main_v13_3).slice (win0_9.rect t)).emb (ix2 y0 y1) 0 : Fin 16384) = n at e0 ⊢
  exact outs9 m c t n y0 y1 e0

theorem final12 : (dats m 0 c).arrAt 12 cfg0.N = fun i : S64x8x128x256.Idx => halves (qVal m c) (i 0) (i 1) (i 2) (i 3) := by
  refine (dats m 0 c).arrAt_eq_of_covers 12 _ (by decide +kernel) fun t hf y => ?_
  blk_simp
  rw [after0_12]
  idx_vars y
  have e0 : ((((View.whole main_v13_6).slice (win0_12.rect t)).emb (ix4 y0 y1 y2 y3) 0 : Fin 64) : ℕ) = t.val * 2 + y0 := by
    blk_simp [idx t]
  have e1 : (((View.whole main_v13_6).slice (win0_12.rect t)).emb (ix4 y0 y1 y2 y3) 1 : Fin 8) = y1 := Fin.ext (by blk_simp [idx t])
  have e2 : (((View.whole main_v13_6).slice (win0_12.rect t)).emb (ix4 y0 y1 y2 y3) 2 : Fin 128) = y2 := Fin.ext (by blk_simp [idx t])
  have e3 : (((View.whole main_v13_6).slice (win0_12.rect t)).emb (ix4 y0 y1 y2 y3) 3 : Fin 256) = y3 := Fin.ext (by blk_simp [idx t])
  rw [e1, e2, e3]
  generalize (((View.whole main_v13_6).slice (win0_12.rect t)).emb (ix4 y0 y1 y2 y3) 0 : Fin 64) = n at e0 ⊢
  exact outs12 m c t n y0 y1 y2 y3 e0

theorem final15 : (dats m 0 c).arrAt 15 cfg0.N = fun i : S64x8x64x256.Idx => heads (Seq.vVal m c) (i 0) (i 1) (i 2) (i 3) := by
  refine (dats m 0 c).arrAt_eq_of_covers 15 _ (by decide +kernel) fun t hf y => ?_
  blk_simp
  rw [after0_15]
  idx_vars y
  have e0 : ((((View.whole main_v13_9).slice (win0_15.rect t)).emb (ix4 y0 y1 y2 y3) 0 : Fin 64) : ℕ) = t.val * 2 + y0 := by
    blk_simp [idx t]
  have e1 : (((View.whole main_v13_9).slice (win0_15.rect t)).emb (ix4 y0 y1 y2 y3) 1 : Fin 8) = y1 := Fin.ext (by blk_simp [idx t])
  have e2 : (((View.whole main_v13_9).slice (win0_15.rect t)).emb (ix4 y0 y1 y2 y3) 2 : Fin 64) = y2 := Fin.ext (by blk_simp [idx t])
  have e3 : (((View.whole main_v13_9).slice (win0_15.rect t)).emb (ix4 y0 y1 y2 y3) 3 : Fin 256) = y3 := Fin.ext (by blk_simp [idx t])
  rw [e1, e2, e3]
  generalize (((View.whole main_v13_9).slice (win0_15.rect t)).emb (ix4 y0 y1 y2 y3) 0 : Fin 64) = n at e0 ⊢
  exact outs15 m c t n y0 y1 y2 y3 e0

end Cert.Proof.SeqTiles

end
-- ==== Proof.SeqClaims.lean ====
/-
  The claims about the projection call on the prompt's rows (`Kernel6`) and its reference (`Reference6`): the frames, and
  that at the ideal instance the two end with the same pooled rows, last pooled columns, keys and values, keys in bf16, and tiles of scaled
  queries and of values.
-/
module

public import proofs.«01_k».proof.Defs
public import proofs.«01_k».proof.Proof.Gen.Kernel6
public import proofs.«01_k».proof.Proof.Gen.Kernel6.Frame
public import proofs.«01_k».proof.Proof.SeqTiles
public import Idealize.ShloMosaic.Lib.Quiescent

@[expose] public section

noncomputable section

namespace Cert.Proof.SeqClaims

open Idealize.ShloMosaic Idealize.SL.Sem

theorem frame : Cert.quiescent_Kernel6 := fun m ρ _ => Cert.Kernel6.Gen.frame m ρ

theorem frame_ideal : Cert.quiescent_Kernel6Ideal := fun m ρ _ => Cert.Kernel6Ideal.Gen.frame m ρ

/-- The reference's frame, from its run. -/
theorem frame_reference : Cert.quiescent_Reference6Ideal := fun m ρ _ =>
  (θ_run Cert.Reference6Ideal.defs _ _).mono
    (fun r h => ⟨fun c => (h c).2.2.2.2.2.2.2, sem_eq_zero_of_no_sems (by decide) r.2⟩)
    (Cert.Reference6Ideal.Value.run m ρ)

/-- Both end with the pooled rows, the last sixteen rows of the pooled columns, the keys and the values, the keys in bf16, and the
    tiles of the queries and of the values. -/
theorem algebraic : Cert.algebraic_Kernel6Ideal_Reference6Ideal := by
  intro m g m' g' _ hargs
  refine ⟨fun c => fun i : Cert.Kernel6Ideal.S16384x512.Idx => SeqRef.pooled (Seq.uVal m c) (i 0) (i 1),
    fun c => fun i : Cert.Kernel6Ideal.S16x512.Idx => Seq.tailVal m c (i 0) (i 1),
    fun c => fun i : Cert.Kernel6Ideal.S16384x512.Idx => Seq.kVal m c (i 0) (i 1),
    fun c => fun i : Cert.Kernel6Ideal.S16384x512.Idx => Seq.vVal m c (i 0) (i 1),
    fun c => fun i : Cert.Kernel6Ideal.S16384x512.Idx => Seq.kVal m c (i 0) (i 1),
    fun c => fun i : Cert.Kernel6Ideal.S64x8x128x256.Idx => SeqHeadsRef.halves (SeqTiles.qVal m c) (i 0) (i 1) (i 2) (i 3),
    fun c => fun i : Cert.Kernel6Ideal.S64x8x64x256.Idx => SeqHeadsRef.heads (Seq.vVal m c) (i 0) (i 1) (i 2) (i 3), ?_, ?_⟩
  · exact (θ_run Cert.Kernel6Ideal.defs _ _).mono (fun r h c => ⟨(h c).1.trans (Seq.final6 m c), (h c).2.1.trans (Seq.final7 m c),
      (h c).2.2.1.trans (Seq.final8 m c), (h c).2.2.2.2.1.trans (Seq.final10 m c), (h c).2.2.2.1.trans (SeqTiles.final9 m c),
      (h c).2.2.2.2.2.2.1.trans (SeqTiles.final12 m c), (h c).2.2.2.2.2.2.2.2.2.1.trans (SeqTiles.final15 m c), (h c).2.2.2.2.2.2.2.2.2.2.2⟩)
      (Cert.Kernel6Ideal.Value.run_blocks m g)
  · refine (θ_run Cert.Reference6Ideal.defs _ _).mono (fun r h c => ⟨(h c).1.trans ((SeqRef.res_eq m' c).trans ?_), (h c).2.1.trans ?_,
      (h c).2.2.1.trans ?_, (h c).2.2.2.1.trans ?_, (h c).2.2.2.2.1.trans ?_, (h c).2.2.2.2.2.1.trans (Eq.trans (b := SeqHeadsRef.qTiles m' c) rfl ?_),
      (h c).2.2.2.2.2.2.1.trans ?_, (h c).2.2.2.2.2.2.2⟩)
      (Cert.Reference6Ideal.Value.run m' g')
    · obtain ⟨h0, h1, h2⟩ := hargs c
      rw [h0, h1, h2]
      funext i
      idx_vars i
      refine (SeqRef.rM_apply _ i0 i1).trans ?_
      simp only [SeqRef.u_apply]
      rfl
    · obtain ⟨h0, h1, h2⟩ := hargs c
      rw [SeqRef.u_eq, h0, h1, h2]
      funext i
      idx_vars i
      exact SeqRef.tail_apply _ _ _ i1 i0
    all_goals
      obtain ⟨h0, h1, h2⟩ := hargs c
      first | rw [SeqRef.z_eq] | unfold SeqHeadsRef.qTiles
      rw [h0, h1, h2]
      funext i
      idx_vars i
    · exact SeqRef.k_apply _ _ _ i0 i1
    · exact SeqRef.v_apply _ _ _ i0 i1
    · exact SeqHeadsRef.kb_apply _ _ _ i0 i1
    · exact SeqHeadsRef.qt_apply _ _ _ i0 i1 i2 i3
    · exact SeqHeadsRef.vt_apply _ _ _ i0 i1 i2 i3

end Cert.Proof.SeqClaims

end
-- ==== Proof.SeqIdx.lean ====
/-
  The projection call's index keys on the prompt's rows, row by row: three products of split parts, one product where the
  gains and the weights are finite.
-/
module

public import proofs.«01_k».proof.Proof.Gen.Kernel7Ideal.Value
public import proofs.«01_k».proof.Proof.SeqRef
public import proofs.«01_k».proof.Proof.Finite
public import Idealize.ShloMosaic.Lib.Pipeline.ValueKit
public import Idealize.ShloMosaic.Lib.Claim

@[expose] public section

set_option maxRecDepth 16384

noncomputable section

namespace Cert.Proof.SeqIdx

open Cert.Kernel7Ideal Cert.Kernel7Ideal.Gen Idealize.ShloMosaic Idealize.ShloMosaic.TcCoe Idealize.SL.Sem

theorem nrm_apply (x : FVec Ideal S512x1024 .f32) (g : FVec Ideal S1x1024 .f32) (r : Fin 512) (d : Fin 1024) :
    k0_pay5 (F := Ideal) x g (ix2 r d) = Rows.nrm (fun d => x (ix2 r d)) (fun d => g (ix2 0 d)) d := by
  pointwise [k0_pay5]
  rfl

/-- A block's index keys: the three products. -/
theorem key_apply (x : FVec Ideal S512x1024 .f32) (g : FVec Ideal S1x1024 .f32) (x3 x4 : FVec Ideal S1024x384 .bf16) (r : Fin 512) (d : Fin 32) :
    k0_pay66 (F := Ideal) (k0_pay6 x g) (k0_pay7 x g) x3 x4 (ix2 r d)
      = (∑ k, Rows.nrm (fun d => x (ix2 r d)) (fun d => g (ix2 0 d)) k * x3 (ix2 k ⟨256 + d, by omega⟩))
        + (∑ k, (Rows.nrm (fun d => x (ix2 r d)) (fun d => g (ix2 0 d)) k - Rows.nrm (fun d => x (ix2 r d)) (fun d => g (ix2 0 d)) k) * x3 (ix2 k ⟨256 + d, by omega⟩))
        + (∑ k, Rows.nrm (fun d => x (ix2 r d)) (fun d => g (ix2 0 d)) k * x4 (ix2 k ⟨256 + d, by omega⟩)) := by
  pointwise [k0_pay66, k0_pay65, k0_pay6, k0_pay7]
  simp only [nrm_apply]

/-- Where each window stands at each point: the row blocks move with the point, the weights stay. -/
theorem idx : ∀ t : Fin cfg0.N, win0_0.index t = ![t.val, 0] ∧ win0_1.index t = ![0, 0]
    ∧ win0_3.index t = ![0, 0] ∧ win0_4.index t = ![0, 0] ∧ win0_11.index t = ![t.val, 0] :=
  (by decide +kernel)

variable (m : (ℓ : Loc nD τ sig) → Buf (Elt Ideal) ℓ) (c : Dev nD)

theorem V12 : V m c main_v12 = shapeCast S16384x1024 (m ((c : Thread nD τ).loc main_arg0) : FVec Ideal S1x16384x1024 .f32) shapeCasts_S1x16384x1024_S16384x1024 := rfl
theorem V10 : V m c main_v10 = broadcastInDim S1x1024 ![1] bcast_S1024_S1x1024_1 (shapeCast S1024 (m ((c : Thread nD τ).loc main_arg1) : FVec Ideal S1x1024 .f32) shapeCasts_S1x1024_S1024) := rfl

theorem cast0 (X : FVec Ideal S1x16384x1024 .f32) (n : Fin 16384) (d : Fin 1024) :
    shapeCast S16384x1024 X shapeCasts_S1x16384x1024_S16384x1024 (ix2 n d) = X (ix3 0 n d) := by
  pointwise

theorem cast1 (X : FVec Ideal S1x1024 .f32) (d : Fin 1024) :
    broadcastInDim S1x1024 ![1] bcast_S1024_S1x1024_1 (shapeCast S1024 X shapeCasts_S1x1024_S1024) (ix2 0 d) = X (ix2 0 d) := by
  pointwise

theorem sitofp0 : (FloatOps.sitofp (F := Ideal) FTy.f32 (0#32 : BitVec 32) : EReal) = 0 := by
  simp [FloatOps.sitofp]

/-- The index columns, padded. -/
def wPad (X : FVec Ideal S1x1024x2344 .f32) : FVec Ideal S1024x384 .f32 :=
  pad S1024x384 ![0, 0] ![0, 88] ![0, 0] (extractStridedSlice S1024x296 ![0, 2048] (shapeCast S1024x2344 X shapeCasts_S1x1024x2344_S1024x2344) slices_S1024x2344_S1024x296_0_2048) (sitofp .f32 (constantI S_ 32 0#32)) pads_S1024x296_S1024x384_000_0880 h_S_

theorem wPad_apply (X : FVec Ideal S1x1024x2344 .f32) (k : Fin 1024) (j : Fin 384) :
    wPad X (ix2 k j) = if h : (j : ℕ) < 296 then X (ix3 0 k ⟨2048 + j, by omega⟩) else 0 := by
  pointwise [wPad]
  rw [sitofp0]

theorem V5 : V m c main_v5 = (truncf .bf16 (wPad (m ((c : Thread nD τ).loc main_arg2))) bitsLt_bf16_f32 : FVec Ideal S1024x384 .bf16) := rfl
theorem V8 : V m c main_v8 = (truncf .bf16 (subf (wPad (m ((c : Thread nD τ).loc main_arg2))) (extf .f32 (truncf .bf16 (wPad (m ((c : Thread nD τ).loc main_arg2))) bitsLt_bf16_f32 : FVec Ideal S1024x384 .bf16) bitsLt_bf16_f32) : FVec Ideal S1024x384 .f32) bitsLt_bf16_f32 : FVec Ideal S1024x384 .bf16) := rfl

theorem read0 (t : Fin cfg0.N) (n : Fin 16384) (r : Fin 512) (h : (n : ℕ) = t.val * 512 + r) (d : Fin 1024) :
    (iblk m c 0 t : FVec Ideal S512x1024 .f32) (ix2 r d)
      = (m ((c : Thread nD τ).loc main_arg0) : FVec Ideal S1x16384x1024 .f32) (ix3 0 n d) := by
  have e : ((cfg0.win 0).blk t).view.emb (ix2 r d) = (ix2 n d : S16384x1024.Idx) := by
    blk_ext [idx t]
  exact (congrArg (V m c main_v12) e).trans ((congrFun (V12 m c) _).trans (cast0 _ n d))

theorem read1 (t : Fin cfg0.N) (d : Fin 1024) :
    (iblk m c 1 t : FVec Ideal S1x1024 .f32) (ix2 0 d) = (m ((c : Thread nD τ).loc main_arg1) : FVec Ideal S1x1024 .f32) (ix2 0 d) := by
  have e : ((cfg0.win 1).blk t).view.emb (ix2 0 d) = (ix2 0 d : S1x1024.Idx) := by
    blk_ext [idx t]
  exact (congrArg (V m c main_v10) e).trans ((congrFun (V10 m c) _).trans (cast1 _ d))

theorem read3 (t : Fin cfg0.N) (k : Fin 1024) (j : Fin 384) :
    (iblk m c 3 t : FVec Ideal S1024x384 .bf16) (ix2 k j) = wPad (m ((c : Thread nD τ).loc main_arg2)) (ix2 k j) := by
  have e : ((cfg0.win 3).blk t).view.emb (ix2 k j) = (ix2 k j : S1024x384.Idx) := by
    blk_ext [idx t]
  exact (congrArg (V m c main_v5) e).trans (congrFun (V5 m c) _)

theorem read4 (t : Fin cfg0.N) (k : Fin 1024) (j : Fin 384) :
    (iblk m c 4 t : FVec Ideal S1024x384 .bf16) (ix2 k j)
      = wPad (m ((c : Thread nD τ).loc main_arg2)) (ix2 k j) - wPad (m ((c : Thread nD τ).loc main_arg2)) (ix2 k j) := by
  have e : ((cfg0.win 4).blk t).view.emb (ix2 k j) = (ix2 k j : S1024x384.Idx) := by
    blk_ext [idx t]
  exact (congrArg (V m c main_v8) e).trans (congrFun (V8 m c) _)

/-- The index keys of row `n`: columns 2304 to 2335 of the projection. -/
def keyVal (n : Fin 16384) (d : Fin 32) : EReal :=
  SeqRef.z (m ((c : Thread nD τ).loc main_arg0)) (m ((c : Thread nD τ).loc main_arg1)) (m ((c : Thread nD τ).loc main_arg2)) n ⟨2304 + d, by omega⟩

/-- The gains are finite. -/
def FiniteGains : Prop := ∀ k : Fin 1024, Finite.IsReal ((m ((c : Thread nD τ).loc main_arg1) : FVec Ideal S1x1024 .f32) (ix2 0 k))

/-- The index columns of the weights are finite. -/
def FiniteWeights : Prop :=
  ∀ (k : Fin 1024) (j : Fin 296), Finite.IsReal ((m ((c : Thread nD τ).loc main_arg2) : FVec Ideal S1x1024x2344 .f32) (ix3 0 k ⟨2048 + j, by omega⟩))

section Keys

variable (hg : FiniteGains m c) (hw : FiniteWeights m c)

include hg hw

theorem key_blk (t : Fin cfg0.N) (n : Fin 16384) (r : Fin 512) (d : Fin 32) (h : (n : ℕ) = t.val * 512 + r) :
    k0_pay66 (F := Ideal) (k0_pay6 (iblk m c 0 t) (iblk m c 1 t)) (k0_pay7 (iblk m c 0 t) (iblk m c 1 t)) (iblk m c 3 t) (iblk m c 4 t) (ix2 r d)
      = keyVal m c n d := by
  refine (key_apply _ _ _ _ r d).trans ?_
  simp only [read0 m c t n r h, read1, read3, read4]
  have e : ∀ k : Fin 1024, wPad (m ((c : Thread nD τ).loc main_arg2)) (ix2 k ⟨256 + d, by omega⟩)
      = (m ((c : Thread nD τ).loc main_arg2) : FVec Ideal S1x1024x2344 .f32) (ix3 0 k ⟨2304 + d, by omega⟩) := fun k => by
    rw [wPad_apply, dif_pos (show 256 + (d : ℕ) < 296 by omega)]
    exact congrArg (fun j : Fin 2344 => (m ((c : Thread nD τ).loc main_arg2) : FVec Ideal S1x1024x2344 .f32) (ix3 0 k j)) (Fin.ext (by simp only [Fin.val_mk]; omega))
  have hp : ∀ k : Fin 1024, Finite.IsReal (wPad (m ((c : Thread nD τ).loc main_arg2)) (ix2 k ⟨256 + d, by omega⟩)) := fun k => by
    rw [wPad_apply, dif_pos (show 256 + (d : ℕ) < 296 by omega)]
    exact hw k ⟨256 + d, by omega⟩
  refine (Finite.split_sum _ _ (fun k => Finite.nrm (hg k)) hp).trans ?_
  simp only [e]
  rfl

theorem outs11 (t : Fin cfg0.N) (n : Fin 16384) (r : Fin 512) (d : Fin 32) (h : (n : ℕ) = t.val * 512 + r) :
    ((outsAt0 m c t.val t.isLt).2.2.2.2.2.1 : FVec Ideal S512x32 .f32) (ix2 r d) = keyVal m c n d := by
  by_cases h0 : t.val % 32 = 0
  · rw [outsAt0_A m c t h0]
    frame_out
    exact key_blk m c hg hw t n r d h
  · rw [outsAt0_B m c t h0]
    frame_out
    exact key_blk m c hg hw t n r d h

theorem final11 : (dats m 0 c).arrAt 11 cfg0.N = fun i : S16384x32.Idx => keyVal m c (i 0) (i 1) := by
  refine (dats m 0 c).arrAt_eq_of_covers 11 _ (by decide +kernel) fun t hf y => ?_
  blk_simp
  rw [after0_11]
  idx_vars y
  have e0 : ((((View.whole main_v13_5).slice (win0_11.rect t)).emb (ix2 y0 y1) 0 : Fin 16384) : ℕ) = t.val * 512 + y0 := by
    blk_simp [idx t]
  have e1 : (((View.whole main_v13_5).slice (win0_11.rect t)).emb (ix2 y0 y1) 1 : Fin 32) = y1 := Fin.ext (by blk_simp [idx t])
  rw [e1]
  generalize (((View.whole main_v13_5).slice (win0_11.rect t)).emb (ix2 y0 y1) 0 : Fin 16384) = n at e0 ⊢
  exact outs11 m c hg hw t n y0 y1 e0

end Keys

end Cert.Proof.SeqIdx

end
-- ==== Proof.SeqIdxRef.lean ====
/-
  The reference of the index keys of the prompt's rows, row by row.
-/
module

public import proofs.«01_k».proof.Proof.Gen.Reference7Ideal.Run
public import proofs.«01_k».proof.Proof.SeqRef

@[expose] public section

set_option maxRecDepth 16384

noncomputable section

namespace Cert.Proof.SeqIdxRef

open Cert.Reference7Ideal Cert.Reference7Ideal.Gen Idealize.ShloMosaic Idealize.ShloMosaic.TcCoe

/-- The normalisation of rows. -/
def rNrm (x : FVec Ideal S1x16384x1024 .f32) (g : FVec Ideal S1x1024 .f32) : FVec Ideal S1x16384x1024 .f32 :=
  mulf (mulf x (broadcastInDim S1x16384x1024 ![0,1,2] bcast_S1x16384x1_S1x16384x1024_0_1_2 (Host.rsqrt (addf (Host.divf (broadcastInDim S1x16384x1 ![0,1] bcast_S1x16384_S1x16384x1_0_1 (Host.reduceAdd (mulf x x) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32)))))) (broadcastInDim S1x16384x1024 ![0,1,2] bcast_S1x1x1024_S1x16384x1024_0_1_2 (broadcastInDim S1x1x1024 ![2] bcast_S1024_S1x1x1024_2 (shapeCast _ g shapeCasts_S1x1024_S1024)))

/-- All the projected columns. -/
def rZ (h : FVec Ideal S1x16384x1024 .f32) (w : FVec Ideal S1x1024x2344 .f32) : FVec Ideal S16384x2344 .f32 :=
  shapeCast _ (Host.dotGeneral dot_S1x16384x1024_S1024x2344_S1x16384x2344_2_0_01_1_n_n none h (shapeCast _ w shapeCasts_S1x1024x2344_S1024x2344)) shapeCasts_S1x16384x2344_S16384x2344

theorem rNrm_apply (x : FVec Ideal S1x16384x1024 .f32) (g : FVec Ideal S1x1024 .f32)
    (b : Fin 1) (t : Fin 16384) (d : Fin 1024) : rNrm x g (ix3 b t d) = Rows.nrm (fun d => x (ix3 0 t d)) (fun d => g (ix2 0 d)) d := by
  obtain rfl : b = 0 := Subsingleton.elim _ _
  pointwise [rNrm]
  rfl

theorem rZ_apply (x : FVec Ideal S1x16384x1024 .f32) (g : FVec Ideal S1x1024 .f32) (w : FVec Ideal S1x1024x2344 .f32) (n : Fin 16384) (j : Fin 2344) :
    rZ (rNrm x g) w (ix2 n j) = SeqRef.z x g w n j := by
  pointwise [rZ]
  simp only [rNrm_apply]
  rfl

theorem key_apply (x : FVec Ideal S1x16384x1024 .f32) (g : FVec Ideal S1x1024 .f32) (w : FVec Ideal S1x1024x2344 .f32) (n : Fin 16384) (d : Fin 32) :
    extractStridedSlice S16384x32 ![0, 2304] (rZ (rNrm x g) w) slices_S16384x2344_S16384x32_0_2304 (ix2 n d) = SeqRef.z x g w n ⟨2304 + d, by omega⟩ := by
  pointwise
  exact rZ_apply ..

end Cert.Proof.SeqIdxRef

end
-- ==== Proof.SeqIdxTilesRef.lean ====
/-
  The reference of the index columns in the layout the attention call takes: index queries and index keys beside zeros,
  and index weights in rows.
-/
module

public import proofs.«01_k».proof.Proof.SeqIdxRef

@[expose] public section

set_option maxRecDepth 16384

noncomputable section

namespace Cert.Proof.SeqIdxTilesRef

open Cert.Reference7Ideal Cert.Reference7Ideal.Gen Idealize.ShloMosaic Idealize.ShloMosaic.TcCoe

/-- Row `e mod 128` of half `s` of tile `g`. -/
def rowOf (g : Fin 64) (s : Fin 2) (e : Fin 1024) : Fin 16384 := ⟨g * 256 + s * 128 + e % 128, by omega⟩

/-- The index queries: channel `a` of the head of column `e`, twice, then zeros. -/
def qTile (Z : Fin 16384 → Fin 2344 → EReal) (g : Fin 64) (s : Fin 2) (a : Fin 128) (e : Fin 1024) : EReal :=
  if h : (a : ℕ) < 32 then Z (rowOf g s e) ⟨2048 + (e / 128 * 32 + a), by omega⟩
  else if h : (a : ℕ) < 64 then Z (rowOf g s e) ⟨2048 + (e / 128 * 32 + (a - 32)), by omega⟩ else 0

/-- The index weights, scaled. -/
def wTile (Z : Fin 16384 → Fin 2344 → EReal) (g : Fin 64) (s : Fin 2) (e : Fin 1024) : EReal :=
  Z (rowOf g s e) ⟨2336 + e / 128, by omega⟩ * Ideal.ofBits .f32 0x3D800000#32

/-- The index keys, then zeros, twice. -/
def kTile (Z : Fin 16384 → Fin 2344 → EReal) (g : Fin 64) (r : Fin 256) (a : Fin 128) : EReal :=
  if h : (a : ℕ) < 32 then Z ⟨g * 256 + r, by omega⟩ ⟨2304 + a, by omega⟩
  else if h : (a : ℕ) < 64 then 0
  else if h : (a : ℕ) < 96 then Z ⟨g * 256 + r, by omega⟩ ⟨2304 + (a - 64), by omega⟩ else 0

section Parts

variable (Z : Fin 16384 → Fin 2344 → EReal) (g : Fin 64) (s : Fin 2) (a : Fin 128) (e : Fin 1024) (r : Fin 256)

theorem qTile_first (h : (a : ℕ) < 32) : qTile Z g s a e = Z (rowOf g s e) ⟨2048 + (e / 128 * 32 + a), by omega⟩ := dif_pos h

theorem qTile_second (h1 : ¬(a : ℕ) < 32) (h2 : (a : ℕ) < 64) :
    qTile Z g s a e = Z (rowOf g s e) ⟨2048 + (e / 128 * 32 + (a - 32)), by omega⟩ := (dif_neg h1).trans (dif_pos h2)

theorem qTile_rest (h1 : ¬(a : ℕ) < 32) (h2 : ¬(a : ℕ) < 64) : qTile Z g s a e = 0 := (dif_neg h1).trans (dif_neg h2)

theorem kTile_first (h : (a : ℕ) < 32) : kTile Z g r a = Z ⟨g * 256 + r, by omega⟩ ⟨2304 + a, by omega⟩ := dif_pos h

theorem kTile_second (h1 : ¬(a : ℕ) < 32) (h2 : (a : ℕ) < 64) : kTile Z g r a = 0 := (dif_neg h1).trans (dif_pos h2)

theorem kTile_third (h1 : ¬(a : ℕ) < 32) (h2 : ¬(a : ℕ) < 64) (h3 : (a : ℕ) < 96) :
    kTile Z g r a = Z ⟨g * 256 + r, by omega⟩ ⟨2304 + (a - 64), by omega⟩ := (dif_neg h1).trans ((dif_neg h2).trans (dif_pos h3))

theorem kTile_fourth (h1 : ¬(a : ℕ) < 32) (h2 : ¬(a : ℕ) < 64) (h3 : ¬(a : ℕ) < 96) : kTile Z g r a = 0 :=
  (dif_neg h1).trans ((dif_neg h2).trans (dif_neg h3))

end Parts

def rQ (z : FVec Ideal S16384x2344 .f32) : FVec Ideal S64x2x32x1024 .bf16 :=
  shapeCast _ (transpose S64x2x32x8x128 [0, 1, 4, 3, 2] (shapeCast _ (truncf .bf16 (extractStridedSlice S16384x256 ![0, 2048] z slices_S16384x2344_S16384x256_0_2048) bitsLt_bf16_f32 : FVec Ideal S16384x256 .bf16) shapeCasts_S16384x256_S64x2x128x8x32) transposes_S64x2x128x8x32_S64x2x32x8x128_0_1_4_3_2) shapeCasts_S64x2x32x8x128_S64x2x32x1024

def rQ4 (z : FVec Ideal S16384x2344 .f32) : FVec Ideal S64x2x128x1024 .bf16 :=
  concatenate S64x2x128x1024 2 [⟨S64x2x32x1024, rQ z⟩, ⟨S64x2x32x1024, rQ z⟩, ⟨S64x2x32x1024, broadcastInDim S64x2x32x1024 ![] bcast_S_S64x2x32x1024 (constant (F := Ideal) S_ .bf16 0x0000#16)⟩, ⟨S64x2x32x1024, broadcastInDim S64x2x32x1024 ![] bcast_S_S64x2x32x1024 (constant (F := Ideal) S_ .bf16 0x0000#16)⟩] concatenates_S64x2x32x1024_S64x2x32x1024_S64x2x32x1024_S64x2x32x1024_S64x2x128x1024_d2

def rW (z : FVec Ideal S16384x2344 .f32) : FVec Ideal S64x2x1x1024 .f32 :=
  shapeCast _ (transpose S64x2x8x128 [0, 1, 3, 2] (shapeCast _ (mulf (extractStridedSlice S16384x8 ![0, 2336] z slices_S16384x2344_S16384x8_0_2336) (broadcastInDim S16384x8 ![] bcast_S_S16384x8 (constant S_ .f32 0x3D800000#32))) shapeCasts_S16384x8_S64x2x128x8) transposes_S64x2x128x8_S64x2x8x128_0_1_3_2) shapeCasts_S64x2x8x128_S64x2x1x1024

def rK (z : FVec Ideal S16384x2344 .f32) : FVec Ideal S64x256x32 .bf16 :=
  shapeCast _ (truncf .bf16 (extractStridedSlice S16384x32 ![0, 2304] z slices_S16384x2344_S16384x32_0_2304) bitsLt_bf16_f32 : FVec Ideal S16384x32 .bf16) shapeCasts_S16384x32_S64x256x32

def rK4 (z : FVec Ideal S16384x2344 .f32) : FVec Ideal S64x256x128 .bf16 :=
  concatenate S64x256x128 2 [⟨S64x256x32, rK z⟩, ⟨S64x256x32, broadcastInDim S64x256x32 ![] bcast_S_S64x256x32 (constant (F := Ideal) S_ .bf16 0x0000#16)⟩, ⟨S64x256x32, rK z⟩, ⟨S64x256x32, broadcastInDim S64x256x32 ![] bcast_S_S64x256x32 (constant (F := Ideal) S_ .bf16 0x0000#16)⟩] concatenates_S64x256x32_S64x256x32_S64x256x32_S64x256x32_S64x256x128_d2

variable (z : FVec Ideal S16384x2344 .f32)

theorem rQ_apply (g : Fin 64) (s : Fin 2) (a : Fin 32) (e : Fin 1024) :
    rQ z (ix4 g s a e) = z (ix2 (rowOf g s e) ⟨2048 + (e / 128 * 32 + a), by omega⟩) := by
  pointwise [rQ]
  rfl

theorem rW_apply (g : Fin 64) (s : Fin 2) (b : Fin 1) (e : Fin 1024) :
    rW z (ix4 g s b e) = z (ix2 (rowOf g s e) ⟨2336 + e / 128, by omega⟩) * Ideal.ofBits .f32 0x3D800000#32 := by
  obtain rfl : b = 0 := Subsingleton.elim _ _
  pointwise [rW]
  rfl

theorem rK_apply (g : Fin 64) (r : Fin 256) (a : Fin 32) :
    rK z (ix3 g r a) = z (ix2 ⟨g * 256 + r, by omega⟩ ⟨2304 + a, by omega⟩) := by
  pointwise [rK]

theorem rQ4_apply (g : Fin 64) (s : Fin 2) (a : Fin 128) (e : Fin 1024) : rQ4 z (ix4 g s a e) = qTile (fun n j => z (ix2 n j)) g s a e := by
  pointwise [rQ4]
  simp only [rQ_apply]
  by_cases h1 : (a : ℕ) < 32
  · exact (dif_pos h1).trans (qTile_first (fun n j => z (ix2 n j)) g s a e h1).symm
  · by_cases h2 : (a : ℕ) < 64
    · exact (dif_neg h1).trans ((dif_pos (by omega)).trans (qTile_second (fun n j => z (ix2 n j)) g s a e h1 h2).symm)
    · refine (dif_neg h1).trans ((dif_neg (by omega)).trans (Eq.trans ?_ (qTile_rest (fun n j => z (ix2 n j)) g s a e h1 h2).symm))
      by_cases h3 : (a : ℕ) - 32 - 32 < 32
      · exact dif_pos h3
      · exact dif_neg h3

theorem rK4_apply (g : Fin 64) (r : Fin 256) (a : Fin 128) : rK4 z (ix3 g r a) = kTile (fun n j => z (ix2 n j)) g r a := by
  pointwise [rK4]
  simp only [rK_apply]
  by_cases h1 : (a : ℕ) < 32
  · exact (dif_pos h1).trans (kTile_first (fun n j => z (ix2 n j)) g a r h1).symm
  · by_cases h2 : (a : ℕ) < 64
    · exact (dif_neg h1).trans ((dif_pos (by omega)).trans (kTile_second (fun n j => z (ix2 n j)) g a r h1 h2).symm)
    · refine (dif_neg h1).trans ((dif_neg (by omega)).trans ?_)
      by_cases h3 : (a : ℕ) < 96
      · refine (dif_pos (by omega)).trans (Eq.trans ?_ (kTile_third (fun n j => z (ix2 n j)) g a r h1 h2 h3).symm)
        exact congrArg (fun j => z (ix2 _ j)) (Fin.ext (by show 2304 + ((a : ℕ) - 32 - 32) = 2304 + (a - 64); omega))
      · exact (dif_neg (by omega)).trans (kTile_fourth (fun n j => z (ix2 n j)) g a r h1 h2 h3).symm

variable (m : (ℓ : Loc nD τ sig) → Buf (Elt Ideal) ℓ) (c : Dev nD)

/-- The rows' projection. -/
def proj : FVec Ideal S16384x2344 .f32 :=
  SeqIdxRef.rZ (SeqIdxRef.rNrm (m ((c : Thread nD τ).loc main_arg0)) (m ((c : Thread nD τ).loc main_arg1))) (m ((c : Thread nD τ).loc main_arg2))

def queries : FVec Ideal S64x2x128x1024 .bf16 := rQ4 (proj m c)

def weights : FVec Ideal S64x2x1x1024 .f32 := rW (proj m c)

def keys : FVec Ideal S64x256x128 .bf16 := rK4 (proj m c)

theorem proj_eq : (fun n j => proj m c (ix2 n j))
    = SeqRef.z (m ((c : Thread nD τ).loc main_arg0)) (m ((c : Thread nD τ).loc main_arg1)) (m ((c : Thread nD τ).loc main_arg2)) :=
  funext fun n => funext fun j => SeqIdxRef.rZ_apply _ _ _ n j

end Cert.Proof.SeqIdxTilesRef

end
-- ==== Proof.SeqIdxTiles.lean ====
/-
  The projection call's index queries, index weights and index keys on the prompt's rows, in the layout the attention call
  takes: the casts' remainders are zero where the gains and the weights are finite.
-/
module

public import proofs.«01_k».proof.Proof.SeqIdx
public import proofs.«01_k».proof.Proof.SeqIdxTilesRef

@[expose] public section

set_option maxRecDepth 16384

noncomputable section

namespace Cert.Proof.SeqIdxTiles

open Cert.Kernel7Ideal Cert.Kernel7Ideal.Gen Idealize.ShloMosaic Idealize.ShloMosaic.TcCoe Idealize.SL.Sem
open SeqIdx (FiniteGains FiniteWeights)

/-- A block's index columns: the three products. -/
theorem zi_apply (x : FVec Ideal S512x1024 .f32) (g : FVec Ideal S1x1024 .f32) (x3 x4 : FVec Ideal S1024x384 .bf16) (r : Fin 512) (d : Fin 384) :
    k0_pay65 (F := Ideal) (k0_pay6 x g) (k0_pay7 x g) x3 x4 (ix2 r d)
      = (∑ k, Rows.nrm (fun d => x (ix2 r d)) (fun d => g (ix2 0 d)) k * x3 (ix2 k d))
        + (∑ k, (Rows.nrm (fun d => x (ix2 r d)) (fun d => g (ix2 0 d)) k - Rows.nrm (fun d => x (ix2 r d)) (fun d => g (ix2 0 d)) k) * x3 (ix2 k d))
        + (∑ k, Rows.nrm (fun d => x (ix2 r d)) (fun d => g (ix2 0 d)) k * x4 (ix2 k d)) := by
  pointwise [k0_pay65, k0_pay6, k0_pay7]
  simp only [SeqIdx.nrm_apply]

/-- Where the tiles' windows stand at each point. -/
theorem idx : ∀ t : Fin cfg0.N, win0_13.index t = ![t.val, 0, 0, 0] ∧ win0_14.index t = ![t.val, 0, 0, 0] ∧ win0_16.index t = ![t.val, 0, 0] :=
  (by decide +kernel)

theorem isReal_sum {N : ℕ} (f : Fin N → EReal) (h : ∀ k, Finite.IsReal (f k)) : Finite.IsReal (∑ k, f k) := by
  refine Finset.sum_induction f Finite.IsReal (fun a b ha hb => ?_) Finite.isReal_zero fun k _ => h k
  obtain ⟨a, rfl⟩ := ha.lift
  obtain ⟨b, rfl⟩ := hb.lift
  rw [← EReal.coe_add]
  exact .coe _

variable (m : (ℓ : Loc nD τ sig) → Buf (Elt Ideal) ℓ) (c : Dev nD)

/-- The projection's columns. -/
def zVal (n : Fin 16384) (j : Fin 2344) : EReal :=
  SeqRef.z (m ((c : Thread nD τ).loc main_arg0)) (m ((c : Thread nD τ).loc main_arg1)) (m ((c : Thread nD τ).loc main_arg2)) n j

section Tiles

variable (hg : FiniteGains m c) (hw : FiniteWeights m c)

include hg hw

theorem zVal_real (n : Fin 16384) (j : Fin 2344) (d : Fin 296) (hj : (j : ℕ) = 2048 + d) : Finite.IsReal (zVal m c n j) := by
  rw [show j = ⟨2048 + d, by omega⟩ from Fin.ext hj]
  exact isReal_sum _ fun k => (Finite.nrm (hg k)).mul (hw k d)

theorem zi_blk (t : Fin cfg0.N) (n : Fin 16384) (r : Fin 512) (d : Fin 384) (j : Fin 2344) (h : (n : ℕ) = t.val * 512 + r) (hd : (d : ℕ) < 296)
    (hj : (j : ℕ) = 2048 + d) :
    k0_pay65 (F := Ideal) (k0_pay6 (iblk m c 0 t) (iblk m c 1 t)) (k0_pay7 (iblk m c 0 t) (iblk m c 1 t)) (iblk m c 3 t) (iblk m c 4 t) (ix2 r d)
      = zVal m c n j := by
  refine (zi_apply _ _ _ _ r d).trans ?_
  simp only [SeqIdx.read0 m c t n r h, SeqIdx.read1, SeqIdx.read3, SeqIdx.read4]
  have e : ∀ k : Fin 1024, SeqIdx.wPad (m ((c : Thread nD τ).loc main_arg2)) (ix2 k d)
      = (m ((c : Thread nD τ).loc main_arg2) : FVec Ideal S1x1024x2344 .f32) (ix3 0 k j) := fun k => by
    rw [SeqIdx.wPad_apply, dif_pos hd]
    exact congrArg (fun j : Fin 2344 => (m ((c : Thread nD τ).loc main_arg2) : FVec Ideal S1x1024x2344 .f32) (ix3 0 k j)) (Fin.ext hj.symm)
  have hp : ∀ k : Fin 1024, Finite.IsReal (SeqIdx.wPad (m ((c : Thread nD τ).loc main_arg2)) (ix2 k d)) := fun k => by
    rw [SeqIdx.wPad_apply, dif_pos hd]
    exact hw k ⟨d, hd⟩
  refine (Finite.split_sum _ _ (fun k => Finite.nrm (hg k)) hp).trans ?_
  simp only [e]
  rfl

theorem zi_real (t : Fin cfg0.N) (r : Fin 512) (d : Fin 384) (hd : (d : ℕ) < 296) :
    Finite.IsReal (k0_pay65 (F := Ideal) (k0_pay6 (iblk m c 0 t) (iblk m c 1 t)) (k0_pay7 (iblk m c 0 t) (iblk m c 1 t)) (iblk m c 3 t) (iblk m c 4 t) (ix2 r d)) := by
  have ht : t.val < 32 := lt_of_lt_of_eq t.isLt N_0
  rw [zi_blk m c hg hw t ⟨t.val * 512 + r, by omega⟩ r d ⟨2048 + d, by omega⟩ rfl hd rfl]
  exact zVal_real m c hg hw _ _ ⟨d, hd⟩ rfl

/-- The index queries of a block, turned. -/
theorem hi_blk (t : Fin cfg0.N) (n : Fin 16384) (r : Fin 512) (d : Fin 256) (j : Fin 2344) (h : (n : ℕ) = t.val * 512 + r) (hj : (j : ℕ) = 2048 + d) :
    k0_pay69 (F := Ideal) (k0_pay6 (iblk m c 0 t) (iblk m c 1 t)) (k0_pay7 (iblk m c 0 t) (iblk m c 1 t)) (iblk m c 3 t) (iblk m c 4 t) (ix2 d r)
      = zVal m c n j := by
  pointwise [k0_pay69, k0_pay68, k0_pay67]
  exact zi_blk m c hg hw t n r _ j h (by simp only [Fin.val_mk]; omega) hj

/-- The cast's remainder is zero. -/
theorem lo_blk (t : Fin cfg0.N) (r : Fin 512) (d : Fin 256) :
    k0_pay70 (F := Ideal) (k0_pay6 (iblk m c 0 t) (iblk m c 1 t)) (k0_pay7 (iblk m c 0 t) (iblk m c 1 t)) (iblk m c 3 t) (iblk m c 4 t) (ix2 d r)
      = (0 : EReal) := by
  pointwise [k0_pay70, k0_pay69, k0_pay68, k0_pay67]
  exact (zi_real m c hg hw t r _ (by simp only [Fin.val_mk]; omega)).sub_self

/-- The scaled index weights of a block, turned. -/
theorem wt_blk (t : Fin cfg0.N) (n : Fin 16384) (r : Fin 512) (d : Fin 8) (j : Fin 2344) (h : (n : ℕ) = t.val * 512 + r) (hj : (j : ℕ) = 2336 + d) :
    k0_pay71 (F := Ideal) (k0_pay6 (iblk m c 0 t) (iblk m c 1 t)) (k0_pay7 (iblk m c 0 t) (iblk m c 1 t)) (iblk m c 3 t) (iblk m c 4 t) (ix2 d r)
      = zVal m c n j * Ideal.ofBits .f32 0x3D800000#32 := by
  pointwise [k0_pay71, k0_pay67]
  exact congrArg (· * Ideal.ofBits .f32 0x3D800000#32) (zi_blk m c hg hw t n r _ j h (by simp only [Fin.val_mk]; omega) (by simp only [Fin.val_mk]; omega))

set_option maxHeartbeats 4000000 in
theorem outs13 (t : Fin cfg0.N) (g : Fin 64) (y0 : Fin 2) (y1 : Fin 2) (y2 : Fin 128) (y3 : Fin 1024) (h : (g : ℕ) = t.val * 2 + y0) :
    ((outsAt0 m c t.val t.isLt).2.2.2.2.2.2.2.1 : FVec Ideal S2x2x128x1024 .bf16) (ix4 y0 y1 y2 y3) = SeqIdxTilesRef.qTile (zVal m c) g y1 y2 y3 := by
  by_cases h0 : t.val % 32 = 0
  · rw [outsAt0_A m c t h0]
    frame_out
    canon_tiles x e
    all_goals
      idx_vars x
      obtain rfl : x0 = 0 := Subsingleton.elim _ _
      obtain rfl : x1 = 0 := Subsingleton.elim _ _
      pointwise [k0_pay1, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147]
      by_cases h1 : (x2 : ℕ) < 32
      · refine (dif_pos h1).trans (Eq.trans ?_ (SeqIdxTilesRef.qTile_first _ _ _ _ _ (by omega)).symm)
        exact hi_blk m c hg hw t _ _ _ _ (by simp only [SeqIdxTilesRef.rowOf, Fin.val_mk]; omega) (by simp only [Fin.val_mk]; omega)
      · by_cases h2 : (x2 : ℕ) < 64
        · refine (dif_neg h1).trans ((dif_pos (by omega)).trans (Eq.trans ?_ (SeqIdxTilesRef.qTile_second _ _ _ _ _ (by omega) (by omega)).symm))
          exact hi_blk m c hg hw t _ _ _ _ (by simp only [SeqIdxTilesRef.rowOf, Fin.val_mk]; omega) (by simp only [Fin.val_mk]; omega)
        · refine (dif_neg h1).trans ((dif_neg (by omega)).trans (Eq.trans ?_ (SeqIdxTilesRef.qTile_rest _ _ _ _ _ (by omega) (by omega)).symm))
          by_cases h3 : (x2 : ℕ) - 32 - 32 < 32
          · exact (dif_pos h3).trans (lo_blk m c hg hw t _ _)
          · exact dif_neg h3
  · rw [outsAt0_B m c t h0]
    frame_out
    canon_tiles x e
    all_goals
      idx_vars x
      obtain rfl : x0 = 0 := Subsingleton.elim _ _
      obtain rfl : x1 = 0 := Subsingleton.elim _ _
      pointwise [k0_pay1, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147]
      by_cases h1 : (x2 : ℕ) < 32
      · refine (dif_pos h1).trans (Eq.trans ?_ (SeqIdxTilesRef.qTile_first _ _ _ _ _ (by omega)).symm)
        exact hi_blk m c hg hw t _ _ _ _ (by simp only [SeqIdxTilesRef.rowOf, Fin.val_mk]; omega) (by simp only [Fin.val_mk]; omega)
      · by_cases h2 : (x2 : ℕ) < 64
        · refine (dif_neg h1).trans ((dif_pos (by omega)).trans (Eq.trans ?_ (SeqIdxTilesRef.qTile_second _ _ _ _ _ (by omega) (by omega)).symm))
          exact hi_blk m c hg hw t _ _ _ _ (by simp only [SeqIdxTilesRef.rowOf, Fin.val_mk]; omega) (by simp only [Fin.val_mk]; omega)
        · refine (dif_neg h1).trans ((dif_neg (by omega)).trans (Eq.trans ?_ (SeqIdxTilesRef.qTile_rest _ _ _ _ _ (by omega) (by omega)).symm))
          by_cases h3 : (x2 : ℕ) - 32 - 32 < 32
          · exact (dif_pos h3).trans (lo_blk m c hg hw t _ _)
          · exact dif_neg h3

set_option maxHeartbeats 4000000 in
theorem outs14 (t : Fin cfg0.N) (g : Fin 64) (y0 : Fin 2) (y1 : Fin 2) (y2 : Fin 1) (y3 : Fin 1024) (h : (g : ℕ) = t.val * 2 + y0) :
    ((outsAt0 m c t.val t.isLt).2.2.2.2.2.2.2.2.1 : FVec Ideal S2x2x1x1024 .f32) (ix4 y0 y1 y2 y3) = SeqIdxTilesRef.wTile (zVal m c) g y1 y3 := by
  by_cases h0 : t.val % 32 = 0
  · rw [outsAt0_A m c t h0]
    frame_out
    canon_tiles x e
    all_goals
      idx_vars x
      obtain rfl : x0 = 0 := Subsingleton.elim _ _
      obtain rfl : x1 = 0 := Subsingleton.elim _ _
      obtain rfl : x2 = 0 := Subsingleton.elim _ _
      pointwise [k0_pay1, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147]
      exact wt_blk m c hg hw t _ _ _ _ (by simp only [SeqIdxTilesRef.rowOf, Fin.val_mk]; omega) (by simp only [Fin.val_mk]; omega)
  · rw [outsAt0_B m c t h0]
    frame_out
    canon_tiles x e
    all_goals
      idx_vars x
      obtain rfl : x0 = 0 := Subsingleton.elim _ _
      obtain rfl : x1 = 0 := Subsingleton.elim _ _
      obtain rfl : x2 = 0 := Subsingleton.elim _ _
      pointwise [k0_pay1, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147]
      exact wt_blk m c hg hw t _ _ _ _ (by simp only [SeqIdxTilesRef.rowOf, Fin.val_mk]; omega) (by simp only [Fin.val_mk]; omega)

set_option maxHeartbeats 4000000 in
theorem outs16 (t : Fin cfg0.N) (g : Fin 64) (y0 : Fin 2) (y1 : Fin 256) (y2 : Fin 128) (h : (g : ℕ) = t.val * 2 + y0) :
    ((outsAt0 m c t.val t.isLt).2.2.2.2.2.2.2.2.2.2.1 : FVec Ideal S2x256x128 .bf16) (ix3 y0 y1 y2) = SeqIdxTilesRef.kTile (zVal m c) g y1 y2 := by
  by_cases h0 : t.val % 32 = 0
  · rw [outsAt0_A m c t h0]
    frame_out
    canon_tiles x e
    all_goals
      idx_vars x
      obtain rfl : x0 = 0 := Subsingleton.elim _ _
      pointwise [k0_pay2, k0_pay3, k0_pay4, k0_pay67]
      by_cases h1 : (x2 : ℕ) < 32
      · refine (dif_pos h1).trans (Eq.trans ?_ (SeqIdxTilesRef.kTile_first _ _ _ _ (by omega)).symm)
        exact zi_blk m c hg hw t _ _ _ _ (by simp only [Fin.val_mk]; omega) (by simp only [Fin.val_mk]; omega) (by simp only [Fin.val_mk]; omega)
      · by_cases h2 : (x2 : ℕ) < 64
        · refine (dif_neg h1).trans ((dif_pos (by omega)).trans (Eq.trans ?_ (SeqIdxTilesRef.kTile_second _ _ _ _ (by omega) (by omega)).symm))
          exact (zi_real m c hg hw t _ _ (by simp only [Fin.val_mk]; omega)).sub_self
        · refine (dif_neg h1).trans ((dif_neg (by omega)).trans ?_)
          by_cases h3 : (x2 : ℕ) < 96
          · refine (dif_pos (by omega)).trans (Eq.trans ?_ (SeqIdxTilesRef.kTile_third _ _ _ _ (by omega) (by omega) (by omega)).symm)
            exact zi_blk m c hg hw t _ _ _ _ (by simp only [Fin.val_mk]; omega) (by simp only [Fin.val_mk]; omega) (by simp only [Fin.val_mk]; omega)
          · exact (dif_neg (by omega)).trans (SeqIdxTilesRef.kTile_fourth _ _ _ _ (by omega) (by omega) (by omega)).symm
  · rw [outsAt0_B m c t h0]
    frame_out
    canon_tiles x e
    all_goals
      idx_vars x
      obtain rfl : x0 = 0 := Subsingleton.elim _ _
      pointwise [k0_pay2, k0_pay3, k0_pay4, k0_pay67]
      by_cases h1 : (x2 : ℕ) < 32
      · refine (dif_pos h1).trans (Eq.trans ?_ (SeqIdxTilesRef.kTile_first _ _ _ _ (by omega)).symm)
        exact zi_blk m c hg hw t _ _ _ _ (by simp only [Fin.val_mk]; omega) (by simp only [Fin.val_mk]; omega) (by simp only [Fin.val_mk]; omega)
      · by_cases h2 : (x2 : ℕ) < 64
        · refine (dif_neg h1).trans ((dif_pos (by omega)).trans (Eq.trans ?_ (SeqIdxTilesRef.kTile_second _ _ _ _ (by omega) (by omega)).symm))
          exact (zi_real m c hg hw t _ _ (by simp only [Fin.val_mk]; omega)).sub_self
        · refine (dif_neg h1).trans ((dif_neg (by omega)).trans ?_)
          by_cases h3 : (x2 : ℕ) < 96
          · refine (dif_pos (by omega)).trans (Eq.trans ?_ (SeqIdxTilesRef.kTile_third _ _ _ _ (by omega) (by omega) (by omega)).symm)
            exact zi_blk m c hg hw t _ _ _ _ (by simp only [Fin.val_mk]; omega) (by simp only [Fin.val_mk]; omega) (by simp only [Fin.val_mk]; omega)
          · exact (dif_neg (by omega)).trans (SeqIdxTilesRef.kTile_fourth _ _ _ _ (by omega) (by omega) (by omega)).symm

theorem final13 : (dats m 0 c).arrAt 13 cfg0.N = fun i : S64x2x128x1024.Idx => SeqIdxTilesRef.qTile (zVal m c) (i 0) (i 1) (i 2) (i 3) := by
  refine (dats m 0 c).arrAt_eq_of_covers 13 _ (by decide +kernel) fun t hf y => ?_
  blk_simp
  rw [after0_13]
  idx_vars y
  have e0 : ((((View.whole main_v13_7).slice (win0_13.rect t)).emb (ix4 y0 y1 y2 y3) 0 : Fin 64) : ℕ) = t.val * 2 + y0 := by
    blk_simp [idx t]
  have e1 : (((View.whole main_v13_7).slice (win0_13.rect t)).emb (ix4 y0 y1 y2 y3) 1 : Fin 2) = y1 := Fin.ext (by blk_simp [idx t])
  have e2 : (((View.whole main_v13_7).slice (win0_13.rect t)).emb (ix4 y0 y1 y2 y3) 2 : Fin 128) = y2 := Fin.ext (by blk_simp [idx t])
  have e3 : (((View.whole main_v13_7).slice (win0_13.rect t)).emb (ix4 y0 y1 y2 y3) 3 : Fin 1024) = y3 := Fin.ext (by blk_simp [idx t])
  rw [e1, e2, e3]
  generalize (((View.whole main_v13_7).slice (win0_13.rect t)).emb (ix4 y0 y1 y2 y3) 0 : Fin 64) = n at e0 ⊢
  exact outs13 m c hg hw t n y0 y1 y2 y3 e0

theorem final14 : (dats m 0 c).arrAt 14 cfg0.N = fun i : S64x2x1x1024.Idx => SeqIdxTilesRef.wTile (zVal m c) (i 0) (i 1) (i 3) := by
  refine (dats m 0 c).arrAt_eq_of_covers 14 _ (by decide +kernel) fun t hf y => ?_
  blk_simp
  rw [after0_14]
  idx_vars y
  have e0 : ((((View.whole main_v13_8).slice (win0_14.rect t)).emb (ix4 y0 y1 y2 y3) 0 : Fin 64) : ℕ) = t.val * 2 + y0 := by
    blk_simp [idx t]
  have e1 : (((View.whole main_v13_8).slice (win0_14.rect t)).emb (ix4 y0 y1 y2 y3) 1 : Fin 2) = y1 := Fin.ext (by blk_simp [idx t])
  have e3 : (((View.whole main_v13_8).slice (win0_14.rect t)).emb (ix4 y0 y1 y2 y3) 3 : Fin 1024) = y3 := Fin.ext (by blk_simp [idx t])
  rw [e1, e3]
  generalize (((View.whole main_v13_8).slice (win0_14.rect t)).emb (ix4 y0 y1 y2 y3) 0 : Fin 64) = n at e0 ⊢
  exact outs14 m c hg hw t n y0 y1 y2 y3 e0

theorem final16 : (dats m 0 c).arrAt 16 cfg0.N = fun i : S64x256x128.Idx => SeqIdxTilesRef.kTile (zVal m c) (i 0) (i 1) (i 2) := by
  refine (dats m 0 c).arrAt_eq_of_covers 16 _ (by decide +kernel) fun t hf y => ?_
  blk_simp
  rw [after0_16]
  idx_vars y
  have e0 : ((((View.whole main_v13_10).slice (win0_16.rect t)).emb (ix3 y0 y1 y2) 0 : Fin 64) : ℕ) = t.val * 2 + y0 := by
    blk_simp [idx t]
  have e1 : (((View.whole main_v13_10).slice (win0_16.rect t)).emb (ix3 y0 y1 y2) 1 : Fin 256) = y1 := Fin.ext (by blk_simp [idx t])
  have e2 : (((View.whole main_v13_10).slice (win0_16.rect t)).emb (ix3 y0 y1 y2) 2 : Fin 128) = y2 := Fin.ext (by blk_simp [idx t])
  rw [e1, e2]
  generalize (((View.whole main_v13_10).slice (win0_16.rect t)).emb (ix3 y0 y1 y2) 0 : Fin 64) = n at e0 ⊢
  exact outs16 m c hg hw t n y0 y1 y2 e0

end Tiles

end Cert.Proof.SeqIdxTiles

end
-- ==== Proof.SeqIdxClaims.lean ====
/-
  The claims about the index columns of the projection call on the prompt's rows (`Kernel7`) and its reference (`Reference7`): the
  frames, and that at the ideal instance the two end with the same results.
-/
module

public import proofs.«01_k».proof.Defs
public import proofs.«01_k».proof.Proof.Gen.Kernel7
public import proofs.«01_k».proof.Proof.Gen.Kernel7.Frame
public import proofs.«01_k».proof.Proof.SeqIdxTiles
public import proofs.«01_k».proof.Proof.SeqIdxTilesRef
public import proofs.«01_k».proof.Proof.Gen.Pre_prompt_weights_finite
public import Idealize.ShloMosaic.Lib.Pointwise
public import Idealize.ShloMosaic.Lib.Claim
public import Idealize.ShloMosaic.Lib.Quiescent

@[expose] public section

noncomputable section

namespace Cert.Proof.SeqIdxClaims

open Idealize.ShloMosaic Idealize.SL.Sem

theorem frame : Cert.quiescent_Kernel7 := fun m ρ _ => Cert.Kernel7.Gen.frame m ρ

theorem frame_ideal : Cert.quiescent_Kernel7Ideal := fun m ρ _ => Cert.Kernel7Ideal.Gen.frame m ρ

/-- The reference's frame, from its run. -/
theorem frame_reference : Cert.quiescent_Reference7Ideal := fun m ρ _ =>
  (θ_run Cert.Reference7Ideal.defs _ _).mono
    (fun r h => ⟨fun c => (h c).2.2.2.2, sem_eq_zero_of_no_sems (by decide) r.2⟩)
    (Cert.Reference7Ideal.Value.run m ρ)

/-- The frames need no precondition. -/
theorem frame_ideal_pre : Cert.quiescent_Kernel7Ideal_pre_prompt_weights_finite := fun m ρ _ => Cert.Kernel7Ideal.Gen.frame m ρ

theorem frame_reference_pre : Cert.quiescent_Reference7Ideal_pre_prompt_weights_finite := fun m ρ _ => frame_reference m ρ trivial

/-- What the precondition says of an entry. -/
theorem entry {a : FVec Ideal Cert.Pre_prompt_weights_finite.S1x16384x1024 .f32} {g : FVec Ideal Cert.Pre_prompt_weights_finite.S1x1024 .f32}
    {w : FVec Ideal Cert.Pre_prompt_weights_finite.S1x1024x2344 .f32} (h : Cert.Pre_prompt_weights_finite.fn (F := Ideal) a g w = fun _ => 1#1)
    (k : Fin 1024) (j : Fin 296) : Finite.IsReal (g (ix2 0 k)) ∧ Finite.IsReal (w (ix3 0 k ⟨2048 + j, by omega⟩)) := by
  have e := congrFun h (ix3 0 k j)
  unfold Cert.Pre_prompt_weights_finite.fn at e
  have e' : IntOp.andi (Ideal.cmp .olt (max (g (ix2 0 k)) (-g (ix2 0 k))) (Ideal.ofBits .f32 2139095040#32))
      (Ideal.cmp .olt (max (w (ix3 0 k ⟨2048 + j, by omega⟩)) (-w (ix3 0 k ⟨2048 + j, by omega⟩))) (Ideal.ofBits .f32 2139095040#32)) = 1#1 := by
    rw [← e]
    pointwise
    rfl
  have both : ∀ p q : BitVec 1, IntOp.andi p q = 1#1 → p = 1#1 ∧ q = 1#1 := by decide
  exact ⟨Finite.isReal_of_cmp (both _ _ e').1, Finite.isReal_of_cmp (both _ _ e').2⟩

/-- Both end with the index columns of the kernel's arguments: the keys, and the queries, the weights and the keys in tiles. -/
theorem algebraic : Cert.algebraic_Kernel7Ideal_Reference7Ideal_pre_prompt_weights_finite := by
  intro m g m' g' hpre hargs
  refine ⟨fun c => fun i : Cert.Kernel7Ideal.S16384x32.Idx => SeqIdx.keyVal m c (i 0) (i 1),
    fun c => fun i : Cert.Kernel7Ideal.S64x2x128x1024.Idx => SeqIdxTilesRef.qTile (SeqIdxTiles.zVal m c) (i 0) (i 1) (i 2) (i 3),
    fun c => fun i : Cert.Kernel7Ideal.S64x2x1x1024.Idx => SeqIdxTilesRef.wTile (SeqIdxTiles.zVal m c) (i 0) (i 1) (i 3),
    fun c => fun i : Cert.Kernel7Ideal.S64x256x128.Idx => SeqIdxTilesRef.kTile (SeqIdxTiles.zVal m c) (i 0) (i 1) (i 2), ?_, ?_⟩
  · refine (θ_run Cert.Kernel7Ideal.defs _ _).mono (fun r h c => ?_) (Cert.Kernel7Ideal.Value.run_blocks m g)
    have hg : SeqIdx.FiniteGains m c := fun k => (entry (hpre c) k 0).1
    have hw : SeqIdx.FiniteWeights m c := fun k j => (entry (hpre c) k j).2
    exact ⟨(h c).2.2.2.2.2.1.trans (SeqIdx.final11 m c hg hw),
      (h c).2.2.2.2.2.2.2.1.trans (SeqIdxTiles.final13 m c hg hw),
      (h c).2.2.2.2.2.2.2.2.1.trans (SeqIdxTiles.final14 m c hg hw),
      (h c).2.2.2.2.2.2.2.2.2.2.1.trans (SeqIdxTiles.final16 m c hg hw), (h c).2.2.2.2.2.2.2.2.2.2.2⟩
  · refine (θ_run Cert.Reference7Ideal.defs _ _).mono (fun r h c => ⟨(h c).1.trans ?_, (h c).2.1.trans ?_, (h c).2.2.1.trans ?_,
      (h c).2.2.2.1.trans ?_, (h c).2.2.2.2⟩) (Cert.Reference7Ideal.Value.run m' g')
    all_goals obtain ⟨h0, h1, h2⟩ := hargs c
    · rw [h0, h1, h2]
      funext i
      idx_vars i
      exact SeqIdxRef.key_apply _ _ _ i0 i1
    all_goals
      have hz : (fun n j => SeqIdxTilesRef.proj m' c (ix2 n j)) = SeqIdxTiles.zVal m c := by
        rw [SeqIdxTilesRef.proj_eq, h0, h1, h2]
        rfl
    · refine Eq.trans (b := SeqIdxTilesRef.queries m' c) rfl ?_
      funext i
      idx_vars i
      exact (SeqIdxTilesRef.rQ4_apply _ i0 i1 i2 i3).trans (congrArg (fun Z => SeqIdxTilesRef.qTile Z i0 i1 i2 i3) hz)
    · refine Eq.trans (b := SeqIdxTilesRef.weights m' c) rfl ?_
      funext i
      idx_vars i
      exact (SeqIdxTilesRef.rW_apply _ i0 i1 i2 i3).trans (congrArg (fun Z => SeqIdxTilesRef.wTile Z i0 i1 i3) hz)
    · refine Eq.trans (b := SeqIdxTilesRef.keys m' c) rfl ?_
      funext i
      idx_vars i
      exact (SeqIdxTilesRef.rK4_apply _ i0 i1 i2).trans (congrArg (fun Z => SeqIdxTilesRef.kTile Z i0 i1 i2) hz)

end Cert.Proof.SeqIdxClaims

end
-- ==== Proof.lean ====
/-
  The proof of `Cert.Claim`.
-/
module

public import proofs.«01_k».proof.Defs
public import proofs.«01_k».proof.Proof.Gen.Kernel
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Pre_weights_finite
public import proofs.«01_k».proof.Proof.Gen.Pre_prompt_weights_finite
public import proofs.«01_k».proof.Proof.KernelFrame
public import proofs.«01_k».proof.Proof.OutClaims
public import proofs.«01_k».proof.Proof.ProjIdxClaims
public import proofs.«01_k».proof.Proof.ProjClaims
public import proofs.«01_k».proof.Proof.PromptClaims
public import proofs.«01_k».proof.Proof.SeqClaims
public import proofs.«01_k».proof.Proof.SeqIdxClaims
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_weights_finite.Gen.facts, Cert.Pre_prompt_weights_finite.Gen.facts,
    quiescent, OutClaims.frame, OutClaims.frame_ideal, OutClaims.frame_reference,
    PromptClaims.frame, PromptClaims.frame_ideal, PromptClaims.frame_reference,
    ProjClaims.frame, ProjClaims.frame_ideal, ProjClaims.frame_reference,
    ProjIdxClaims.frame, ProjIdxClaims.frame_ideal, ProjIdxClaims.frame_ideal_pre, ProjIdxClaims.frame_reference,
    ProjIdxClaims.frame_reference_pre,
    SeqClaims.frame, SeqClaims.frame_ideal, SeqClaims.frame_reference,
    SeqIdxClaims.frame, SeqIdxClaims.frame_ideal, SeqIdxClaims.frame_ideal_pre, SeqIdxClaims.frame_reference,
    SeqIdxClaims.frame_reference_pre,
    trivial, OutClaims.algebraic, trivial, PromptClaims.algebraic, trivial, ProjClaims.algebraic, trivial, ProjIdxClaims.algebraic,
    trivial, SeqClaims.algebraic, trivial, SeqIdxClaims.algebraic⟩

end Cert.Proof

end
